-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S4x16x8x2x128 Cert.KernelIdeal.S4x16x8x1x128
  ∧ IdealRules.bf16_pair.PackStatement Cert.KernelIdeal.S16x128
  ∧ IdealRules.bf16_pair.Statement Cert.KernelIdeal.S16x128 Cert.KernelIdeal.S8x128
  ∧ IdealRules.bf16_pair.Statement Cert.KernelIdeal.S1x1x8x2x128 Cert.KernelIdeal.S1x1x8x1x128
  ∧ IdealRules.bf16_pair.Statement Cert.KernelIdeal.S256x128 Cert.KernelIdeal.S128x128
  ∧ IdealRules.bf16_pair.PackStatement Cert.KernelIdeal.S128x128

def algebraic_KernelIdeal_ReferenceIdeal_on_claimed [hKernelIdeal : Cert.KernelIdeal.Facts] [hReferenceIdeal : Cert.ReferenceIdeal.Facts] [hOn_claimed : Cert.On_claimed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![4, 256, 4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v1_0) i = v0 c i)
          ∧ (∀ i : (⟨2, ![1, 4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v1_1) i = v1 c i)
          ∧ (∀ i : (⟨3, ![4, 2, 4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v1_2) i = v2 c i)
          ∧ (∀ i : (⟨3, ![4, 256, 4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.KernelIdeal.nD Cert.KernelIdeal.τ).loc Cert.KernelIdeal.main_v1_5) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![4, 256, 4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v66) i = v0 c i)
          ∧ (∀ i : (⟨2, ![1, 4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v67) i = v1 c i)
          ∧ (∀ i : (⟨3, ![4, 2, 4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v24) i = v2 c i)
          ∧ (∀ i : (⟨3, ![4, 256, 4096]⟩ : Shape).Idx, (Cert.On_claimed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 i = 1#1 → r.2.mem ((c.tc : Thread Cert.ReferenceIdeal.nD Cert.ReferenceIdeal.τ).loc Cert.ReferenceIdeal.main_v65) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hOn_claimed : Cert.On_claimed.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_claimed (hKernelIdeal := hKernelIdeal) (hReferenceIdeal := hReferenceIdeal) (hOn_claimed := hOn_claimed)
-- ==== On_claimed.lean ====
abbrev S4x256x4096 : Shape := ⟨3, ![4, 256, 4096]⟩
abbrev S4x256 : Shape := ⟨2, ![4, 256]⟩
abbrev S4096 : Shape := ⟨1, ![4096]⟩
abbrev S4x256x1 : Shape := ⟨3, ![4, 256, 1]⟩
abbrev S1x1x4096 : Shape := ⟨3, ![1, 1, 4096]⟩
abbrev S_ : Shape := ⟨0, ![]⟩
abbrev S1x4096 : Shape := ⟨2, ![1, 4096]⟩
abbrev S4x2x4096 : Shape := ⟨3, ![4, 2, 4096]⟩
abbrev S4x8x32x4096 : Shape := ⟨4, ![4, 8, 32, 4096]⟩
abbrev S4x8x4096 : Shape := ⟨3, ![4, 8, 4096]⟩
abbrev S4x8x1x4096 : Shape := ⟨4, ![4, 8, 1, 4096]⟩
abbrev S254 : Shape := ⟨1, ![254]⟩
abbrev S4x8x1x4096x1 : Shape := ⟨5, ![4, 8, 1, 4096, 1]⟩
abbrev S1x1x1x1x254 : Shape := ⟨5, ![1, 1, 1, 1, 254]⟩
abbrev S4x8x1x4096x254 : Shape := ⟨5, ![4, 8, 1, 4096, 254]⟩

class Facts : Prop where
  bcast_S4x256_S4x256x1_0_1 : S4x256.BroadcastsInDim S4x256x1 (![0, 1] : Fin 2 → Fin S4x256x1.rank)
  bitsLt_bf16_f32 : FTy.bits .bf16 < FTy.bits .f32
  bcast_S4x256x1_S4x256x4096_0_1_2 : S4x256x1.BroadcastsInDim S4x256x4096 (![0, 1, 2] : Fin 3 → Fin S4x256x4096.rank)
  bcast_S4096_S1x1x4096_2 : S4096.BroadcastsInDim S1x1x4096 (![2] : Fin 1 → Fin S1x1x4096.rank)
  bcast_S1x1x4096_S4x256x4096_0_1_2 : S1x1x4096.BroadcastsInDim S4x256x4096 (![0, 1, 2] : Fin 3 → Fin S4x256x4096.rank)
  reducesTo_S4x256x4096_S4x256_d2 : S4x256x4096.ReducesTo [2] S4x256
  h_S_ : 0 < S_.numel
  bcast_S_S4x256x1 : S_.BroadcastsInDim S4x256x1 (![] : Fin 0 → Fin S4x256x1.rank)
  bcast_S_S4x256x4096 : S_.BroadcastsInDim S4x256x4096 (![] : Fin 0 → Fin S4x256x4096.rank)
  bcast_S_S1x4096 : S_.BroadcastsInDim S1x4096 (![] : Fin 0 → Fin S1x4096.rank)
  bcast_S_S4x2x4096 : S_.BroadcastsInDim S4x2x4096 (![] : Fin 0 → Fin S4x2x4096.rank)
  shapeCasts_S4x256x4096_S4x8x32x4096 : S4x256x4096.ShapeCasts S4x8x32x4096
  reducesTo_S4x8x32x4096_S4x8x4096_d2 : S4x8x32x4096.ReducesTo [2] S4x8x4096
  bcast_S4x8x4096_S4x8x1x4096_0_1_3 : S4x8x4096.BroadcastsInDim S4x8x1x4096 (![0, 1, 3] : Fin 3 → Fin S4x8x1x4096.rank)
  bcast_S_S4x8x1x4096 : S_.BroadcastsInDim S4x8x1x4096 (![] : Fin 0 → Fin S4x8x1x4096.rank)
  bcast_S_S254 : S_.BroadcastsInDim S254 (![] : Fin 0 → Fin S254.rank)
  bcast_S4x8x1x4096_S4x8x1x4096x1_0_1_2_3 : S4x8x1x4096.BroadcastsInDim S4x8x1x4096x1 (![0, 1, 2, 3] : Fin 4 → Fin S4x8x1x4096x1.rank)
  bcast_S254_S1x1x1x1x254_4 : S254.BroadcastsInDim S1x1x1x1x254 (![4] : Fin 1 → Fin S1x1x1x1x254.rank)
  bcast_S4x8x1x4096x1_S4x8x1x4096x254_0_1_2_3_4 : S4x8x1x4096x1.BroadcastsInDim S4x8x1x4096x254 (![0, 1, 2, 3, 4] : Fin 5 → Fin S4x8x1x4096x254.rank)
  bcast_S1x1x1x1x254_S4x8x1x4096x254_0_1_2_3_4 : S1x1x1x1x254.BroadcastsInDim S4x8x1x4096x254 (![0, 1, 2, 3, 4] : Fin 5 → Fin S4x8x1x4096x254.rank)
  bcast_S254_S4x8x1x4096x254_4 : S254.BroadcastsInDim S4x8x1x4096x254 (![4] : Fin 1 → Fin S4x8x1x4096x254.rank)
  bcast_S_S4x8x1x4096x254 : S_.BroadcastsInDim S4x8x1x4096x254 (![] : Fin 0 → Fin S4x8x1x4096x254.rank)
  reducesTo_S4x8x1x4096x254_S4x8x1x4096_d4 : S4x8x1x4096x254.ReducesTo [4] S4x8x1x4096
  bcast_S4x8x1x4096_S4x8x32x4096_0_1_2_3 : S4x8x1x4096.BroadcastsInDim S4x8x32x4096 (![0, 1, 2, 3] : Fin 4 → Fin S4x8x32x4096.rank)
  shapeCasts_S4x8x32x4096_S4x256x4096 : S4x8x32x4096.ShapeCasts S4x256x4096

variable [Facts]

def fn_where {F : FTy → Type} [FloatOps F] (arg0 : IVec S4x8x1x4096x254 1) (arg1 : IVec S254 32) (arg2 : IVec S_ 32) : IVec S4x8x1x4096x254 32 :=
  let v0 : IVec S_ 32 := id arg2
  let v1 : IVec S4x8x1x4096x254 32 := broadcastInDim S4x8x1x4096x254 ![4] bcast_S254_S4x8x1x4096x254_4 arg1
  let v2 : IVec S4x8x1x4096x254 32 := broadcastInDim S4x8x1x4096x254 ![] bcast_S_S4x8x1x4096x254 v0
  let v3 : IVec S4x8x1x4096x254 32 := select arg0 v1 v2
  v3

def fn_part2 {F : FTy → Type} [FloatOps F] (main_v23 : FVec F S4x256x4096 .f32) (main_v24 : IVec S4x256x4096 1) (main_v25 : IVec S1x4096 1) (main_v26 : IVec S4x2x4096 1) (main_v32 : FVec F S4x8x1x4096 .f32) (main_v35 : IVec S254 32) (main_v36 : FVec F S4x8x1x4096x1 .f32) (main_v38 : IVec S254 32) : IVec S4x256x4096 1 × IVec S1x4096 1 × IVec S4x2x4096 1 × IVec S4x256x4096 1 :=
  let main_v39 : FVec F S254 .f32 := bitcastToFloat .f32 main_v38
  let main_v40 : FVec F S1x1x1x1x254 .f32 := broadcastInDim S1x1x1x1x254 ![4] bcast_S254_S1x1x1x1x254_4 main_v39
  let main_v41 : FVec F S4x8x1x4096x254 .f32 := broadcastInDim S4x8x1x4096x254 ![0, 1, 2, 3, 4] bcast_S4x8x1x4096x1_S4x8x1x4096x254_0_1_2_3_4 main_v36
  let main_v42 : FVec F S4x8x1x4096x254 .f32 := broadcastInDim S4x8x1x4096x254 ![0, 1, 2, 3, 4] bcast_S1x1x1x1x254_S4x8x1x4096x254_0_1_2_3_4 main_v40
  let main_v43 : IVec S4x8x1x4096x254 1 := cmpf .oge main_v41 main_v42
  let main_c_7 : IVec S_ 32 := constantI S_ 32 0#32
  let main_v44 : IVec S4x8x1x4096x254 32 := fn_where (F := F) main_v43 main_v35 main_c_7
  let main_c_8 : IVec S_ 32 := constantI S_ 32 2147483648#32
  let main_v45 : IVec S4x8x1x4096 32 := (fun x v => Host.reduce IntOp.maxsi x v reducesTo_S4x8x1x4096x254_S4x8x1x4096_d4 h_S_) main_v44 main_c_8
  let main_c_9 : IVec S_ 32 := constantI S_ 32 23#32
  let main_v46 : IVec S4x8x1x4096 32 := broadcastInDim S4x8x1x4096 ![] bcast_S_S4x8x1x4096 main_c_9
  let main_v47 : IVec S4x8x1x4096 32 := Host.shli main_v45 main_v46
  let main_v48 : FVec F S4x8x1x4096 .f32 := bitcastToFloat .f32 main_v47
  let main_cst_10 : FVec F S_ .f32 := constant S_ .f32 0x3F804189#32
  let main_v49 : FVec F S4x8x1x4096 .f32 := broadcastInDim S4x8x1x4096 ![] bcast_S_S4x8x1x4096 main_cst_10
  let main_v50 : FVec F S4x8x1x4096 .f32 := mulf main_v49 main_v48
  let main_v51 : IVec S4x8x1x4096 1 := cmpf .oge main_v32 main_v50
  let main_c_11 : IVec S_ 32 := constantI S_ 32 246#32
  let main_v52 : IVec S4x8x1x4096 32 := broadcastInDim S4x8x1x4096 ![] bcast_S_S4x8x1x4096 main_c_11
  let main_v53 : IVec S4x8x1x4096 1 := cmpi .sle main_v45 main_v52
  let main_v54 : IVec S4x8x1x4096 1 := andi main_v51 main_v53
  let main_v55 : FVec F S4x8x32x4096 .f32 := shapeCast S4x8x32x4096 main_v23 shapeCasts_S4x256x4096_S4x8x32x4096
  let main_v56 : IVec S4x8x32x4096 1 := broadcastInDim S4x8x32x4096 ![0, 1, 2, 3] bcast_S4x8x1x4096_S4x8x32x4096_0_1_2_3 main_v54
  let main_v57 : IVec S4x256x4096 1 := shapeCast S4x256x4096 main_v56 shapeCasts_S4x8x32x4096_S4x256x4096
  (main_v24, main_v25, main_v26, main_v57)

def fn_part1 {F : FTy → Type} [FloatOps F] (main_arg3 : FVec F S4x256x4096 .bf16) (main_v21 : FVec F S4x256x4096 .f32) : IVec S4x256x4096 1 × IVec S1x4096 1 × IVec S4x2x4096 1 × IVec S4x256x4096 1 :=
  let main_v22 : FVec F S4x256x4096 .f32 := (extf .f32 · bitsLt_bf16_f32) main_arg3
  let main_v23 : FVec F S4x256x4096 .f32 := addf main_v21 main_v22
  let main_c : IVec S_ 1 := constantI S_ 1 1#1
  let main_v24 : IVec S4x256x4096 1 := broadcastInDim S4x256x4096 ![] bcast_S_S4x256x4096 main_c
  let main_c_1 : IVec S_ 1 := constantI S_ 1 1#1
  let main_v25 : IVec S1x4096 1 := broadcastInDim S1x4096 ![] bcast_S_S1x4096 main_c_1
  let main_c_2 : IVec S_ 1 := constantI S_ 1 1#1
  let main_v26 : IVec S4x2x4096 1 := broadcastInDim S4x2x4096 ![] bcast_S_S4x2x4096 main_c_2
  let main_v27 : FVec F S4x8x32x4096 .f32 := shapeCast S4x8x32x4096 main_v23 shapeCasts_S4x256x4096_S4x8x32x4096
  let main_v28 : FVec F S4x8x32x4096 .f32 := Host.absf main_v27
  let main_cst_3 : FVec F S_ .f32 := constant S_ .f32 0xFF800000#32
  let main_v29 : FVec F S4x8x4096 .f32 := (fun x v => Host.reduce FloatOps.maximumf x v reducesTo_S4x8x32x4096_S4x8x4096_d2 h_S_) main_v28 main_cst_3
  let main_v30 : FVec F S4x8x1x4096 .f32 := broadcastInDim S4x8x1x4096 ![0, 1, 3] bcast_S4x8x4096_S4x8x1x4096_0_1_3 main_v29
  let main_cst_4 : FVec F S_ .f32 := constant S_ .f32 0x3B124925#32
  let main_v31 : FVec F S4x8x1x4096 .f32 := broadcastInDim S4x8x1x4096 ![] bcast_S_S4x8x1x4096 main_cst_4
  let main_v32 : FVec F S4x8x1x4096 .f32 := mulf main_v30 main_v31
  let main_v33 : IVec S254 32 := iotaInDim S254 32 0
  let main_c_5 : IVec S_ 32 := constantI S_ 32 1#32
  let main_v34 : IVec S254 32 := broadcastInDim S254 ![] bcast_S_S254 main_c_5
  let main_v35 : IVec S254 32 := addi main_v34 main_v33
  let main_v36 : FVec F S4x8x1x4096x1 .f32 := broadcastInDim S4x8x1x4096x1 ![0, 1, 2, 3] bcast_S4x8x1x4096_S4x8x1x4096x1_0_1_2_3 main_v32
  let main_c_6 : IVec S_ 32 := constantI S_ 32 23#32
  let main_v37 : IVec S254 32 := broadcastInDim S254 ![] bcast_S_S254 main_c_6
  let main_v38 : IVec S254 32 := Host.shli main_v35 main_v37
  fn_part2 (F := F) main_v23 main_v24 main_v25 main_v26 main_v32 main_v35 main_v36 main_v38

def fn {F : FTy → Type} [FloatOps F] (main_arg0 : FVec F S4x256x4096 .bf16) (main_arg1 : FVec F S4x256 .f32) (main_arg2 : FVec F S4096 .f32) (main_arg3 : FVec F S4x256x4096 .bf16) (main_arg4 : FVec F S4x256x4096 .bf16) (main_arg5 : FVec F S4x256x4096 .bf16) (main_arg6 : FVec F S4x256x4096 .bf16) : IVec S4x256x4096 1 × IVec S1x4096 1 × IVec S4x2x4096 1 × IVec S4x256x4096 1 :=
  let main_v0 : FVec F S4x256x1 .f32 := broadcastInDim S4x256x1 ![0, 1] bcast_S4x256_S4x256x1_0_1 main_arg1
  let main_v1 : FVec F S4x256x4096 .f32 := (extf .f32 · bitsLt_bf16_f32) main_arg4
  let main_v2 : FVec F S4x256x4096 .f32 := (extf .f32 · bitsLt_bf16_f32) main_arg5
  let main_v3 : FVec F S4x256x4096 .f32 := addf main_v1 main_v2
  let main_v4 : FVec F S4x256x4096 .f32 := (extf .f32 · bitsLt_bf16_f32) main_arg6
  let main_v5 : FVec F S4x256x4096 .f32 := addf main_v3 main_v4
  let main_v6 : FVec F S4x256x4096 .f32 := (extf .f32 · bitsLt_bf16_f32) main_arg0
  let main_v7 : FVec F S4x256x4096 .f32 := broadcastInDim S4x256x4096 ![0, 1, 2] bcast_S4x256x1_S4x256x4096_0_1_2 main_v0
  let main_v8 : FVec F S4x256x4096 .f32 := mulf main_v6 main_v7
  let main_v9 : FVec F S1x1x4096 .f32 := broadcastInDim S1x1x4096 ![2] bcast_S4096_S1x1x4096_2 main_arg2
  let main_v10 : FVec F S4x256x4096 .f32 := broadcastInDim S4x256x4096 ![0, 1, 2] bcast_S1x1x4096_S4x256x4096_0_1_2 main_v9
  let main_v11 : FVec F S4x256x4096 .f32 := mulf main_v5 main_v10
  let main_v12 : FVec F S4x256x4096 .f32 := mulf main_v11 main_v8
  let main_cst : FVec F S_ .f32 := constant S_ .f32 0x00000000#32
  let main_v13 : FVec F S4x256 .f32 := (fun x v => Host.reduceAdd x v reducesTo_S4x256x4096_S4x256_d2 h_S_) main_v12 main_cst
  let main_v14 : FVec F S4x256x1 .f32 := broadcastInDim S4x256x1 ![0, 1] bcast_S4x256_S4x256x1_0_1 main_v13
  let main_cst_0 : FVec F S_ .f32 := constant S_ .f32 0x45800000#32
  let main_v15 : FVec F S4x256x1 .f32 := broadcastInDim S4x256x1 ![] bcast_S_S4x256x1 main_cst_0
  let main_v16 : FVec F S4x256x1 .f32 := Host.divf main_v14 main_v15
  let main_v17 : FVec F S4x256x4096 .f32 := broadcastInDim S4x256x4096 ![0, 1, 2] bcast_S4x256x1_S4x256x4096_0_1_2 main_v16
  let main_v18 : FVec F S4x256x4096 .f32 := mulf main_v8 main_v17
  let main_v19 : FVec F S4x256x4096 .f32 := subf main_v11 main_v18
  let main_v20 : FVec F S4x256x4096 .f32 := broadcastInDim S4x256x4096 ![0, 1, 2] bcast_S4x256x1_S4x256x4096_0_1_2 main_v0
  let main_v21 : FVec F S4x256x4096 .f32 := mulf main_v20 main_v19
  fn_part1 (F := F) main_arg3 main_v21
-- ==== Kernel.lean ====
abbrev S4x256x4096 : Shape := ⟨3, ![4, 256, 4096]⟩
abbrev S4x256 : Shape := ⟨2, ![4, 256]⟩
abbrev S4096 : Shape := ⟨1, ![4096]⟩
abbrev S1x4096 : Shape := ⟨2, ![1, 4096]⟩
abbrev S4x2x4096 : Shape := ⟨3, ![4, 2, 4096]⟩
abbrev S4x256x128 : Shape := ⟨3, ![4, 256, 128]⟩
abbrev S4x8x4096 : Shape := ⟨3, ![4, 8, 4096]⟩
abbrev S1x128x4096 : Shape := ⟨3, ![1, 128, 4096]⟩
abbrev S1x2x4096 : Shape := ⟨3, ![1, 2, 4096]⟩
abbrev S1x128x128 : Shape := ⟨3, ![1, 128, 128]⟩
abbrev S1x8x4096 : Shape := ⟨3, ![1, 8, 4096]⟩
abbrev S128x128 : Shape := ⟨2, ![128, 128]⟩
abbrev S128x4096 : Shape := ⟨2, ![128, 4096]⟩
abbrev S4x16x8x128 : Shape := ⟨4, ![4, 16, 8, 128]⟩
abbrev S4x2x16x128 : Shape := ⟨4, ![4, 2, 16, 128]⟩
abbrev S32x8x128 : Shape := ⟨3, ![32, 8, 128]⟩
abbrev S8x4096 : Shape := ⟨2, ![8, 4096]⟩
abbrev S8x128 : Shape := ⟨2, ![8, 128]⟩
abbrev S128x256 : Shape := ⟨2, ![128, 256]⟩
abbrev S1x256 : Shape := ⟨2, ![1, 256]⟩
abbrev S1x128 : Shape := ⟨2, ![1, 128]⟩
abbrev S1x16x128 : Shape := ⟨3, ![1, 16, 128]⟩
abbrev S16x128 : Shape := ⟨2, ![16, 128]⟩
abbrev S1x1x4096 : Shape := ⟨3, ![1, 1, 4096]⟩
abbrev S8 : Shape := ⟨1, ![8]⟩
abbrev S8x1 : Shape := ⟨2, ![8, 1]⟩
abbrev S1x8x128 : Shape := ⟨3, ![1, 8, 128]⟩
abbrev S1x1x8x128 : Shape := ⟨4, ![1, 1, 8, 128]⟩
abbrev S1x1x128 : Shape := ⟨3, ![1, 1, 128]⟩
abbrev S32x128 : Shape := ⟨2, ![32, 128]⟩
abbrev S1x32x128 : Shape := ⟨3, ![1, 32, 128]⟩
abbrev S1x1x1x128 : Shape := ⟨4, ![1, 1, 1, 128]⟩

abbrev nBuf : Space → Nat
  | .hbm => 15
  | .vmem => 36
  | .smem => 0
  | _ => 0

abbrev bufTy : (tb : Table) → Fin (tcTables nBuf tb) → BufTy
  | .hbm, ⟨0, _⟩ => ⟨S4x256x4096, .bf16⟩
  | .hbm, ⟨1, _⟩ => ⟨S4x256, .f32⟩
  | .hbm, ⟨2, _⟩ => ⟨S4096, .f32⟩
  | .hbm, ⟨3, _⟩ => ⟨S4x256x4096, .bf16⟩
  | .hbm, ⟨4, _⟩ => ⟨S4x256x4096, .bf16⟩
  | .hbm, ⟨5, _⟩ => ⟨S4x256x4096, .bf16⟩
  | .hbm, ⟨6, _⟩ => ⟨S4x256x4096, .bf16⟩
  | .hbm, ⟨7, _⟩ => ⟨S1x4096, .f32⟩
  | .hbm, ⟨8, _⟩ => ⟨S4x256x4096, .bf16⟩
  | .hbm, ⟨9, _⟩ => ⟨S1x4096, .f32⟩
  | .hbm, ⟨10, _⟩ => ⟨S4x2x4096, .f32⟩
  | .hbm, ⟨11, _⟩ => ⟨S4x256x4096, .fp8e4m3⟩
  | .hbm, ⟨12, _⟩ => ⟨S4x256x128, .i8⟩
  | .hbm, ⟨13, _⟩ => ⟨S4x256x4096, .fp8e4m3⟩
  | .hbm, ⟨14, _⟩ => ⟨S4x8x4096, .i8⟩
  | .local _ .vmem, ⟨0, _⟩ => ⟨S1x128x4096, .bf16⟩
  | .local _ .vmem, ⟨1, _⟩ => ⟨S1x128x4096, .bf16⟩
  | .local _ .vmem, ⟨2, _⟩ => ⟨S4x256, .f32⟩
  | .local _ .vmem, ⟨3, _⟩ => ⟨S1x4096, .f32⟩
  | .local _ .vmem, ⟨4, _⟩ => ⟨S1x128x4096, .bf16⟩
  | .local _ .vmem, ⟨5, _⟩ => ⟨S1x128x4096, .bf16⟩
  | .local _ .vmem, ⟨6, _⟩ => ⟨S1x128x4096, .bf16⟩
  | .local _ .vmem, ⟨7, _⟩ => ⟨S1x128x4096, .bf16⟩
  | .local _ .vmem, ⟨8, _⟩ => ⟨S1x128x4096, .bf16⟩
  | .local _ .vmem, ⟨9, _⟩ => ⟨S1x128x4096, .bf16⟩
  | .local _ .vmem, ⟨10, _⟩ => ⟨S1x128x4096, .bf16⟩
  | .local _ .vmem, ⟨11, _⟩ => ⟨S1x128x4096, .bf16⟩
  | .local _ .vmem, ⟨12, _⟩ => ⟨S1x128x4096, .bf16⟩
  | .local _ .vmem, ⟨13, _⟩ => ⟨S1x128x4096, .bf16⟩
  | .local _ .vmem, ⟨14, _⟩ => ⟨S1x4096, .f32⟩
  | .local _ .vmem, ⟨15, _⟩ => ⟨S1x2x4096, .f32⟩
  | .local _ .vmem, ⟨16, _⟩ => ⟨S1x2x4096, .f32⟩
  | .local _ .vmem, ⟨17, _⟩ => ⟨S1x128x4096, .fp8e4m3⟩
  | .local _ .vmem, ⟨18, _⟩ => ⟨S1x128x4096, .fp8e4m3⟩
  | .local _ .vmem, ⟨19, _⟩ => ⟨S1x128x128, .i8⟩
  | .local _ .vmem, ⟨20, _⟩ => ⟨S1x128x128, .i8⟩
  | .local _ .vmem, ⟨21, _⟩ => ⟨S1x128x4096, .fp8e4m3⟩
  | .local _ .vmem, ⟨22, _⟩ => ⟨S1x128x4096, .fp8e4m3⟩
  | .local _ .vmem, ⟨23, _⟩ => ⟨S1x8x4096, .i8⟩
  | .local _ .vmem, ⟨24, _⟩ => ⟨S1x8x4096, .i8⟩
  | .local _ .vmem, ⟨25, _⟩ => ⟨S128x128, .f32⟩
  | .local _ .vmem, ⟨26, _⟩ => ⟨S128x128, .f32⟩
  | .local _ .vmem, ⟨27, _⟩ => ⟨S128x4096, .f32⟩
  | .local _ .vmem, ⟨28, _⟩ => ⟨S128x4096, .f32⟩
  | .local _ .vmem, ⟨29, _⟩ => ⟨S4x16x8x128, .i32⟩
  | .local _ .vmem, ⟨30, _⟩ => ⟨S4x16x8x128, .i32⟩
  | .local _ .vmem, ⟨31, _⟩ => ⟨S4x2x16x128, .f32⟩
  | .local _ .vmem, ⟨32, _⟩ => ⟨S128x128, .bf16⟩
  | .local _ .vmem, ⟨33, _⟩ => ⟨S32x8x128, .i32⟩
  | .local _ .vmem, ⟨34, _⟩ => ⟨S128x4096, .bf16⟩
  | .local _ .vmem, ⟨35, _⟩ => ⟨S8x4096, .f32⟩
  | _, _ => ⟨S4x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_scratch10 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [BitOps F]

abbrev grid0 : Pipeline.Grid := ⟨2, ![4, 2], ![false, false]⟩

def k0_off1 (i : grid0.Coords) : Fin 2 → Nat :=
  let arg0 : BitVec 32 := BitVec.ofNat 32 (i 0).val
  let v6 : Index := Scalar.indexCast arg0
  let c0 : Index := 0#32
  ![v6.toNat, 0]
@[reducible] def k0_t1_loop : Scf.Loop 32 :=
  let c0_i32_19 : BitVec 32 := 0#32
  let c16_i32 : BitVec 32 := 16#32
  let v34 : BitVec 32 := Scalar.addi c0_i32_19 c16_i32
  let c1_i32_20 : BitVec 32 := 1#32
  ⟨c0_i32_19, v34, c1_i32_20⟩
def k0_off2 (k0_t1 : Fin k0_t1_loop.trips) (c0_i32_1960 : BitVec 32) : Fin 2 → Nat :=
  let c0_1961 : Index := 0#32
  let c0_i32_19 : BitVec 32 := 0#32
  let c1_i32_20 : BitVec 32 := 1#32
  let arg27 : BitVec 32 := Scf.iv c0_i32_19 c1_i32_20 k0_t1
  let c256_i32 : BitVec 32 := 256#32
  let v4044 : BitVec 32 := Scalar.muli arg27 c256_i32
  let v4045 : BitVec 32 := Scalar.addi v4044 c0_i32_1960
  let v4046 : Index := Scalar.indexCast v4045
  ![0, v4046.toNat]
def k0_mult1 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_1967 : BitVec 32 := 256#32
  let v4056 : BitVec 32 := Scalar.muli arg27 c256_i32_1967
  let c0_i32_1968 : BitVec 32 := 0#32
  let v4057 : BitVec 32 := Scalar.addi v4056 c0_i32_1968
  v4057
def k0_off3 (k0_t1 : Fin k0_t1_loop.trips) (c0_i32_1968 : BitVec 32) : Fin 3 → Nat :=
  let c0_1969 : Index := 0#32
  let c0_1970 : Index := 0#32
  let c0_i32_19 : BitVec 32 := 0#32
  let c1_i32_20 : BitVec 32 := 1#32
  let arg27 : BitVec 32 := Scf.iv c0_i32_19 c1_i32_20 k0_t1
  let c256_i32_1967 : BitVec 32 := 256#32
  let v4056 : BitVec 32 := Scalar.muli arg27 c256_i32_1967
  let v4057 : BitVec 32 := Scalar.addi v4056 c0_i32_1968
  let v4058 : BitVec 32 := v4057
  let v4059 : Index := Scalar.indexCast v4058
  ![0, 0, v4059.toNat]
def k0_off4 (k0_t1 : Fin k0_t1_loop.trips) (c0_i32_1968 : BitVec 32) : Fin 2 → Nat :=
  let c0_1979 : Index := 0#32
  let c0_i32_19 : BitVec 32 := 0#32
  let c1_i32_20 : BitVec 32 := 1#32
  let arg27 : BitVec 32 := Scf.iv c0_i32_19 c1_i32_20 k0_t1
  let c256_i32_1967 : BitVec 32 := 256#32
  let v4056 : BitVec 32 := Scalar.muli arg27 c256_i32_1967
  let v4057 : BitVec 32 := Scalar.addi v4056 c0_i32_1968
  let v4058 : BitVec 32 := v4057
  let v4083 : Index := Scalar.indexCast v4058
  ![0, v4083.toNat]
def k0_mult2 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_1981 : BitVec 32 := 256#32
  let v4099 : BitVec 32 := Scalar.muli arg27 c256_i32_1981
  let c128_i32_1982 : BitVec 32 := 128#32
  let v4100 : BitVec 32 := Scalar.addi v4099 c128_i32_1982
  v4100
def k0_mult3 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_1995 : BitVec 32 := 256#32
  let v4142 : BitVec 32 := Scalar.muli arg27 c256_i32_1995
  let c0_i32_1996 : BitVec 32 := 0#32
  let v4143 : BitVec 32 := Scalar.addi v4142 c0_i32_1996
  v4143
def k0_off5 (k0_t1 : Fin k0_t1_loop.trips) (c0_i32_1996 : BitVec 32) : Fin 3 → Nat :=
  let c0_1997 : Index := 0#32
  let c16_1998 : Index := 16#32
  let c0_i32_19 : BitVec 32 := 0#32
  let c1_i32_20 : BitVec 32 := 1#32
  let arg27 : BitVec 32 := Scf.iv c0_i32_19 c1_i32_20 k0_t1
  let c256_i32_1995 : BitVec 32 := 256#32
  let v4142 : BitVec 32 := Scalar.muli arg27 c256_i32_1995
  let v4143 : BitVec 32 := Scalar.addi v4142 c0_i32_1996
  let v4144 : BitVec 32 := v4143
  let v4145 : Index := Scalar.indexCast v4144
  ![0, 16, v4145.toNat]
def k0_off6 (k0_t1 : Fin k0_t1_loop.trips) (c0_i32_1996 : BitVec 32) : Fin 2 → Nat :=
  let c16_2007 : Index := 16#32
  let c0_i32_19 : BitVec 32 := 0#32
  let c1_i32_20 : BitVec 32 := 1#32
  let arg27 : BitVec 32 := Scf.iv c0_i32_19 c1_i32_20 k0_t1
  let c256_i32_1995 : BitVec 32 := 256#32
  let v4142 : BitVec 32 := Scalar.muli arg27 c256_i32_1995
  let v4143 : BitVec 32 := Scalar.addi v4142 c0_i32_1996
  let v4144 : BitVec 32 := v4143
  let v4169 : Index := Scalar.indexCast v4144
  ![16, v4169.toNat]
def k0_mult4 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2009 : BitVec 32 := 256#32
  let v4185 : BitVec 32 := Scalar.muli arg27 c256_i32_2009
  let c128_i32_2010 : BitVec 32 := 128#32
  let v4186 : BitVec 32 := Scalar.addi v4185 c128_i32_2010
  v4186
def k0_mult5 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2023 : BitVec 32 := 256#32
  let v4228 : BitVec 32 := Scalar.muli arg27 c256_i32_2023
  let c0_i32_2024 : BitVec 32 := 0#32
  let v4229 : BitVec 32 := Scalar.addi v4228 c0_i32_2024
  v4229
def k0_off7 (k0_t1 : Fin k0_t1_loop.trips) (c0_i32_2024 : BitVec 32) : Fin 3 → Nat :=
  let c0_2025 : Index := 0#32
  let c32_2026 : Index := 32#32
  let c0_i32_19 : BitVec 32 := 0#32
  let c1_i32_20 : BitVec 32 := 1#32
  let arg27 : BitVec 32 := Scf.iv c0_i32_19 c1_i32_20 k0_t1
  let c256_i32_2023 : BitVec 32 := 256#32
  let v4228 : BitVec 32 := Scalar.muli arg27 c256_i32_2023
  let v4229 : BitVec 32 := Scalar.addi v4228 c0_i32_2024
  let v4230 : BitVec 32 := v4229
  let v4231 : Index := Scalar.indexCast v4230
  ![0, 32, v4231.toNat]
def k0_off8 (k0_t1 : Fin k0_t1_loop.trips) (c0_i32_2024 : BitVec 32) : Fin 2 → Nat :=
  let c32_2035 : Index := 32#32
  let c0_i32_19 : BitVec 32 := 0#32
  let c1_i32_20 : BitVec 32 := 1#32
  let arg27 : BitVec 32 := Scf.iv c0_i32_19 c1_i32_20 k0_t1
  let c256_i32_2023 : BitVec 32 := 256#32
  let v4228 : BitVec 32 := Scalar.muli arg27 c256_i32_2023
  let v4229 : BitVec 32 := Scalar.addi v4228 c0_i32_2024
  let v4230 : BitVec 32 := v4229
  let v4255 : Index := Scalar.indexCast v4230
  ![32, v4255.toNat]
def k0_mult6 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2037 : BitVec 32 := 256#32
  let v4271 : BitVec 32 := Scalar.muli arg27 c256_i32_2037
  let c128_i32_2038 : BitVec 32 := 128#32
  let v4272 : BitVec 32 := Scalar.addi v4271 c128_i32_2038
  v4272
def k0_mult7 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2051 : BitVec 32 := 256#32
  let v4314 : BitVec 32 := Scalar.muli arg27 c256_i32_2051
  let c0_i32_2052 : BitVec 32 := 0#32
  let v4315 : BitVec 32 := Scalar.addi v4314 c0_i32_2052
  v4315
def k0_off9 (k0_t1 : Fin k0_t1_loop.trips) (c0_i32_2052 : BitVec 32) : Fin 3 → Nat :=
  let c0_2053 : Index := 0#32
  let c48_2054 : Index := 48#32
  let c0_i32_19 : BitVec 32 := 0#32
  let c1_i32_20 : BitVec 32 := 1#32
  let arg27 : BitVec 32 := Scf.iv c0_i32_19 c1_i32_20 k0_t1
  let c256_i32_2051 : BitVec 32 := 256#32
  let v4314 : BitVec 32 := Scalar.muli arg27 c256_i32_2051
  let v4315 : BitVec 32 := Scalar.addi v4314 c0_i32_2052
  let v4316 : BitVec 32 := v4315
  let v4317 : Index := Scalar.indexCast v4316
  ![0, 48, v4317.toNat]
def k0_off10 (k0_t1 : Fin k0_t1_loop.trips) (c0_i32_2052 : BitVec 32) : Fin 2 → Nat :=
  let c48_2063 : Index := 48#32
  let c0_i32_19 : BitVec 32 := 0#32
  let c1_i32_20 : BitVec 32 := 1#32
  let arg27 : BitVec 32 := Scf.iv c0_i32_19 c1_i32_20 k0_t1
  let c256_i32_2051 : BitVec 32 := 256#32
  let v4314 : BitVec 32 := Scalar.muli arg27 c256_i32_2051
  let v4315 : BitVec 32 := Scalar.addi v4314 c0_i32_2052
  let v4316 : BitVec 32 := v4315
  let v4341 : Index := Scalar.indexCast v4316
  ![48, v4341.toNat]
def k0_mult8 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2065 : BitVec 32 := 256#32
  let v4357 : BitVec 32 := Scalar.muli arg27 c256_i32_2065
  let c128_i32_2066 : BitVec 32 := 128#32
  let v4358 : BitVec 32 := Scalar.addi v4357 c128_i32_2066
  v4358
def k0_mult9 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2079 : BitVec 32 := 256#32
  let v4400 : BitVec 32 := Scalar.muli arg27 c256_i32_2079
  let c0_i32_2080 : BitVec 32 := 0#32
  let v4401 : BitVec 32 := Scalar.addi v4400 c0_i32_2080
  v4401
def k0_off11 (k0_t1 : Fin k0_t1_loop.trips) (c0_i32_2080 : BitVec 32) : Fin 3 → Nat :=
  let c0_2081 : Index := 0#32
  let c64_2082 : Index := 64#32
  let c0_i32_19 : BitVec 32 := 0#32
  let c1_i32_20 : BitVec 32 := 1#32
  let arg27 : BitVec 32 := Scf.iv c0_i32_19 c1_i32_20 k0_t1
  let c256_i32_2079 : BitVec 32 := 256#32
  let v4400 : BitVec 32 := Scalar.muli arg27 c256_i32_2079
  let v4401 : BitVec 32 := Scalar.addi v4400 c0_i32_2080
  let v4402 : BitVec 32 := v4401
  let v4403 : Index := Scalar.indexCast v4402
  ![0, 64, v4403.toNat]
def k0_off12 (k0_t1 : Fin k0_t1_loop.trips) (c0_i32_2080 : BitVec 32) : Fin 2 → Nat :=
  let c64_2091 : Index := 64#32
  let c0_i32_19 : BitVec 32 := 0#32
  let c1_i32_20 : BitVec 32 := 1#32
  let arg27 : BitVec 32 := Scf.iv c0_i32_19 c1_i32_20 k0_t1
  let c256_i32_2079 : BitVec 32 := 256#32
  let v4400 : BitVec 32 := Scalar.muli arg27 c256_i32_2079
  let v4401 : BitVec 32 := Scalar.addi v4400 c0_i32_2080
  let v4402 : BitVec 32 := v4401
  let v4427 : Index := Scalar.indexCast v4402
  ![64, v4427.toNat]
def k0_mult10 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2093 : BitVec 32 := 256#32
  let v4443 : BitVec 32 := Scalar.muli arg27 c256_i32_2093
  let c128_i32_2094 : BitVec 32 := 128#32
  let v4444 : BitVec 32 := Scalar.addi v4443 c128_i32_2094
  v4444
def k0_mult11 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2107 : BitVec 32 := 256#32
  let v4486 : BitVec 32 := Scalar.muli arg27 c256_i32_2107
  let c0_i32_2108 : BitVec 32 := 0#32
  let v4487 : BitVec 32 := Scalar.addi v4486 c0_i32_2108
  v4487
def k0_off13 (k0_t1 : Fin k0_t1_loop.trips) (c0_i32_2108 : BitVec 32) : Fin 3 → Nat :=
  let c0_2109 : Index := 0#32
  let c80_2110 : Index := 80#32
  let c0_i32_19 : BitVec 32 := 0#32
  let c1_i32_20 : BitVec 32 := 1#32
  let arg27 : BitVec 32 := Scf.iv c0_i32_19 c1_i32_20 k0_t1
  let c256_i32_2107 : BitVec 32 := 256#32
  let v4486 : BitVec 32 := Scalar.muli arg27 c256_i32_2107
  let v4487 : BitVec 32 := Scalar.addi v4486 c0_i32_2108
  let v4488 : BitVec 32 := v4487
  let v4489 : Index := Scalar.indexCast v4488
  ![0, 80, v4489.toNat]
def k0_off14 (k0_t1 : Fin k0_t1_loop.trips) (c0_i32_2108 : BitVec 32) : Fin 2 → Nat :=
  let c80_2119 : Index := 80#32
  let c0_i32_19 : BitVec 32 := 0#32
  let c1_i32_20 : BitVec 32 := 1#32
  let arg27 : BitVec 32 := Scf.iv c0_i32_19 c1_i32_20 k0_t1
  let c256_i32_2107 : BitVec 32 := 256#32
  let v4486 : BitVec 32 := Scalar.muli arg27 c256_i32_2107
  let v4487 : BitVec 32 := Scalar.addi v4486 c0_i32_2108
  let v4488 : BitVec 32 := v4487
  let v4513 : Index := Scalar.indexCast v4488
  ![80, v4513.toNat]
def k0_mult12 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2121 : BitVec 32 := 256#32
  let v4529 : BitVec 32 := Scalar.muli arg27 c256_i32_2121
  let c128_i32_2122 : BitVec 32 := 128#32
  let v4530 : BitVec 32 := Scalar.addi v4529 c128_i32_2122
  v4530
def k0_mult13 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2135 : BitVec 32 := 256#32
  let v4572 : BitVec 32 := Scalar.muli arg27 c256_i32_2135
  let c0_i32_2136 : BitVec 32 := 0#32
  let v4573 : BitVec 32 := Scalar.addi v4572 c0_i32_2136
  v4573
def k0_off15 (k0_t1 : Fin k0_t1_loop.trips) (c0_i32_2136 : BitVec 32) : Fin 3 → Nat :=
  let c0_2137 : Index := 0#32
  let c96_2138 : Index := 96#32
  let c0_i32_19 : BitVec 32 := 0#32
  let c1_i32_20 : BitVec 32 := 1#32
  let arg27 : BitVec 32 := Scf.iv c0_i32_19 c1_i32_20 k0_t1
  let c256_i32_2135 : BitVec 32 := 256#32
  let v4572 : BitVec 32 := Scalar.muli arg27 c256_i32_2135
  let v4573 : BitVec 32 := Scalar.addi v4572 c0_i32_2136
  let v4574 : BitVec 32 := v4573
  let v4575 : Index := Scalar.indexCast v4574
  ![0, 96, v4575.toNat]
def k0_off16 (k0_t1 : Fin k0_t1_loop.trips) (c0_i32_2136 : BitVec 32) : Fin 2 → Nat :=
  let c96_2147 : Index := 96#32
  let c0_i32_19 : BitVec 32 := 0#32
  let c1_i32_20 : BitVec 32 := 1#32
  let arg27 : BitVec 32 := Scf.iv c0_i32_19 c1_i32_20 k0_t1
  let c256_i32_2135 : BitVec 32 := 256#32
  let v4572 : BitVec 32 := Scalar.muli arg27 c256_i32_2135
  let v4573 : BitVec 32 := Scalar.addi v4572 c0_i32_2136
  let v4574 : BitVec 32 := v4573
  let v4599 : Index := Scalar.indexCast v4574
  ![96, v4599.toNat]
def k0_mult14 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2149 : BitVec 32 := 256#32
  let v4615 : BitVec 32 := Scalar.muli arg27 c256_i32_2149
  let c128_i32_2150 : BitVec 32 := 128#32
  let v4616 : BitVec 32 := Scalar.addi v4615 c128_i32_2150
  v4616
def k0_mult15 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2163 : BitVec 32 := 256#32
  let v4658 : BitVec 32 := Scalar.muli arg27 c256_i32_2163
  let c0_i32_2164 : BitVec 32 := 0#32
  let v4659 : BitVec 32 := Scalar.addi v4658 c0_i32_2164
  v4659
def k0_off17 (k0_t1 : Fin k0_t1_loop.trips) (c0_i32_2164 : BitVec 32) : Fin 3 → Nat :=
  let c0_2165 : Index := 0#32
  let c112_2166 : Index := 112#32
  let c0_i32_19 : BitVec 32 := 0#32
  let c1_i32_20 : BitVec 32 := 1#32
  let arg27 : BitVec 32 := Scf.iv c0_i32_19 c1_i32_20 k0_t1
  let c256_i32_2163 : BitVec 32 := 256#32
  let v4658 : BitVec 32 := Scalar.muli arg27 c256_i32_2163
  let v4659 : BitVec 32 := Scalar.addi v4658 c0_i32_2164
  let v4660 : BitVec 32 := v4659
  let v4661 : Index := Scalar.indexCast v4660
  ![0, 112, v4661.toNat]
def k0_off18 (k0_t1 : Fin k0_t1_loop.trips) (c0_i32_2164 : BitVec 32) : Fin 2 → Nat :=
  let c112_2175 : Index := 112#32
  let c0_i32_19 : BitVec 32 := 0#32
  let c1_i32_20 : BitVec 32 := 1#32
  let arg27 : BitVec 32 := Scf.iv c0_i32_19 c1_i32_20 k0_t1
  let c256_i32_2163 : BitVec 32 := 256#32
  let v4658 : BitVec 32 := Scalar.muli arg27 c256_i32_2163
  let v4659 : BitVec 32 := Scalar.addi v4658 c0_i32_2164
  let v4660 : BitVec 32 := v4659
  let v4685 : Index := Scalar.indexCast v4660
  ![112, v4685.toNat]
def k0_mult16 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2177 : BitVec 32 := 256#32
  let v4701 : BitVec 32 := Scalar.muli arg27 c256_i32_2177
  let c128_i32_2178 : BitVec 32 := 128#32
  let v4702 : BitVec 32 := Scalar.addi v4701 c128_i32_2178
  v4702
def k0_mult17 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2191 : BitVec 32 := 256#32
  let v4744 : BitVec 32 := Scalar.muli arg27 c256_i32_2191
  let c0_i32_2192 : BitVec 32 := 0#32
  let v4745 : BitVec 32 := Scalar.addi v4744 c0_i32_2192
  v4745
def k0_off19 (k0_t1 : Fin k0_t1_loop.trips) (c0_i32_2192 : BitVec 32) : Fin 2 → Nat :=
  let c0_2193 : Index := 0#32
  let c0_i32_19 : BitVec 32 := 0#32
  let c1_i32_20 : BitVec 32 := 1#32
  let arg27 : BitVec 32 := Scf.iv c0_i32_19 c1_i32_20 k0_t1
  let c256_i32_2191 : BitVec 32 := 256#32
  let v4744 : BitVec 32 := Scalar.muli arg27 c256_i32_2191
  let v4745 : BitVec 32 := Scalar.addi v4744 c0_i32_2192
  let v4746 : BitVec 32 := v4745
  let v4747 : Index := Scalar.indexCast v4746
  ![0, v4747.toNat]
def k0_mult18 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2194 : BitVec 32 := 256#32
  let v4751 : BitVec 32 := Scalar.muli arg27 c256_i32_2194
  let c128_i32_2195 : BitVec 32 := 128#32
  let v4752 : BitVec 32 := Scalar.addi v4751 c128_i32_2195
  v4752
def k0_off20 (i : grid0.Coords) : Fin 3 → Nat :=
  let c0_25 : Index := 0#32
  let arg1 : BitVec 32 := BitVec.ofNat 32 (i 1).val
  let v39 : Index := Scalar.indexCast arg1
  let c0_26 : Index := 0#32
  ![0, v39.toNat, 0]
@[reducible] def k0_t2_loop : Scf.Loop 32 :=
  let c0_i32_80 : BitVec 32 := 0#32
  let c16_i32_81 : BitVec 32 := 16#32
  let v191 : BitVec 32 := Scalar.addi c0_i32_80 c16_i32_81
  let c1_i32_82 : BitVec 32 := 1#32
  ⟨c0_i32_80, v191, c1_i32_82⟩
def k0_mult19 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32 : BitVec 32 := 256#32
  let v4046 : BitVec 32 := Scalar.muli arg27 c256_i32
  let c0_i32_1964 : BitVec 32 := 0#32
  let v4047 : BitVec 32 := Scalar.addi v4046 c0_i32_1964
  v4047
def k0_off21 (k0_t2 : Fin k0_t2_loop.trips) (c0_i32_1964 : BitVec 32) : Fin 2 → Nat :=
  let c0_1965 : Index := 0#32
  let c0_i32_80 : BitVec 32 := 0#32
  let c1_i32_82 : BitVec 32 := 1#32
  let arg27 : BitVec 32 := Scf.iv c0_i32_80 c1_i32_82 k0_t2
  let c256_i32 : BitVec 32 := 256#32
  let v4046 : BitVec 32 := Scalar.muli arg27 c256_i32
  let v4047 : BitVec 32 := Scalar.addi v4046 c0_i32_1964
  let v4048 : BitVec 32 := v4047
  let v4049 : Index := Scalar.indexCast v4048
  ![0, v4049.toNat]
def k0_off22 (k0_t2 : Fin k0_t2_loop.trips) (c0_i32_1964 : BitVec 32) : Fin 3 → Nat :=
  let c0_1967 : Index := 0#32
  let c0_1968 : Index := 0#32
  let c0_i32_80 : BitVec 32 := 0#32
  let c1_i32_82 : BitVec 32 := 1#32
  let arg27 : BitVec 32 := Scf.iv c0_i32_80 c1_i32_82 k0_t2
  let c256_i32 : BitVec 32 := 256#32
  let v4046 : BitVec 32 := Scalar.muli arg27 c256_i32
  let v4047 : BitVec 32 := Scalar.addi v4046 c0_i32_1964
  let v4048 : BitVec 32 := v4047
  let v4056 : Index := Scalar.indexCast v4048
  ![0, 0, v4056.toNat]
def k0_mult20 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_1973 : BitVec 32 := 256#32
  let v4073 : BitVec 32 := Scalar.muli arg27 c256_i32_1973
  let c128_i32_1974 : BitVec 32 := 128#32
  let v4074 : BitVec 32 := Scalar.addi v4073 c128_i32_1974
  v4074
def k0_mult21 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_1987 : BitVec 32 := 256#32
  let v4105 : BitVec 32 := Scalar.muli arg27 c256_i32_1987
  let c0_i32_1988 : BitVec 32 := 0#32
  let v4106 : BitVec 32 := Scalar.addi v4105 c0_i32_1988
  v4106
def k0_off23 (k0_t2 : Fin k0_t2_loop.trips) (c0_i32_1988 : BitVec 32) : Fin 2 → Nat :=
  let c16_1989 : Index := 16#32
  let c0_i32_80 : BitVec 32 := 0#32
  let c1_i32_82 : BitVec 32 := 1#32
  let arg27 : BitVec 32 := Scf.iv c0_i32_80 c1_i32_82 k0_t2
  let c256_i32_1987 : BitVec 32 := 256#32
  let v4105 : BitVec 32 := Scalar.muli arg27 c256_i32_1987
  let v4106 : BitVec 32 := Scalar.addi v4105 c0_i32_1988
  let v4107 : BitVec 32 := v4106
  let v4108 : Index := Scalar.indexCast v4107
  ![16, v4108.toNat]
def k0_off24 (k0_t2 : Fin k0_t2_loop.trips) (c0_i32_1988 : BitVec 32) : Fin 3 → Nat :=
  let c0_1991 : Index := 0#32
  let c16_1992 : Index := 16#32
  let c0_i32_80 : BitVec 32 := 0#32
  let c1_i32_82 : BitVec 32 := 1#32
  let arg27 : BitVec 32 := Scf.iv c0_i32_80 c1_i32_82 k0_t2
  let c256_i32_1987 : BitVec 32 := 256#32
  let v4105 : BitVec 32 := Scalar.muli arg27 c256_i32_1987
  let v4106 : BitVec 32 := Scalar.addi v4105 c0_i32_1988
  let v4107 : BitVec 32 := v4106
  let v4115 : Index := Scalar.indexCast v4107
  ![0, 16, v4115.toNat]
def k0_mult22 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_1997 : BitVec 32 := 256#32
  let v4132 : BitVec 32 := Scalar.muli arg27 c256_i32_1997
  let c128_i32_1998 : BitVec 32 := 128#32
  let v4133 : BitVec 32 := Scalar.addi v4132 c128_i32_1998
  v4133
def k0_mult23 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2011 : BitVec 32 := 256#32
  let v4164 : BitVec 32 := Scalar.muli arg27 c256_i32_2011
  let c0_i32_2012 : BitVec 32 := 0#32
  let v4165 : BitVec 32 := Scalar.addi v4164 c0_i32_2012
  v4165
def k0_off25 (k0_t2 : Fin k0_t2_loop.trips) (c0_i32_2012 : BitVec 32) : Fin 2 → Nat :=
  let c32_2013 : Index := 32#32
  let c0_i32_80 : BitVec 32 := 0#32
  let c1_i32_82 : BitVec 32 := 1#32
  let arg27 : BitVec 32 := Scf.iv c0_i32_80 c1_i32_82 k0_t2
  let c256_i32_2011 : BitVec 32 := 256#32
  let v4164 : BitVec 32 := Scalar.muli arg27 c256_i32_2011
  let v4165 : BitVec 32 := Scalar.addi v4164 c0_i32_2012
  let v4166 : BitVec 32 := v4165
  let v4167 : Index := Scalar.indexCast v4166
  ![32, v4167.toNat]
def k0_off26 (k0_t2 : Fin k0_t2_loop.trips) (c0_i32_2012 : BitVec 32) : Fin 3 → Nat :=
  let c0_2015 : Index := 0#32
  let c32_2016 : Index := 32#32
  let c0_i32_80 : BitVec 32 := 0#32
  let c1_i32_82 : BitVec 32 := 1#32
  let arg27 : BitVec 32 := Scf.iv c0_i32_80 c1_i32_82 k0_t2
  let c256_i32_2011 : BitVec 32 := 256#32
  let v4164 : BitVec 32 := Scalar.muli arg27 c256_i32_2011
  let v4165 : BitVec 32 := Scalar.addi v4164 c0_i32_2012
  let v4166 : BitVec 32 := v4165
  let v4174 : Index := Scalar.indexCast v4166
  ![0, 32, v4174.toNat]
def k0_mult24 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2021 : BitVec 32 := 256#32
  let v4191 : BitVec 32 := Scalar.muli arg27 c256_i32_2021
  let c128_i32_2022 : BitVec 32 := 128#32
  let v4192 : BitVec 32 := Scalar.addi v4191 c128_i32_2022
  v4192
def k0_mult25 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2035 : BitVec 32 := 256#32
  let v4223 : BitVec 32 := Scalar.muli arg27 c256_i32_2035
  let c0_i32_2036 : BitVec 32 := 0#32
  let v4224 : BitVec 32 := Scalar.addi v4223 c0_i32_2036
  v4224
def k0_off27 (k0_t2 : Fin k0_t2_loop.trips) (c0_i32_2036 : BitVec 32) : Fin 2 → Nat :=
  let c48_2037 : Index := 48#32
  let c0_i32_80 : BitVec 32 := 0#32
  let c1_i32_82 : BitVec 32 := 1#32
  let arg27 : BitVec 32 := Scf.iv c0_i32_80 c1_i32_82 k0_t2
  let c256_i32_2035 : BitVec 32 := 256#32
  let v4223 : BitVec 32 := Scalar.muli arg27 c256_i32_2035
  let v4224 : BitVec 32 := Scalar.addi v4223 c0_i32_2036
  let v4225 : BitVec 32 := v4224
  let v4226 : Index := Scalar.indexCast v4225
  ![48, v4226.toNat]
def k0_off28 (k0_t2 : Fin k0_t2_loop.trips) (c0_i32_2036 : BitVec 32) : Fin 3 → Nat :=
  let c0_2039 : Index := 0#32
  let c48_2040 : Index := 48#32
  let c0_i32_80 : BitVec 32 := 0#32
  let c1_i32_82 : BitVec 32 := 1#32
  let arg27 : BitVec 32 := Scf.iv c0_i32_80 c1_i32_82 k0_t2
  let c256_i32_2035 : BitVec 32 := 256#32
  let v4223 : BitVec 32 := Scalar.muli arg27 c256_i32_2035
  let v4224 : BitVec 32 := Scalar.addi v4223 c0_i32_2036
  let v4225 : BitVec 32 := v4224
  let v4233 : Index := Scalar.indexCast v4225
  ![0, 48, v4233.toNat]
def k0_mult26 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2045 : BitVec 32 := 256#32
  let v4250 : BitVec 32 := Scalar.muli arg27 c256_i32_2045
  let c128_i32_2046 : BitVec 32 := 128#32
  let v4251 : BitVec 32 := Scalar.addi v4250 c128_i32_2046
  v4251
def k0_mult27 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2059 : BitVec 32 := 256#32
  let v4282 : BitVec 32 := Scalar.muli arg27 c256_i32_2059
  let c0_i32_2060 : BitVec 32 := 0#32
  let v4283 : BitVec 32 := Scalar.addi v4282 c0_i32_2060
  v4283
def k0_off29 (k0_t2 : Fin k0_t2_loop.trips) (c0_i32_2060 : BitVec 32) : Fin 2 → Nat :=
  let c64_2061 : Index := 64#32
  let c0_i32_80 : BitVec 32 := 0#32
  let c1_i32_82 : BitVec 32 := 1#32
  let arg27 : BitVec 32 := Scf.iv c0_i32_80 c1_i32_82 k0_t2
  let c256_i32_2059 : BitVec 32 := 256#32
  let v4282 : BitVec 32 := Scalar.muli arg27 c256_i32_2059
  let v4283 : BitVec 32 := Scalar.addi v4282 c0_i32_2060
  let v4284 : BitVec 32 := v4283
  let v4285 : Index := Scalar.indexCast v4284
  ![64, v4285.toNat]
def k0_off30 (k0_t2 : Fin k0_t2_loop.trips) (c0_i32_2060 : BitVec 32) : Fin 3 → Nat :=
  let c0_2063 : Index := 0#32
  let c64_2064 : Index := 64#32
  let c0_i32_80 : BitVec 32 := 0#32
  let c1_i32_82 : BitVec 32 := 1#32
  let arg27 : BitVec 32 := Scf.iv c0_i32_80 c1_i32_82 k0_t2
  let c256_i32_2059 : BitVec 32 := 256#32
  let v4282 : BitVec 32 := Scalar.muli arg27 c256_i32_2059
  let v4283 : BitVec 32 := Scalar.addi v4282 c0_i32_2060
  let v4284 : BitVec 32 := v4283
  let v4292 : Index := Scalar.indexCast v4284
  ![0, 64, v4292.toNat]
def k0_mult28 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2069 : BitVec 32 := 256#32
  let v4309 : BitVec 32 := Scalar.muli arg27 c256_i32_2069
  let c128_i32_2070 : BitVec 32 := 128#32
  let v4310 : BitVec 32 := Scalar.addi v4309 c128_i32_2070
  v4310
def k0_mult29 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2083 : BitVec 32 := 256#32
  let v4341 : BitVec 32 := Scalar.muli arg27 c256_i32_2083
  let c0_i32_2084 : BitVec 32 := 0#32
  let v4342 : BitVec 32 := Scalar.addi v4341 c0_i32_2084
  v4342
def k0_off31 (k0_t2 : Fin k0_t2_loop.trips) (c0_i32_2084 : BitVec 32) : Fin 2 → Nat :=
  let c80_2085 : Index := 80#32
  let c0_i32_80 : BitVec 32 := 0#32
  let c1_i32_82 : BitVec 32 := 1#32
  let arg27 : BitVec 32 := Scf.iv c0_i32_80 c1_i32_82 k0_t2
  let c256_i32_2083 : BitVec 32 := 256#32
  let v4341 : BitVec 32 := Scalar.muli arg27 c256_i32_2083
  let v4342 : BitVec 32 := Scalar.addi v4341 c0_i32_2084
  let v4343 : BitVec 32 := v4342
  let v4344 : Index := Scalar.indexCast v4343
  ![80, v4344.toNat]
def k0_off32 (k0_t2 : Fin k0_t2_loop.trips) (c0_i32_2084 : BitVec 32) : Fin 3 → Nat :=
  let c0_2087 : Index := 0#32
  let c80_2088 : Index := 80#32
  let c0_i32_80 : BitVec 32 := 0#32
  let c1_i32_82 : BitVec 32 := 1#32
  let arg27 : BitVec 32 := Scf.iv c0_i32_80 c1_i32_82 k0_t2
  let c256_i32_2083 : BitVec 32 := 256#32
  let v4341 : BitVec 32 := Scalar.muli arg27 c256_i32_2083
  let v4342 : BitVec 32 := Scalar.addi v4341 c0_i32_2084
  let v4343 : BitVec 32 := v4342
  let v4351 : Index := Scalar.indexCast v4343
  ![0, 80, v4351.toNat]
def k0_mult30 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2093 : BitVec 32 := 256#32
  let v4368 : BitVec 32 := Scalar.muli arg27 c256_i32_2093
  let c128_i32_2094 : BitVec 32 := 128#32
  let v4369 : BitVec 32 := Scalar.addi v4368 c128_i32_2094
  v4369
def k0_mult31 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2107 : BitVec 32 := 256#32
  let v4400 : BitVec 32 := Scalar.muli arg27 c256_i32_2107
  let c0_i32_2108 : BitVec 32 := 0#32
  let v4401 : BitVec 32 := Scalar.addi v4400 c0_i32_2108
  v4401
def k0_off33 (k0_t2 : Fin k0_t2_loop.trips) (c0_i32_2108 : BitVec 32) : Fin 2 → Nat :=
  let c96_2109 : Index := 96#32
  let c0_i32_80 : BitVec 32 := 0#32
  let c1_i32_82 : BitVec 32 := 1#32
  let arg27 : BitVec 32 := Scf.iv c0_i32_80 c1_i32_82 k0_t2
  let c256_i32_2107 : BitVec 32 := 256#32
  let v4400 : BitVec 32 := Scalar.muli arg27 c256_i32_2107
  let v4401 : BitVec 32 := Scalar.addi v4400 c0_i32_2108
  let v4402 : BitVec 32 := v4401
  let v4403 : Index := Scalar.indexCast v4402
  ![96, v4403.toNat]
def k0_off34 (k0_t2 : Fin k0_t2_loop.trips) (c0_i32_2108 : BitVec 32) : Fin 3 → Nat :=
  let c0_2111 : Index := 0#32
  let c96_2112 : Index := 96#32
  let c0_i32_80 : BitVec 32 := 0#32
  let c1_i32_82 : BitVec 32 := 1#32
  let arg27 : BitVec 32 := Scf.iv c0_i32_80 c1_i32_82 k0_t2
  let c256_i32_2107 : BitVec 32 := 256#32
  let v4400 : BitVec 32 := Scalar.muli arg27 c256_i32_2107
  let v4401 : BitVec 32 := Scalar.addi v4400 c0_i32_2108
  let v4402 : BitVec 32 := v4401
  let v4410 : Index := Scalar.indexCast v4402
  ![0, 96, v4410.toNat]
def k0_mult32 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2117 : BitVec 32 := 256#32
  let v4427 : BitVec 32 := Scalar.muli arg27 c256_i32_2117
  let c128_i32_2118 : BitVec 32 := 128#32
  let v4428 : BitVec 32 := Scalar.addi v4427 c128_i32_2118
  v4428
def k0_mult33 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2131 : BitVec 32 := 256#32
  let v4459 : BitVec 32 := Scalar.muli arg27 c256_i32_2131
  let c0_i32_2132 : BitVec 32 := 0#32
  let v4460 : BitVec 32 := Scalar.addi v4459 c0_i32_2132
  v4460
def k0_off35 (k0_t2 : Fin k0_t2_loop.trips) (c0_i32_2132 : BitVec 32) : Fin 2 → Nat :=
  let c112_2133 : Index := 112#32
  let c0_i32_80 : BitVec 32 := 0#32
  let c1_i32_82 : BitVec 32 := 1#32
  let arg27 : BitVec 32 := Scf.iv c0_i32_80 c1_i32_82 k0_t2
  let c256_i32_2131 : BitVec 32 := 256#32
  let v4459 : BitVec 32 := Scalar.muli arg27 c256_i32_2131
  let v4460 : BitVec 32 := Scalar.addi v4459 c0_i32_2132
  let v4461 : BitVec 32 := v4460
  let v4462 : Index := Scalar.indexCast v4461
  ![112, v4462.toNat]
def k0_off36 (k0_t2 : Fin k0_t2_loop.trips) (c0_i32_2132 : BitVec 32) : Fin 3 → Nat :=
  let c0_2135 : Index := 0#32
  let c112_2136 : Index := 112#32
  let c0_i32_80 : BitVec 32 := 0#32
  let c1_i32_82 : BitVec 32 := 1#32
  let arg27 : BitVec 32 := Scf.iv c0_i32_80 c1_i32_82 k0_t2
  let c256_i32_2131 : BitVec 32 := 256#32
  let v4459 : BitVec 32 := Scalar.muli arg27 c256_i32_2131
  let v4460 : BitVec 32 := Scalar.addi v4459 c0_i32_2132
  let v4461 : BitVec 32 := v4460
  let v4469 : Index := Scalar.indexCast v4461
  ![0, 112, v4469.toNat]
def k0_mult34 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2141 : BitVec 32 := 256#32
  let v4486 : BitVec 32 := Scalar.muli arg27 c256_i32_2141
  let c128_i32_2142 : BitVec 32 := 128#32
  let v4487 : BitVec 32 := Scalar.addi v4486 c128_i32_2142
  v4487
def k0_off37 (k0_t2 : Fin k0_t2_loop.trips) : Fin 4 → Nat :=
  let c0_2151 : Index := 0#32
  let c0_i32_80 : BitVec 32 := 0#32
  let c1_i32_82 : BitVec 32 := 1#32
  let arg27 : BitVec 32 := Scf.iv c0_i32_80 c1_i32_82 k0_t2
  let v4529 : Index := Scalar.indexCast arg27
  let c0_2152 : Index := 0#32
  let c0_2153 : Index := 0#32
  ![0, v4529.toNat, 0, 0]
def k0_off38 (k0_t2 : Fin k0_t2_loop.trips) : Fin 4 → Nat :=
  let c1_2154 : Index := 1#32
  let c0_i32_80 : BitVec 32 := 0#32
  let c1_i32_82 : BitVec 32 := 1#32
  let arg27 : BitVec 32 := Scf.iv c0_i32_80 c1_i32_82 k0_t2
  let v4546 : Index := Scalar.indexCast arg27
  let c0_2155 : Index := 0#32
  let c0_2156 : Index := 0#32
  ![1, v4546.toNat, 0, 0]
def k0_off39 (k0_t2 : Fin k0_t2_loop.trips) : Fin 4 → Nat :=
  let c2_2157 : Index := 2#32
  let c0_i32_80 : BitVec 32 := 0#32
  let c1_i32_82 : BitVec 32 := 1#32
  let arg27 : BitVec 32 := Scf.iv c0_i32_80 c1_i32_82 k0_t2
  let v4563 : Index := Scalar.indexCast arg27
  let c0_2158 : Index := 0#32
  let c0_2159 : Index := 0#32
  ![2, v4563.toNat, 0, 0]
def k0_off40 (k0_t2 : Fin k0_t2_loop.trips) : Fin 4 → Nat :=
  let c3_2160 : Index := 3#32
  let c0_i32_80 : BitVec 32 := 0#32
  let c1_i32_82 : BitVec 32 := 1#32
  let arg27 : BitVec 32 := Scf.iv c0_i32_80 c1_i32_82 k0_t2
  let v4580 : Index := Scalar.indexCast arg27
  let c0_2161 : Index := 0#32
  let c0_2162 : Index := 0#32
  ![3, v4580.toNat, 0, 0]
def k0_off41 (i : grid0.Coords) (c0_i32_150 : BitVec 32) : Fin 3 → Nat :=
  let c0_151 : Index := 0#32
  let arg1 : BitVec 32 := BitVec.ofNat 32 (i 1).val
  let c4_i32_149 : BitVec 32 := 4#32
  let v369 : BitVec 32 := Scalar.muli arg1 c4_i32_149
  let v370 : BitVec 32 := Scalar.addi v369 c0_i32_150
  let v371 : Index := Scalar.indexCast v370
  let c0_152 : Index := 0#32
  ![0, v371.toNat, 0]
def k0_off42 (i : grid0.Coords) (c0_i32_154 : BitVec 32) : Fin 3 → Nat :=
  let c2_155 : Index := 2#32
  let arg1 : BitVec 32 := BitVec.ofNat 32 (i 1).val
  let c4_i32_153 : BitVec 32 := 4#32
  let v376 : BitVec 32 := Scalar.muli arg1 c4_i32_153
  let v377 : BitVec 32 := Scalar.addi v376 c0_i32_154
  let v378 : Index := Scalar.indexCast v377
  let c0_156 : Index := 0#32
  ![2, v378.toNat, 0]
def k0_off43 (i : grid0.Coords) (c0_i32_158 : BitVec 32) : Fin 3 → Nat :=
  let c4_159 : Index := 4#32
  let arg1 : BitVec 32 := BitVec.ofNat 32 (i 1).val
  let c4_i32_157 : BitVec 32 := 4#32
  let v383 : BitVec 32 := Scalar.muli arg1 c4_i32_157
  let v384 : BitVec 32 := Scalar.addi v383 c0_i32_158
  let v385 : Index := Scalar.indexCast v384
  let c0_160 : Index := 0#32
  ![4, v385.toNat, 0]
def k0_off44 (i : grid0.Coords) (c0_i32_162 : BitVec 32) : Fin 3 → Nat :=
  let c6_163 : Index := 6#32
  let arg1 : BitVec 32 := BitVec.ofNat 32 (i 1).val
  let c4_i32_161 : BitVec 32 := 4#32
  let v390 : BitVec 32 := Scalar.muli arg1 c4_i32_161
  let v391 : BitVec 32 := Scalar.addi v390 c0_i32_162
  let v392 : Index := Scalar.indexCast v391
  let c0_164 : Index := 0#32
  ![6, v392.toNat, 0]
def k0_off45 (i : grid0.Coords) (c0_i32_166 : BitVec 32) : Fin 3 → Nat :=
  let c8_167 : Index := 8#32
  let arg1 : BitVec 32 := BitVec.ofNat 32 (i 1).val
  let c4_i32_165 : BitVec 32 := 4#32
  let v397 : BitVec 32 := Scalar.muli arg1 c4_i32_165
  let v398 : BitVec 32 := Scalar.addi v397 c0_i32_166
  let v399 : Index := Scalar.indexCast v398
  let c0_168 : Index := 0#32
  ![8, v399.toNat, 0]
def k0_off46 (i : grid0.Coords) (c0_i32_170 : BitVec 32) : Fin 3 → Nat :=
  let c10 : Index := 10#32
  let arg1 : BitVec 32 := BitVec.ofNat 32 (i 1).val
  let c4_i32_169 : BitVec 32 := 4#32
  let v404 : BitVec 32 := Scalar.muli arg1 c4_i32_169
  let v405 : BitVec 32 := Scalar.addi v404 c0_i32_170
  let v406 : Index := Scalar.indexCast v405
  let c0_171 : Index := 0#32
  ![10, v406.toNat, 0]
def k0_off47 (i : grid0.Coords) (c0_i32_173 : BitVec 32) : Fin 3 → Nat :=
  let c12 : Index := 12#32
  let arg1 : BitVec 32 := BitVec.ofNat 32 (i 1).val
  let c4_i32_172 : BitVec 32 := 4#32
  let v411 : BitVec 32 := Scalar.muli arg1 c4_i32_172
  let v412 : BitVec 32 := Scalar.addi v411 c0_i32_173
  let v413 : Index := Scalar.indexCast v412
  let c0_174 : Index := 0#32
  ![12, v413.toNat, 0]
def k0_off48 (i : grid0.Coords) (c0_i32_176 : BitVec 32) : Fin 3 → Nat :=
  let c14 : Index := 14#32
  let arg1 : BitVec 32 := BitVec.ofNat 32 (i 1).val
  let c4_i32_175 : BitVec 32 := 4#32
  let v418 : BitVec 32 := Scalar.muli arg1 c4_i32_175
  let v419 : BitVec 32 := Scalar.addi v418 c0_i32_176
  let v420 : Index := Scalar.indexCast v419
  let c0_177 : Index := 0#32
  ![14, v420.toNat, 0]
def k0_off49 (i : grid0.Coords) (c0_i32_216 : BitVec 32) : Fin 3 → Nat :=
  let c1_217 : Index := 1#32
  let arg1 : BitVec 32 := BitVec.ofNat 32 (i 1).val
  let c4_i32_215 : BitVec 32 := 4#32
  let v520 : BitVec 32 := Scalar.muli arg1 c4_i32_215
  let v521 : BitVec 32 := Scalar.addi v520 c0_i32_216
  let v522 : Index := Scalar.indexCast v521
  let c0_218 : Index := 0#32
  ![1, v522.toNat, 0]
def k0_off50 (i : grid0.Coords) (c0_i32_220 : BitVec 32) : Fin 3 → Nat :=
  let c3_221 : Index := 3#32
  let arg1 : BitVec 32 := BitVec.ofNat 32 (i 1).val
  let c4_i32_219 : BitVec 32 := 4#32
  let v527 : BitVec 32 := Scalar.muli arg1 c4_i32_219
  let v528 : BitVec 32 := Scalar.addi v527 c0_i32_220
  let v529 : Index := Scalar.indexCast v528
  let c0_222 : Index := 0#32
  ![3, v529.toNat, 0]
def k0_off51 (i : grid0.Coords) (c0_i32_224 : BitVec 32) : Fin 3 → Nat :=
  let c5_225 : Index := 5#32
  let arg1 : BitVec 32 := BitVec.ofNat 32 (i 1).val
  let c4_i32_223 : BitVec 32 := 4#32
  let v534 : BitVec 32 := Scalar.muli arg1 c4_i32_223
  let v535 : BitVec 32 := Scalar.addi v534 c0_i32_224
  let v536 : Index := Scalar.indexCast v535
  let c0_226 : Index := 0#32
  ![5, v536.toNat, 0]
def k0_off52 (i : grid0.Coords) (c0_i32_228 : BitVec 32) : Fin 3 → Nat :=
  let c7_229 : Index := 7#32
  let arg1 : BitVec 32 := BitVec.ofNat 32 (i 1).val
  let c4_i32_227 : BitVec 32 := 4#32
  let v541 : BitVec 32 := Scalar.muli arg1 c4_i32_227
  let v542 : BitVec 32 := Scalar.addi v541 c0_i32_228
  let v543 : Index := Scalar.indexCast v542
  let c0_230 : Index := 0#32
  ![7, v543.toNat, 0]
def k0_off53 (i : grid0.Coords) (c0_i32_232 : BitVec 32) : Fin 3 → Nat :=
  let c9 : Index := 9#32
  let arg1 : BitVec 32 := BitVec.ofNat 32 (i 1).val
  let c4_i32_231 : BitVec 32 := 4#32
  let v548 : BitVec 32 := Scalar.muli arg1 c4_i32_231
  let v549 : BitVec 32 := Scalar.addi v548 c0_i32_232
  let v550 : Index := Scalar.indexCast v549
  let c0_233 : Index := 0#32
  ![9, v550.toNat, 0]
def k0_off54 (i : grid0.Coords) (c0_i32_235 : BitVec 32) : Fin 3 → Nat :=
  let c11 : Index := 11#32
  let arg1 : BitVec 32 := BitVec.ofNat 32 (i 1).val
  let c4_i32_234 : BitVec 32 := 4#32
  let v555 : BitVec 32 := Scalar.muli arg1 c4_i32_234
  let v556 : BitVec 32 := Scalar.addi v555 c0_i32_235
  let v557 : Index := Scalar.indexCast v556
  let c0_236 : Index := 0#32
  ![11, v557.toNat, 0]
def k0_off55 (i : grid0.Coords) (c0_i32_238 : BitVec 32) : Fin 3 → Nat :=
  let c13 : Index := 13#32
  let arg1 : BitVec 32 := BitVec.ofNat 32 (i 1).val
  let c4_i32_237 : BitVec 32 := 4#32
  let v562 : BitVec 32 := Scalar.muli arg1 c4_i32_237
  let v563 : BitVec 32 := Scalar.addi v562 c0_i32_238
  let v564 : Index := Scalar.indexCast v563
  let c0_239 : Index := 0#32
  ![13, v564.toNat, 0]
def k0_off56 (i : grid0.Coords) (c0_i32_241 : BitVec 32) : Fin 3 → Nat :=
  let c15 : Index := 15#32
  let arg1 : BitVec 32 := BitVec.ofNat 32 (i 1).val
  let c4_i32_240 : BitVec 32 := 4#32
  let v569 : BitVec 32 := Scalar.muli arg1 c4_i32_240
  let v570 : BitVec 32 := Scalar.addi v569 c0_i32_241
  let v571 : Index := Scalar.indexCast v570
  let c0_242 : Index := 0#32
  ![15, v571.toNat, 0]
def k0_off57 (i : grid0.Coords) (c0_i32_328 : BitVec 32) : Fin 3 → Nat :=
  let c16_329 : Index := 16#32
  let arg1 : BitVec 32 := BitVec.ofNat 32 (i 1).val
  let c4_i32_327 : BitVec 32 := 4#32
  let v752 : BitVec 32 := Scalar.muli arg1 c4_i32_327
  let v753 : BitVec 32 := Scalar.addi v752 c0_i32_328
  let v754 : Index := Scalar.indexCast v753
  let c0_330 : Index := 0#32
  ![16, v754.toNat, 0]
def k0_off58 (i : grid0.Coords) (c0_i32_332 : BitVec 32) : Fin 3 → Nat :=
  let c18 : Index := 18#32
  let arg1 : BitVec 32 := BitVec.ofNat 32 (i 1).val
  let c4_i32_331 : BitVec 32 := 4#32
  let v759 : BitVec 32 := Scalar.muli arg1 c4_i32_331
  let v760 : BitVec 32 := Scalar.addi v759 c0_i32_332
  let v761 : Index := Scalar.indexCast v760
  let c0_333 : Index := 0#32
  ![18, v761.toNat, 0]
def k0_off59 (i : grid0.Coords) (c0_i32_335 : BitVec 32) : Fin 3 → Nat :=
  let c20 : Index := 20#32
  let arg1 : BitVec 32 := BitVec.ofNat 32 (i 1).val
  let c4_i32_334 : BitVec 32 := 4#32
  let v766 : BitVec 32 := Scalar.muli arg1 c4_i32_334
  let v767 : BitVec 32 := Scalar.addi v766 c0_i32_335
  let v768 : Index := Scalar.indexCast v767
  let c0_336 : Index := 0#32
  ![20, v768.toNat, 0]
def k0_off60 (i : grid0.Coords) (c0_i32_338 : BitVec 32) : Fin 3 → Nat :=
  let c22 : Index := 22#32
  let arg1 : BitVec 32 := BitVec.ofNat 32 (i 1).val
  let c4_i32_337 : BitVec 32 := 4#32
  let v773 : BitVec 32 := Scalar.muli arg1 c4_i32_337
  let v774 : BitVec 32 := Scalar.addi v773 c0_i32_338
  let v775 : Index := Scalar.indexCast v774
  let c0_339 : Index := 0#32
  ![22, v775.toNat, 0]
def k0_off61 (i : grid0.Coords) (c0_i32_341 : BitVec 32) : Fin 3 → Nat :=
  let c24_342 : Index := 24#32
  let arg1 : BitVec 32 := BitVec.ofNat 32 (i 1).val
  let c4_i32_340 : BitVec 32 := 4#32
  let v780 : BitVec 32 := Scalar.muli arg1 c4_i32_340
  let v781 : BitVec 32 := Scalar.addi v780 c0_i32_341
  let v782 : Index := Scalar.indexCast v781
  let c0_343 : Index := 0#32
  ![24, v782.toNat, 0]
def k0_off62 (i : grid0.Coords) (c0_i32_345 : BitVec 32) : Fin 3 → Nat :=
  let c26 : Index := 26#32
  let arg1 : BitVec 32 := BitVec.ofNat 32 (i 1).val
  let c4_i32_344 : BitVec 32 := 4#32
  let v787 : BitVec 32 := Scalar.muli arg1 c4_i32_344
  let v788 : BitVec 32 := Scalar.addi v787 c0_i32_345
  let v789 : Index := Scalar.indexCast v788
  let c0_346 : Index := 0#32
  ![26, v789.toNat, 0]
def k0_off63 (i : grid0.Coords) (c0_i32_348 : BitVec 32) : Fin 3 → Nat :=
  let c28 : Index := 28#32
  let arg1 : BitVec 32 := BitVec.ofNat 32 (i 1).val
  let c4_i32_347 : BitVec 32 := 4#32
  let v794 : BitVec 32 := Scalar.muli arg1 c4_i32_347
  let v795 : BitVec 32 := Scalar.addi v794 c0_i32_348
  let v796 : Index := Scalar.indexCast v795
  let c0_349 : Index := 0#32
  ![28, v796.toNat, 0]
def k0_off64 (i : grid0.Coords) (c0_i32_351 : BitVec 32) : Fin 3 → Nat :=
  let c30 : Index := 30#32
  let arg1 : BitVec 32 := BitVec.ofNat 32 (i 1).val
  let c4_i32_350 : BitVec 32 := 4#32
  let v801 : BitVec 32 := Scalar.muli arg1 c4_i32_350
  let v802 : BitVec 32 := Scalar.addi v801 c0_i32_351
  let v803 : Index := Scalar.indexCast v802
  let c0_352 : Index := 0#32
  ![30, v803.toNat, 0]
def k0_off65 (i : grid0.Coords) (c0_i32_391 : BitVec 32) : Fin 3 → Nat :=
  let c17 : Index := 17#32
  let arg1 : BitVec 32 := BitVec.ofNat 32 (i 1).val
  let c4_i32_390 : BitVec 32 := 4#32
  let v903 : BitVec 32 := Scalar.muli arg1 c4_i32_390
  let v904 : BitVec 32 := Scalar.addi v903 c0_i32_391
  let v905 : Index := Scalar.indexCast v904
  let c0_392 : Index := 0#32
  ![17, v905.toNat, 0]
def k0_off66 (i : grid0.Coords) (c0_i32_394 : BitVec 32) : Fin 3 → Nat :=
  let c19 : Index := 19#32
  let arg1 : BitVec 32 := BitVec.ofNat 32 (i 1).val
  let c4_i32_393 : BitVec 32 := 4#32
  let v910 : BitVec 32 := Scalar.muli arg1 c4_i32_393
  let v911 : BitVec 32 := Scalar.addi v910 c0_i32_394
  let v912 : Index := Scalar.indexCast v911
  let c0_395 : Index := 0#32
  ![19, v912.toNat, 0]
def k0_off67 (i : grid0.Coords) (c0_i32_397 : BitVec 32) : Fin 3 → Nat :=
  let c21 : Index := 21#32
  let arg1 : BitVec 32 := BitVec.ofNat 32 (i 1).val
  let c4_i32_396 : BitVec 32 := 4#32
  let v917 : BitVec 32 := Scalar.muli arg1 c4_i32_396
  let v918 : BitVec 32 := Scalar.addi v917 c0_i32_397
  let v919 : Index := Scalar.indexCast v918
  let c0_398 : Index := 0#32
  ![21, v919.toNat, 0]
def k0_off68 (i : grid0.Coords) (c0_i32_400 : BitVec 32) : Fin 3 → Nat :=
  let c23 : Index := 23#32
  let arg1 : BitVec 32 := BitVec.ofNat 32 (i 1).val
  let c4_i32_399 : BitVec 32 := 4#32
  let v924 : BitVec 32 := Scalar.muli arg1 c4_i32_399
  let v925 : BitVec 32 := Scalar.addi v924 c0_i32_400
  let v926 : Index := Scalar.indexCast v925
  let c0_401 : Index := 0#32
  ![23, v926.toNat, 0]
def k0_off69 (i : grid0.Coords) (c0_i32_403 : BitVec 32) : Fin 3 → Nat :=
  let c25 : Index := 25#32
  let arg1 : BitVec 32 := BitVec.ofNat 32 (i 1).val
  let c4_i32_402 : BitVec 32 := 4#32
  let v931 : BitVec 32 := Scalar.muli arg1 c4_i32_402
  let v932 : BitVec 32 := Scalar.addi v931 c0_i32_403
  let v933 : Index := Scalar.indexCast v932
  let c0_404 : Index := 0#32
  ![25, v933.toNat, 0]
def k0_off70 (i : grid0.Coords) (c0_i32_406 : BitVec 32) : Fin 3 → Nat :=
  let c27 : Index := 27#32
  let arg1 : BitVec 32 := BitVec.ofNat 32 (i 1).val
  let c4_i32_405 : BitVec 32 := 4#32
  let v938 : BitVec 32 := Scalar.muli arg1 c4_i32_405
  let v939 : BitVec 32 := Scalar.addi v938 c0_i32_406
  let v940 : Index := Scalar.indexCast v939
  let c0_407 : Index := 0#32
  ![27, v940.toNat, 0]
def k0_off71 (i : grid0.Coords) (c0_i32_409 : BitVec 32) : Fin 3 → Nat :=
  let c29 : Index := 29#32
  let arg1 : BitVec 32 := BitVec.ofNat 32 (i 1).val
  let c4_i32_408 : BitVec 32 := 4#32
  let v945 : BitVec 32 := Scalar.muli arg1 c4_i32_408
  let v946 : BitVec 32 := Scalar.addi v945 c0_i32_409
  let v947 : Index := Scalar.indexCast v946
  let c0_410 : Index := 0#32
  ![29, v947.toNat, 0]
def k0_off72 (i : grid0.Coords) (c0_i32_412 : BitVec 32) : Fin 3 → Nat :=
  let c31 : Index := 31#32
  let arg1 : BitVec 32 := BitVec.ofNat 32 (i 1).val
  let c4_i32_411 : BitVec 32 := 4#32
  let v952 : BitVec 32 := Scalar.muli arg1 c4_i32_411
  let v953 : BitVec 32 := Scalar.addi v952 c0_i32_412
  let v954 : Index := Scalar.indexCast v953
  let c0_413 : Index := 0#32
  ![31, v954.toNat, 0]
@[reducible] def k0_t3_loop : Scf.Loop 32 :=
  let c0_i32_1956 : BitVec 32 := 0#32
  let c16_i32_1957 : BitVec 32 := 16#32
  let v4043 : BitVec 32 := Scalar.addi c0_i32_1956 c16_i32_1957
  let c1_i32_1958 : BitVec 32 := 1#32
  ⟨c0_i32_1956, v4043, c1_i32_1958⟩
def k0_mult35 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32 : BitVec 32 := 256#32
  let v4044 : BitVec 32 := Scalar.muli arg27 c256_i32
  v4044
def k0_off73 (k0_t3 : Fin k0_t3_loop.trips) : Fin 2 → Nat :=
  let c0_1962 : Index := 0#32
  let c0_i32_1956 : BitVec 32 := 0#32
  let c1_i32_1958 : BitVec 32 := 1#32
  let arg27 : BitVec 32 := Scf.iv c0_i32_1956 c1_i32_1958 k0_t3
  let c256_i32 : BitVec 32 := 256#32
  let v4044 : BitVec 32 := Scalar.muli arg27 c256_i32
  let v4045 : BitVec 32 := v4044
  let v4047 : Index := Scalar.indexCast v4045
  ![0, v4047.toNat]
def k0_mult36 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_1964 : BitVec 32 := 256#32
  let v4050 : BitVec 32 := Scalar.muli arg27 c256_i32_1964
  let c0_i32_1965 : BitVec 32 := 0#32
  let v4051 : BitVec 32 := Scalar.addi v4050 c0_i32_1965
  v4051
def k0_off74 (k0_t3 : Fin k0_t3_loop.trips) (c0_i32_1965 : BitVec 32) : Fin 2 → Nat :=
  let c0_1966 : Index := 0#32
  let c0_i32_1956 : BitVec 32 := 0#32
  let c1_i32_1958 : BitVec 32 := 1#32
  let arg27 : BitVec 32 := Scf.iv c0_i32_1956 c1_i32_1958 k0_t3
  let c256_i32_1964 : BitVec 32 := 256#32
  let v4050 : BitVec 32 := Scalar.muli arg27 c256_i32_1964
  let v4051 : BitVec 32 := Scalar.addi v4050 c0_i32_1965
  let v4052 : BitVec 32 := v4051
  let v4053 : Index := Scalar.indexCast v4052
  ![0, v4053.toNat]
def k0_off75 (k0_t3 : Fin k0_t3_loop.trips) (c0_i32_1965 : BitVec 32) : Fin 3 → Nat :=
  let c0_1969 : Index := 0#32
  let c0_1970 : Index := 0#32
  let c0_i32_1956 : BitVec 32 := 0#32
  let c1_i32_1958 : BitVec 32 := 1#32
  let arg27 : BitVec 32 := Scf.iv c0_i32_1956 c1_i32_1958 k0_t3
  let c256_i32_1964 : BitVec 32 := 256#32
  let v4050 : BitVec 32 := Scalar.muli arg27 c256_i32_1964
  let v4051 : BitVec 32 := Scalar.addi v4050 c0_i32_1965
  let v4052 : BitVec 32 := v4051
  let v4062 : Index := Scalar.indexCast v4052
  ![0, 0, v4062.toNat]
def k0_off76 (k0_t3 : Fin k0_t3_loop.trips) : Fin 4 → Nat :=
  let c0_1971 : Index := 0#32
  let c0_1972 : Index := 0#32
  let c0_i32_1956 : BitVec 32 := 0#32
  let c1_i32_1958 : BitVec 32 := 1#32
  let arg27 : BitVec 32 := Scf.iv c0_i32_1956 c1_i32_1958 k0_t3
  let v4066 : Index := Scalar.indexCast arg27
  let c0_1973 : Index := 0#32
  ![0, 0, v4066.toNat, 0]
def k0_mult37 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_1978 : BitVec 32 := 256#32
  let v4080 : BitVec 32 := Scalar.muli arg27 c256_i32_1978
  let c128_i32_1979 : BitVec 32 := 128#32
  let v4081 : BitVec 32 := Scalar.addi v4080 c128_i32_1979
  v4081
def k0_off77 (k0_t3 : Fin k0_t3_loop.trips) : Fin 4 → Nat :=
  let c0_1985 : Index := 0#32
  let c1_1986 : Index := 1#32
  let c0_i32_1956 : BitVec 32 := 0#32
  let c1_i32_1958 : BitVec 32 := 1#32
  let arg27 : BitVec 32 := Scf.iv c0_i32_1956 c1_i32_1958 k0_t3
  let v4096 : Index := Scalar.indexCast arg27
  let c0_1987 : Index := 0#32
  ![0, 1, v4096.toNat, 0]
def k0_mult38 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_1992 : BitVec 32 := 256#32
  let v4110 : BitVec 32 := Scalar.muli arg27 c256_i32_1992
  let c0_i32_1993 : BitVec 32 := 0#32
  let v4111 : BitVec 32 := Scalar.addi v4110 c0_i32_1993
  v4111
def k0_off78 (k0_t3 : Fin k0_t3_loop.trips) (c0_i32_1993 : BitVec 32) : Fin 2 → Nat :=
  let c32_1994 : Index := 32#32
  let c0_i32_1956 : BitVec 32 := 0#32
  let c1_i32_1958 : BitVec 32 := 1#32
  let arg27 : BitVec 32 := Scf.iv c0_i32_1956 c1_i32_1958 k0_t3
  let c256_i32_1992 : BitVec 32 := 256#32
  let v4110 : BitVec 32 := Scalar.muli arg27 c256_i32_1992
  let v4111 : BitVec 32 := Scalar.addi v4110 c0_i32_1993
  let v4112 : BitVec 32 := v4111
  let v4113 : Index := Scalar.indexCast v4112
  ![32, v4113.toNat]
def k0_off79 (k0_t3 : Fin k0_t3_loop.trips) (c0_i32_1993 : BitVec 32) : Fin 3 → Nat :=
  let c0_1997 : Index := 0#32
  let c32_1998 : Index := 32#32
  let c0_i32_1956 : BitVec 32 := 0#32
  let c1_i32_1958 : BitVec 32 := 1#32
  let arg27 : BitVec 32 := Scf.iv c0_i32_1956 c1_i32_1958 k0_t3
  let c256_i32_1992 : BitVec 32 := 256#32
  let v4110 : BitVec 32 := Scalar.muli arg27 c256_i32_1992
  let v4111 : BitVec 32 := Scalar.addi v4110 c0_i32_1993
  let v4112 : BitVec 32 := v4111
  let v4122 : Index := Scalar.indexCast v4112
  ![0, 32, v4122.toNat]
def k0_off80 (k0_t3 : Fin k0_t3_loop.trips) : Fin 4 → Nat :=
  let c1_1999 : Index := 1#32
  let c0_2000 : Index := 0#32
  let c0_i32_1956 : BitVec 32 := 0#32
  let c1_i32_1958 : BitVec 32 := 1#32
  let arg27 : BitVec 32 := Scf.iv c0_i32_1956 c1_i32_1958 k0_t3
  let v4126 : Index := Scalar.indexCast arg27
  let c0_2001 : Index := 0#32
  ![1, 0, v4126.toNat, 0]
def k0_mult39 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_2006 : BitVec 32 := 256#32
  let v4140 : BitVec 32 := Scalar.muli arg27 c256_i32_2006
  let c128_i32_2007 : BitVec 32 := 128#32
  let v4141 : BitVec 32 := Scalar.addi v4140 c128_i32_2007
  v4141
def k0_off81 (k0_t3 : Fin k0_t3_loop.trips) : Fin 4 → Nat :=
  let c1_2013 : Index := 1#32
  let c1_2014 : Index := 1#32
  let c0_i32_1956 : BitVec 32 := 0#32
  let c1_i32_1958 : BitVec 32 := 1#32
  let arg27 : BitVec 32 := Scf.iv c0_i32_1956 c1_i32_1958 k0_t3
  let v4156 : Index := Scalar.indexCast arg27
  let c0_2015 : Index := 0#32
  ![1, 1, v4156.toNat, 0]
def k0_mult40 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_2020 : BitVec 32 := 256#32
  let v4170 : BitVec 32 := Scalar.muli arg27 c256_i32_2020
  let c0_i32_2021 : BitVec 32 := 0#32
  let v4171 : BitVec 32 := Scalar.addi v4170 c0_i32_2021
  v4171
def k0_off82 (k0_t3 : Fin k0_t3_loop.trips) (c0_i32_2021 : BitVec 32) : Fin 2 → Nat :=
  let c64_2022 : Index := 64#32
  let c0_i32_1956 : BitVec 32 := 0#32
  let c1_i32_1958 : BitVec 32 := 1#32
  let arg27 : BitVec 32 := Scf.iv c0_i32_1956 c1_i32_1958 k0_t3
  let c256_i32_2020 : BitVec 32 := 256#32
  let v4170 : BitVec 32 := Scalar.muli arg27 c256_i32_2020
  let v4171 : BitVec 32 := Scalar.addi v4170 c0_i32_2021
  let v4172 : BitVec 32 := v4171
  let v4173 : Index := Scalar.indexCast v4172
  ![64, v4173.toNat]
def k0_off83 (k0_t3 : Fin k0_t3_loop.trips) (c0_i32_2021 : BitVec 32) : Fin 3 → Nat :=
  let c0_2025 : Index := 0#32
  let c64_2026 : Index := 64#32
  let c0_i32_1956 : BitVec 32 := 0#32
  let c1_i32_1958 : BitVec 32 := 1#32
  let arg27 : BitVec 32 := Scf.iv c0_i32_1956 c1_i32_1958 k0_t3
  let c256_i32_2020 : BitVec 32 := 256#32
  let v4170 : BitVec 32 := Scalar.muli arg27 c256_i32_2020
  let v4171 : BitVec 32 := Scalar.addi v4170 c0_i32_2021
  let v4172 : BitVec 32 := v4171
  let v4182 : Index := Scalar.indexCast v4172
  ![0, 64, v4182.toNat]
def k0_off84 (k0_t3 : Fin k0_t3_loop.trips) : Fin 4 → Nat :=
  let c2_2027 : Index := 2#32
  let c0_2028 : Index := 0#32
  let c0_i32_1956 : BitVec 32 := 0#32
  let c1_i32_1958 : BitVec 32 := 1#32
  let arg27 : BitVec 32 := Scf.iv c0_i32_1956 c1_i32_1958 k0_t3
  let v4186 : Index := Scalar.indexCast arg27
  let c0_2029 : Index := 0#32
  ![2, 0, v4186.toNat, 0]
def k0_mult41 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_2034 : BitVec 32 := 256#32
  let v4200 : BitVec 32 := Scalar.muli arg27 c256_i32_2034
  let c128_i32_2035 : BitVec 32 := 128#32
  let v4201 : BitVec 32 := Scalar.addi v4200 c128_i32_2035
  v4201
def k0_off85 (k0_t3 : Fin k0_t3_loop.trips) : Fin 4 → Nat :=
  let c2_2041 : Index := 2#32
  let c1_2042 : Index := 1#32
  let c0_i32_1956 : BitVec 32 := 0#32
  let c1_i32_1958 : BitVec 32 := 1#32
  let arg27 : BitVec 32 := Scf.iv c0_i32_1956 c1_i32_1958 k0_t3
  let v4216 : Index := Scalar.indexCast arg27
  let c0_2043 : Index := 0#32
  ![2, 1, v4216.toNat, 0]
def k0_mult42 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_2048 : BitVec 32 := 256#32
  let v4230 : BitVec 32 := Scalar.muli arg27 c256_i32_2048
  let c0_i32_2049 : BitVec 32 := 0#32
  let v4231 : BitVec 32 := Scalar.addi v4230 c0_i32_2049
  v4231
def k0_off86 (k0_t3 : Fin k0_t3_loop.trips) (c0_i32_2049 : BitVec 32) : Fin 2 → Nat :=
  let c96_2050 : Index := 96#32
  let c0_i32_1956 : BitVec 32 := 0#32
  let c1_i32_1958 : BitVec 32 := 1#32
  let arg27 : BitVec 32 := Scf.iv c0_i32_1956 c1_i32_1958 k0_t3
  let c256_i32_2048 : BitVec 32 := 256#32
  let v4230 : BitVec 32 := Scalar.muli arg27 c256_i32_2048
  let v4231 : BitVec 32 := Scalar.addi v4230 c0_i32_2049
  let v4232 : BitVec 32 := v4231
  let v4233 : Index := Scalar.indexCast v4232
  ![96, v4233.toNat]
def k0_off87 (k0_t3 : Fin k0_t3_loop.trips) (c0_i32_2049 : BitVec 32) : Fin 3 → Nat :=
  let c0_2053 : Index := 0#32
  let c96_2054 : Index := 96#32
  let c0_i32_1956 : BitVec 32 := 0#32
  let c1_i32_1958 : BitVec 32 := 1#32
  let arg27 : BitVec 32 := Scf.iv c0_i32_1956 c1_i32_1958 k0_t3
  let c256_i32_2048 : BitVec 32 := 256#32
  let v4230 : BitVec 32 := Scalar.muli arg27 c256_i32_2048
  let v4231 : BitVec 32 := Scalar.addi v4230 c0_i32_2049
  let v4232 : BitVec 32 := v4231
  let v4242 : Index := Scalar.indexCast v4232
  ![0, 96, v4242.toNat]
def k0_off88 (k0_t3 : Fin k0_t3_loop.trips) : Fin 4 → Nat :=
  let c3_2055 : Index := 3#32
  let c0_2056 : Index := 0#32
  let c0_i32_1956 : BitVec 32 := 0#32
  let c1_i32_1958 : BitVec 32 := 1#32
  let arg27 : BitVec 32 := Scf.iv c0_i32_1956 c1_i32_1958 k0_t3
  let v4246 : Index := Scalar.indexCast arg27
  let c0_2057 : Index := 0#32
  ![3, 0, v4246.toNat, 0]
def k0_mult43 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_2062 : BitVec 32 := 256#32
  let v4260 : BitVec 32 := Scalar.muli arg27 c256_i32_2062
  let c128_i32_2063 : BitVec 32 := 128#32
  let v4261 : BitVec 32 := Scalar.addi v4260 c128_i32_2063
  v4261
def k0_off89 (k0_t3 : Fin k0_t3_loop.trips) : Fin 4 → Nat :=
  let c3_2069 : Index := 3#32
  let c1_2070 : Index := 1#32
  let c0_i32_1956 : BitVec 32 := 0#32
  let c1_i32_1958 : BitVec 32 := 1#32
  let arg27 : BitVec 32 := Scf.iv c0_i32_1956 c1_i32_1958 k0_t3
  let v4276 : Index := Scalar.indexCast arg27
  let c0_2071 : Index := 0#32
  ![3, 1, v4276.toNat, 0]
def k0_cond2 (i : grid0.Coords) : BitVec 1 :=
  let arg1 : BitVec 32 := BitVec.ofNat 32 (i 1).val
  let c1_i32_1954 : BitVec 32 := 1#32
  let v4040 : BitVec 1 := Scalar.cmpi .eq arg1 c1_i32_1954
  let v4041 : BitVec 32 := Scalar.extui v4040
  let c0_i32_1955 : BitVec 32 := 0#32
  let v4042 : BitVec 1 := Scalar.cmpi .ne v4041 c0_i32_1955
  v4042

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x4096 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x128 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x4096 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x4096 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== KernelIdeal.lean ====
abbrev S4x256x4096 : Shape := ⟨3, ![4, 256, 4096]⟩
abbrev S4x256 : Shape := ⟨2, ![4, 256]⟩
abbrev S4096 : Shape := ⟨1, ![4096]⟩
abbrev S1x4096 : Shape := ⟨2, ![1, 4096]⟩
abbrev S4x2x4096 : Shape := ⟨3, ![4, 2, 4096]⟩
abbrev S4x256x128 : Shape := ⟨3, ![4, 256, 128]⟩
abbrev S4x8x4096 : Shape := ⟨3, ![4, 8, 4096]⟩
abbrev S1x128x4096 : Shape := ⟨3, ![1, 128, 4096]⟩
abbrev S1x2x4096 : Shape := ⟨3, ![1, 2, 4096]⟩
abbrev S1x128x128 : Shape := ⟨3, ![1, 128, 128]⟩
abbrev S1x8x4096 : Shape := ⟨3, ![1, 8, 4096]⟩
abbrev S128x128 : Shape := ⟨2, ![128, 128]⟩
abbrev S128x4096 : Shape := ⟨2, ![128, 4096]⟩
abbrev S4x16x8x128 : Shape := ⟨4, ![4, 16, 8, 128]⟩
abbrev S4x16x8x2x128 : Shape := ⟨5, ![4, 16, 8, 2, 128]⟩
abbrev S4x16x8x1x128 : Shape := ⟨5, ![4, 16, 8, 1, 128]⟩
abbrev S4x2x16x128 : Shape := ⟨4, ![4, 2, 16, 128]⟩
abbrev S32x8x128 : Shape := ⟨3, ![32, 8, 128]⟩
abbrev S8x4096 : Shape := ⟨2, ![8, 4096]⟩
abbrev S8x128 : Shape := ⟨2, ![8, 128]⟩
abbrev S128x256 : Shape := ⟨2, ![128, 256]⟩
abbrev S1x256 : Shape := ⟨2, ![1, 256]⟩
abbrev S1x128 : Shape := ⟨2, ![1, 128]⟩
abbrev S1x16x128 : Shape := ⟨3, ![1, 16, 128]⟩
abbrev S16x128 : Shape := ⟨2, ![16, 128]⟩
abbrev S1x1x4096 : Shape := ⟨3, ![1, 1, 4096]⟩
abbrev S8 : Shape := ⟨1, ![8]⟩
abbrev S8x1 : Shape := ⟨2, ![8, 1]⟩
abbrev S1x8x128 : Shape := ⟨3, ![1, 8, 128]⟩
abbrev S1x1x8x128 : Shape := ⟨4, ![1, 1, 8, 128]⟩
abbrev S1x1x8x2x128 : Shape := ⟨5, ![1, 1, 8, 2, 128]⟩
abbrev S1x1x8x1x128 : Shape := ⟨5, ![1, 1, 8, 1, 128]⟩
abbrev S256x128 : Shape := ⟨2, ![256, 128]⟩
abbrev S1x1x128 : Shape := ⟨3, ![1, 1, 128]⟩
abbrev S32x128 : Shape := ⟨2, ![32, 128]⟩
abbrev S1x32x128 : Shape := ⟨3, ![1, 32, 128]⟩
abbrev S1x1x1x128 : Shape := ⟨4, ![1, 1, 1, 128]⟩

abbrev nBuf : Space → Nat
  | .hbm => 15
  | .vmem => 36
  | .smem => 0
  | _ => 0

abbrev bufTy : (tb : Table) → Fin (tcTables nBuf tb) → BufTy
  | .hbm, ⟨0, _⟩ => ⟨S4x256x4096, .bf16⟩
  | .hbm, ⟨1, _⟩ => ⟨S4x256, .f32⟩
  | .hbm, ⟨2, _⟩ => ⟨S4096, .f32⟩
  | .hbm, ⟨3, _⟩ => ⟨S4x256x4096, .bf16⟩
  | .hbm, ⟨4, _⟩ => ⟨S4x256x4096, .bf16⟩
  | .hbm, ⟨5, _⟩ => ⟨S4x256x4096, .bf16⟩
  | .hbm, ⟨6, _⟩ => ⟨S4x256x4096, .bf16⟩
  | .hbm, ⟨7, _⟩ => ⟨S1x4096, .f32⟩
  | .hbm, ⟨8, _⟩ => ⟨S4x256x4096, .bf16⟩
  | .hbm, ⟨9, _⟩ => ⟨S1x4096, .f32⟩
  | .hbm, ⟨10, _⟩ => ⟨S4x2x4096, .f32⟩
  | .hbm, ⟨11, _⟩ => ⟨S4x256x4096, .fp8e4m3⟩
  | .hbm, ⟨12, _⟩ => ⟨S4x256x128, .i8⟩
  | .hbm, ⟨13, _⟩ => ⟨S4x256x4096, .fp8e4m3⟩
  | .hbm, ⟨14, _⟩ => ⟨S4x8x4096, .i8⟩
  | .local _ .vmem, ⟨0, _⟩ => ⟨S1x128x4096, .bf16⟩
  | .local _ .vmem, ⟨1, _⟩ => ⟨S1x128x4096, .bf16⟩
  | .local _ .vmem, ⟨2, _⟩ => ⟨S4x256, .f32⟩
  | .local _ .vmem, ⟨3, _⟩ => ⟨S1x4096, .f32⟩
  | .local _ .vmem, ⟨4, _⟩ => ⟨S1x128x4096, .bf16⟩
  | .local _ .vmem, ⟨5, _⟩ => ⟨S1x128x4096, .bf16⟩
  | .local _ .vmem, ⟨6, _⟩ => ⟨S1x128x4096, .bf16⟩
  | .local _ .vmem, ⟨7, _⟩ => ⟨S1x128x4096, .bf16⟩
  | .local _ .vmem, ⟨8, _⟩ => ⟨S1x128x4096, .bf16⟩
  | .local _ .vmem, ⟨9, _⟩ => ⟨S1x128x4096, .bf16⟩
  | .local _ .vmem, ⟨10, _⟩ => ⟨S1x128x4096, .bf16⟩
  | .local _ .vmem, ⟨11, _⟩ => ⟨S1x128x4096, .bf16⟩
  | .local _ .vmem, ⟨12, _⟩ => ⟨S1x128x4096, .bf16⟩
  | .local _ .vmem, ⟨13, _⟩ => ⟨S1x128x4096, .bf16⟩
  | .local _ .vmem, ⟨14, _⟩ => ⟨S1x4096, .f32⟩
  | .local _ .vmem, ⟨15, _⟩ => ⟨S1x2x4096, .f32⟩
  | .local _ .vmem, ⟨16, _⟩ => ⟨S1x2x4096, .f32⟩
  | .local _ .vmem, ⟨17, _⟩ => ⟨S1x128x4096, .fp8e4m3⟩
  | .local _ .vmem, ⟨18, _⟩ => ⟨S1x128x4096, .fp8e4m3⟩
  | .local _ .vmem, ⟨19, _⟩ => ⟨S1x128x128, .i8⟩
  | .local _ .vmem, ⟨20, _⟩ => ⟨S1x128x128, .i8⟩
  | .local _ .vmem, ⟨21, _⟩ => ⟨S1x128x4096, .fp8e4m3⟩
  | .local _ .vmem, ⟨22, _⟩ => ⟨S1x128x4096, .fp8e4m3⟩
  | .local _ .vmem, ⟨23, _⟩ => ⟨S1x8x4096, .i8⟩
  | .local _ .vmem, ⟨24, _⟩ => ⟨S1x8x4096, .i8⟩
  | .local _ .vmem, ⟨25, _⟩ => ⟨S128x128, .f32⟩
  | .local _ .vmem, ⟨26, _⟩ => ⟨S128x128, .f32⟩
  | .local _ .vmem, ⟨27, _⟩ => ⟨S128x4096, .f32⟩
  | .local _ .vmem, ⟨28, _⟩ => ⟨S128x4096, .f32⟩
  | .local _ .vmem, ⟨29, _⟩ => ⟨S4x16x8x2x128, .bf16⟩
  | .local _ .vmem, ⟨30, _⟩ => ⟨S4x16x8x2x128, .bf16⟩
  | .local _ .vmem, ⟨31, _⟩ => ⟨S4x2x16x128, .f32⟩
  | .local _ .vmem, ⟨32, _⟩ => ⟨S128x128, .bf16⟩
  | .local _ .vmem, ⟨33, _⟩ => ⟨S32x8x128, .i32⟩
  | .local _ .vmem, ⟨34, _⟩ => ⟨S128x4096, .bf16⟩
  | .local _ .vmem, ⟨35, _⟩ => ⟨S8x4096, .f32⟩
  | _, _ => ⟨S4x256x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev main_v1_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_scratch5 : Ref sig .tc := ⟨.vmem, 30, rfl⟩
abbrev cc0_scratch6 : Ref sig .tc := ⟨.vmem, 31, rfl⟩
abbrev cc0_scratch7 : Ref sig .tc := ⟨.vmem, 32, rfl⟩
abbrev cc0_scratch8 : Ref sig .tc := ⟨.vmem, 33, rfl⟩
abbrev cc0_scratch9 : Ref sig .tc := ⟨.vmem, 34, rfl⟩
abbrev cc0_scratch10 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![4, 2], ![false, false]⟩

def k0_off1 (i : grid0.Coords) : Fin 2 → Nat :=
  let arg0 : BitVec 32 := BitVec.ofNat 32 (i 0).val
  let v6 : Index := Scalar.indexCast arg0
  let c0 : Index := 0#32
  ![v6.toNat, 0]
@[reducible] def k0_t1_loop : Scf.Loop 32 :=
  let c0_i32_19 : BitVec 32 := 0#32
  let c16_i32 : BitVec 32 := 16#32
  let v34 : BitVec 32 := Scalar.addi c0_i32_19 c16_i32
  let c1_i32_20 : BitVec 32 := 1#32
  ⟨c0_i32_19, v34, c1_i32_20⟩
def k0_off2 (k0_t1 : Fin k0_t1_loop.trips) (c0_i32_1960 : BitVec 32) : Fin 2 → Nat :=
  let c0_1961 : Index := 0#32
  let c0_i32_19 : BitVec 32 := 0#32
  let c1_i32_20 : BitVec 32 := 1#32
  let arg27 : BitVec 32 := Scf.iv c0_i32_19 c1_i32_20 k0_t1
  let c256_i32 : BitVec 32 := 256#32
  let v4044 : BitVec 32 := Scalar.muli arg27 c256_i32
  let v4045 : BitVec 32 := Scalar.addi v4044 c0_i32_1960
  let v4046 : Index := Scalar.indexCast v4045
  ![0, v4046.toNat]
def k0_mult1 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_1967 : BitVec 32 := 256#32
  let v4056 : BitVec 32 := Scalar.muli arg27 c256_i32_1967
  let c0_i32_1968 : BitVec 32 := 0#32
  let v4057 : BitVec 32 := Scalar.addi v4056 c0_i32_1968
  v4057
def k0_off3 (k0_t1 : Fin k0_t1_loop.trips) (c0_i32_1968 : BitVec 32) : Fin 3 → Nat :=
  let c0_1969 : Index := 0#32
  let c0_1970 : Index := 0#32
  let c0_i32_19 : BitVec 32 := 0#32
  let c1_i32_20 : BitVec 32 := 1#32
  let arg27 : BitVec 32 := Scf.iv c0_i32_19 c1_i32_20 k0_t1
  let c256_i32_1967 : BitVec 32 := 256#32
  let v4056 : BitVec 32 := Scalar.muli arg27 c256_i32_1967
  let v4057 : BitVec 32 := Scalar.addi v4056 c0_i32_1968
  let v4058 : BitVec 32 := v4057
  let v4059 : Index := Scalar.indexCast v4058
  ![0, 0, v4059.toNat]
def k0_off4 (k0_t1 : Fin k0_t1_loop.trips) (c0_i32_1968 : BitVec 32) : Fin 2 → Nat :=
  let c0_1979 : Index := 0#32
  let c0_i32_19 : BitVec 32 := 0#32
  let c1_i32_20 : BitVec 32 := 1#32
  let arg27 : BitVec 32 := Scf.iv c0_i32_19 c1_i32_20 k0_t1
  let c256_i32_1967 : BitVec 32 := 256#32
  let v4056 : BitVec 32 := Scalar.muli arg27 c256_i32_1967
  let v4057 : BitVec 32 := Scalar.addi v4056 c0_i32_1968
  let v4058 : BitVec 32 := v4057
  let v4083 : Index := Scalar.indexCast v4058
  ![0, v4083.toNat]
def k0_mult2 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_1981 : BitVec 32 := 256#32
  let v4099 : BitVec 32 := Scalar.muli arg27 c256_i32_1981
  let c128_i32_1982 : BitVec 32 := 128#32
  let v4100 : BitVec 32 := Scalar.addi v4099 c128_i32_1982
  v4100
def k0_mult3 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_1995 : BitVec 32 := 256#32
  let v4142 : BitVec 32 := Scalar.muli arg27 c256_i32_1995
  let c0_i32_1996 : BitVec 32 := 0#32
  let v4143 : BitVec 32 := Scalar.addi v4142 c0_i32_1996
  v4143
def k0_off5 (k0_t1 : Fin k0_t1_loop.trips) (c0_i32_1996 : BitVec 32) : Fin 3 → Nat :=
  let c0_1997 : Index := 0#32
  let c16_1998 : Index := 16#32
  let c0_i32_19 : BitVec 32 := 0#32
  let c1_i32_20 : BitVec 32 := 1#32
  let arg27 : BitVec 32 := Scf.iv c0_i32_19 c1_i32_20 k0_t1
  let c256_i32_1995 : BitVec 32 := 256#32
  let v4142 : BitVec 32 := Scalar.muli arg27 c256_i32_1995
  let v4143 : BitVec 32 := Scalar.addi v4142 c0_i32_1996
  let v4144 : BitVec 32 := v4143
  let v4145 : Index := Scalar.indexCast v4144
  ![0, 16, v4145.toNat]
def k0_off6 (k0_t1 : Fin k0_t1_loop.trips) (c0_i32_1996 : BitVec 32) : Fin 2 → Nat :=
  let c16_2007 : Index := 16#32
  let c0_i32_19 : BitVec 32 := 0#32
  let c1_i32_20 : BitVec 32 := 1#32
  let arg27 : BitVec 32 := Scf.iv c0_i32_19 c1_i32_20 k0_t1
  let c256_i32_1995 : BitVec 32 := 256#32
  let v4142 : BitVec 32 := Scalar.muli arg27 c256_i32_1995
  let v4143 : BitVec 32 := Scalar.addi v4142 c0_i32_1996
  let v4144 : BitVec 32 := v4143
  let v4169 : Index := Scalar.indexCast v4144
  ![16, v4169.toNat]
def k0_mult4 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2009 : BitVec 32 := 256#32
  let v4185 : BitVec 32 := Scalar.muli arg27 c256_i32_2009
  let c128_i32_2010 : BitVec 32 := 128#32
  let v4186 : BitVec 32 := Scalar.addi v4185 c128_i32_2010
  v4186
def k0_mult5 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2023 : BitVec 32 := 256#32
  let v4228 : BitVec 32 := Scalar.muli arg27 c256_i32_2023
  let c0_i32_2024 : BitVec 32 := 0#32
  let v4229 : BitVec 32 := Scalar.addi v4228 c0_i32_2024
  v4229
def k0_off7 (k0_t1 : Fin k0_t1_loop.trips) (c0_i32_2024 : BitVec 32) : Fin 3 → Nat :=
  let c0_2025 : Index := 0#32
  let c32_2026 : Index := 32#32
  let c0_i32_19 : BitVec 32 := 0#32
  let c1_i32_20 : BitVec 32 := 1#32
  let arg27 : BitVec 32 := Scf.iv c0_i32_19 c1_i32_20 k0_t1
  let c256_i32_2023 : BitVec 32 := 256#32
  let v4228 : BitVec 32 := Scalar.muli arg27 c256_i32_2023
  let v4229 : BitVec 32 := Scalar.addi v4228 c0_i32_2024
  let v4230 : BitVec 32 := v4229
  let v4231 : Index := Scalar.indexCast v4230
  ![0, 32, v4231.toNat]
def k0_off8 (k0_t1 : Fin k0_t1_loop.trips) (c0_i32_2024 : BitVec 32) : Fin 2 → Nat :=
  let c32_2035 : Index := 32#32
  let c0_i32_19 : BitVec 32 := 0#32
  let c1_i32_20 : BitVec 32 := 1#32
  let arg27 : BitVec 32 := Scf.iv c0_i32_19 c1_i32_20 k0_t1
  let c256_i32_2023 : BitVec 32 := 256#32
  let v4228 : BitVec 32 := Scalar.muli arg27 c256_i32_2023
  let v4229 : BitVec 32 := Scalar.addi v4228 c0_i32_2024
  let v4230 : BitVec 32 := v4229
  let v4255 : Index := Scalar.indexCast v4230
  ![32, v4255.toNat]
def k0_mult6 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2037 : BitVec 32 := 256#32
  let v4271 : BitVec 32 := Scalar.muli arg27 c256_i32_2037
  let c128_i32_2038 : BitVec 32 := 128#32
  let v4272 : BitVec 32 := Scalar.addi v4271 c128_i32_2038
  v4272
def k0_mult7 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2051 : BitVec 32 := 256#32
  let v4314 : BitVec 32 := Scalar.muli arg27 c256_i32_2051
  let c0_i32_2052 : BitVec 32 := 0#32
  let v4315 : BitVec 32 := Scalar.addi v4314 c0_i32_2052
  v4315
def k0_off9 (k0_t1 : Fin k0_t1_loop.trips) (c0_i32_2052 : BitVec 32) : Fin 3 → Nat :=
  let c0_2053 : Index := 0#32
  let c48_2054 : Index := 48#32
  let c0_i32_19 : BitVec 32 := 0#32
  let c1_i32_20 : BitVec 32 := 1#32
  let arg27 : BitVec 32 := Scf.iv c0_i32_19 c1_i32_20 k0_t1
  let c256_i32_2051 : BitVec 32 := 256#32
  let v4314 : BitVec 32 := Scalar.muli arg27 c256_i32_2051
  let v4315 : BitVec 32 := Scalar.addi v4314 c0_i32_2052
  let v4316 : BitVec 32 := v4315
  let v4317 : Index := Scalar.indexCast v4316
  ![0, 48, v4317.toNat]
def k0_off10 (k0_t1 : Fin k0_t1_loop.trips) (c0_i32_2052 : BitVec 32) : Fin 2 → Nat :=
  let c48_2063 : Index := 48#32
  let c0_i32_19 : BitVec 32 := 0#32
  let c1_i32_20 : BitVec 32 := 1#32
  let arg27 : BitVec 32 := Scf.iv c0_i32_19 c1_i32_20 k0_t1
  let c256_i32_2051 : BitVec 32 := 256#32
  let v4314 : BitVec 32 := Scalar.muli arg27 c256_i32_2051
  let v4315 : BitVec 32 := Scalar.addi v4314 c0_i32_2052
  let v4316 : BitVec 32 := v4315
  let v4341 : Index := Scalar.indexCast v4316
  ![48, v4341.toNat]
def k0_mult8 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2065 : BitVec 32 := 256#32
  let v4357 : BitVec 32 := Scalar.muli arg27 c256_i32_2065
  let c128_i32_2066 : BitVec 32 := 128#32
  let v4358 : BitVec 32 := Scalar.addi v4357 c128_i32_2066
  v4358
def k0_mult9 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2079 : BitVec 32 := 256#32
  let v4400 : BitVec 32 := Scalar.muli arg27 c256_i32_2079
  let c0_i32_2080 : BitVec 32 := 0#32
  let v4401 : BitVec 32 := Scalar.addi v4400 c0_i32_2080
  v4401
def k0_off11 (k0_t1 : Fin k0_t1_loop.trips) (c0_i32_2080 : BitVec 32) : Fin 3 → Nat :=
  let c0_2081 : Index := 0#32
  let c64_2082 : Index := 64#32
  let c0_i32_19 : BitVec 32 := 0#32
  let c1_i32_20 : BitVec 32 := 1#32
  let arg27 : BitVec 32 := Scf.iv c0_i32_19 c1_i32_20 k0_t1
  let c256_i32_2079 : BitVec 32 := 256#32
  let v4400 : BitVec 32 := Scalar.muli arg27 c256_i32_2079
  let v4401 : BitVec 32 := Scalar.addi v4400 c0_i32_2080
  let v4402 : BitVec 32 := v4401
  let v4403 : Index := Scalar.indexCast v4402
  ![0, 64, v4403.toNat]
def k0_off12 (k0_t1 : Fin k0_t1_loop.trips) (c0_i32_2080 : BitVec 32) : Fin 2 → Nat :=
  let c64_2091 : Index := 64#32
  let c0_i32_19 : BitVec 32 := 0#32
  let c1_i32_20 : BitVec 32 := 1#32
  let arg27 : BitVec 32 := Scf.iv c0_i32_19 c1_i32_20 k0_t1
  let c256_i32_2079 : BitVec 32 := 256#32
  let v4400 : BitVec 32 := Scalar.muli arg27 c256_i32_2079
  let v4401 : BitVec 32 := Scalar.addi v4400 c0_i32_2080
  let v4402 : BitVec 32 := v4401
  let v4427 : Index := Scalar.indexCast v4402
  ![64, v4427.toNat]
def k0_mult10 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2093 : BitVec 32 := 256#32
  let v4443 : BitVec 32 := Scalar.muli arg27 c256_i32_2093
  let c128_i32_2094 : BitVec 32 := 128#32
  let v4444 : BitVec 32 := Scalar.addi v4443 c128_i32_2094
  v4444
def k0_mult11 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2107 : BitVec 32 := 256#32
  let v4486 : BitVec 32 := Scalar.muli arg27 c256_i32_2107
  let c0_i32_2108 : BitVec 32 := 0#32
  let v4487 : BitVec 32 := Scalar.addi v4486 c0_i32_2108
  v4487
def k0_off13 (k0_t1 : Fin k0_t1_loop.trips) (c0_i32_2108 : BitVec 32) : Fin 3 → Nat :=
  let c0_2109 : Index := 0#32
  let c80_2110 : Index := 80#32
  let c0_i32_19 : BitVec 32 := 0#32
  let c1_i32_20 : BitVec 32 := 1#32
  let arg27 : BitVec 32 := Scf.iv c0_i32_19 c1_i32_20 k0_t1
  let c256_i32_2107 : BitVec 32 := 256#32
  let v4486 : BitVec 32 := Scalar.muli arg27 c256_i32_2107
  let v4487 : BitVec 32 := Scalar.addi v4486 c0_i32_2108
  let v4488 : BitVec 32 := v4487
  let v4489 : Index := Scalar.indexCast v4488
  ![0, 80, v4489.toNat]
def k0_off14 (k0_t1 : Fin k0_t1_loop.trips) (c0_i32_2108 : BitVec 32) : Fin 2 → Nat :=
  let c80_2119 : Index := 80#32
  let c0_i32_19 : BitVec 32 := 0#32
  let c1_i32_20 : BitVec 32 := 1#32
  let arg27 : BitVec 32 := Scf.iv c0_i32_19 c1_i32_20 k0_t1
  let c256_i32_2107 : BitVec 32 := 256#32
  let v4486 : BitVec 32 := Scalar.muli arg27 c256_i32_2107
  let v4487 : BitVec 32 := Scalar.addi v4486 c0_i32_2108
  let v4488 : BitVec 32 := v4487
  let v4513 : Index := Scalar.indexCast v4488
  ![80, v4513.toNat]
def k0_mult12 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2121 : BitVec 32 := 256#32
  let v4529 : BitVec 32 := Scalar.muli arg27 c256_i32_2121
  let c128_i32_2122 : BitVec 32 := 128#32
  let v4530 : BitVec 32 := Scalar.addi v4529 c128_i32_2122
  v4530
def k0_mult13 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2135 : BitVec 32 := 256#32
  let v4572 : BitVec 32 := Scalar.muli arg27 c256_i32_2135
  let c0_i32_2136 : BitVec 32 := 0#32
  let v4573 : BitVec 32 := Scalar.addi v4572 c0_i32_2136
  v4573
def k0_off15 (k0_t1 : Fin k0_t1_loop.trips) (c0_i32_2136 : BitVec 32) : Fin 3 → Nat :=
  let c0_2137 : Index := 0#32
  let c96_2138 : Index := 96#32
  let c0_i32_19 : BitVec 32 := 0#32
  let c1_i32_20 : BitVec 32 := 1#32
  let arg27 : BitVec 32 := Scf.iv c0_i32_19 c1_i32_20 k0_t1
  let c256_i32_2135 : BitVec 32 := 256#32
  let v4572 : BitVec 32 := Scalar.muli arg27 c256_i32_2135
  let v4573 : BitVec 32 := Scalar.addi v4572 c0_i32_2136
  let v4574 : BitVec 32 := v4573
  let v4575 : Index := Scalar.indexCast v4574
  ![0, 96, v4575.toNat]
def k0_off16 (k0_t1 : Fin k0_t1_loop.trips) (c0_i32_2136 : BitVec 32) : Fin 2 → Nat :=
  let c96_2147 : Index := 96#32
  let c0_i32_19 : BitVec 32 := 0#32
  let c1_i32_20 : BitVec 32 := 1#32
  let arg27 : BitVec 32 := Scf.iv c0_i32_19 c1_i32_20 k0_t1
  let c256_i32_2135 : BitVec 32 := 256#32
  let v4572 : BitVec 32 := Scalar.muli arg27 c256_i32_2135
  let v4573 : BitVec 32 := Scalar.addi v4572 c0_i32_2136
  let v4574 : BitVec 32 := v4573
  let v4599 : Index := Scalar.indexCast v4574
  ![96, v4599.toNat]
def k0_mult14 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2149 : BitVec 32 := 256#32
  let v4615 : BitVec 32 := Scalar.muli arg27 c256_i32_2149
  let c128_i32_2150 : BitVec 32 := 128#32
  let v4616 : BitVec 32 := Scalar.addi v4615 c128_i32_2150
  v4616
def k0_mult15 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2163 : BitVec 32 := 256#32
  let v4658 : BitVec 32 := Scalar.muli arg27 c256_i32_2163
  let c0_i32_2164 : BitVec 32 := 0#32
  let v4659 : BitVec 32 := Scalar.addi v4658 c0_i32_2164
  v4659
def k0_off17 (k0_t1 : Fin k0_t1_loop.trips) (c0_i32_2164 : BitVec 32) : Fin 3 → Nat :=
  let c0_2165 : Index := 0#32
  let c112_2166 : Index := 112#32
  let c0_i32_19 : BitVec 32 := 0#32
  let c1_i32_20 : BitVec 32 := 1#32
  let arg27 : BitVec 32 := Scf.iv c0_i32_19 c1_i32_20 k0_t1
  let c256_i32_2163 : BitVec 32 := 256#32
  let v4658 : BitVec 32 := Scalar.muli arg27 c256_i32_2163
  let v4659 : BitVec 32 := Scalar.addi v4658 c0_i32_2164
  let v4660 : BitVec 32 := v4659
  let v4661 : Index := Scalar.indexCast v4660
  ![0, 112, v4661.toNat]
def k0_off18 (k0_t1 : Fin k0_t1_loop.trips) (c0_i32_2164 : BitVec 32) : Fin 2 → Nat :=
  let c112_2175 : Index := 112#32
  let c0_i32_19 : BitVec 32 := 0#32
  let c1_i32_20 : BitVec 32 := 1#32
  let arg27 : BitVec 32 := Scf.iv c0_i32_19 c1_i32_20 k0_t1
  let c256_i32_2163 : BitVec 32 := 256#32
  let v4658 : BitVec 32 := Scalar.muli arg27 c256_i32_2163
  let v4659 : BitVec 32 := Scalar.addi v4658 c0_i32_2164
  let v4660 : BitVec 32 := v4659
  let v4685 : Index := Scalar.indexCast v4660
  ![112, v4685.toNat]
def k0_mult16 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2177 : BitVec 32 := 256#32
  let v4701 : BitVec 32 := Scalar.muli arg27 c256_i32_2177
  let c128_i32_2178 : BitVec 32 := 128#32
  let v4702 : BitVec 32 := Scalar.addi v4701 c128_i32_2178
  v4702
def k0_mult17 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2191 : BitVec 32 := 256#32
  let v4744 : BitVec 32 := Scalar.muli arg27 c256_i32_2191
  let c0_i32_2192 : BitVec 32 := 0#32
  let v4745 : BitVec 32 := Scalar.addi v4744 c0_i32_2192
  v4745
def k0_off19 (k0_t1 : Fin k0_t1_loop.trips) (c0_i32_2192 : BitVec 32) : Fin 2 → Nat :=
  let c0_2193 : Index := 0#32
  let c0_i32_19 : BitVec 32 := 0#32
  let c1_i32_20 : BitVec 32 := 1#32
  let arg27 : BitVec 32 := Scf.iv c0_i32_19 c1_i32_20 k0_t1
  let c256_i32_2191 : BitVec 32 := 256#32
  let v4744 : BitVec 32 := Scalar.muli arg27 c256_i32_2191
  let v4745 : BitVec 32 := Scalar.addi v4744 c0_i32_2192
  let v4746 : BitVec 32 := v4745
  let v4747 : Index := Scalar.indexCast v4746
  ![0, v4747.toNat]
def k0_mult18 (k0_t1 : Fin k0_t1_loop.trips) : BitVec 32 :=
  let c0_i32_19 : BitVec 32 := 0#32
  let c1_i32_20 : BitVec 32 := 1#32
  let arg27 : BitVec 32 := Scf.iv c0_i32_19 c1_i32_20 k0_t1
  let c256_i32_2194 : BitVec 32 := 256#32
  let v4751 : BitVec 32 := Scalar.muli arg27 c256_i32_2194
  let c128_i32_2195 : BitVec 32 := 128#32
  let v4752 : BitVec 32 := Scalar.addi v4751 c128_i32_2195
  v4752
def k0_off20 (i : grid0.Coords) : Fin 3 → Nat :=
  let c0_25 : Index := 0#32
  let arg1 : BitVec 32 := BitVec.ofNat 32 (i 1).val
  let v39 : Index := Scalar.indexCast arg1
  let c0_26 : Index := 0#32
  ![0, v39.toNat, 0]
@[reducible] def k0_t2_loop : Scf.Loop 32 :=
  let c0_i32_80 : BitVec 32 := 0#32
  let c16_i32_81 : BitVec 32 := 16#32
  let v191 : BitVec 32 := Scalar.addi c0_i32_80 c16_i32_81
  let c1_i32_82 : BitVec 32 := 1#32
  ⟨c0_i32_80, v191, c1_i32_82⟩
def k0_mult19 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32 : BitVec 32 := 256#32
  let v4046 : BitVec 32 := Scalar.muli arg27 c256_i32
  let c0_i32_1964 : BitVec 32 := 0#32
  let v4047 : BitVec 32 := Scalar.addi v4046 c0_i32_1964
  v4047
def k0_off21 (k0_t2 : Fin k0_t2_loop.trips) (c0_i32_1964 : BitVec 32) : Fin 2 → Nat :=
  let c0_1965 : Index := 0#32
  let c0_i32_80 : BitVec 32 := 0#32
  let c1_i32_82 : BitVec 32 := 1#32
  let arg27 : BitVec 32 := Scf.iv c0_i32_80 c1_i32_82 k0_t2
  let c256_i32 : BitVec 32 := 256#32
  let v4046 : BitVec 32 := Scalar.muli arg27 c256_i32
  let v4047 : BitVec 32 := Scalar.addi v4046 c0_i32_1964
  let v4048 : BitVec 32 := v4047
  let v4049 : Index := Scalar.indexCast v4048
  ![0, v4049.toNat]
def k0_off22 (k0_t2 : Fin k0_t2_loop.trips) (c0_i32_1964 : BitVec 32) : Fin 3 → Nat :=
  let c0_1967 : Index := 0#32
  let c0_1968 : Index := 0#32
  let c0_i32_80 : BitVec 32 := 0#32
  let c1_i32_82 : BitVec 32 := 1#32
  let arg27 : BitVec 32 := Scf.iv c0_i32_80 c1_i32_82 k0_t2
  let c256_i32 : BitVec 32 := 256#32
  let v4046 : BitVec 32 := Scalar.muli arg27 c256_i32
  let v4047 : BitVec 32 := Scalar.addi v4046 c0_i32_1964
  let v4048 : BitVec 32 := v4047
  let v4056 : Index := Scalar.indexCast v4048
  ![0, 0, v4056.toNat]
def k0_mult20 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_1973 : BitVec 32 := 256#32
  let v4073 : BitVec 32 := Scalar.muli arg27 c256_i32_1973
  let c128_i32_1974 : BitVec 32 := 128#32
  let v4074 : BitVec 32 := Scalar.addi v4073 c128_i32_1974
  v4074
def k0_mult21 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_1987 : BitVec 32 := 256#32
  let v4105 : BitVec 32 := Scalar.muli arg27 c256_i32_1987
  let c0_i32_1988 : BitVec 32 := 0#32
  let v4106 : BitVec 32 := Scalar.addi v4105 c0_i32_1988
  v4106
def k0_off23 (k0_t2 : Fin k0_t2_loop.trips) (c0_i32_1988 : BitVec 32) : Fin 2 → Nat :=
  let c16_1989 : Index := 16#32
  let c0_i32_80 : BitVec 32 := 0#32
  let c1_i32_82 : BitVec 32 := 1#32
  let arg27 : BitVec 32 := Scf.iv c0_i32_80 c1_i32_82 k0_t2
  let c256_i32_1987 : BitVec 32 := 256#32
  let v4105 : BitVec 32 := Scalar.muli arg27 c256_i32_1987
  let v4106 : BitVec 32 := Scalar.addi v4105 c0_i32_1988
  let v4107 : BitVec 32 := v4106
  let v4108 : Index := Scalar.indexCast v4107
  ![16, v4108.toNat]
def k0_off24 (k0_t2 : Fin k0_t2_loop.trips) (c0_i32_1988 : BitVec 32) : Fin 3 → Nat :=
  let c0_1991 : Index := 0#32
  let c16_1992 : Index := 16#32
  let c0_i32_80 : BitVec 32 := 0#32
  let c1_i32_82 : BitVec 32 := 1#32
  let arg27 : BitVec 32 := Scf.iv c0_i32_80 c1_i32_82 k0_t2
  let c256_i32_1987 : BitVec 32 := 256#32
  let v4105 : BitVec 32 := Scalar.muli arg27 c256_i32_1987
  let v4106 : BitVec 32 := Scalar.addi v4105 c0_i32_1988
  let v4107 : BitVec 32 := v4106
  let v4115 : Index := Scalar.indexCast v4107
  ![0, 16, v4115.toNat]
def k0_mult22 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_1997 : BitVec 32 := 256#32
  let v4132 : BitVec 32 := Scalar.muli arg27 c256_i32_1997
  let c128_i32_1998 : BitVec 32 := 128#32
  let v4133 : BitVec 32 := Scalar.addi v4132 c128_i32_1998
  v4133
def k0_mult23 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2011 : BitVec 32 := 256#32
  let v4164 : BitVec 32 := Scalar.muli arg27 c256_i32_2011
  let c0_i32_2012 : BitVec 32 := 0#32
  let v4165 : BitVec 32 := Scalar.addi v4164 c0_i32_2012
  v4165
def k0_off25 (k0_t2 : Fin k0_t2_loop.trips) (c0_i32_2012 : BitVec 32) : Fin 2 → Nat :=
  let c32_2013 : Index := 32#32
  let c0_i32_80 : BitVec 32 := 0#32
  let c1_i32_82 : BitVec 32 := 1#32
  let arg27 : BitVec 32 := Scf.iv c0_i32_80 c1_i32_82 k0_t2
  let c256_i32_2011 : BitVec 32 := 256#32
  let v4164 : BitVec 32 := Scalar.muli arg27 c256_i32_2011
  let v4165 : BitVec 32 := Scalar.addi v4164 c0_i32_2012
  let v4166 : BitVec 32 := v4165
  let v4167 : Index := Scalar.indexCast v4166
  ![32, v4167.toNat]
def k0_off26 (k0_t2 : Fin k0_t2_loop.trips) (c0_i32_2012 : BitVec 32) : Fin 3 → Nat :=
  let c0_2015 : Index := 0#32
  let c32_2016 : Index := 32#32
  let c0_i32_80 : BitVec 32 := 0#32
  let c1_i32_82 : BitVec 32 := 1#32
  let arg27 : BitVec 32 := Scf.iv c0_i32_80 c1_i32_82 k0_t2
  let c256_i32_2011 : BitVec 32 := 256#32
  let v4164 : BitVec 32 := Scalar.muli arg27 c256_i32_2011
  let v4165 : BitVec 32 := Scalar.addi v4164 c0_i32_2012
  let v4166 : BitVec 32 := v4165
  let v4174 : Index := Scalar.indexCast v4166
  ![0, 32, v4174.toNat]
def k0_mult24 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2021 : BitVec 32 := 256#32
  let v4191 : BitVec 32 := Scalar.muli arg27 c256_i32_2021
  let c128_i32_2022 : BitVec 32 := 128#32
  let v4192 : BitVec 32 := Scalar.addi v4191 c128_i32_2022
  v4192
def k0_mult25 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2035 : BitVec 32 := 256#32
  let v4223 : BitVec 32 := Scalar.muli arg27 c256_i32_2035
  let c0_i32_2036 : BitVec 32 := 0#32
  let v4224 : BitVec 32 := Scalar.addi v4223 c0_i32_2036
  v4224
def k0_off27 (k0_t2 : Fin k0_t2_loop.trips) (c0_i32_2036 : BitVec 32) : Fin 2 → Nat :=
  let c48_2037 : Index := 48#32
  let c0_i32_80 : BitVec 32 := 0#32
  let c1_i32_82 : BitVec 32 := 1#32
  let arg27 : BitVec 32 := Scf.iv c0_i32_80 c1_i32_82 k0_t2
  let c256_i32_2035 : BitVec 32 := 256#32
  let v4223 : BitVec 32 := Scalar.muli arg27 c256_i32_2035
  let v4224 : BitVec 32 := Scalar.addi v4223 c0_i32_2036
  let v4225 : BitVec 32 := v4224
  let v4226 : Index := Scalar.indexCast v4225
  ![48, v4226.toNat]
def k0_off28 (k0_t2 : Fin k0_t2_loop.trips) (c0_i32_2036 : BitVec 32) : Fin 3 → Nat :=
  let c0_2039 : Index := 0#32
  let c48_2040 : Index := 48#32
  let c0_i32_80 : BitVec 32 := 0#32
  let c1_i32_82 : BitVec 32 := 1#32
  let arg27 : BitVec 32 := Scf.iv c0_i32_80 c1_i32_82 k0_t2
  let c256_i32_2035 : BitVec 32 := 256#32
  let v4223 : BitVec 32 := Scalar.muli arg27 c256_i32_2035
  let v4224 : BitVec 32 := Scalar.addi v4223 c0_i32_2036
  let v4225 : BitVec 32 := v4224
  let v4233 : Index := Scalar.indexCast v4225
  ![0, 48, v4233.toNat]
def k0_mult26 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2045 : BitVec 32 := 256#32
  let v4250 : BitVec 32 := Scalar.muli arg27 c256_i32_2045
  let c128_i32_2046 : BitVec 32 := 128#32
  let v4251 : BitVec 32 := Scalar.addi v4250 c128_i32_2046
  v4251
def k0_mult27 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2059 : BitVec 32 := 256#32
  let v4282 : BitVec 32 := Scalar.muli arg27 c256_i32_2059
  let c0_i32_2060 : BitVec 32 := 0#32
  let v4283 : BitVec 32 := Scalar.addi v4282 c0_i32_2060
  v4283
def k0_off29 (k0_t2 : Fin k0_t2_loop.trips) (c0_i32_2060 : BitVec 32) : Fin 2 → Nat :=
  let c64_2061 : Index := 64#32
  let c0_i32_80 : BitVec 32 := 0#32
  let c1_i32_82 : BitVec 32 := 1#32
  let arg27 : BitVec 32 := Scf.iv c0_i32_80 c1_i32_82 k0_t2
  let c256_i32_2059 : BitVec 32 := 256#32
  let v4282 : BitVec 32 := Scalar.muli arg27 c256_i32_2059
  let v4283 : BitVec 32 := Scalar.addi v4282 c0_i32_2060
  let v4284 : BitVec 32 := v4283
  let v4285 : Index := Scalar.indexCast v4284
  ![64, v4285.toNat]
def k0_off30 (k0_t2 : Fin k0_t2_loop.trips) (c0_i32_2060 : BitVec 32) : Fin 3 → Nat :=
  let c0_2063 : Index := 0#32
  let c64_2064 : Index := 64#32
  let c0_i32_80 : BitVec 32 := 0#32
  let c1_i32_82 : BitVec 32 := 1#32
  let arg27 : BitVec 32 := Scf.iv c0_i32_80 c1_i32_82 k0_t2
  let c256_i32_2059 : BitVec 32 := 256#32
  let v4282 : BitVec 32 := Scalar.muli arg27 c256_i32_2059
  let v4283 : BitVec 32 := Scalar.addi v4282 c0_i32_2060
  let v4284 : BitVec 32 := v4283
  let v4292 : Index := Scalar.indexCast v4284
  ![0, 64, v4292.toNat]
def k0_mult28 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2069 : BitVec 32 := 256#32
  let v4309 : BitVec 32 := Scalar.muli arg27 c256_i32_2069
  let c128_i32_2070 : BitVec 32 := 128#32
  let v4310 : BitVec 32 := Scalar.addi v4309 c128_i32_2070
  v4310
def k0_mult29 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2083 : BitVec 32 := 256#32
  let v4341 : BitVec 32 := Scalar.muli arg27 c256_i32_2083
  let c0_i32_2084 : BitVec 32 := 0#32
  let v4342 : BitVec 32 := Scalar.addi v4341 c0_i32_2084
  v4342
def k0_off31 (k0_t2 : Fin k0_t2_loop.trips) (c0_i32_2084 : BitVec 32) : Fin 2 → Nat :=
  let c80_2085 : Index := 80#32
  let c0_i32_80 : BitVec 32 := 0#32
  let c1_i32_82 : BitVec 32 := 1#32
  let arg27 : BitVec 32 := Scf.iv c0_i32_80 c1_i32_82 k0_t2
  let c256_i32_2083 : BitVec 32 := 256#32
  let v4341 : BitVec 32 := Scalar.muli arg27 c256_i32_2083
  let v4342 : BitVec 32 := Scalar.addi v4341 c0_i32_2084
  let v4343 : BitVec 32 := v4342
  let v4344 : Index := Scalar.indexCast v4343
  ![80, v4344.toNat]
def k0_off32 (k0_t2 : Fin k0_t2_loop.trips) (c0_i32_2084 : BitVec 32) : Fin 3 → Nat :=
  let c0_2087 : Index := 0#32
  let c80_2088 : Index := 80#32
  let c0_i32_80 : BitVec 32 := 0#32
  let c1_i32_82 : BitVec 32 := 1#32
  let arg27 : BitVec 32 := Scf.iv c0_i32_80 c1_i32_82 k0_t2
  let c256_i32_2083 : BitVec 32 := 256#32
  let v4341 : BitVec 32 := Scalar.muli arg27 c256_i32_2083
  let v4342 : BitVec 32 := Scalar.addi v4341 c0_i32_2084
  let v4343 : BitVec 32 := v4342
  let v4351 : Index := Scalar.indexCast v4343
  ![0, 80, v4351.toNat]
def k0_mult30 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2093 : BitVec 32 := 256#32
  let v4368 : BitVec 32 := Scalar.muli arg27 c256_i32_2093
  let c128_i32_2094 : BitVec 32 := 128#32
  let v4369 : BitVec 32 := Scalar.addi v4368 c128_i32_2094
  v4369
def k0_mult31 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2107 : BitVec 32 := 256#32
  let v4400 : BitVec 32 := Scalar.muli arg27 c256_i32_2107
  let c0_i32_2108 : BitVec 32 := 0#32
  let v4401 : BitVec 32 := Scalar.addi v4400 c0_i32_2108
  v4401
def k0_off33 (k0_t2 : Fin k0_t2_loop.trips) (c0_i32_2108 : BitVec 32) : Fin 2 → Nat :=
  let c96_2109 : Index := 96#32
  let c0_i32_80 : BitVec 32 := 0#32
  let c1_i32_82 : BitVec 32 := 1#32
  let arg27 : BitVec 32 := Scf.iv c0_i32_80 c1_i32_82 k0_t2
  let c256_i32_2107 : BitVec 32 := 256#32
  let v4400 : BitVec 32 := Scalar.muli arg27 c256_i32_2107
  let v4401 : BitVec 32 := Scalar.addi v4400 c0_i32_2108
  let v4402 : BitVec 32 := v4401
  let v4403 : Index := Scalar.indexCast v4402
  ![96, v4403.toNat]
def k0_off34 (k0_t2 : Fin k0_t2_loop.trips) (c0_i32_2108 : BitVec 32) : Fin 3 → Nat :=
  let c0_2111 : Index := 0#32
  let c96_2112 : Index := 96#32
  let c0_i32_80 : BitVec 32 := 0#32
  let c1_i32_82 : BitVec 32 := 1#32
  let arg27 : BitVec 32 := Scf.iv c0_i32_80 c1_i32_82 k0_t2
  let c256_i32_2107 : BitVec 32 := 256#32
  let v4400 : BitVec 32 := Scalar.muli arg27 c256_i32_2107
  let v4401 : BitVec 32 := Scalar.addi v4400 c0_i32_2108
  let v4402 : BitVec 32 := v4401
  let v4410 : Index := Scalar.indexCast v4402
  ![0, 96, v4410.toNat]
def k0_mult32 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2117 : BitVec 32 := 256#32
  let v4427 : BitVec 32 := Scalar.muli arg27 c256_i32_2117
  let c128_i32_2118 : BitVec 32 := 128#32
  let v4428 : BitVec 32 := Scalar.addi v4427 c128_i32_2118
  v4428
def k0_mult33 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2131 : BitVec 32 := 256#32
  let v4459 : BitVec 32 := Scalar.muli arg27 c256_i32_2131
  let c0_i32_2132 : BitVec 32 := 0#32
  let v4460 : BitVec 32 := Scalar.addi v4459 c0_i32_2132
  v4460
def k0_off35 (k0_t2 : Fin k0_t2_loop.trips) (c0_i32_2132 : BitVec 32) : Fin 2 → Nat :=
  let c112_2133 : Index := 112#32
  let c0_i32_80 : BitVec 32 := 0#32
  let c1_i32_82 : BitVec 32 := 1#32
  let arg27 : BitVec 32 := Scf.iv c0_i32_80 c1_i32_82 k0_t2
  let c256_i32_2131 : BitVec 32 := 256#32
  let v4459 : BitVec 32 := Scalar.muli arg27 c256_i32_2131
  let v4460 : BitVec 32 := Scalar.addi v4459 c0_i32_2132
  let v4461 : BitVec 32 := v4460
  let v4462 : Index := Scalar.indexCast v4461
  ![112, v4462.toNat]
def k0_off36 (k0_t2 : Fin k0_t2_loop.trips) (c0_i32_2132 : BitVec 32) : Fin 3 → Nat :=
  let c0_2135 : Index := 0#32
  let c112_2136 : Index := 112#32
  let c0_i32_80 : BitVec 32 := 0#32
  let c1_i32_82 : BitVec 32 := 1#32
  let arg27 : BitVec 32 := Scf.iv c0_i32_80 c1_i32_82 k0_t2
  let c256_i32_2131 : BitVec 32 := 256#32
  let v4459 : BitVec 32 := Scalar.muli arg27 c256_i32_2131
  let v4460 : BitVec 32 := Scalar.addi v4459 c0_i32_2132
  let v4461 : BitVec 32 := v4460
  let v4469 : Index := Scalar.indexCast v4461
  ![0, 112, v4469.toNat]
def k0_mult34 (k0_t2 : Fin k0_t2_loop.trips) : BitVec 32 :=
  let c0_i32_80 : BitVec 32 := 0#32
  let c1_i32_82 : BitVec 32 := 1#32
  let arg27 : BitVec 32 := Scf.iv c0_i32_80 c1_i32_82 k0_t2
  let c256_i32_2141 : BitVec 32 := 256#32
  let v4486 : BitVec 32 := Scalar.muli arg27 c256_i32_2141
  let c128_i32_2142 : BitVec 32 := 128#32
  let v4487 : BitVec 32 := Scalar.addi v4486 c128_i32_2142
  v4487
def k0_off37 (k0_t2 : Fin k0_t2_loop.trips) : Fin 5 → Nat :=
  let c0_2151 : Index := 0#32
  let c0_i32_80 : BitVec 32 := 0#32
  let c1_i32_82 : BitVec 32 := 1#32
  let arg27 : BitVec 32 := Scf.iv c0_i32_80 c1_i32_82 k0_t2
  let v4529 : Index := Scalar.indexCast arg27
  let c0_2152 : Index := 0#32
  let c0_2153 : Index := 0#32
  ![0, v4529.toNat, 0, 0, 0]
def k0_off38 (k0_t2 : Fin k0_t2_loop.trips) : Fin 5 → Nat :=
  let c1_2154 : Index := 1#32
  let c0_i32_80 : BitVec 32 := 0#32
  let c1_i32_82 : BitVec 32 := 1#32
  let arg27 : BitVec 32 := Scf.iv c0_i32_80 c1_i32_82 k0_t2
  let v4546 : Index := Scalar.indexCast arg27
  let c0_2155 : Index := 0#32
  let c0_2156 : Index := 0#32
  ![1, v4546.toNat, 0, 0, 0]
def k0_off39 (k0_t2 : Fin k0_t2_loop.trips) : Fin 5 → Nat :=
  let c2_2157 : Index := 2#32
  let c0_i32_80 : BitVec 32 := 0#32
  let c1_i32_82 : BitVec 32 := 1#32
  let arg27 : BitVec 32 := Scf.iv c0_i32_80 c1_i32_82 k0_t2
  let v4563 : Index := Scalar.indexCast arg27
  let c0_2158 : Index := 0#32
  let c0_2159 : Index := 0#32
  ![2, v4563.toNat, 0, 0, 0]
def k0_off40 (k0_t2 : Fin k0_t2_loop.trips) : Fin 5 → Nat :=
  let c3_2160 : Index := 3#32
  let c0_i32_80 : BitVec 32 := 0#32
  let c1_i32_82 : BitVec 32 := 1#32
  let arg27 : BitVec 32 := Scf.iv c0_i32_80 c1_i32_82 k0_t2
  let v4580 : Index := Scalar.indexCast arg27
  let c0_2161 : Index := 0#32
  let c0_2162 : Index := 0#32
  ![3, v4580.toNat, 0, 0, 0]
def k0_off41 (i : grid0.Coords) (c0_i32_150 : BitVec 32) : Fin 3 → Nat :=
  let c0_151 : Index := 0#32
  let arg1 : BitVec 32 := BitVec.ofNat 32 (i 1).val
  let c4_i32_149 : BitVec 32 := 4#32
  let v369 : BitVec 32 := Scalar.muli arg1 c4_i32_149
  let v370 : BitVec 32 := Scalar.addi v369 c0_i32_150
  let v371 : Index := Scalar.indexCast v370
  let c0_152 : Index := 0#32
  ![0, v371.toNat, 0]
def k0_off42 (i : grid0.Coords) (c0_i32_154 : BitVec 32) : Fin 3 → Nat :=
  let c2_155 : Index := 2#32
  let arg1 : BitVec 32 := BitVec.ofNat 32 (i 1).val
  let c4_i32_153 : BitVec 32 := 4#32
  let v376 : BitVec 32 := Scalar.muli arg1 c4_i32_153
  let v377 : BitVec 32 := Scalar.addi v376 c0_i32_154
  let v378 : Index := Scalar.indexCast v377
  let c0_156 : Index := 0#32
  ![2, v378.toNat, 0]
def k0_off43 (i : grid0.Coords) (c0_i32_158 : BitVec 32) : Fin 3 → Nat :=
  let c4_159 : Index := 4#32
  let arg1 : BitVec 32 := BitVec.ofNat 32 (i 1).val
  let c4_i32_157 : BitVec 32 := 4#32
  let v383 : BitVec 32 := Scalar.muli arg1 c4_i32_157
  let v384 : BitVec 32 := Scalar.addi v383 c0_i32_158
  let v385 : Index := Scalar.indexCast v384
  let c0_160 : Index := 0#32
  ![4, v385.toNat, 0]
def k0_off44 (i : grid0.Coords) (c0_i32_162 : BitVec 32) : Fin 3 → Nat :=
  let c6_163 : Index := 6#32
  let arg1 : BitVec 32 := BitVec.ofNat 32 (i 1).val
  let c4_i32_161 : BitVec 32 := 4#32
  let v390 : BitVec 32 := Scalar.muli arg1 c4_i32_161
  let v391 : BitVec 32 := Scalar.addi v390 c0_i32_162
  let v392 : Index := Scalar.indexCast v391
  let c0_164 : Index := 0#32
  ![6, v392.toNat, 0]
def k0_off45 (i : grid0.Coords) (c0_i32_166 : BitVec 32) : Fin 3 → Nat :=
  let c8_167 : Index := 8#32
  let arg1 : BitVec 32 := BitVec.ofNat 32 (i 1).val
  let c4_i32_165 : BitVec 32 := 4#32
  let v397 : BitVec 32 := Scalar.muli arg1 c4_i32_165
  let v398 : BitVec 32 := Scalar.addi v397 c0_i32_166
  let v399 : Index := Scalar.indexCast v398
  let c0_168 : Index := 0#32
  ![8, v399.toNat, 0]
def k0_off46 (i : grid0.Coords) (c0_i32_170 : BitVec 32) : Fin 3 → Nat :=
  let c10 : Index := 10#32
  let arg1 : BitVec 32 := BitVec.ofNat 32 (i 1).val
  let c4_i32_169 : BitVec 32 := 4#32
  let v404 : BitVec 32 := Scalar.muli arg1 c4_i32_169
  let v405 : BitVec 32 := Scalar.addi v404 c0_i32_170
  let v406 : Index := Scalar.indexCast v405
  let c0_171 : Index := 0#32
  ![10, v406.toNat, 0]
def k0_off47 (i : grid0.Coords) (c0_i32_173 : BitVec 32) : Fin 3 → Nat :=
  let c12 : Index := 12#32
  let arg1 : BitVec 32 := BitVec.ofNat 32 (i 1).val
  let c4_i32_172 : BitVec 32 := 4#32
  let v411 : BitVec 32 := Scalar.muli arg1 c4_i32_172
  let v412 : BitVec 32 := Scalar.addi v411 c0_i32_173
  let v413 : Index := Scalar.indexCast v412
  let c0_174 : Index := 0#32
  ![12, v413.toNat, 0]
def k0_off48 (i : grid0.Coords) (c0_i32_176 : BitVec 32) : Fin 3 → Nat :=
  let c14 : Index := 14#32
  let arg1 : BitVec 32 := BitVec.ofNat 32 (i 1).val
  let c4_i32_175 : BitVec 32 := 4#32
  let v418 : BitVec 32 := Scalar.muli arg1 c4_i32_175
  let v419 : BitVec 32 := Scalar.addi v418 c0_i32_176
  let v420 : Index := Scalar.indexCast v419
  let c0_177 : Index := 0#32
  ![14, v420.toNat, 0]
def k0_off49 (i : grid0.Coords) (c0_i32_216 : BitVec 32) : Fin 3 → Nat :=
  let c1_217 : Index := 1#32
  let arg1 : BitVec 32 := BitVec.ofNat 32 (i 1).val
  let c4_i32_215 : BitVec 32 := 4#32
  let v520 : BitVec 32 := Scalar.muli arg1 c4_i32_215
  let v521 : BitVec 32 := Scalar.addi v520 c0_i32_216
  let v522 : Index := Scalar.indexCast v521
  let c0_218 : Index := 0#32
  ![1, v522.toNat, 0]
def k0_off50 (i : grid0.Coords) (c0_i32_220 : BitVec 32) : Fin 3 → Nat :=
  let c3_221 : Index := 3#32
  let arg1 : BitVec 32 := BitVec.ofNat 32 (i 1).val
  let c4_i32_219 : BitVec 32 := 4#32
  let v527 : BitVec 32 := Scalar.muli arg1 c4_i32_219
  let v528 : BitVec 32 := Scalar.addi v527 c0_i32_220
  let v529 : Index := Scalar.indexCast v528
  let c0_222 : Index := 0#32
  ![3, v529.toNat, 0]
def k0_off51 (i : grid0.Coords) (c0_i32_224 : BitVec 32) : Fin 3 → Nat :=
  let c5_225 : Index := 5#32
  let arg1 : BitVec 32 := BitVec.ofNat 32 (i 1).val
  let c4_i32_223 : BitVec 32 := 4#32
  let v534 : BitVec 32 := Scalar.muli arg1 c4_i32_223
  let v535 : BitVec 32 := Scalar.addi v534 c0_i32_224
  let v536 : Index := Scalar.indexCast v535
  let c0_226 : Index := 0#32
  ![5, v536.toNat, 0]
def k0_off52 (i : grid0.Coords) (c0_i32_228 : BitVec 32) : Fin 3 → Nat :=
  let c7_229 : Index := 7#32
  let arg1 : BitVec 32 := BitVec.ofNat 32 (i 1).val
  let c4_i32_227 : BitVec 32 := 4#32
  let v541 : BitVec 32 := Scalar.muli arg1 c4_i32_227
  let v542 : BitVec 32 := Scalar.addi v541 c0_i32_228
  let v543 : Index := Scalar.indexCast v542
  let c0_230 : Index := 0#32
  ![7, v543.toNat, 0]
def k0_off53 (i : grid0.Coords) (c0_i32_232 : BitVec 32) : Fin 3 → Nat :=
  let c9 : Index := 9#32
  let arg1 : BitVec 32 := BitVec.ofNat 32 (i 1).val
  let c4_i32_231 : BitVec 32 := 4#32
  let v548 : BitVec 32 := Scalar.muli arg1 c4_i32_231
  let v549 : BitVec 32 := Scalar.addi v548 c0_i32_232
  let v550 : Index := Scalar.indexCast v549
  let c0_233 : Index := 0#32
  ![9, v550.toNat, 0]
def k0_off54 (i : grid0.Coords) (c0_i32_235 : BitVec 32) : Fin 3 → Nat :=
  let c11 : Index := 11#32
  let arg1 : BitVec 32 := BitVec.ofNat 32 (i 1).val
  let c4_i32_234 : BitVec 32 := 4#32
  let v555 : BitVec 32 := Scalar.muli arg1 c4_i32_234
  let v556 : BitVec 32 := Scalar.addi v555 c0_i32_235
  let v557 : Index := Scalar.indexCast v556
  let c0_236 : Index := 0#32
  ![11, v557.toNat, 0]
def k0_off55 (i : grid0.Coords) (c0_i32_238 : BitVec 32) : Fin 3 → Nat :=
  let c13 : Index := 13#32
  let arg1 : BitVec 32 := BitVec.ofNat 32 (i 1).val
  let c4_i32_237 : BitVec 32 := 4#32
  let v562 : BitVec 32 := Scalar.muli arg1 c4_i32_237
  let v563 : BitVec 32 := Scalar.addi v562 c0_i32_238
  let v564 : Index := Scalar.indexCast v563
  let c0_239 : Index := 0#32
  ![13, v564.toNat, 0]
def k0_off56 (i : grid0.Coords) (c0_i32_241 : BitVec 32) : Fin 3 → Nat :=
  let c15 : Index := 15#32
  let arg1 : BitVec 32 := BitVec.ofNat 32 (i 1).val
  let c4_i32_240 : BitVec 32 := 4#32
  let v569 : BitVec 32 := Scalar.muli arg1 c4_i32_240
  let v570 : BitVec 32 := Scalar.addi v569 c0_i32_241
  let v571 : Index := Scalar.indexCast v570
  let c0_242 : Index := 0#32
  ![15, v571.toNat, 0]
def k0_off57 (i : grid0.Coords) (c0_i32_328 : BitVec 32) : Fin 3 → Nat :=
  let c16_329 : Index := 16#32
  let arg1 : BitVec 32 := BitVec.ofNat 32 (i 1).val
  let c4_i32_327 : BitVec 32 := 4#32
  let v752 : BitVec 32 := Scalar.muli arg1 c4_i32_327
  let v753 : BitVec 32 := Scalar.addi v752 c0_i32_328
  let v754 : Index := Scalar.indexCast v753
  let c0_330 : Index := 0#32
  ![16, v754.toNat, 0]
def k0_off58 (i : grid0.Coords) (c0_i32_332 : BitVec 32) : Fin 3 → Nat :=
  let c18 : Index := 18#32
  let arg1 : BitVec 32 := BitVec.ofNat 32 (i 1).val
  let c4_i32_331 : BitVec 32 := 4#32
  let v759 : BitVec 32 := Scalar.muli arg1 c4_i32_331
  let v760 : BitVec 32 := Scalar.addi v759 c0_i32_332
  let v761 : Index := Scalar.indexCast v760
  let c0_333 : Index := 0#32
  ![18, v761.toNat, 0]
def k0_off59 (i : grid0.Coords) (c0_i32_335 : BitVec 32) : Fin 3 → Nat :=
  let c20 : Index := 20#32
  let arg1 : BitVec 32 := BitVec.ofNat 32 (i 1).val
  let c4_i32_334 : BitVec 32 := 4#32
  let v766 : BitVec 32 := Scalar.muli arg1 c4_i32_334
  let v767 : BitVec 32 := Scalar.addi v766 c0_i32_335
  let v768 : Index := Scalar.indexCast v767
  let c0_336 : Index := 0#32
  ![20, v768.toNat, 0]
def k0_off60 (i : grid0.Coords) (c0_i32_338 : BitVec 32) : Fin 3 → Nat :=
  let c22 : Index := 22#32
  let arg1 : BitVec 32 := BitVec.ofNat 32 (i 1).val
  let c4_i32_337 : BitVec 32 := 4#32
  let v773 : BitVec 32 := Scalar.muli arg1 c4_i32_337
  let v774 : BitVec 32 := Scalar.addi v773 c0_i32_338
  let v775 : Index := Scalar.indexCast v774
  let c0_339 : Index := 0#32
  ![22, v775.toNat, 0]
def k0_off61 (i : grid0.Coords) (c0_i32_341 : BitVec 32) : Fin 3 → Nat :=
  let c24_342 : Index := 24#32
  let arg1 : BitVec 32 := BitVec.ofNat 32 (i 1).val
  let c4_i32_340 : BitVec 32 := 4#32
  let v780 : BitVec 32 := Scalar.muli arg1 c4_i32_340
  let v781 : BitVec 32 := Scalar.addi v780 c0_i32_341
  let v782 : Index := Scalar.indexCast v781
  let c0_343 : Index := 0#32
  ![24, v782.toNat, 0]
def k0_off62 (i : grid0.Coords) (c0_i32_345 : BitVec 32) : Fin 3 → Nat :=
  let c26 : Index := 26#32
  let arg1 : BitVec 32 := BitVec.ofNat 32 (i 1).val
  let c4_i32_344 : BitVec 32 := 4#32
  let v787 : BitVec 32 := Scalar.muli arg1 c4_i32_344
  let v788 : BitVec 32 := Scalar.addi v787 c0_i32_345
  let v789 : Index := Scalar.indexCast v788
  let c0_346 : Index := 0#32
  ![26, v789.toNat, 0]
def k0_off63 (i : grid0.Coords) (c0_i32_348 : BitVec 32) : Fin 3 → Nat :=
  let c28 : Index := 28#32
  let arg1 : BitVec 32 := BitVec.ofNat 32 (i 1).val
  let c4_i32_347 : BitVec 32 := 4#32
  let v794 : BitVec 32 := Scalar.muli arg1 c4_i32_347
  let v795 : BitVec 32 := Scalar.addi v794 c0_i32_348
  let v796 : Index := Scalar.indexCast v795
  let c0_349 : Index := 0#32
  ![28, v796.toNat, 0]
def k0_off64 (i : grid0.Coords) (c0_i32_351 : BitVec 32) : Fin 3 → Nat :=
  let c30 : Index := 30#32
  let arg1 : BitVec 32 := BitVec.ofNat 32 (i 1).val
  let c4_i32_350 : BitVec 32 := 4#32
  let v801 : BitVec 32 := Scalar.muli arg1 c4_i32_350
  let v802 : BitVec 32 := Scalar.addi v801 c0_i32_351
  let v803 : Index := Scalar.indexCast v802
  let c0_352 : Index := 0#32
  ![30, v803.toNat, 0]
def k0_off65 (i : grid0.Coords) (c0_i32_391 : BitVec 32) : Fin 3 → Nat :=
  let c17 : Index := 17#32
  let arg1 : BitVec 32 := BitVec.ofNat 32 (i 1).val
  let c4_i32_390 : BitVec 32 := 4#32
  let v903 : BitVec 32 := Scalar.muli arg1 c4_i32_390
  let v904 : BitVec 32 := Scalar.addi v903 c0_i32_391
  let v905 : Index := Scalar.indexCast v904
  let c0_392 : Index := 0#32
  ![17, v905.toNat, 0]
def k0_off66 (i : grid0.Coords) (c0_i32_394 : BitVec 32) : Fin 3 → Nat :=
  let c19 : Index := 19#32
  let arg1 : BitVec 32 := BitVec.ofNat 32 (i 1).val
  let c4_i32_393 : BitVec 32 := 4#32
  let v910 : BitVec 32 := Scalar.muli arg1 c4_i32_393
  let v911 : BitVec 32 := Scalar.addi v910 c0_i32_394
  let v912 : Index := Scalar.indexCast v911
  let c0_395 : Index := 0#32
  ![19, v912.toNat, 0]
def k0_off67 (i : grid0.Coords) (c0_i32_397 : BitVec 32) : Fin 3 → Nat :=
  let c21 : Index := 21#32
  let arg1 : BitVec 32 := BitVec.ofNat 32 (i 1).val
  let c4_i32_396 : BitVec 32 := 4#32
  let v917 : BitVec 32 := Scalar.muli arg1 c4_i32_396
  let v918 : BitVec 32 := Scalar.addi v917 c0_i32_397
  let v919 : Index := Scalar.indexCast v918
  let c0_398 : Index := 0#32
  ![21, v919.toNat, 0]
def k0_off68 (i : grid0.Coords) (c0_i32_400 : BitVec 32) : Fin 3 → Nat :=
  let c23 : Index := 23#32
  let arg1 : BitVec 32 := BitVec.ofNat 32 (i 1).val
  let c4_i32_399 : BitVec 32 := 4#32
  let v924 : BitVec 32 := Scalar.muli arg1 c4_i32_399
  let v925 : BitVec 32 := Scalar.addi v924 c0_i32_400
  let v926 : Index := Scalar.indexCast v925
  let c0_401 : Index := 0#32
  ![23, v926.toNat, 0]
def k0_off69 (i : grid0.Coords) (c0_i32_403 : BitVec 32) : Fin 3 → Nat :=
  let c25 : Index := 25#32
  let arg1 : BitVec 32 := BitVec.ofNat 32 (i 1).val
  let c4_i32_402 : BitVec 32 := 4#32
  let v931 : BitVec 32 := Scalar.muli arg1 c4_i32_402
  let v932 : BitVec 32 := Scalar.addi v931 c0_i32_403
  let v933 : Index := Scalar.indexCast v932
  let c0_404 : Index := 0#32
  ![25, v933.toNat, 0]
def k0_off70 (i : grid0.Coords) (c0_i32_406 : BitVec 32) : Fin 3 → Nat :=
  let c27 : Index := 27#32
  let arg1 : BitVec 32 := BitVec.ofNat 32 (i 1).val
  let c4_i32_405 : BitVec 32 := 4#32
  let v938 : BitVec 32 := Scalar.muli arg1 c4_i32_405
  let v939 : BitVec 32 := Scalar.addi v938 c0_i32_406
  let v940 : Index := Scalar.indexCast v939
  let c0_407 : Index := 0#32
  ![27, v940.toNat, 0]
def k0_off71 (i : grid0.Coords) (c0_i32_409 : BitVec 32) : Fin 3 → Nat :=
  let c29 : Index := 29#32
  let arg1 : BitVec 32 := BitVec.ofNat 32 (i 1).val
  let c4_i32_408 : BitVec 32 := 4#32
  let v945 : BitVec 32 := Scalar.muli arg1 c4_i32_408
  let v946 : BitVec 32 := Scalar.addi v945 c0_i32_409
  let v947 : Index := Scalar.indexCast v946
  let c0_410 : Index := 0#32
  ![29, v947.toNat, 0]
def k0_off72 (i : grid0.Coords) (c0_i32_412 : BitVec 32) : Fin 3 → Nat :=
  let c31 : Index := 31#32
  let arg1 : BitVec 32 := BitVec.ofNat 32 (i 1).val
  let c4_i32_411 : BitVec 32 := 4#32
  let v952 : BitVec 32 := Scalar.muli arg1 c4_i32_411
  let v953 : BitVec 32 := Scalar.addi v952 c0_i32_412
  let v954 : Index := Scalar.indexCast v953
  let c0_413 : Index := 0#32
  ![31, v954.toNat, 0]
@[reducible] def k0_t3_loop : Scf.Loop 32 :=
  let c0_i32_1956 : BitVec 32 := 0#32
  let c16_i32_1957 : BitVec 32 := 16#32
  let v4043 : BitVec 32 := Scalar.addi c0_i32_1956 c16_i32_1957
  let c1_i32_1958 : BitVec 32 := 1#32
  ⟨c0_i32_1956, v4043, c1_i32_1958⟩
def k0_mult35 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32 : BitVec 32 := 256#32
  let v4044 : BitVec 32 := Scalar.muli arg27 c256_i32
  v4044
def k0_off73 (k0_t3 : Fin k0_t3_loop.trips) : Fin 2 → Nat :=
  let c0_1962 : Index := 0#32
  let c0_i32_1956 : BitVec 32 := 0#32
  let c1_i32_1958 : BitVec 32 := 1#32
  let arg27 : BitVec 32 := Scf.iv c0_i32_1956 c1_i32_1958 k0_t3
  let c256_i32 : BitVec 32 := 256#32
  let v4044 : BitVec 32 := Scalar.muli arg27 c256_i32
  let v4045 : BitVec 32 := v4044
  let v4047 : Index := Scalar.indexCast v4045
  ![0, v4047.toNat]
def k0_mult36 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_1964 : BitVec 32 := 256#32
  let v4050 : BitVec 32 := Scalar.muli arg27 c256_i32_1964
  let c0_i32_1965 : BitVec 32 := 0#32
  let v4051 : BitVec 32 := Scalar.addi v4050 c0_i32_1965
  v4051
def k0_off74 (k0_t3 : Fin k0_t3_loop.trips) (c0_i32_1965 : BitVec 32) : Fin 2 → Nat :=
  let c0_1966 : Index := 0#32
  let c0_i32_1956 : BitVec 32 := 0#32
  let c1_i32_1958 : BitVec 32 := 1#32
  let arg27 : BitVec 32 := Scf.iv c0_i32_1956 c1_i32_1958 k0_t3
  let c256_i32_1964 : BitVec 32 := 256#32
  let v4050 : BitVec 32 := Scalar.muli arg27 c256_i32_1964
  let v4051 : BitVec 32 := Scalar.addi v4050 c0_i32_1965
  let v4052 : BitVec 32 := v4051
  let v4053 : Index := Scalar.indexCast v4052
  ![0, v4053.toNat]
def k0_off75 (k0_t3 : Fin k0_t3_loop.trips) (c0_i32_1965 : BitVec 32) : Fin 3 → Nat :=
  let c0_1969 : Index := 0#32
  let c0_1970 : Index := 0#32
  let c0_i32_1956 : BitVec 32 := 0#32
  let c1_i32_1958 : BitVec 32 := 1#32
  let arg27 : BitVec 32 := Scf.iv c0_i32_1956 c1_i32_1958 k0_t3
  let c256_i32_1964 : BitVec 32 := 256#32
  let v4050 : BitVec 32 := Scalar.muli arg27 c256_i32_1964
  let v4051 : BitVec 32 := Scalar.addi v4050 c0_i32_1965
  let v4052 : BitVec 32 := v4051
  let v4062 : Index := Scalar.indexCast v4052
  ![0, 0, v4062.toNat]
def k0_off76 (k0_t3 : Fin k0_t3_loop.trips) : Fin 4 → Nat :=
  let c0_1971 : Index := 0#32
  let c0_1972 : Index := 0#32
  let c0_i32_1956 : BitVec 32 := 0#32
  let c1_i32_1958 : BitVec 32 := 1#32
  let arg27 : BitVec 32 := Scf.iv c0_i32_1956 c1_i32_1958 k0_t3
  let v4066 : Index := Scalar.indexCast arg27
  let c0_1973 : Index := 0#32
  ![0, 0, v4066.toNat, 0]
def k0_mult37 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_1978 : BitVec 32 := 256#32
  let v4080 : BitVec 32 := Scalar.muli arg27 c256_i32_1978
  let c128_i32_1979 : BitVec 32 := 128#32
  let v4081 : BitVec 32 := Scalar.addi v4080 c128_i32_1979
  v4081
def k0_off77 (k0_t3 : Fin k0_t3_loop.trips) : Fin 4 → Nat :=
  let c0_1985 : Index := 0#32
  let c1_1986 : Index := 1#32
  let c0_i32_1956 : BitVec 32 := 0#32
  let c1_i32_1958 : BitVec 32 := 1#32
  let arg27 : BitVec 32 := Scf.iv c0_i32_1956 c1_i32_1958 k0_t3
  let v4096 : Index := Scalar.indexCast arg27
  let c0_1987 : Index := 0#32
  ![0, 1, v4096.toNat, 0]
def k0_mult38 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_1992 : BitVec 32 := 256#32
  let v4110 : BitVec 32 := Scalar.muli arg27 c256_i32_1992
  let c0_i32_1993 : BitVec 32 := 0#32
  let v4111 : BitVec 32 := Scalar.addi v4110 c0_i32_1993
  v4111
def k0_off78 (k0_t3 : Fin k0_t3_loop.trips) (c0_i32_1993 : BitVec 32) : Fin 2 → Nat :=
  let c32_1994 : Index := 32#32
  let c0_i32_1956 : BitVec 32 := 0#32
  let c1_i32_1958 : BitVec 32 := 1#32
  let arg27 : BitVec 32 := Scf.iv c0_i32_1956 c1_i32_1958 k0_t3
  let c256_i32_1992 : BitVec 32 := 256#32
  let v4110 : BitVec 32 := Scalar.muli arg27 c256_i32_1992
  let v4111 : BitVec 32 := Scalar.addi v4110 c0_i32_1993
  let v4112 : BitVec 32 := v4111
  let v4113 : Index := Scalar.indexCast v4112
  ![32, v4113.toNat]
def k0_off79 (k0_t3 : Fin k0_t3_loop.trips) (c0_i32_1993 : BitVec 32) : Fin 3 → Nat :=
  let c0_1997 : Index := 0#32
  let c32_1998 : Index := 32#32
  let c0_i32_1956 : BitVec 32 := 0#32
  let c1_i32_1958 : BitVec 32 := 1#32
  let arg27 : BitVec 32 := Scf.iv c0_i32_1956 c1_i32_1958 k0_t3
  let c256_i32_1992 : BitVec 32 := 256#32
  let v4110 : BitVec 32 := Scalar.muli arg27 c256_i32_1992
  let v4111 : BitVec 32 := Scalar.addi v4110 c0_i32_1993
  let v4112 : BitVec 32 := v4111
  let v4122 : Index := Scalar.indexCast v4112
  ![0, 32, v4122.toNat]
def k0_off80 (k0_t3 : Fin k0_t3_loop.trips) : Fin 4 → Nat :=
  let c1_1999 : Index := 1#32
  let c0_2000 : Index := 0#32
  let c0_i32_1956 : BitVec 32 := 0#32
  let c1_i32_1958 : BitVec 32 := 1#32
  let arg27 : BitVec 32 := Scf.iv c0_i32_1956 c1_i32_1958 k0_t3
  let v4126 : Index := Scalar.indexCast arg27
  let c0_2001 : Index := 0#32
  ![1, 0, v4126.toNat, 0]
def k0_mult39 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_2006 : BitVec 32 := 256#32
  let v4140 : BitVec 32 := Scalar.muli arg27 c256_i32_2006
  let c128_i32_2007 : BitVec 32 := 128#32
  let v4141 : BitVec 32 := Scalar.addi v4140 c128_i32_2007
  v4141
def k0_off81 (k0_t3 : Fin k0_t3_loop.trips) : Fin 4 → Nat :=
  let c1_2013 : Index := 1#32
  let c1_2014 : Index := 1#32
  let c0_i32_1956 : BitVec 32 := 0#32
  let c1_i32_1958 : BitVec 32 := 1#32
  let arg27 : BitVec 32 := Scf.iv c0_i32_1956 c1_i32_1958 k0_t3
  let v4156 : Index := Scalar.indexCast arg27
  let c0_2015 : Index := 0#32
  ![1, 1, v4156.toNat, 0]
def k0_mult40 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_2020 : BitVec 32 := 256#32
  let v4170 : BitVec 32 := Scalar.muli arg27 c256_i32_2020
  let c0_i32_2021 : BitVec 32 := 0#32
  let v4171 : BitVec 32 := Scalar.addi v4170 c0_i32_2021
  v4171
def k0_off82 (k0_t3 : Fin k0_t3_loop.trips) (c0_i32_2021 : BitVec 32) : Fin 2 → Nat :=
  let c64_2022 : Index := 64#32
  let c0_i32_1956 : BitVec 32 := 0#32
  let c1_i32_1958 : BitVec 32 := 1#32
  let arg27 : BitVec 32 := Scf.iv c0_i32_1956 c1_i32_1958 k0_t3
  let c256_i32_2020 : BitVec 32 := 256#32
  let v4170 : BitVec 32 := Scalar.muli arg27 c256_i32_2020
  let v4171 : BitVec 32 := Scalar.addi v4170 c0_i32_2021
  let v4172 : BitVec 32 := v4171
  let v4173 : Index := Scalar.indexCast v4172
  ![64, v4173.toNat]
def k0_off83 (k0_t3 : Fin k0_t3_loop.trips) (c0_i32_2021 : BitVec 32) : Fin 3 → Nat :=
  let c0_2025 : Index := 0#32
  let c64_2026 : Index := 64#32
  let c0_i32_1956 : BitVec 32 := 0#32
  let c1_i32_1958 : BitVec 32 := 1#32
  let arg27 : BitVec 32 := Scf.iv c0_i32_1956 c1_i32_1958 k0_t3
  let c256_i32_2020 : BitVec 32 := 256#32
  let v4170 : BitVec 32 := Scalar.muli arg27 c256_i32_2020
  let v4171 : BitVec 32 := Scalar.addi v4170 c0_i32_2021
  let v4172 : BitVec 32 := v4171
  let v4182 : Index := Scalar.indexCast v4172
  ![0, 64, v4182.toNat]
def k0_off84 (k0_t3 : Fin k0_t3_loop.trips) : Fin 4 → Nat :=
  let c2_2027 : Index := 2#32
  let c0_2028 : Index := 0#32
  let c0_i32_1956 : BitVec 32 := 0#32
  let c1_i32_1958 : BitVec 32 := 1#32
  let arg27 : BitVec 32 := Scf.iv c0_i32_1956 c1_i32_1958 k0_t3
  let v4186 : Index := Scalar.indexCast arg27
  let c0_2029 : Index := 0#32
  ![2, 0, v4186.toNat, 0]
def k0_mult41 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_2034 : BitVec 32 := 256#32
  let v4200 : BitVec 32 := Scalar.muli arg27 c256_i32_2034
  let c128_i32_2035 : BitVec 32 := 128#32
  let v4201 : BitVec 32 := Scalar.addi v4200 c128_i32_2035
  v4201
def k0_off85 (k0_t3 : Fin k0_t3_loop.trips) : Fin 4 → Nat :=
  let c2_2041 : Index := 2#32
  let c1_2042 : Index := 1#32
  let c0_i32_1956 : BitVec 32 := 0#32
  let c1_i32_1958 : BitVec 32 := 1#32
  let arg27 : BitVec 32 := Scf.iv c0_i32_1956 c1_i32_1958 k0_t3
  let v4216 : Index := Scalar.indexCast arg27
  let c0_2043 : Index := 0#32
  ![2, 1, v4216.toNat, 0]
def k0_mult42 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_2048 : BitVec 32 := 256#32
  let v4230 : BitVec 32 := Scalar.muli arg27 c256_i32_2048
  let c0_i32_2049 : BitVec 32 := 0#32
  let v4231 : BitVec 32 := Scalar.addi v4230 c0_i32_2049
  v4231
def k0_off86 (k0_t3 : Fin k0_t3_loop.trips) (c0_i32_2049 : BitVec 32) : Fin 2 → Nat :=
  let c96_2050 : Index := 96#32
  let c0_i32_1956 : BitVec 32 := 0#32
  let c1_i32_1958 : BitVec 32 := 1#32
  let arg27 : BitVec 32 := Scf.iv c0_i32_1956 c1_i32_1958 k0_t3
  let c256_i32_2048 : BitVec 32 := 256#32
  let v4230 : BitVec 32 := Scalar.muli arg27 c256_i32_2048
  let v4231 : BitVec 32 := Scalar.addi v4230 c0_i32_2049
  let v4232 : BitVec 32 := v4231
  let v4233 : Index := Scalar.indexCast v4232
  ![96, v4233.toNat]
def k0_off87 (k0_t3 : Fin k0_t3_loop.trips) (c0_i32_2049 : BitVec 32) : Fin 3 → Nat :=
  let c0_2053 : Index := 0#32
  let c96_2054 : Index := 96#32
  let c0_i32_1956 : BitVec 32 := 0#32
  let c1_i32_1958 : BitVec 32 := 1#32
  let arg27 : BitVec 32 := Scf.iv c0_i32_1956 c1_i32_1958 k0_t3
  let c256_i32_2048 : BitVec 32 := 256#32
  let v4230 : BitVec 32 := Scalar.muli arg27 c256_i32_2048
  let v4231 : BitVec 32 := Scalar.addi v4230 c0_i32_2049
  let v4232 : BitVec 32 := v4231
  let v4242 : Index := Scalar.indexCast v4232
  ![0, 96, v4242.toNat]
def k0_off88 (k0_t3 : Fin k0_t3_loop.trips) : Fin 4 → Nat :=
  let c3_2055 : Index := 3#32
  let c0_2056 : Index := 0#32
  let c0_i32_1956 : BitVec 32 := 0#32
  let c1_i32_1958 : BitVec 32 := 1#32
  let arg27 : BitVec 32 := Scf.iv c0_i32_1956 c1_i32_1958 k0_t3
  let v4246 : Index := Scalar.indexCast arg27
  let c0_2057 : Index := 0#32
  ![3, 0, v4246.toNat, 0]
def k0_mult43 (k0_t3 : Fin k0_t3_loop.trips) : BitVec 32 :=
  let c0_i32_1956 : BitVec 32 := 0#32
  let c1_i32_1958 : BitVec 32 := 1#32
  let arg27 : BitVec 32 := Scf.iv c0_i32_1956 c1_i32_1958 k0_t3
  let c256_i32_2062 : BitVec 32 := 256#32
  let v4260 : BitVec 32 := Scalar.muli arg27 c256_i32_2062
  let c128_i32_2063 : BitVec 32 := 128#32
  let v4261 : BitVec 32 := Scalar.addi v4260 c128_i32_2063
  v4261
def k0_off89 (k0_t3 : Fin k0_t3_loop.trips) : Fin 4 → Nat :=
  let c3_2069 : Index := 3#32
  let c1_2070 : Index := 1#32
  let c0_i32_1956 : BitVec 32 := 0#32
  let c1_i32_1958 : BitVec 32 := 1#32
  let arg27 : BitVec 32 := Scf.iv c0_i32_1956 c1_i32_1958 k0_t3
  let v4276 : Index := Scalar.indexCast arg27
  let c0_2071 : Index := 0#32
  ![3, 1, v4276.toNat, 0]
def k0_cond2 (i : grid0.Coords) : BitVec 1 :=
  let arg1 : BitVec 32 := BitVec.ofNat 32 (i 1).val
  let c1_i32_1954 : BitVec 32 := 1#32
  let v4040 : BitVec 1 := Scalar.cmpi .eq arg1 c1_i32_1954
  let v4041 : BitVec 32 := Scalar.extui v4040
  let c0_i32_1955 : BitVec 32 := 0#32
  let v4042 : BitVec 1 := Scalar.cmpi .ne v4041 c0_i32_1955
  v4042

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x128x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x2x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x128x4096 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x128 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x4096 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x4096 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S4x256x4096 : Shape := ⟨3, ![4, 256, 4096]⟩
abbrev S4x256 : Shape := ⟨2, ![4, 256]⟩
abbrev S4096 : Shape := ⟨1, ![4096]⟩
abbrev S4x256x1 : Shape := ⟨3, ![4, 256, 1]⟩
abbrev S1x1x4096 : Shape := ⟨3, ![1, 1, 4096]⟩
abbrev S_ : Shape := ⟨0, ![]⟩
abbrev S4x2x128x4096 : Shape := ⟨4, ![4, 2, 128, 4096]⟩
abbrev S4x2x4096 : Shape := ⟨3, ![4, 2, 4096]⟩
abbrev S4x8x32x4096 : Shape := ⟨4, ![4, 8, 32, 4096]⟩
abbrev S4x8x4096 : Shape := ⟨3, ![4, 8, 4096]⟩
abbrev S4x8x1x4096 : Shape := ⟨4, ![4, 8, 1, 4096]⟩
abbrev S254 : Shape := ⟨1, ![254]⟩
abbrev S4x8x1x4096x1 : Shape := ⟨5, ![4, 8, 1, 4096, 1]⟩
abbrev S1x1x1x1x254 : Shape := ⟨5, ![1, 1, 1, 1, 254]⟩
abbrev S4x8x1x4096x254 : Shape := ⟨5, ![4, 8, 1, 4096, 254]⟩
abbrev S1x4096 : Shape := ⟨2, ![1, 4096]⟩

abbrev nBuf : Space → Nat
  | .hbm => 106
  | .vmem => 0
  | .smem => 0
  | _ => 0

abbrev bufTy : (tb : Table) → Fin (tcTables nBuf tb) → BufTy
  | .hbm, ⟨0, _⟩ => ⟨S4x256x4096, .bf16⟩
  | .hbm, ⟨1, _⟩ => ⟨S4x256, .f32⟩
  | .hbm, ⟨2, _⟩ => ⟨S4096, .f32⟩
  | .hbm, ⟨3, _⟩ => ⟨S4x256x4096, .bf16⟩
  | .hbm, ⟨4, _⟩ => ⟨S4x256x4096, .bf16⟩
  | .hbm, ⟨5, _⟩ => ⟨S4x256x4096, .bf16⟩
  | .hbm, ⟨6, _⟩ => ⟨S4x256x4096, .bf16⟩
  | .hbm, ⟨7, _⟩ => ⟨S4x256x1, .f32⟩
  | .hbm, ⟨8, _⟩ => ⟨S4x256x4096, .f32⟩
  | .hbm, ⟨9, _⟩ => ⟨S4x256x4096, .f32⟩
  | .hbm, ⟨10, _⟩ => ⟨S4x256x4096, .f32⟩
  | .hbm, ⟨11, _⟩ => ⟨S4x256x4096, .f32⟩
  | .hbm, ⟨12, _⟩ => ⟨S4x256x4096, .f32⟩
  | .hbm, ⟨13, _⟩ => ⟨S4x256x4096, .f32⟩
  | .hbm, ⟨14, _⟩ => ⟨S4x256x4096, .f32⟩
  | .hbm, ⟨15, _⟩ => ⟨S4x256x4096, .f32⟩
  | .hbm, ⟨16, _⟩ => ⟨S1x1x4096, .f32⟩
  | .hbm, ⟨17, _⟩ => ⟨S4x256x4096, .f32⟩
  | .hbm, ⟨18, _⟩ => ⟨S4x256x4096, .f32⟩
  | .hbm, ⟨19, _⟩ => ⟨S4x256x4096, .f32⟩
  | .hbm, ⟨20, _⟩ => ⟨S_, .f32⟩
  | .hbm, ⟨21, _⟩ => ⟨S4x256, .f32⟩
  | .hbm, ⟨22, _⟩ => ⟨S4x256x1, .f32⟩
  | .hbm, ⟨23, _⟩ => ⟨S_, .f32⟩
  | .hbm, ⟨24, _⟩ => ⟨S4x256x1, .f32⟩
  | .hbm, ⟨25, _⟩ => ⟨S4x256x1, .f32⟩
  | .hbm, ⟨26, _⟩ => ⟨S4x256x4096, .f32⟩
  | .hbm, ⟨27, _⟩ => ⟨S4x256x4096, .f32⟩
  | .hbm, ⟨28, _⟩ => ⟨S4x256x4096, .f32⟩
  | .hbm, ⟨29, _⟩ => ⟨S4x256x4096, .f32⟩
  | .hbm, ⟨30, _⟩ => ⟨S4x256x4096, .f32⟩
  | .hbm, ⟨31, _⟩ => ⟨S4x256x4096, .f32⟩
  | .hbm, ⟨32, _⟩ => ⟨S4x2x128x4096, .f32⟩
  | .hbm, ⟨33, _⟩ => ⟨S_, .f32⟩
  | .hbm, ⟨34, _⟩ => ⟨S4x2x4096, .f32⟩
  | .hbm, ⟨35, _⟩ => ⟨S_, .f32⟩
  | .hbm, ⟨36, _⟩ => ⟨S4096, .f32⟩
  | .hbm, ⟨37, _⟩ => ⟨S4x256x4096, .f32⟩
  | .hbm, ⟨38, _⟩ => ⟨S4x256x4096, .f32⟩
  | .hbm, ⟨39, _⟩ => ⟨S4x8x32x4096, .f32⟩
  | .hbm, ⟨40, _⟩ => ⟨S4x8x32x4096, .f32⟩
  | .hbm, ⟨41, _⟩ => ⟨S_, .f32⟩
  | .hbm, ⟨42, _⟩ => ⟨S4x8x4096, .f32⟩
  | .hbm, ⟨43, _⟩ => ⟨S4x8x1x4096, .f32⟩
  | .hbm, ⟨44, _⟩ => ⟨S_, .f32⟩
  | .hbm, ⟨45, _⟩ => ⟨S4x8x1x4096, .f32⟩
  | .hbm, ⟨46, _⟩ => ⟨S4x8x1x4096, .f32⟩
  | .hbm, ⟨47, _⟩ => ⟨S254, .i32⟩
  | .hbm, ⟨48, _⟩ => ⟨S_, .i32⟩
  | .hbm, ⟨49, _⟩ => ⟨S254, .i32⟩
  | .hbm, ⟨50, _⟩ => ⟨S254, .i32⟩
  | .hbm, ⟨51, _⟩ => ⟨S4x8x1x4096x1, .f32⟩
  | .hbm, ⟨52, _⟩ => ⟨S_, .i32⟩
  | .hbm, ⟨53, _⟩ => ⟨S254, .i32⟩
  | .hbm, ⟨54, _⟩ => ⟨S254, .i32⟩
  | .hbm, ⟨55, _⟩ => ⟨S254, .f32⟩
  | .hbm, ⟨56, _⟩ => ⟨S1x1x1x1x254, .f32⟩
  | .hbm, ⟨57, _⟩ => ⟨S4x8x1x4096x254, .f32⟩
  | .hbm, ⟨58, _⟩ => ⟨S4x8x1x4096x254, .f32⟩
  | .hbm, ⟨59, _⟩ => ⟨S4x8x1x4096x254, .i1⟩
  | .hbm, ⟨60, _⟩ => ⟨S_, .i32⟩
  | .hbm, ⟨61, _⟩ => ⟨S_, .i32⟩
  | .hbm, ⟨62, _⟩ => ⟨S4x8x1x4096x254, .i32⟩
  | .hbm, ⟨63, _⟩ => ⟨S4x8x1x4096x254, .i32⟩
  | .hbm, ⟨64, _⟩ => ⟨S4x8x1x4096x254, .i32⟩
  | .hbm, ⟨65, _⟩ => ⟨S_, .i32⟩
  | .hbm, ⟨66, _⟩ => ⟨S4x8x1x4096, .i32⟩
  | .hbm, ⟨67, _⟩ => ⟨S_, .i32⟩
  | .hbm, ⟨68, _⟩ => ⟨S4x8x1x4096, .i32⟩
  | .hbm, ⟨69, _⟩ => ⟨S4x8x1x4096, .i1⟩
  | .hbm, ⟨70, _⟩ => ⟨S_, .i32⟩
  | .hbm, ⟨71, _⟩ => ⟨S4x8x1x4096, .i32⟩
  | .hbm, ⟨72, _⟩ => ⟨S4x8x1x4096, .i32⟩
  | .hbm, ⟨73, _⟩ => ⟨S_, .i32⟩
  | .hbm, ⟨74, _⟩ => ⟨S_, .i32⟩
  | .hbm, ⟨75, _⟩ => ⟨S4x8x1x4096, .i32⟩
  | .hbm, ⟨76, _⟩ => ⟨S4x8x1x4096, .i32⟩
  | .hbm, ⟨77, _⟩ => ⟨S_, .f32⟩
  | .hbm, ⟨78, _⟩ => ⟨S4x8x1x4096, .f32⟩
  | .hbm, ⟨79, _⟩ => ⟨S4x8x1x4096, .i1⟩
  | .hbm, ⟨80, _⟩ => ⟨S_, .i32⟩
  | .hbm, ⟨81, _⟩ => ⟨S_, .i32⟩
  | .hbm, ⟨82, _⟩ => ⟨S4x8x1x4096, .i32⟩
  | .hbm, ⟨83, _⟩ => ⟨S4x8x1x4096, .i32⟩
  | .hbm, ⟨84, _⟩ => ⟨S4x8x32x4096, .f32⟩
  | .hbm, ⟨85, _⟩ => ⟨S_, .i32⟩
  | .hbm, ⟨86, _⟩ => ⟨S4x8x1x4096, .i32⟩
  | .hbm, ⟨87, _⟩ => ⟨S4x8x1x4096, .i32⟩
  | .hbm, ⟨88, _⟩ => ⟨S_, .i32⟩
  | .hbm, ⟨89, _⟩ => ⟨S4x8x1x4096, .i32⟩
  | .hbm, ⟨90, _⟩ => ⟨S4x8x1x4096, .i32⟩
  | .hbm, ⟨91, _⟩ => ⟨S4x8x1x4096, .f32⟩
  | .hbm, ⟨92, _⟩ => ⟨S4x8x32x4096, .f32⟩
  | .hbm, ⟨93, _⟩ => ⟨S4x8x32x4096, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S4x8x32x4096, .f32⟩
  | .hbm, ⟨98, _⟩ => ⟨S4x8x32x4096, .f32⟩
  | .hbm, ⟨99, _⟩ => ⟨S_, .f32⟩
  | .hbm, ⟨100, _⟩ => ⟨S4x8x32x4096, .f32⟩
  | .hbm, ⟨101, _⟩ => ⟨S4x8x32x4096, .f32⟩
  | .hbm, ⟨102, _⟩ => ⟨S4x8x32x4096, .fp8e4m3⟩
  | .hbm, ⟨103, _⟩ => ⟨S4x256x4096, .fp8e4m3⟩
  | .hbm, ⟨104, _⟩ => ⟨S4x256x4096, .bf16⟩
  | .hbm, ⟨105, _⟩ => ⟨S1x4096, .f32⟩
  | _, _ => ⟨S4x256x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_6 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v45 : Ref sig .tc := ⟨.hbm, 64, rfl⟩
abbrev main_c_7 : Ref sig .tc := ⟨.hbm, 65, rfl⟩
abbrev main_v46 : Ref sig .tc := ⟨.hbm, 66, rfl⟩
abbrev main_c_8 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_call1_v0 : Ref sig .tc := ⟨.hbm, 74, rfl⟩
abbrev main_call1_v1 : Ref sig .tc := ⟨.hbm, 75, rfl⟩
abbrev main_v51 : Ref sig .tc := ⟨.hbm, 76, rfl⟩
abbrev main_cst_11 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_call2_v0 : Ref sig .tc := ⟨.hbm, 81, rfl⟩
abbrev main_call2_v1 : Ref sig .tc := ⟨.hbm, 82, rfl⟩
abbrev main_v54 : Ref sig .tc := ⟨.hbm, 83, rfl⟩
abbrev main_v55 : Ref sig .tc := ⟨.hbm, 84, rfl⟩
abbrev main_c_13 : Ref sig .tc := ⟨.hbm, 85, rfl⟩
abbrev main_v56 : Ref sig .tc := ⟨.hbm, 86, rfl⟩
abbrev main_v57 : Ref sig .tc := ⟨.hbm, 87, rfl⟩
abbrev main_c_14 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_15 : Ref sig .tc := ⟨.hbm, 94, rfl⟩
abbrev main_cst_16 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩

abbrev nD : Nat := 1
abbrev τ : Topo := Topo.v7x

variable {F : FTy → Type} [FloatOps F]
-- ==== Proof.Kernel.Base.lean ====
/- What the runs of the kernel's body and the launch share: the two branch conditions in closed form over the
   grid points, the windows' staging memrefs, and the scratch buffers as the region's own invariant. -/
module

public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — by arithmetic of the point. -/
theorem hcond0_1 : ∀ t : Fin cfg0.N, cond0_1 (grid0.coords t) ↔ t.val % 2 = 1 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The staging memrefs and the scratch -/

/-- Each window's current staging memref at point `t`, spelled as the pipeline passes it (`bodyAt0`), and its wholeness. -/
abbrev ms0_0 (t : Fin cfg0.N) : Memref sig .tc .vmem S1x128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x4096 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x4096 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x4096 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4096 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x4096 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x128 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128x4096 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x8x4096 .i8 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S128x128 .f32 := Memref.whole cc0_scratch0
abbrev scM0_1 : Memref sig .tc .vmem S128x128 .f32 := Memref.whole cc0_scratch1
abbrev scM0_2 : Memref sig .tc .vmem S128x4096 .f32 := Memref.whole cc0_scratch2
abbrev scM0_3 : Memref sig .tc .vmem S128x4096 .f32 := Memref.whole cc0_scratch3
abbrev scM0_4 : Memref sig .tc .vmem S4x16x8x128 .i32 := Memref.whole cc0_scratch4
abbrev scM0_5 : Memref sig .tc .vmem S4x16x8x128 .i32 := Memref.whole cc0_scratch5
abbrev scM0_6 : Memref sig .tc .vmem S4x2x16x128 .f32 := Memref.whole cc0_scratch6
abbrev scM0_7 : Memref sig .tc .vmem S128x128 .bf16 := Memref.whole cc0_scratch7
abbrev scM0_8 : Memref sig .tc .vmem S32x8x128 .i32 := Memref.whole cc0_scratch8
abbrev scM0_9 : Memref sig .tc .vmem S128x4096 .bf16 := Memref.whole cc0_scratch9
abbrev scM0_10 : Memref sig .tc .vmem S8x4096 .f32 := Memref.whole cc0_scratch10
/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, owns_whole]; try rfl

end Cert.Kernel.Gen

end
-- ==== Proof.Kernel.RunA.lean ====
/- The run of the kernel's body at the first point: the first branch taken, the second not. Every input's staging buffer is
   handed back as it was, every output's and every scratch buffer at some contents. -/
module

public import proofs.«01_k».proof.Proof.Kernel.Base

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 6000000 in
/-- The body's run at the first point: the first branch taken, the second not. -/
theorem run_A (c : Dev nD) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x128 .i32) (harg20 : arg20.IsWhole) (arg21 : Memref sig .tc .vmem S4x16x8x128 .i32) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (hc0 : cond0_0 i) (hc1 : ¬cond0_1 i)
    (x0 : Vec F S1x128x4096 .bf16) (x1 : Vec F S4x256 .f32) (x2 : Vec F S1x4096 .f32) (x3 : Vec F S1x128x4096 .bf16) (x4 : Vec F S1x128x4096 .bf16) (x5 : Vec F S1x128x4096 .bf16) (x6 : Vec F S1x128x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) E (cc0_norm_bwd_dual_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    simp only [cc0_norm_bwd_dual_quant_eq_skeleton]; unfold cc0_norm_bwd_dual_quant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part45_eq_skeleton, k0_part46_eq_skeleton, k0_part47_eq_skeleton, k0_part48_eq_skeleton, k0_part49_eq_skeleton, k0_part50_eq_skeleton, k0_part51_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, HS0⟩, ⟨%d15, %f15, -, HS1⟩, ⟨%d16, %f16, -, HS2⟩, ⟨%d17, %f17, -, HS3⟩, ⟨%d18, %f18, -, HS4⟩, ⟨%d19, %f19, -, HS5⟩, ⟨%d20, %f20, -, HS6⟩, ⟨%d21, %f21, -, HS7⟩, ⟨%d22, %f22, -, HS8⟩, ⟨%d23, %f23, -, HS9⟩, ⟨%d24, %f24, -, HS10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexists _, _; isplitr; swap; · iexact HS10
    ipureintro; rfl

end Cert.Kernel.Gen

end
-- ==== Proof.Kernel.RunB.lean ====
/- The run of the kernel's body at a point of the second block: the first branch not taken, the second taken. Every input's staging buffer is
   handed back as it was, every output's and every scratch buffer at some contents. -/
module

public import proofs.«01_k».proof.Proof.Kernel.Base

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 6000000 in
/-- The body's run at a point of the second block: the first branch not taken, the second taken. -/
theorem run_B (c : Dev nD) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x128 .i32) (harg20 : arg20.IsWhole) (arg21 : Memref sig .tc .vmem S4x16x8x128 .i32) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (hc0 : ¬cond0_0 i) (hc1 : cond0_1 i)
    (x0 : Vec F S1x128x4096 .bf16) (x1 : Vec F S4x256 .f32) (x2 : Vec F S1x4096 .f32) (x3 : Vec F S1x128x4096 .bf16) (x4 : Vec F S1x128x4096 .bf16) (x5 : Vec F S1x128x4096 .bf16) (x6 : Vec F S1x128x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) E (cc0_norm_bwd_dual_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    simp only [cc0_norm_bwd_dual_quant_eq_skeleton]; unfold cc0_norm_bwd_dual_quant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part45_eq_skeleton, k0_part46_eq_skeleton, k0_part47_eq_skeleton, k0_part48_eq_skeleton, k0_part49_eq_skeleton, k0_part50_eq_skeleton, k0_part51_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, HS0⟩, ⟨%d15, %f15, -, HS1⟩, ⟨%d16, %f16, -, HS2⟩, ⟨%d17, %f17, -, HS3⟩, ⟨%d18, %f18, -, HS4⟩, ⟨%d19, %f19, -, HS5⟩, ⟨%d20, %f20, -, HS6⟩, ⟨%d21, %f21, -, HS7⟩, ⟨%d22, %f22, -, HS8⟩, ⟨%d23, %f23, -, HS9⟩, ⟨%d24, %f24, -, HS10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexists _, _; isplitr; swap; · iexact HS10
    ipureintro; rfl

end Cert.Kernel.Gen

end
-- ==== Proof.Kernel.RunC.lean ====
/- The run of the kernel's body at a later point of the first block: neither branch taken. Every input's staging buffer is
   handed back as it was, every output's and every scratch buffer at some contents. -/
module

public import proofs.«01_k».proof.Proof.Kernel.Base

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 6000000 in
/-- The body's run at a later point of the first block: neither branch taken. -/
theorem run_C (c : Dev nD) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x128 .i32) (harg20 : arg20.IsWhole) (arg21 : Memref sig .tc .vmem S4x16x8x128 .i32) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (hc0 : ¬cond0_0 i) (hc1 : ¬cond0_1 i)
    (x0 : Vec F S1x128x4096 .bf16) (x1 : Vec F S4x256 .f32) (x2 : Vec F S1x4096 .f32) (x3 : Vec F S1x128x4096 .bf16) (x4 : Vec F S1x128x4096 .bf16) (x5 : Vec F S1x128x4096 .bf16) (x6 : Vec F S1x128x4096 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := F)) Variants.none c none) E (cc0_norm_bwd_dual_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    simp only [cc0_norm_bwd_dual_quant_eq_skeleton]; unfold cc0_norm_bwd_dual_quant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part45_eq_skeleton, k0_part46_eq_skeleton, k0_part47_eq_skeleton, k0_part48_eq_skeleton, k0_part49_eq_skeleton, k0_part50_eq_skeleton, k0_part51_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, HS0⟩, ⟨%d15, %f15, -, HS1⟩, ⟨%d16, %f16, -, HS2⟩, ⟨%d17, %f17, -, HS3⟩, ⟨%d18, %f18, -, HS4⟩, ⟨%d19, %f19, -, HS5⟩, ⟨%d20, %f20, -, HS6⟩, ⟨%d21, %f21, -, HS7⟩, ⟨%d22, %f22, -, HS8⟩, ⟨%d23, %f23, -, HS9⟩, ⟨%d24, %f24, -, HS10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexists _, _; isplitr; swap; · iexact HS10
    ipureintro; rfl

end Cert.Kernel.Gen

end
-- ==== Proof.Kernel.Whole.lean ====
/- The frame of the printed program: the proof data of its one pipeline, the body's obligation at every point from the
   three runs, and the launch. Nothing is said of the outputs' contents. -/
module

public import proofs.«01_k».proof.Proof.Kernel.RunA
public import proofs.«01_k».proof.Proof.Kernel.RunB
public import proofs.«01_k».proof.Proof.Kernel.RunC
public import Idealize.ShloMosaic.Lib.Pipeline.DatRel

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The outputs' windows: what the body leaves there is held to a predicate. -/
def marked : Fin 14 → Bool := fun w => decide (7 ≤ w.val)

/-- Nothing is said of what the body leaves in an output's window. -/
def Rl (w : Fin cfg0.W) (t : Fin cfg0.N) (X : (cfg0.win w).block.Idx → Elt F (cfg0.win w).elt) : Prop := True

/-- The proof data: each input's buffer at its block, the outputs' unnamed, the scratch at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The proof data read relationally. -/
abbrev rdat (c : Dev nD) : Pipeline.RDat τ (Elt F) Unit ℕ (UR sig nD τ) ℕ cfg0 c := (dats m 0 c).toRRel marked Rl

/-- What the body is called with at a point, -/
def bodyPre (c : Dev nD) (t : Fin cfg0.N) : sProp 𝕄 :=
  iprop(Pipeline.ΦA spec0 c ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y)
    ∗ (∃ Y, ⌜(rdat m c).Finds 12 t Y⌝ ∗ owns (c : Thread nD τ) (ms0_12 t) fullShare Y)
    ∗ (∃ Y, ⌜(rdat m c).Finds 13 t Y⌝ ∗ owns (c : Thread nD τ) (ms0_13 t) fullShare Y))

/-- and what it returns. -/
def bodyPost (c : Dev nD) (t : Fin cfg0.N) : sProp 𝕄 :=
  iprop(Pipeline.ΦA spec0 c ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ X, ⌜Rl (F := F) 7 t X⌝ ∗ owns (c : Thread nD τ) (ms0_7 t) fullShare X)
    ∗ (∃ X, ⌜Rl (F := F) 8 t X⌝ ∗ owns (c : Thread nD τ) (ms0_8 t) fullShare X)
    ∗ (∃ X, ⌜Rl (F := F) 9 t X⌝ ∗ owns (c : Thread nD τ) (ms0_9 t) fullShare X)
    ∗ (∃ X, ⌜Rl (F := F) 10 t X⌝ ∗ owns (c : Thread nD τ) (ms0_10 t) fullShare X)
    ∗ (∃ X, ⌜Rl (F := F) 11 t X⌝ ∗ owns (c : Thread nD τ) (ms0_11 t) fullShare X)
    ∗ (∃ X, ⌜Rl (F := F) 12 t X⌝ ∗ owns (c : Thread nD τ) (ms0_12 t) fullShare X)
    ∗ (∃ X, ⌜Rl (F := F) 13 t X⌝ ∗ owns (c : Thread nD τ) (ms0_13 t) fullShare X))

set_option maxHeartbeats 28800000 in
/-- The body at any point, by the run of the point's case. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [PhiA0_eq]
  rw [show (dats m 0 c).leavesExact 0 t = owns (c : Thread nD τ) (ms0_0 t) fullShare (iblk m c 0 t) from by
    unfold Dat.leavesExact; rw [liveAt0_0 t, after0_0]]
  rw [show (dats m 0 c).leavesExact 1 t = owns (c : Thread nD τ) (ms0_1 t) fullShare (iblk m c 1 t) from by
    unfold Dat.leavesExact; rw [liveAt0_1 t, after0_1]]
  rw [show (dats m 0 c).leavesExact 2 t = owns (c : Thread nD τ) (ms0_2 t) fullShare (iblk m c 2 t) from by
    unfold Dat.leavesExact; rw [liveAt0_2 t, after0_2]]
  rw [show (dats m 0 c).leavesExact 3 t = owns (c : Thread nD τ) (ms0_3 t) fullShare (iblk m c 3 t) from by
    unfold Dat.leavesExact; rw [liveAt0_3 t, after0_3]]
  rw [show (dats m 0 c).leavesExact 4 t = owns (c : Thread nD τ) (ms0_4 t) fullShare (iblk m c 4 t) from by
    unfold Dat.leavesExact; rw [liveAt0_4 t, after0_4]]
  rw [show (dats m 0 c).leavesExact 5 t = owns (c : Thread nD τ) (ms0_5 t) fullShare (iblk m c 5 t) from by
    unfold Dat.leavesExact; rw [liveAt0_5 t, after0_5]]
  rw [show (dats m 0 c).leavesExact 6 t = owns (c : Thread nD τ) (ms0_6 t) fullShare (iblk m c 6 t) from by
    unfold Dat.leavesExact; rw [liveAt0_6 t, after0_6]]
  by_cases h0 : t.val % 8 = 0
  · have h1 : ¬t.val % 2 = 1 := by omega
    iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩, ⟨%y11, %hy11, H11⟩, ⟨%y12, %hy12, H12⟩, ⟨%y13, %hy13, H13⟩⟩
    iapply (run_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iintro ⟨H0, H1, H2, H3, H4, H5, H6, ⟨%e7, H7⟩, ⟨%e8, H8⟩, ⟨%e9, H9⟩, ⟨%e10, H10⟩, ⟨%e11, H11⟩, ⟨%e12, H12⟩, ⟨%e13, H13⟩, HS0, HS1, HS2, HS3, HS4, HS5, HS6, HS7, HS8, HS9, HS10⟩
    isplitl [HS0 HS1 HS2 HS3 HS4 HS5 HS6 HS7 HS8 HS9 HS10 Hg]
    · isplitl [HS0 HS1 HS2 HS3 HS4 HS5 HS6 HS7 HS8 HS9 HS10]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        iexact HS10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists e7; isplitr; · ipureintro; trivial
      iexact H7
    isplitl [H8]
    · iexists e8; isplitr; · ipureintro; trivial
      iexact H8
    isplitl [H9]
    · iexists e9; isplitr; · ipureintro; trivial
      iexact H9
    isplitl [H10]
    · iexists e10; isplitr; · ipureintro; trivial
      iexact H10
    isplitl [H11]
    · iexists e11; isplitr; · ipureintro; trivial
      iexact H11
    isplitl [H12]
    · iexists e12; isplitr; · ipureintro; trivial
      iexact H12
    iexists e13; isplitr; · ipureintro; trivial
    iexact H13
  · by_cases h1 : t.val % 2 = 1
    · skip
      iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩, ⟨%y11, %hy11, H11⟩, ⟨%y12, %hy12, H12⟩, ⟨%y13, %hy13, H13⟩⟩
      iapply (run_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iintro ⟨H0, H1, H2, H3, H4, H5, H6, ⟨%e7, H7⟩, ⟨%e8, H8⟩, ⟨%e9, H9⟩, ⟨%e10, H10⟩, ⟨%e11, H11⟩, ⟨%e12, H12⟩, ⟨%e13, H13⟩, HS0, HS1, HS2, HS3, HS4, HS5, HS6, HS7, HS8, HS9, HS10⟩
      isplitl [HS0 HS1 HS2 HS3 HS4 HS5 HS6 HS7 HS8 HS9 HS10 Hg]
      · isplitl [HS0 HS1 HS2 HS3 HS4 HS5 HS6 HS7 HS8 HS9 HS10]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          iexact HS10
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iexists e7; isplitr; · ipureintro; trivial
        iexact H7
      isplitl [H8]
      · iexists e8; isplitr; · ipureintro; trivial
        iexact H8
      isplitl [H9]
      · iexists e9; isplitr; · ipureintro; trivial
        iexact H9
      isplitl [H10]
      · iexists e10; isplitr; · ipureintro; trivial
        iexact H10
      isplitl [H11]
      · iexists e11; isplitr; · ipureintro; trivial
        iexact H11
      isplitl [H12]
      · iexists e12; isplitr; · ipureintro; trivial
        iexact H12
      iexists e13; isplitr; · ipureintro; trivial
      iexact H13
    · skip
      iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩, ⟨%y11, %hy11, H11⟩, ⟨%y12, %hy12, H12⟩, ⟨%y13, %hy13, H13⟩⟩
      iapply (run_C c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iintro ⟨H0, H1, H2, H3, H4, H5, H6, ⟨%e7, H7⟩, ⟨%e8, H8⟩, ⟨%e9, H9⟩, ⟨%e10, H10⟩, ⟨%e11, H11⟩, ⟨%e12, H12⟩, ⟨%e13, H13⟩, HS0, HS1, HS2, HS3, HS4, HS5, HS6, HS7, HS8, HS9, HS10⟩
      isplitl [HS0 HS1 HS2 HS3 HS4 HS5 HS6 HS7 HS8 HS9 HS10 Hg]
      · isplitl [HS0 HS1 HS2 HS3 HS4 HS5 HS6 HS7 HS8 HS9 HS10]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          iexact HS10
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iexists e7; isplitr; · ipureintro; trivial
        iexact H7
      isplitl [H8]
      · iexists e8; isplitr; · ipureintro; trivial
        iexact H8
      isplitl [H9]
      · iexists e9; isplitr; · ipureintro; trivial
        iexact H9
      isplitl [H10]
      · iexists e10; isplitr; · ipureintro; trivial
        iexact H10
      isplitl [H11]
      · iexists e11; isplitr; · ipureintro; trivial
        iexact H11
      isplitl [H12]
      · iexists e12; isplitr; · ipureintro; trivial
        iexact H12
      iexists e13; isplitr; · ipureintro; trivial
      iexact H13

/-- The body table's row at a point's slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) :
    Pipeline.BodyObligationRel (dats (F := F) m 0 c) (defs₀ (F := F)) Variants.none () Set.univ marked Rl := fun t => by
  rw [bigSep_W0, bigSep_W0, defs₀_row]
  exact triple_restated (sound_body m c t) rfl .rfl fun _ => .rfl

set_option backward.isDefEq.respectTransparency.types false in
set_option maxHeartbeats 800000 in
/-- The launch: the arrays as the write-backs leave them, and every semaphore counter at zero. -/
theorem run_main_quiescent : θ_run defs (onTc (τ := τ) (main (F := F))) (s₀ m ρ)
    (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The argument arrays end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hq => ⟨fun c => by
    have h := hq.1
    exact ⟨(Pipeline.RDat.FramePost.arr_in h c 0 rfl).trans (V_main_arg0 m c),
      (Pipeline.RDat.FramePost.arr_in h c 1 rfl).trans (V_main_arg1 m c),
      ((h c).2 main_arg2 (Pipeline.mem_restRefs_of main_arg2 (by decide) (by decide))).trans (V_main_arg2 m c),
      (Pipeline.RDat.FramePost.arr_in h c 3 rfl).trans (V_main_arg3 m c),
      (Pipeline.RDat.FramePost.arr_in h c 4 rfl).trans (V_main_arg4 m c),
      (Pipeline.RDat.FramePost.arr_in h c 5 rfl).trans (V_main_arg5 m c),
      (Pipeline.RDat.FramePost.arr_in h c 6 rfl).trans (V_main_arg6 m c)⟩, hq.2⟩) (run_main_quiescent m ρ)

end Cert.Kernel.Gen

end
-- ==== Proof.KernelIdeal.Base.lean ====
/- What the runs of the kernel's body and the launch share: the two branch conditions in closed form over the
   grid points, the windows' staging memrefs, and the scratch buffers as the region's own invariant. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 8 = 0)

/-- The condition of the body's `scf.if` 1 (`k0_h2`), from the grid coordinates (the skeleton's scalar
    chain substituted). -/
abbrev cond0_1 (i : grid0.Coords) : Prop := k0_cond2 i = 1#1
/-- It holds at the points ≡ 1 (mod 2) — by arithmetic of the point. -/
theorem hcond0_1 : ∀ t : Fin cfg0.N, cond0_1 (grid0.coords t) ↔ t.val % 2 = 1 :=
  (fun t => by
    have ht : t.val < 8 := Nat.lt_of_lt_of_eq t.isLt N_0
    have e0 : (grid0.coords t 0).val = t.val / 2 % 4 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val % 2 = 1)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The staging memrefs and the scratch -/

/-- Each window's current staging memref at point `t`, spelled as the pipeline passes it (`bodyAt0`), and its wholeness. -/
abbrev ms0_0 (t : Fin cfg0.N) : Memref sig .tc .vmem S1x128x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x4096 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x4096 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128x4096 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x4096 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x2x4096 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128x4096 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x128x128 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x128x4096 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x8x4096 .i8 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S128x128 .f32 := Memref.whole cc0_scratch0
abbrev scM0_1 : Memref sig .tc .vmem S128x128 .f32 := Memref.whole cc0_scratch1
abbrev scM0_2 : Memref sig .tc .vmem S128x4096 .f32 := Memref.whole cc0_scratch2
abbrev scM0_3 : Memref sig .tc .vmem S128x4096 .f32 := Memref.whole cc0_scratch3
abbrev scM0_4 : Memref sig .tc .vmem S4x16x8x2x128 .bf16 := Memref.whole cc0_scratch4
abbrev scM0_5 : Memref sig .tc .vmem S4x16x8x2x128 .bf16 := Memref.whole cc0_scratch5
abbrev scM0_6 : Memref sig .tc .vmem S4x2x16x128 .f32 := Memref.whole cc0_scratch6
abbrev scM0_7 : Memref sig .tc .vmem S128x128 .bf16 := Memref.whole cc0_scratch7
abbrev scM0_8 : Memref sig .tc .vmem S32x8x128 .i32 := Memref.whole cc0_scratch8
abbrev scM0_9 : Memref sig .tc .vmem S128x4096 .bf16 := Memref.whole cc0_scratch9
abbrev scM0_10 : Memref sig .tc .vmem S8x4096 .f32 := Memref.whole cc0_scratch10
/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d)) ∗ (∃ r, prngReg c r)) := by
  unfold Pipeline.ΦA; rw [scopedRest0_eq]; simp only [scM0_0, scM0_1, scM0_2, scM0_3, scM0_4, scM0_5, scM0_6, scM0_7, scM0_8, scM0_9, scM0_10, owns_whole]; try rfl

end Cert.KernelIdeal.Gen

end
-- ==== Proof.KernelIdeal.Spec.lean ====
/- What a point of the kernel computes over the extended reals, entry by entry, with indices as plain naturals, and how
   the reads and the pieces of the generated loops are met at an index. -/
module

public import proofs.«01_k».proof.Proof.Gen.KernelIdeal
public import Idealize.ShloMosaic.Lib.Pipeline.FrameBody
public import Idealize.ShloMosaic.Lib.Writes
public import Idealize.ShloMosaic.Lib.ValueIdx
public import Idealize.ShloMosaic.Lib.ValueLayout

@[expose] public section

noncomputable section

namespace Cert.KernelIdeal.Gen

open Idealize.ShloMosaic Idealize.ShloMosaic.TcCoe Idealize.ShloMosaic.Pipeline Idealize.ShloMosaic.ValueIdx

/-! ## The formulas at one entry

Rows are counted within the block of 128, columns within the row of 4096. -/

section Formulas
variable (x q k v d : ℕ → ℕ → EReal) (r g c : ℕ → EReal)

/-- The summed gradient. -/
def fdn (a l : ℕ) : EReal := q a l + k a l + v a l
/-- The normalised input. -/
def fxh (a l : ℕ) : EReal := x a l * r a
/-- The summed gradient times gamma. -/
def fdx (a l : ℕ) : EReal := fdn q k v a l * g l
/-- The contribution to the gradient of gamma. -/
def fg (a l : ℕ) : EReal := fdn q k v a l * fxh x r a l
/-- The contribution to the row's mean. -/
def fcc (a l : ℕ) : EReal := fdx q k v g a l * fxh x r a l
/-- The result, with the row's mean `c`. -/
def fout (a l : ℕ) : EReal := r a * (fdx q k v g a l - fxh x r a l * c a) + d a l
/-- The result from the two stored halves. -/
def fout' (dx xh : ℕ → ℕ → EReal) (a l : ℕ) : EReal := r a * (dx a l - xh a l * c a) + d a l
/-- The contributions to gamma of the rows `s`, `8 + s`, …, `120 + s`, in the kernel's order. -/
def fgs (s l : ℕ) : EReal :=
  0 + fg x q k v r s l + fg x q k v r (8 + s) l + fg x q k v r (16 + s) l + fg x q k v r (24 + s) l
    + fg x q k v r (32 + s) l + fg x q k v r (40 + s) l + fg x q k v r (48 + s) l + fg x q k v r (56 + s) l
    + fg x q k v r (64 + s) l + fg x q k v r (72 + s) l + fg x q k v r (80 + s) l + fg x q k v r (88 + s) l
    + fg x q k v r (96 + s) l + fg x q k v r (104 + s) l + fg x q k v r (112 + s) l + fg x q k v r (120 + s) l
/-- The contributions of the first `n` pairs of column groups to lane `l` of row `a`'s sum. -/
def frow (a l n : ℕ) : EReal :=
  ∑ p ∈ Finset.range n, (fcc x q k v r g a (256 * p + l) + fcc x q k v r g a (256 * p + 128 + l))
end Formulas

/-- The word zero is the number zero. -/
theorem zero_bits : (FloatOps.ofBits FTy.f32 0#32 : Ideal .f32) = (0 : EReal) := by
  show Ideal.ofBits .f32 0#32 = 0
  simp [Ideal.ofBits, Ideal.ieee]

/-! ## A read of a window, entry by entry -/

/-- A box of sixteen rows and 128 columns of a staged block. -/
theorem ld_block (m : Memref sig .tc .vmem S1x128x4096 .bf16) (X : m.view.ty.Contents (Elt Ideal)) (f : ℕ → ℕ → EReal)
    (hf : ∀ (a b : ℕ) (ha : a < 128) (hb : b < 4096), m.view.read (Elt Ideal) X (ix3 (0 : Fin 1) ⟨a, ha⟩ ⟨b, hb⟩) = f a b)
    {off : Fin 3 → ℕ} {A B : ℕ} (ho : off = ![0, A, B]) (inb : ∀ a, off a + S1x16x128.size a ≤ S1x128x4096.size a)
    (s : Fin 16) (l : Fin 128) :
    View.readAt (Elt Ideal) m.view (Rect.unit (s := S1x128x4096) off S1x16x128.size inb).toLoadRect X (ix3 (0 : Fin 1) s l) = f (A + s.val) (B + l.val) := by
  subst ho
  have h1 : A + 16 ≤ 128 := inb 1
  have h2 : B + 128 ≤ 4096 := inb 2
  rw [← hf (A + s.val) (B + l.val) (by omega) (by omega), View.readAt_eq_ld]
  refine congrArg (m.view.read (Elt Ideal) X) (funext fun a => Fin.ext ?_)
  match a with
  | ⟨0, _⟩ => rfl
  | ⟨1, _⟩ => show A + 1 * s.val = A + s.val; omega
  | ⟨2, _⟩ => show B + 1 * l.val = B + l.val; omega

/-- A box of 128 columns of gamma. -/
theorem ld_gamma (m : Memref sig .tc .vmem S1x4096 .f32) (X : m.view.ty.Contents (Elt Ideal)) (f : ℕ → EReal)
    (hf : ∀ (b : ℕ) (hb : b < 4096), m.view.read (Elt Ideal) X (ix2 (0 : Fin 1) ⟨b, hb⟩) = f b)
    {off : Fin 2 → ℕ} {B : ℕ} (ho : off = ![0, B]) (inb : ∀ a, off a + S1x128.size a ≤ S1x4096.size a) (l : Fin 128) :
    View.readAt (Elt Ideal) m.view (Rect.unit (s := S1x4096) off S1x128.size inb).toLoadRect X (ix2 (0 : Fin 1) l) = f (B + l.val) := by
  subst ho
  have h2 : B + 128 ≤ 4096 := inb 1
  rw [← hf (B + l.val) (by omega), View.readAt_eq_ld]
  refine congrArg (m.view.read (Elt Ideal) X) (funext fun a => Fin.ext ?_)
  match a with
  | ⟨0, _⟩ => rfl
  | ⟨1, _⟩ => show B + 1 * l.val = B + l.val; omega

/-- Sixteen rows of a buffer that holds one value a row. -/
theorem ld_rows (m : Memref sig .tc .vmem S128x128 .f32) (X : m.view.ty.Contents (Elt Ideal)) (f : ℕ → EReal)
    (hf : ∀ (a b : ℕ) (ha : a < 128) (hb : b < 128), m.view.read (Elt Ideal) X (ix2 ⟨a, ha⟩ ⟨b, hb⟩) = f a)
    {A : ℕ} (inb : ∀ a, (![A, 0] : Fin 2 → ℕ) a + S16x128.size a ≤ S128x128.size a) (s : Fin 16) (l : Fin 128) :
    View.readAt (Elt Ideal) m.view (Rect.unit (s := S128x128) ![A, 0] S16x128.size inb).toLoadRect X (ix2 s l) = f (A + s.val) := by
  have h1 : A + 16 ≤ 128 := inb 0
  rw [← hf (A + s.val) l.val (by omega) l.isLt, View.readAt_eq_ld]
  refine congrArg (m.view.read (Elt Ideal) X) (funext fun a => Fin.ext ?_)
  match a with
  | ⟨0, _⟩ => show A + 1 * s.val = A + s.val; omega
  | ⟨1, _⟩ => show 0 + 1 * l.val = l.val; omega

/-- A box of sixteen rows and 128 columns of a scratch block. -/
theorem ld_scratch (m : Memref sig .tc .vmem S128x4096 .f32) (X : m.view.ty.Contents (Elt Ideal)) (f : ℕ → ℕ → EReal)
    {off : Fin 2 → ℕ} {A B : ℕ} (ho : off = ![A, B])
    (hf : ∀ (a b : ℕ) (ha : a < 128) (hb : b < 4096) (hB : B ≤ b), m.view.read (Elt Ideal) X (ix2 ⟨a, ha⟩ ⟨b, hb⟩) = f a b)
    (inb : ∀ a, off a + S16x128.size a ≤ S128x4096.size a)
    (s : Fin 16) (l : Fin 128) :
    View.readAt (Elt Ideal) m.view (Rect.unit (s := S128x4096) off S16x128.size inb).toLoadRect X (ix2 s l) = f (A + s.val) (B + l.val) := by
  subst ho
  have h1 : A + 16 ≤ 128 := inb 0
  have h2 : B + 128 ≤ 4096 := inb 1
  rw [← hf (A + s.val) (B + l.val) (by omega) (by omega) (by omega), View.readAt_eq_ld]
  refine congrArg (m.view.read (Elt Ideal) X) (funext fun a => Fin.ext ?_)
  match a with
  | ⟨0, _⟩ => show A + 1 * s.val = A + s.val; omega
  | ⟨1, _⟩ => show B + 1 * l.val = B + l.val; omega

/-- The top eight rows of sixteen. -/
theorem top_rows {α : Type} (x : S16x128.Idx → α) (h : S16x128.Slices ![0, 0] S8x128) (s : Fin 8) (l : Fin 128) :
    extractStridedSlice S8x128 ![0, 0] x h (ix2 s l) = x (ix2 (⟨s.val, by omega⟩ : Fin 16) l) :=
  extractStridedSlice_apply _ x h _ _ fun a => match a with
    | ⟨0, _⟩ => by show s.val = 0 + s.val; omega
    | ⟨1, _⟩ => by show l.val = 0 + l.val; omega

/-- The bottom eight rows of sixteen. -/
theorem bottom_rows {α : Type} (x : S16x128.Idx → α) (h : S16x128.Slices ![8, 0] S8x128) (s : Fin 8) (l : Fin 128) :
    extractStridedSlice S8x128 ![8, 0] x h (ix2 s l) = x (ix2 (⟨8 + s.val, by omega⟩ : Fin 16) l) :=
  extractStridedSlice_apply _ x h _ _ fun a => match a with
    | ⟨0, _⟩ => rfl
    | ⟨1, _⟩ => by show l.val = 0 + l.val; omega

/-! ## A piece's place -/

/-- An entry of a unit-stride box sits at the box's corner plus its own coordinates. -/
theorem emb_val {s : Shape} {off size : Fin s.rank → ℕ} (inb : ∀ a, off a + size a ≤ s.size a)
    (j : (Rect.unit off size inb).shape.Idx) (a : Fin s.rank) :
    ((Rect.unit off size inb).emb j a).val = off a + (j a).val := by
  rw [Rect.emb_apply]; show off a + 1 * (j a : Nat) = _; omega

end Cert.KernelIdeal.Gen

end
-- ==== Proof.KernelIdeal.PointDefs.lean ====
/- What a point of the kernel leaves in its result windows, over the extended reals, from the blocks it is handed. -/
module

public import proofs.«01_k».proof.Proof.KernelIdeal.Spec

@[expose] public section

noncomputable section

namespace Cert.KernelIdeal.Gen

open Idealize.ShloMosaic Idealize.ShloMosaic.TcCoe Idealize.ShloMosaic.Pipeline Idealize.ShloMosaic.ValueIdx

/-- A block's entry at natural indices. -/
def at3 (x : Vec Ideal S1x128x4096 .bf16) (a b : ℕ) : EReal :=
  if h : a < 128 ∧ b < 4096 then x (ix3 (0 : Fin 1) ⟨a, h.1⟩ ⟨b, h.2⟩) else 0
/-- Gamma's entry at a natural index. -/
def at2 (x : Vec Ideal S1x4096 .f32) (b : ℕ) : EReal := if h : b < 4096 then x (ix2 (0 : Fin 1) ⟨b, h⟩) else 0
/-- The reciprocal standard deviation of a row of the point's block. -/
def rsAt (i : grid0.Coords) (x : Vec Ideal S4x256 .f32) (a : ℕ) : EReal :=
  if h : (i 0).val < 4 ∧ 128 * (i 1).val + a < 256 then x (ix2 ⟨(i 0).val, h.1⟩ ⟨128 * (i 1).val + a, h.2⟩) else 0
/-- The row's mean of the products, in the kernel's order. -/
def meanAt (x q k v : ℕ → ℕ → EReal) (r g : ℕ → EReal) (a : ℕ) : EReal :=
  (∑ l : Fin 128, frow x q k v r g a l.val 16) * Ideal.ofBits .f32 0x39800000#32
/-- The block's contribution to the gradient of gamma, in the kernel's order. -/
def partAt (x q k v : ℕ → ℕ → EReal) (r : ℕ → EReal) (b : ℕ) : EReal := ∑ s : Fin 8, fgs x q k v r s.val b

/-- The result's block. -/
def dxOf (i : grid0.Coords) (x0 : Vec Ideal S1x128x4096 .bf16) (x1 : Vec Ideal S4x256 .f32) (x2 : Vec Ideal S1x4096 .f32)
    (x3 x4 x5 x6 : Vec Ideal S1x128x4096 .bf16) (a b : ℕ) : EReal :=
  fout (at3 x0) (at3 x4) (at3 x5) (at3 x6) (at3 x3) (rsAt i x1) (at2 x2)
    (meanAt (at3 x0) (at3 x4) (at3 x5) (at3 x6) (rsAt i x1) (at2 x2)) a b
/-- The block's row of contributions to gamma. -/
def partOf (i : grid0.Coords) (x0 : Vec Ideal S1x128x4096 .bf16) (x1 : Vec Ideal S4x256 .f32)
    (x4 x5 x6 : Vec Ideal S1x128x4096 .bf16) (b : ℕ) : EReal :=
  partAt (at3 x0) (at3 x4) (at3 x5) (at3 x6) (rsAt i x1) b

/-- The result's window after the point. -/
def Post9 (i : grid0.Coords) (x0 : Vec Ideal S1x128x4096 .bf16) (x1 : Vec Ideal S4x256 .f32) (x2 : Vec Ideal S1x4096 .f32)
    (x3 x4 x5 x6 : Vec Ideal S1x128x4096 .bf16) (d : Vec Ideal S1x128x4096 .bf16) : Prop :=
  ∀ (a : Fin 128) (b : Fin 4096), d (ix3 (0 : Fin 1) a b) = dxOf i x0 x1 x2 x3 x4 x5 x6 a.val b.val
/-- The gradient of gamma after the point: the row `base` with the block's row added. -/
def Post10 (i : grid0.Coords) (base : Fin 4096 → EReal) (x0 : Vec Ideal S1x128x4096 .bf16) (x1 : Vec Ideal S4x256 .f32)
    (x4 x5 x6 : Vec Ideal S1x128x4096 .bf16) (d : Vec Ideal S1x4096 .f32) : Prop :=
  ∀ b : Fin 4096, d (ix2 (0 : Fin 1) b) = base b + partOf i x0 x1 x4 x5 x6 b.val
/-- The window of the two rows after the point: the block's own row is new, the other stays. -/
def Post11 (i : grid0.Coords) (x9 : Vec Ideal S1x2x4096 .f32) (x0 : Vec Ideal S1x128x4096 .bf16) (x1 : Vec Ideal S4x256 .f32)
    (x4 x5 x6 : Vec Ideal S1x128x4096 .bf16) (d : Vec Ideal S1x2x4096 .f32) : Prop :=
  ∀ (j : Fin 2) (b : Fin 4096), d (ix3 (0 : Fin 1) j b) = if j.val = (i 1).val then partOf i x0 x1 x4 x5 x6 b.val else x9 (ix3 (0 : Fin 1) j b)

end Cert.KernelIdeal.Gen

end
-- ==== Proof.KernelIdeal.TripBase.lean ====
/- One trip of the first loop over the extended reals: the boxes of its pieces. -/
module

public import proofs.«01_k».proof.Proof.KernelIdeal.Base
public import proofs.«01_k».proof.Proof.KernelIdeal.Spec
public import Idealize.ShloMosaic.Lib.Writes
public import Idealize.ShloMosaic.Lib.ValueIdx
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.ShloMosaic.Pipeline Idealize.ShloMosaic.ValueIdx

/-- The sixteen carried sums. -/
abbrev Acc : Type := FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32 × FVec Ideal S8x128 .f32

theorem o2_0 (k : Fin k0_t1_loop.trips) : k0_off2 k 0#32 = ![0, 256 * k.val + 0] := k0_off2_eq k 0
theorem o2_1 (k : Fin k0_t1_loop.trips) : k0_off2 k 128#32 = ![0, 256 * k.val + 128] := k0_off2_eq k 1
theorem o3_0 (k : Fin k0_t1_loop.trips) : k0_off3 k 0#32 = ![0, 0, 256 * k.val + 0] := k0_off3_eq k 0
theorem o3_1 (k : Fin k0_t1_loop.trips) : k0_off3 k 128#32 = ![0, 0, 256 * k.val + 128] := k0_off3_eq k 1
theorem o4_0 (k : Fin k0_t1_loop.trips) : k0_off4 k 0#32 = ![0, 256 * k.val + 0] := k0_off4_eq k 0
theorem o4_1 (k : Fin k0_t1_loop.trips) : k0_off4 k 128#32 = ![0, 256 * k.val + 128] := k0_off4_eq k 1
theorem o5_0 (k : Fin k0_t1_loop.trips) : k0_off5 k 0#32 = ![0, 16, 256 * k.val + 0] := k0_off5_eq k 0
theorem o5_1 (k : Fin k0_t1_loop.trips) : k0_off5 k 128#32 = ![0, 16, 256 * k.val + 128] := k0_off5_eq k 1
theorem o6_0 (k : Fin k0_t1_loop.trips) : k0_off6 k 0#32 = ![16, 256 * k.val + 0] := k0_off6_eq k 0
theorem o6_1 (k : Fin k0_t1_loop.trips) : k0_off6 k 128#32 = ![16, 256 * k.val + 128] := k0_off6_eq k 1
theorem o7_0 (k : Fin k0_t1_loop.trips) : k0_off7 k 0#32 = ![0, 32, 256 * k.val + 0] := k0_off7_eq k 0
theorem o7_1 (k : Fin k0_t1_loop.trips) : k0_off7 k 128#32 = ![0, 32, 256 * k.val + 128] := k0_off7_eq k 1
theorem o8_0 (k : Fin k0_t1_loop.trips) : k0_off8 k 0#32 = ![32, 256 * k.val + 0] := k0_off8_eq k 0
theorem o8_1 (k : Fin k0_t1_loop.trips) : k0_off8 k 128#32 = ![32, 256 * k.val + 128] := k0_off8_eq k 1
theorem o9_0 (k : Fin k0_t1_loop.trips) : k0_off9 k 0#32 = ![0, 48, 256 * k.val + 0] := k0_off9_eq k 0
theorem o9_1 (k : Fin k0_t1_loop.trips) : k0_off9 k 128#32 = ![0, 48, 256 * k.val + 128] := k0_off9_eq k 1
theorem o10_0 (k : Fin k0_t1_loop.trips) : k0_off10 k 0#32 = ![48, 256 * k.val + 0] := k0_off10_eq k 0
theorem o10_1 (k : Fin k0_t1_loop.trips) : k0_off10 k 128#32 = ![48, 256 * k.val + 128] := k0_off10_eq k 1
theorem o11_0 (k : Fin k0_t1_loop.trips) : k0_off11 k 0#32 = ![0, 64, 256 * k.val + 0] := k0_off11_eq k 0
theorem o11_1 (k : Fin k0_t1_loop.trips) : k0_off11 k 128#32 = ![0, 64, 256 * k.val + 128] := k0_off11_eq k 1
theorem o12_0 (k : Fin k0_t1_loop.trips) : k0_off12 k 0#32 = ![64, 256 * k.val + 0] := k0_off12_eq k 0
theorem o12_1 (k : Fin k0_t1_loop.trips) : k0_off12 k 128#32 = ![64, 256 * k.val + 128] := k0_off12_eq k 1
theorem o13_0 (k : Fin k0_t1_loop.trips) : k0_off13 k 0#32 = ![0, 80, 256 * k.val + 0] := k0_off13_eq k 0
theorem o13_1 (k : Fin k0_t1_loop.trips) : k0_off13 k 128#32 = ![0, 80, 256 * k.val + 128] := k0_off13_eq k 1
theorem o14_0 (k : Fin k0_t1_loop.trips) : k0_off14 k 0#32 = ![80, 256 * k.val + 0] := k0_off14_eq k 0
theorem o14_1 (k : Fin k0_t1_loop.trips) : k0_off14 k 128#32 = ![80, 256 * k.val + 128] := k0_off14_eq k 1
theorem o15_0 (k : Fin k0_t1_loop.trips) : k0_off15 k 0#32 = ![0, 96, 256 * k.val + 0] := k0_off15_eq k 0
theorem o15_1 (k : Fin k0_t1_loop.trips) : k0_off15 k 128#32 = ![0, 96, 256 * k.val + 128] := k0_off15_eq k 1
theorem o16_0 (k : Fin k0_t1_loop.trips) : k0_off16 k 0#32 = ![96, 256 * k.val + 0] := k0_off16_eq k 0
theorem o16_1 (k : Fin k0_t1_loop.trips) : k0_off16 k 128#32 = ![96, 256 * k.val + 128] := k0_off16_eq k 1
theorem o17_0 (k : Fin k0_t1_loop.trips) : k0_off17 k 0#32 = ![0, 112, 256 * k.val + 0] := k0_off17_eq k 0
theorem o17_1 (k : Fin k0_t1_loop.trips) : k0_off17 k 128#32 = ![0, 112, 256 * k.val + 128] := k0_off17_eq k 1
theorem o18_0 (k : Fin k0_t1_loop.trips) : k0_off18 k 0#32 = ![112, 256 * k.val + 0] := k0_off18_eq k 0
theorem o18_1 (k : Fin k0_t1_loop.trips) : k0_off18 k 128#32 = ![112, 256 * k.val + 128] := k0_off18_eq k 1
theorem o19_0 (k : Fin k0_t1_loop.trips) : k0_off19 k 0#32 = ![0, 256 * k.val + 0] := k0_off19_eq k 0
theorem o19_1 (k : Fin k0_t1_loop.trips) : k0_off19 k 128#32 = ![0, 256 * k.val + 128] := k0_off19_eq k 1

section Trip
variable (𝒱 : Variants) (c : Dev nD) (bd : Option 𝒱.V) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (arg1 : BitVec 32) (v18 : FVec Ideal S8x128 .f32) (v19 : FVec Ideal S8x128 .f32) (v20 : FVec Ideal S8x128 .f32) (v21 : FVec Ideal S8x128 .f32) (v22 : FVec Ideal S8x128 .f32) (v23 : FVec Ideal S8x128 .f32) (v24 : FVec Ideal S8x128 .f32) (v25 : FVec Ideal S8x128 .f32) (v26 : FVec Ideal S8x128 .f32) (v27 : FVec Ideal S8x128 .f32) (v28 : FVec Ideal S8x128 .f32) (v29 : FVec Ideal S8x128 .f32) (v30 : FVec Ideal S8x128 .f32) (v31 : FVec Ideal S8x128 .f32) (v32 : FVec Ideal S8x128 .f32) (cst_18 : Ideal .f32) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (X_arg8 : BufTy.Contents (Elt Ideal) arg8.view.ty) (X_arg16 : BufTy.Contents (Elt Ideal) arg16.view.ty) (k : Fin k0_t1_loop.trips)
variable (acc : Acc)

/-- The boxes of a trip's pieces cover its 256 columns. -/
theorem cover_one (y : S128x4096.Idx) (h0 : 256 * k.val ≤ (y 1).val) (h1 : (y 1).val < 256 * k.val + 256) :
    (∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).1, y ∈ p.1.set) ∧ (∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.1, y ∈ p.1.set) := by
  have e0 : (y 0).val < 128 := (y 0).isLt
  unfold tripL_k0_t1 trip_k0_t1
  dsimp only
  simp only [List.mem_cons, List.not_mem_nil, or_false, exists_eq_or_imp, exists_eq_left, Rect.mem_set_unit, o4_0 k, o4_1 k, o6_0 k, o6_1 k, o8_0 k, o8_1 k, o10_0 k, o10_1 k, o12_0 k, o12_1 k, o14_0 k, o14_1 k, o16_0 k, o16_1 k, o18_0 k, o18_1 k, o19_0 k, o19_1 k, Fin.forall_fin_two, Matrix.cons_val_zero, Matrix.cons_val_one]
  have hm : (y 1).val < 256 * k.val + 128 ∨ 256 * k.val + 128 ≤ (y 1).val := by omega
  have hn : (0 ≤ (y 0).val ∧ (y 0).val < 16) ∨ (16 ≤ (y 0).val ∧ (y 0).val < 32) ∨ (32 ≤ (y 0).val ∧ (y 0).val < 48) ∨ (48 ≤ (y 0).val ∧ (y 0).val < 64) ∨ (64 ≤ (y 0).val ∧ (y 0).val < 80) ∨ (80 ≤ (y 0).val ∧ (y 0).val < 96) ∨ (96 ≤ (y 0).val ∧ (y 0).val < 112) ∨ (112 ≤ (y 0).val ∧ (y 0).val < 128) := by omega
  constructor <;> rcases hm with hm | hm <;> rcases hn with hn | hn | hn | hn | hn | hn | hn | hn <;>
    (repeat (first | (refine Or.inl ?_; omega) | refine Or.inr ?_)) <;> omega

/-- The boxes of a trip's pieces of the sums for gamma cover its 256 columns. -/
theorem cover_one26 (y : S8x4096.Idx) (h0 : 256 * k.val ≤ (y 1).val) (h1 : (y 1).val < 256 * k.val + 256) :
    (∃ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2, y ∈ p.1.set) := by
  have e0 : (y 0).val < 8 := (y 0).isLt
  unfold tripL_k0_t1 trip_k0_t1
  dsimp only
  simp only [List.mem_cons, List.not_mem_nil, or_false, exists_eq_or_imp, exists_eq_left, Rect.mem_set_unit, o4_0 k, o4_1 k, o6_0 k, o6_1 k, o8_0 k, o8_1 k, o10_0 k, o10_1 k, o12_0 k, o12_1 k, o14_0 k, o14_1 k, o16_0 k, o16_1 k, o18_0 k, o18_1 k, o19_0 k, o19_1 k, Fin.forall_fin_two, Matrix.cons_val_zero, Matrix.cons_val_one]
  have hm : (y 1).val < 256 * k.val + 128 ∨ 256 * k.val + 128 ≤ (y 1).val := by omega
  rcases hm with hm | hm <;> (repeat (first | (refine Or.inl ?_; omega) | refine Or.inr ?_)) <;> omega

end Trip

end Cert.KernelIdeal.Gen

end
-- ==== Proof.KernelIdeal.TripX.lean ====
/- One trip of the first loop over the extended reals: what it writes in the first scratch block. -/
module

public import proofs.«01_k».proof.Proof.KernelIdeal.Base
public import proofs.«01_k».proof.Proof.KernelIdeal.TripBase
public import Idealize.ShloMosaic.Lib.Writes
public import Idealize.ShloMosaic.Lib.ValueIdx
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.ShloMosaic.Pipeline Idealize.ShloMosaic.ValueIdx

section Trip
variable (𝒱 : Variants) (c : Dev nD) (bd : Option 𝒱.V) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (arg1 : BitVec 32) (v18 : FVec Ideal S8x128 .f32) (v19 : FVec Ideal S8x128 .f32) (v20 : FVec Ideal S8x128 .f32) (v21 : FVec Ideal S8x128 .f32) (v22 : FVec Ideal S8x128 .f32) (v23 : FVec Ideal S8x128 .f32) (v24 : FVec Ideal S8x128 .f32) (v25 : FVec Ideal S8x128 .f32) (v26 : FVec Ideal S8x128 .f32) (v27 : FVec Ideal S8x128 .f32) (v28 : FVec Ideal S8x128 .f32) (v29 : FVec Ideal S8x128 .f32) (v30 : FVec Ideal S8x128 .f32) (v31 : FVec Ideal S8x128 .f32) (v32 : FVec Ideal S8x128 .f32) (cst_18 : Ideal .f32) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (X_arg8 : BufTy.Contents (Elt Ideal) arg8.view.ty) (X_arg16 : BufTy.Contents (Elt Ideal) arg16.view.ty) (k : Fin k0_t1_loop.trips)
variable (acc : Acc)
variable (x q k' v : ℕ → ℕ → EReal) (r g : ℕ → EReal)
    (hx : ∀ (a b : ℕ) (ha : a < 128) (hb : b < 4096), arg2.view.read (Elt Ideal) X_arg2 (ix3 (0 : Fin 1) ⟨a, ha⟩ ⟨b, hb⟩) = x a b)
    (hg : ∀ (b : ℕ) (hb : b < 4096), arg4.view.read (Elt Ideal) X_arg4 (ix2 (0 : Fin 1) ⟨b, hb⟩) = g b)
    (hq : ∀ (a b : ℕ) (ha : a < 128) (hb : b < 4096), arg6.view.read (Elt Ideal) X_arg6 (ix3 (0 : Fin 1) ⟨a, ha⟩ ⟨b, hb⟩) = q a b)
    (hk : ∀ (a b : ℕ) (ha : a < 128) (hb : b < 4096), arg7.view.read (Elt Ideal) X_arg7 (ix3 (0 : Fin 1) ⟨a, ha⟩ ⟨b, hb⟩) = k' a b)
    (hv : ∀ (a b : ℕ) (ha : a < 128) (hb : b < 4096), arg8.view.read (Elt Ideal) X_arg8 (ix3 (0 : Fin 1) ⟨a, ha⟩ ⟨b, hb⟩) = v a b)
    (hr : ∀ (a b : ℕ) (ha : a < 128) (hb : b < 128), arg16.view.read (Elt Ideal) X_arg16 (ix2 ⟨a, ha⟩ ⟨b, hb⟩) = r a)
include hx hg hq hk hv hr

set_option maxHeartbeats 4000000 in
/-- What the trip writes in the first scratch block. -/
theorem pieces_one : (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).1, ∀ y, p.2 y = fdx q k' v g (p.1.emb y 0).val (p.1.emb y 1).val) := by
  intro p hp
  unfold tripL_k0_t1 trip_k0_t1 at hp
  dsimp only at hp
  simp only [List.mem_cons, List.not_mem_nil, or_false] at hp
  rcases hp with rfl | rfl | rfl | rfl | rfl | rfl | rfl | rfl | rfl | rfl | rfl | rfl | rfl | rfl | rfl | rfl
  all_goals
    intro y
    obtain ⟨s, l, rfl⟩ : ∃ (s : Fin 16) (l : Fin 128), y = ix2 s l := ⟨y 0, y 1, eq_ix2 y⟩
    simp only [emb_val, o4_0 k, o4_1 k, o6_0 k, o6_1 k, o8_0 k, o8_1 k, o10_0 k, o10_1 k, o12_0 k, o12_1 k, o14_0 k, o14_1 k, o16_0 k, o16_1 k, o18_0 k, o18_1 k, o19_0 k, o19_1 k]
    simp only [trip_k0_t1.sl.r, trip_k0_t1.sl.r_1, trip_k0_t1.sl.r_10, trip_k0_t1.sl.r_100, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_3, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_4, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_5, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_6, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_7, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_8, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_9, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay413, k0_pay414, k0_pay415, k0_pay416, shapeCast_self, shapeCast_1ab_ab_apply, shapeCast_ab_1ab_apply, broadcastTo_1b_ab_apply, top_rows, bottom_rows, mulf_apply, addf_apply, subf_apply, extf_apply, truncf_apply, broadcast_apply, ld_block arg2 X_arg2 x hx (o3_0 k), ld_block arg2 X_arg2 x hx (o3_1 k), ld_block arg2 X_arg2 x hx (o5_0 k), ld_block arg2 X_arg2 x hx (o5_1 k), ld_block arg2 X_arg2 x hx (o7_0 k), ld_block arg2 X_arg2 x hx (o7_1 k), ld_block arg2 X_arg2 x hx (o9_0 k), ld_block arg2 X_arg2 x hx (o9_1 k), ld_block arg2 X_arg2 x hx (o11_0 k), ld_block arg2 X_arg2 x hx (o11_1 k), ld_block arg2 X_arg2 x hx (o13_0 k), ld_block arg2 X_arg2 x hx (o13_1 k), ld_block arg2 X_arg2 x hx (o15_0 k), ld_block arg2 X_arg2 x hx (o15_1 k), ld_block arg2 X_arg2 x hx (o17_0 k), ld_block arg2 X_arg2 x hx (o17_1 k), ld_block arg6 X_arg6 q hq (o3_0 k), ld_block arg6 X_arg6 q hq (o3_1 k), ld_block arg6 X_arg6 q hq (o5_0 k), ld_block arg6 X_arg6 q hq (o5_1 k), ld_block arg6 X_arg6 q hq (o7_0 k), ld_block arg6 X_arg6 q hq (o7_1 k), ld_block arg6 X_arg6 q hq (o9_0 k), ld_block arg6 X_arg6 q hq (o9_1 k), ld_block arg6 X_arg6 q hq (o11_0 k), ld_block arg6 X_arg6 q hq (o11_1 k), ld_block arg6 X_arg6 q hq (o13_0 k), ld_block arg6 X_arg6 q hq (o13_1 k), ld_block arg6 X_arg6 q hq (o15_0 k), ld_block arg6 X_arg6 q hq (o15_1 k), ld_block arg6 X_arg6 q hq (o17_0 k), ld_block arg6 X_arg6 q hq (o17_1 k), ld_block arg7 X_arg7 k' hk (o3_0 k), ld_block arg7 X_arg7 k' hk (o3_1 k), ld_block arg7 X_arg7 k' hk (o5_0 k), ld_block arg7 X_arg7 k' hk (o5_1 k), ld_block arg7 X_arg7 k' hk (o7_0 k), ld_block arg7 X_arg7 k' hk (o7_1 k), ld_block arg7 X_arg7 k' hk (o9_0 k), ld_block arg7 X_arg7 k' hk (o9_1 k), ld_block arg7 X_arg7 k' hk (o11_0 k), ld_block arg7 X_arg7 k' hk (o11_1 k), ld_block arg7 X_arg7 k' hk (o13_0 k), ld_block arg7 X_arg7 k' hk (o13_1 k), ld_block arg7 X_arg7 k' hk (o15_0 k), ld_block arg7 X_arg7 k' hk (o15_1 k), ld_block arg7 X_arg7 k' hk (o17_0 k), ld_block arg7 X_arg7 k' hk (o17_1 k), ld_block arg8 X_arg8 v hv (o3_0 k), ld_block arg8 X_arg8 v hv (o3_1 k), ld_block arg8 X_arg8 v hv (o5_0 k), ld_block arg8 X_arg8 v hv (o5_1 k), ld_block arg8 X_arg8 v hv (o7_0 k), ld_block arg8 X_arg8 v hv (o7_1 k), ld_block arg8 X_arg8 v hv (o9_0 k), ld_block arg8 X_arg8 v hv (o9_1 k), ld_block arg8 X_arg8 v hv (o11_0 k), ld_block arg8 X_arg8 v hv (o11_1 k), ld_block arg8 X_arg8 v hv (o13_0 k), ld_block arg8 X_arg8 v hv (o13_1 k), ld_block arg8 X_arg8 v hv (o15_0 k), ld_block arg8 X_arg8 v hv (o15_1 k), ld_block arg8 X_arg8 v hv (o17_0 k), ld_block arg8 X_arg8 v hv (o17_1 k), ld_gamma arg4 X_arg4 g hg (o2_0 k), ld_gamma arg4 X_arg4 g hg (o2_1 k), ld_rows arg16 X_arg16 r hr, fdx, fdn, fxh, Matrix.cons_val_zero, Matrix.cons_val_one, Nat.zero_add, Nat.add_zero, ← Nat.add_assoc, Nat.reduceAdd]

end Trip

end Cert.KernelIdeal.Gen

end
-- ==== Proof.KernelIdeal.TripY.lean ====
/- One trip of the first loop over the extended reals: what it writes in the second scratch block. -/
module

public import proofs.«01_k».proof.Proof.KernelIdeal.Base
public import proofs.«01_k».proof.Proof.KernelIdeal.TripBase
public import Idealize.ShloMosaic.Lib.Writes
public import Idealize.ShloMosaic.Lib.ValueIdx
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.ShloMosaic.Pipeline Idealize.ShloMosaic.ValueIdx

section Trip
variable (𝒱 : Variants) (c : Dev nD) (bd : Option 𝒱.V) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (arg1 : BitVec 32) (v18 : FVec Ideal S8x128 .f32) (v19 : FVec Ideal S8x128 .f32) (v20 : FVec Ideal S8x128 .f32) (v21 : FVec Ideal S8x128 .f32) (v22 : FVec Ideal S8x128 .f32) (v23 : FVec Ideal S8x128 .f32) (v24 : FVec Ideal S8x128 .f32) (v25 : FVec Ideal S8x128 .f32) (v26 : FVec Ideal S8x128 .f32) (v27 : FVec Ideal S8x128 .f32) (v28 : FVec Ideal S8x128 .f32) (v29 : FVec Ideal S8x128 .f32) (v30 : FVec Ideal S8x128 .f32) (v31 : FVec Ideal S8x128 .f32) (v32 : FVec Ideal S8x128 .f32) (cst_18 : Ideal .f32) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (X_arg8 : BufTy.Contents (Elt Ideal) arg8.view.ty) (X_arg16 : BufTy.Contents (Elt Ideal) arg16.view.ty) (k : Fin k0_t1_loop.trips)
variable (acc : Acc)
variable (x q k' v : ℕ → ℕ → EReal) (r g : ℕ → EReal)
    (hx : ∀ (a b : ℕ) (ha : a < 128) (hb : b < 4096), arg2.view.read (Elt Ideal) X_arg2 (ix3 (0 : Fin 1) ⟨a, ha⟩ ⟨b, hb⟩) = x a b)
    (hg : ∀ (b : ℕ) (hb : b < 4096), arg4.view.read (Elt Ideal) X_arg4 (ix2 (0 : Fin 1) ⟨b, hb⟩) = g b)
    (hq : ∀ (a b : ℕ) (ha : a < 128) (hb : b < 4096), arg6.view.read (Elt Ideal) X_arg6 (ix3 (0 : Fin 1) ⟨a, ha⟩ ⟨b, hb⟩) = q a b)
    (hk : ∀ (a b : ℕ) (ha : a < 128) (hb : b < 4096), arg7.view.read (Elt Ideal) X_arg7 (ix3 (0 : Fin 1) ⟨a, ha⟩ ⟨b, hb⟩) = k' a b)
    (hv : ∀ (a b : ℕ) (ha : a < 128) (hb : b < 4096), arg8.view.read (Elt Ideal) X_arg8 (ix3 (0 : Fin 1) ⟨a, ha⟩ ⟨b, hb⟩) = v a b)
    (hr : ∀ (a b : ℕ) (ha : a < 128) (hb : b < 128), arg16.view.read (Elt Ideal) X_arg16 (ix2 ⟨a, ha⟩ ⟨b, hb⟩) = r a)
include hx hg hq hk hv hr

set_option maxHeartbeats 4000000 in
/-- What the trip writes in the second scratch block. -/
theorem pieces_one19 : (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.1, ∀ y, p.2 y = fxh x r (p.1.emb y 0).val (p.1.emb y 1).val) := by
  intro p hp
  unfold tripL_k0_t1 trip_k0_t1 at hp
  dsimp only at hp
  simp only [List.mem_cons, List.not_mem_nil, or_false] at hp
  rcases hp with rfl | rfl | rfl | rfl | rfl | rfl | rfl | rfl | rfl | rfl | rfl | rfl | rfl | rfl | rfl | rfl
  all_goals
    intro y
    obtain ⟨s, l, rfl⟩ : ∃ (s : Fin 16) (l : Fin 128), y = ix2 s l := ⟨y 0, y 1, eq_ix2 y⟩
    simp only [emb_val, o4_0 k, o4_1 k, o6_0 k, o6_1 k, o8_0 k, o8_1 k, o10_0 k, o10_1 k, o12_0 k, o12_1 k, o14_0 k, o14_1 k, o16_0 k, o16_1 k, o18_0 k, o18_1 k, o19_0 k, o19_1 k]
    simp only [trip_k0_t1.sl.r, trip_k0_t1.sl.r_1, trip_k0_t1.sl.r_10, trip_k0_t1.sl.r_100, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_3, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_4, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_5, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_6, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_7, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_8, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_9, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay413, k0_pay414, k0_pay415, k0_pay416, shapeCast_self, shapeCast_1ab_ab_apply, shapeCast_ab_1ab_apply, broadcastTo_1b_ab_apply, top_rows, bottom_rows, mulf_apply, addf_apply, subf_apply, extf_apply, truncf_apply, broadcast_apply, ld_block arg2 X_arg2 x hx (o3_0 k), ld_block arg2 X_arg2 x hx (o3_1 k), ld_block arg2 X_arg2 x hx (o5_0 k), ld_block arg2 X_arg2 x hx (o5_1 k), ld_block arg2 X_arg2 x hx (o7_0 k), ld_block arg2 X_arg2 x hx (o7_1 k), ld_block arg2 X_arg2 x hx (o9_0 k), ld_block arg2 X_arg2 x hx (o9_1 k), ld_block arg2 X_arg2 x hx (o11_0 k), ld_block arg2 X_arg2 x hx (o11_1 k), ld_block arg2 X_arg2 x hx (o13_0 k), ld_block arg2 X_arg2 x hx (o13_1 k), ld_block arg2 X_arg2 x hx (o15_0 k), ld_block arg2 X_arg2 x hx (o15_1 k), ld_block arg2 X_arg2 x hx (o17_0 k), ld_block arg2 X_arg2 x hx (o17_1 k), ld_block arg6 X_arg6 q hq (o3_0 k), ld_block arg6 X_arg6 q hq (o3_1 k), ld_block arg6 X_arg6 q hq (o5_0 k), ld_block arg6 X_arg6 q hq (o5_1 k), ld_block arg6 X_arg6 q hq (o7_0 k), ld_block arg6 X_arg6 q hq (o7_1 k), ld_block arg6 X_arg6 q hq (o9_0 k), ld_block arg6 X_arg6 q hq (o9_1 k), ld_block arg6 X_arg6 q hq (o11_0 k), ld_block arg6 X_arg6 q hq (o11_1 k), ld_block arg6 X_arg6 q hq (o13_0 k), ld_block arg6 X_arg6 q hq (o13_1 k), ld_block arg6 X_arg6 q hq (o15_0 k), ld_block arg6 X_arg6 q hq (o15_1 k), ld_block arg6 X_arg6 q hq (o17_0 k), ld_block arg6 X_arg6 q hq (o17_1 k), ld_block arg7 X_arg7 k' hk (o3_0 k), ld_block arg7 X_arg7 k' hk (o3_1 k), ld_block arg7 X_arg7 k' hk (o5_0 k), ld_block arg7 X_arg7 k' hk (o5_1 k), ld_block arg7 X_arg7 k' hk (o7_0 k), ld_block arg7 X_arg7 k' hk (o7_1 k), ld_block arg7 X_arg7 k' hk (o9_0 k), ld_block arg7 X_arg7 k' hk (o9_1 k), ld_block arg7 X_arg7 k' hk (o11_0 k), ld_block arg7 X_arg7 k' hk (o11_1 k), ld_block arg7 X_arg7 k' hk (o13_0 k), ld_block arg7 X_arg7 k' hk (o13_1 k), ld_block arg7 X_arg7 k' hk (o15_0 k), ld_block arg7 X_arg7 k' hk (o15_1 k), ld_block arg7 X_arg7 k' hk (o17_0 k), ld_block arg7 X_arg7 k' hk (o17_1 k), ld_block arg8 X_arg8 v hv (o3_0 k), ld_block arg8 X_arg8 v hv (o3_1 k), ld_block arg8 X_arg8 v hv (o5_0 k), ld_block arg8 X_arg8 v hv (o5_1 k), ld_block arg8 X_arg8 v hv (o7_0 k), ld_block arg8 X_arg8 v hv (o7_1 k), ld_block arg8 X_arg8 v hv (o9_0 k), ld_block arg8 X_arg8 v hv (o9_1 k), ld_block arg8 X_arg8 v hv (o11_0 k), ld_block arg8 X_arg8 v hv (o11_1 k), ld_block arg8 X_arg8 v hv (o13_0 k), ld_block arg8 X_arg8 v hv (o13_1 k), ld_block arg8 X_arg8 v hv (o15_0 k), ld_block arg8 X_arg8 v hv (o15_1 k), ld_block arg8 X_arg8 v hv (o17_0 k), ld_block arg8 X_arg8 v hv (o17_1 k), ld_gamma arg4 X_arg4 g hg (o2_0 k), ld_gamma arg4 X_arg4 g hg (o2_1 k), ld_rows arg16 X_arg16 r hr, fdx, fdn, fxh, Matrix.cons_val_zero, Matrix.cons_val_one, Nat.zero_add, Nat.add_zero, ← Nat.add_assoc, Nat.reduceAdd]

end Trip

end Cert.KernelIdeal.Gen

end
-- ==== Proof.KernelIdeal.TripG.lean ====
/- One trip of the first loop over the extended reals: the sums it writes for gamma. -/
module

public import proofs.«01_k».proof.Proof.KernelIdeal.Base
public import proofs.«01_k».proof.Proof.KernelIdeal.TripBase
public import Idealize.ShloMosaic.Lib.Writes
public import Idealize.ShloMosaic.Lib.ValueIdx
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.ShloMosaic.Pipeline Idealize.ShloMosaic.ValueIdx

section Trip
variable (𝒱 : Variants) (c : Dev nD) (bd : Option 𝒱.V) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (arg1 : BitVec 32) (v18 : FVec Ideal S8x128 .f32) (v19 : FVec Ideal S8x128 .f32) (v20 : FVec Ideal S8x128 .f32) (v21 : FVec Ideal S8x128 .f32) (v22 : FVec Ideal S8x128 .f32) (v23 : FVec Ideal S8x128 .f32) (v24 : FVec Ideal S8x128 .f32) (v25 : FVec Ideal S8x128 .f32) (v26 : FVec Ideal S8x128 .f32) (v27 : FVec Ideal S8x128 .f32) (v28 : FVec Ideal S8x128 .f32) (v29 : FVec Ideal S8x128 .f32) (v30 : FVec Ideal S8x128 .f32) (v31 : FVec Ideal S8x128 .f32) (v32 : FVec Ideal S8x128 .f32) (cst_18 : Ideal .f32) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (X_arg8 : BufTy.Contents (Elt Ideal) arg8.view.ty) (X_arg16 : BufTy.Contents (Elt Ideal) arg16.view.ty) (k : Fin k0_t1_loop.trips)
variable (acc : Acc)
variable (x q k' v : ℕ → ℕ → EReal) (r g : ℕ → EReal)
    (hx : ∀ (a b : ℕ) (ha : a < 128) (hb : b < 4096), arg2.view.read (Elt Ideal) X_arg2 (ix3 (0 : Fin 1) ⟨a, ha⟩ ⟨b, hb⟩) = x a b)
    (hg : ∀ (b : ℕ) (hb : b < 4096), arg4.view.read (Elt Ideal) X_arg4 (ix2 (0 : Fin 1) ⟨b, hb⟩) = g b)
    (hq : ∀ (a b : ℕ) (ha : a < 128) (hb : b < 4096), arg6.view.read (Elt Ideal) X_arg6 (ix3 (0 : Fin 1) ⟨a, ha⟩ ⟨b, hb⟩) = q a b)
    (hk : ∀ (a b : ℕ) (ha : a < 128) (hb : b < 4096), arg7.view.read (Elt Ideal) X_arg7 (ix3 (0 : Fin 1) ⟨a, ha⟩ ⟨b, hb⟩) = k' a b)
    (hv : ∀ (a b : ℕ) (ha : a < 128) (hb : b < 4096), arg8.view.read (Elt Ideal) X_arg8 (ix3 (0 : Fin 1) ⟨a, ha⟩ ⟨b, hb⟩) = v a b)
    (hr : ∀ (a b : ℕ) (ha : a < 128) (hb : b < 128), arg16.view.read (Elt Ideal) X_arg16 (ix2 ⟨a, ha⟩ ⟨b, hb⟩) = r a)
include hx hg hq hk hv hr

set_option maxHeartbeats 8000000 in
/-- The sums the trip writes for gamma. -/
theorem pieces_one26 : (∀ p ∈ (tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2, ∀ y, p.2 y = fgs x q k' v r (p.1.emb y 0).val (p.1.emb y 1).val) := by
  intro p hp
  unfold tripL_k0_t1 trip_k0_t1 at hp
  dsimp only at hp
  simp only [List.mem_cons, List.not_mem_nil, or_false] at hp
  rcases hp with rfl | rfl
  all_goals
    intro y
    obtain ⟨s, l, rfl⟩ : ∃ (s : Fin 8) (l : Fin 128), y = ix2 s l := ⟨y 0, y 1, eq_ix2 y⟩
    simp only [emb_val, o4_0 k, o4_1 k, o6_0 k, o6_1 k, o8_0 k, o8_1 k, o10_0 k, o10_1 k, o12_0 k, o12_1 k, o14_0 k, o14_1 k, o16_0 k, o16_1 k, o18_0 k, o18_1 k, o19_0 k, o19_1 k]
    simp only [trip_k0_t1.sl.r, trip_k0_t1.sl.r_1, trip_k0_t1.sl.r_10, trip_k0_t1.sl.r_100, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_3, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_4, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_5, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_6, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_7, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_8, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_9, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay413, k0_pay414, k0_pay415, k0_pay416, shapeCast_self, shapeCast_1ab_ab_apply, shapeCast_ab_1ab_apply, broadcastTo_1b_ab_apply, top_rows, bottom_rows, mulf_apply, addf_apply, subf_apply, extf_apply, truncf_apply, broadcast_apply, ld_block arg2 X_arg2 x hx (o3_0 k), ld_block arg2 X_arg2 x hx (o3_1 k), ld_block arg2 X_arg2 x hx (o5_0 k), ld_block arg2 X_arg2 x hx (o5_1 k), ld_block arg2 X_arg2 x hx (o7_0 k), ld_block arg2 X_arg2 x hx (o7_1 k), ld_block arg2 X_arg2 x hx (o9_0 k), ld_block arg2 X_arg2 x hx (o9_1 k), ld_block arg2 X_arg2 x hx (o11_0 k), ld_block arg2 X_arg2 x hx (o11_1 k), ld_block arg2 X_arg2 x hx (o13_0 k), ld_block arg2 X_arg2 x hx (o13_1 k), ld_block arg2 X_arg2 x hx (o15_0 k), ld_block arg2 X_arg2 x hx (o15_1 k), ld_block arg2 X_arg2 x hx (o17_0 k), ld_block arg2 X_arg2 x hx (o17_1 k), ld_block arg6 X_arg6 q hq (o3_0 k), ld_block arg6 X_arg6 q hq (o3_1 k), ld_block arg6 X_arg6 q hq (o5_0 k), ld_block arg6 X_arg6 q hq (o5_1 k), ld_block arg6 X_arg6 q hq (o7_0 k), ld_block arg6 X_arg6 q hq (o7_1 k), ld_block arg6 X_arg6 q hq (o9_0 k), ld_block arg6 X_arg6 q hq (o9_1 k), ld_block arg6 X_arg6 q hq (o11_0 k), ld_block arg6 X_arg6 q hq (o11_1 k), ld_block arg6 X_arg6 q hq (o13_0 k), ld_block arg6 X_arg6 q hq (o13_1 k), ld_block arg6 X_arg6 q hq (o15_0 k), ld_block arg6 X_arg6 q hq (o15_1 k), ld_block arg6 X_arg6 q hq (o17_0 k), ld_block arg6 X_arg6 q hq (o17_1 k), ld_block arg7 X_arg7 k' hk (o3_0 k), ld_block arg7 X_arg7 k' hk (o3_1 k), ld_block arg7 X_arg7 k' hk (o5_0 k), ld_block arg7 X_arg7 k' hk (o5_1 k), ld_block arg7 X_arg7 k' hk (o7_0 k), ld_block arg7 X_arg7 k' hk (o7_1 k), ld_block arg7 X_arg7 k' hk (o9_0 k), ld_block arg7 X_arg7 k' hk (o9_1 k), ld_block arg7 X_arg7 k' hk (o11_0 k), ld_block arg7 X_arg7 k' hk (o11_1 k), ld_block arg7 X_arg7 k' hk (o13_0 k), ld_block arg7 X_arg7 k' hk (o13_1 k), ld_block arg7 X_arg7 k' hk (o15_0 k), ld_block arg7 X_arg7 k' hk (o15_1 k), ld_block arg7 X_arg7 k' hk (o17_0 k), ld_block arg7 X_arg7 k' hk (o17_1 k), ld_block arg8 X_arg8 v hv (o3_0 k), ld_block arg8 X_arg8 v hv (o3_1 k), ld_block arg8 X_arg8 v hv (o5_0 k), ld_block arg8 X_arg8 v hv (o5_1 k), ld_block arg8 X_arg8 v hv (o7_0 k), ld_block arg8 X_arg8 v hv (o7_1 k), ld_block arg8 X_arg8 v hv (o9_0 k), ld_block arg8 X_arg8 v hv (o9_1 k), ld_block arg8 X_arg8 v hv (o11_0 k), ld_block arg8 X_arg8 v hv (o11_1 k), ld_block arg8 X_arg8 v hv (o13_0 k), ld_block arg8 X_arg8 v hv (o13_1 k), ld_block arg8 X_arg8 v hv (o15_0 k), ld_block arg8 X_arg8 v hv (o15_1 k), ld_block arg8 X_arg8 v hv (o17_0 k), ld_block arg8 X_arg8 v hv (o17_1 k), ld_gamma arg4 X_arg4 g hg (o2_0 k), ld_gamma arg4 X_arg4 g hg (o2_1 k), ld_rows arg16 X_arg16 r hr, fgs, fg, fdx, fdn, fxh, k0_pay50, zero_bits, Matrix.cons_val_zero, Matrix.cons_val_one, Nat.zero_add, Nat.add_zero, ← Nat.add_assoc, Nat.reduceAdd]

end Trip

end Cert.KernelIdeal.Gen

end
-- ==== Proof.KernelIdeal.TripA.lean ====
/- One trip of the first loop over the extended reals: what it adds to the carried sums. -/
module

public import proofs.«01_k».proof.Proof.KernelIdeal.Base
public import proofs.«01_k».proof.Proof.KernelIdeal.TripBase
public import Idealize.ShloMosaic.Lib.Writes
public import Idealize.ShloMosaic.Lib.ValueIdx
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.ShloMosaic.Pipeline Idealize.ShloMosaic.ValueIdx

section Trip
variable (𝒱 : Variants) (c : Dev nD) (bd : Option 𝒱.V) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (arg1 : BitVec 32) (v18 : FVec Ideal S8x128 .f32) (v19 : FVec Ideal S8x128 .f32) (v20 : FVec Ideal S8x128 .f32) (v21 : FVec Ideal S8x128 .f32) (v22 : FVec Ideal S8x128 .f32) (v23 : FVec Ideal S8x128 .f32) (v24 : FVec Ideal S8x128 .f32) (v25 : FVec Ideal S8x128 .f32) (v26 : FVec Ideal S8x128 .f32) (v27 : FVec Ideal S8x128 .f32) (v28 : FVec Ideal S8x128 .f32) (v29 : FVec Ideal S8x128 .f32) (v30 : FVec Ideal S8x128 .f32) (v31 : FVec Ideal S8x128 .f32) (v32 : FVec Ideal S8x128 .f32) (cst_18 : Ideal .f32) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (X_arg8 : BufTy.Contents (Elt Ideal) arg8.view.ty) (X_arg16 : BufTy.Contents (Elt Ideal) arg16.view.ty) (k : Fin k0_t1_loop.trips)
variable (acc : Acc)
variable (x q k' v : ℕ → ℕ → EReal) (r g : ℕ → EReal)
    (hx : ∀ (a b : ℕ) (ha : a < 128) (hb : b < 4096), arg2.view.read (Elt Ideal) X_arg2 (ix3 (0 : Fin 1) ⟨a, ha⟩ ⟨b, hb⟩) = x a b)
    (hg : ∀ (b : ℕ) (hb : b < 4096), arg4.view.read (Elt Ideal) X_arg4 (ix2 (0 : Fin 1) ⟨b, hb⟩) = g b)
    (hq : ∀ (a b : ℕ) (ha : a < 128) (hb : b < 4096), arg6.view.read (Elt Ideal) X_arg6 (ix3 (0 : Fin 1) ⟨a, ha⟩ ⟨b, hb⟩) = q a b)
    (hk : ∀ (a b : ℕ) (ha : a < 128) (hb : b < 4096), arg7.view.read (Elt Ideal) X_arg7 (ix3 (0 : Fin 1) ⟨a, ha⟩ ⟨b, hb⟩) = k' a b)
    (hv : ∀ (a b : ℕ) (ha : a < 128) (hb : b < 4096), arg8.view.read (Elt Ideal) X_arg8 (ix3 (0 : Fin 1) ⟨a, ha⟩ ⟨b, hb⟩) = v a b)
    (hr : ∀ (a b : ℕ) (ha : a < 128) (hb : b < 128), arg16.view.read (Elt Ideal) X_arg16 (ix2 ⟨a, ha⟩ ⟨b, hb⟩) = r a)
include hx hg hq hk hv hr

set_option maxHeartbeats 8000000 in
/-- What the trip adds to the carried sums. -/
theorem acc_one (s : Fin 8) (l : Fin 128) :
    (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).1 (ix2 s l) = acc.1 (ix2 s l) + fcc x q k' v r g (0 + s.val) (256 * k.val + l.val) + fcc x q k' v r g (0 + s.val) (256 * k.val + 128 + l.val)
      ∧ (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.1 (ix2 s l) = acc.2.1 (ix2 s l) + fcc x q k' v r g (8 + s.val) (256 * k.val + l.val) + fcc x q k' v r g (8 + s.val) (256 * k.val + 128 + l.val)
      ∧ (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2.1 (ix2 s l) = acc.2.2.1 (ix2 s l) + fcc x q k' v r g (16 + s.val) (256 * k.val + l.val) + fcc x q k' v r g (16 + s.val) (256 * k.val + 128 + l.val)
      ∧ (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2.2.1 (ix2 s l) = acc.2.2.2.1 (ix2 s l) + fcc x q k' v r g (24 + s.val) (256 * k.val + l.val) + fcc x q k' v r g (24 + s.val) (256 * k.val + 128 + l.val)
      ∧ (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2.2.2.1 (ix2 s l) = acc.2.2.2.2.1 (ix2 s l) + fcc x q k' v r g (32 + s.val) (256 * k.val + l.val) + fcc x q k' v r g (32 + s.val) (256 * k.val + 128 + l.val)
      ∧ (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2.2.2.2.1 (ix2 s l) = acc.2.2.2.2.2.1 (ix2 s l) + fcc x q k' v r g (40 + s.val) (256 * k.val + l.val) + fcc x q k' v r g (40 + s.val) (256 * k.val + 128 + l.val)
      ∧ (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2.2.2.2.2.1 (ix2 s l) = acc.2.2.2.2.2.2.1 (ix2 s l) + fcc x q k' v r g (48 + s.val) (256 * k.val + l.val) + fcc x q k' v r g (48 + s.val) (256 * k.val + 128 + l.val)
      ∧ (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2.2.2.2.2.2.1 (ix2 s l) = acc.2.2.2.2.2.2.2.1 (ix2 s l) + fcc x q k' v r g (56 + s.val) (256 * k.val + l.val) + fcc x q k' v r g (56 + s.val) (256 * k.val + 128 + l.val)
      ∧ (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2.2.2.2.2.2.2.1 (ix2 s l) = acc.2.2.2.2.2.2.2.2.1 (ix2 s l) + fcc x q k' v r g (64 + s.val) (256 * k.val + l.val) + fcc x q k' v r g (64 + s.val) (256 * k.val + 128 + l.val)
      ∧ (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2.2.2.2.2.2.2.2.1 (ix2 s l) = acc.2.2.2.2.2.2.2.2.2.1 (ix2 s l) + fcc x q k' v r g (72 + s.val) (256 * k.val + l.val) + fcc x q k' v r g (72 + s.val) (256 * k.val + 128 + l.val)
      ∧ (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2.2.2.2.2.2.2.2.2.1 (ix2 s l) = acc.2.2.2.2.2.2.2.2.2.2.1 (ix2 s l) + fcc x q k' v r g (80 + s.val) (256 * k.val + l.val) + fcc x q k' v r g (80 + s.val) (256 * k.val + 128 + l.val)
      ∧ (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2.2.2.2.2.2.2.2.2.2.1 (ix2 s l) = acc.2.2.2.2.2.2.2.2.2.2.2.1 (ix2 s l) + fcc x q k' v r g (88 + s.val) (256 * k.val + l.val) + fcc x q k' v r g (88 + s.val) (256 * k.val + 128 + l.val)
      ∧ (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2.2.2.2.2.2.2.2.2.2.2.1 (ix2 s l) = acc.2.2.2.2.2.2.2.2.2.2.2.2.1 (ix2 s l) + fcc x q k' v r g (96 + s.val) (256 * k.val + l.val) + fcc x q k' v r g (96 + s.val) (256 * k.val + 128 + l.val)
      ∧ (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2.2.2.2.2.2.2.2.2.2.2.2.1 (ix2 s l) = acc.2.2.2.2.2.2.2.2.2.2.2.2.2.1 (ix2 s l) + fcc x q k' v r g (104 + s.val) (256 * k.val + l.val) + fcc x q k' v r g (104 + s.val) (256 * k.val + 128 + l.val)
      ∧ (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2.2.2.2.2.2.2.2.2.2.2.2.2.1 (ix2 s l) = acc.2.2.2.2.2.2.2.2.2.2.2.2.2.2.1 (ix2 s l) + fcc x q k' v r g (112 + s.val) (256 * k.val + l.val) + fcc x q k' v r g (112 + s.val) (256 * k.val + 128 + l.val)
      ∧ (tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 k acc).2.2.2.2.2.2.2.2.2.2.2.2.2.2.2 (ix2 s l) = acc.2.2.2.2.2.2.2.2.2.2.2.2.2.2.2 (ix2 s l) + fcc x q k' v r g (120 + s.val) (256 * k.val + l.val) + fcc x q k' v r g (120 + s.val) (256 * k.val + 128 + l.val) := by
  unfold tripR_k0_t1 trip_k0_t1
  dsimp only
  refine ⟨?_, ?_, ?_, ?_, ?_, ?_, ?_, ?_, ?_, ?_, ?_, ?_, ?_, ?_, ?_, ?_⟩
  all_goals
    simp only [trip_k0_t1.sl.r, trip_k0_t1.sl.r_1, trip_k0_t1.sl.r_10, trip_k0_t1.sl.r_100, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_2, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_3, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_4, trip_k0_t1.sl.r_40, trip_k0_t1.sl.r_41, trip_k0_t1.sl.r_42, trip_k0_t1.sl.r_43, trip_k0_t1.sl.r_44, trip_k0_t1.sl.r_45, trip_k0_t1.sl.r_46, trip_k0_t1.sl.r_47, trip_k0_t1.sl.r_48, trip_k0_t1.sl.r_49, trip_k0_t1.sl.r_5, trip_k0_t1.sl.r_50, trip_k0_t1.sl.r_51, trip_k0_t1.sl.r_52, trip_k0_t1.sl.r_53, trip_k0_t1.sl.r_54, trip_k0_t1.sl.r_55, trip_k0_t1.sl.r_56, trip_k0_t1.sl.r_57, trip_k0_t1.sl.r_58, trip_k0_t1.sl.r_59, trip_k0_t1.sl.r_6, trip_k0_t1.sl.r_60, trip_k0_t1.sl.r_61, trip_k0_t1.sl.r_62, trip_k0_t1.sl.r_63, trip_k0_t1.sl.r_64, trip_k0_t1.sl.r_65, trip_k0_t1.sl.r_66, trip_k0_t1.sl.r_67, trip_k0_t1.sl.r_68, trip_k0_t1.sl.r_69, trip_k0_t1.sl.r_7, trip_k0_t1.sl.r_70, trip_k0_t1.sl.r_71, trip_k0_t1.sl.r_72, trip_k0_t1.sl.r_73, trip_k0_t1.sl.r_74, trip_k0_t1.sl.r_75, trip_k0_t1.sl.r_76, trip_k0_t1.sl.r_77, trip_k0_t1.sl.r_78, trip_k0_t1.sl.r_79, trip_k0_t1.sl.r_8, trip_k0_t1.sl.r_80, trip_k0_t1.sl.r_81, trip_k0_t1.sl.r_82, trip_k0_t1.sl.r_83, trip_k0_t1.sl.r_84, trip_k0_t1.sl.r_85, trip_k0_t1.sl.r_86, trip_k0_t1.sl.r_87, trip_k0_t1.sl.r_88, trip_k0_t1.sl.r_89, trip_k0_t1.sl.r_9, trip_k0_t1.sl.r_90, trip_k0_t1.sl.r_91, trip_k0_t1.sl.r_92, trip_k0_t1.sl.r_93, trip_k0_t1.sl.r_94, trip_k0_t1.sl.r_95, trip_k0_t1.sl.r_96, trip_k0_t1.sl.r_97, trip_k0_t1.sl.r_98, trip_k0_t1.sl.r_99, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay413, k0_pay414, k0_pay415, k0_pay416, shapeCast_self, shapeCast_1ab_ab_apply, shapeCast_ab_1ab_apply, broadcastTo_1b_ab_apply, top_rows, bottom_rows, mulf_apply, addf_apply, subf_apply, extf_apply, truncf_apply, broadcast_apply, ld_block arg2 X_arg2 x hx (o3_0 k), ld_block arg2 X_arg2 x hx (o3_1 k), ld_block arg2 X_arg2 x hx (o5_0 k), ld_block arg2 X_arg2 x hx (o5_1 k), ld_block arg2 X_arg2 x hx (o7_0 k), ld_block arg2 X_arg2 x hx (o7_1 k), ld_block arg2 X_arg2 x hx (o9_0 k), ld_block arg2 X_arg2 x hx (o9_1 k), ld_block arg2 X_arg2 x hx (o11_0 k), ld_block arg2 X_arg2 x hx (o11_1 k), ld_block arg2 X_arg2 x hx (o13_0 k), ld_block arg2 X_arg2 x hx (o13_1 k), ld_block arg2 X_arg2 x hx (o15_0 k), ld_block arg2 X_arg2 x hx (o15_1 k), ld_block arg2 X_arg2 x hx (o17_0 k), ld_block arg2 X_arg2 x hx (o17_1 k), ld_block arg6 X_arg6 q hq (o3_0 k), ld_block arg6 X_arg6 q hq (o3_1 k), ld_block arg6 X_arg6 q hq (o5_0 k), ld_block arg6 X_arg6 q hq (o5_1 k), ld_block arg6 X_arg6 q hq (o7_0 k), ld_block arg6 X_arg6 q hq (o7_1 k), ld_block arg6 X_arg6 q hq (o9_0 k), ld_block arg6 X_arg6 q hq (o9_1 k), ld_block arg6 X_arg6 q hq (o11_0 k), ld_block arg6 X_arg6 q hq (o11_1 k), ld_block arg6 X_arg6 q hq (o13_0 k), ld_block arg6 X_arg6 q hq (o13_1 k), ld_block arg6 X_arg6 q hq (o15_0 k), ld_block arg6 X_arg6 q hq (o15_1 k), ld_block arg6 X_arg6 q hq (o17_0 k), ld_block arg6 X_arg6 q hq (o17_1 k), ld_block arg7 X_arg7 k' hk (o3_0 k), ld_block arg7 X_arg7 k' hk (o3_1 k), ld_block arg7 X_arg7 k' hk (o5_0 k), ld_block arg7 X_arg7 k' hk (o5_1 k), ld_block arg7 X_arg7 k' hk (o7_0 k), ld_block arg7 X_arg7 k' hk (o7_1 k), ld_block arg7 X_arg7 k' hk (o9_0 k), ld_block arg7 X_arg7 k' hk (o9_1 k), ld_block arg7 X_arg7 k' hk (o11_0 k), ld_block arg7 X_arg7 k' hk (o11_1 k), ld_block arg7 X_arg7 k' hk (o13_0 k), ld_block arg7 X_arg7 k' hk (o13_1 k), ld_block arg7 X_arg7 k' hk (o15_0 k), ld_block arg7 X_arg7 k' hk (o15_1 k), ld_block arg7 X_arg7 k' hk (o17_0 k), ld_block arg7 X_arg7 k' hk (o17_1 k), ld_block arg8 X_arg8 v hv (o3_0 k), ld_block arg8 X_arg8 v hv (o3_1 k), ld_block arg8 X_arg8 v hv (o5_0 k), ld_block arg8 X_arg8 v hv (o5_1 k), ld_block arg8 X_arg8 v hv (o7_0 k), ld_block arg8 X_arg8 v hv (o7_1 k), ld_block arg8 X_arg8 v hv (o9_0 k), ld_block arg8 X_arg8 v hv (o9_1 k), ld_block arg8 X_arg8 v hv (o11_0 k), ld_block arg8 X_arg8 v hv (o11_1 k), ld_block arg8 X_arg8 v hv (o13_0 k), ld_block arg8 X_arg8 v hv (o13_1 k), ld_block arg8 X_arg8 v hv (o15_0 k), ld_block arg8 X_arg8 v hv (o15_1 k), ld_block arg8 X_arg8 v hv (o17_0 k), ld_block arg8 X_arg8 v hv (o17_1 k), ld_gamma arg4 X_arg4 g hg (o2_0 k), ld_gamma arg4 X_arg4 g hg (o2_1 k), ld_rows arg16 X_arg16 r hr, fcc, fdx, fdn, fxh, Nat.zero_add, Nat.add_zero, ← Nat.add_assoc, Nat.reduceAdd]

end Trip

end Cert.KernelIdeal.Gen

end
-- ==== Proof.KernelIdeal.One.lean ====
/- The first loop over the extended reals: the carried sums and the scratch blocks after any number of trips. -/
module

public import proofs.«01_k».proof.Proof.KernelIdeal.Base
public import proofs.«01_k».proof.Proof.KernelIdeal.TripX
public import proofs.«01_k».proof.Proof.KernelIdeal.TripY
public import proofs.«01_k».proof.Proof.KernelIdeal.TripG
public import proofs.«01_k».proof.Proof.KernelIdeal.TripA
public import Idealize.ShloMosaic.Lib.Writes
public import Idealize.ShloMosaic.Lib.ValueIdx
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.ShloMosaic.Pipeline Idealize.ShloMosaic.ValueIdx

/-- The carried sums, as one family over rows and lanes. -/
def AccIs (A : Acc) (f : ℕ → ℕ → EReal) : Prop := ∀ (s : Fin 8) (l : Fin 128), A.1 (ix2 s l) = f (0 + s.val) l.val ∧ A.2.1 (ix2 s l) = f (8 + s.val) l.val ∧ A.2.2.1 (ix2 s l) = f (16 + s.val) l.val ∧ A.2.2.2.1 (ix2 s l) = f (24 + s.val) l.val ∧ A.2.2.2.2.1 (ix2 s l) = f (32 + s.val) l.val ∧ A.2.2.2.2.2.1 (ix2 s l) = f (40 + s.val) l.val ∧ A.2.2.2.2.2.2.1 (ix2 s l) = f (48 + s.val) l.val ∧ A.2.2.2.2.2.2.2.1 (ix2 s l) = f (56 + s.val) l.val ∧ A.2.2.2.2.2.2.2.2.1 (ix2 s l) = f (64 + s.val) l.val ∧ A.2.2.2.2.2.2.2.2.2.1 (ix2 s l) = f (72 + s.val) l.val ∧ A.2.2.2.2.2.2.2.2.2.2.1 (ix2 s l) = f (80 + s.val) l.val ∧ A.2.2.2.2.2.2.2.2.2.2.2.1 (ix2 s l) = f (88 + s.val) l.val ∧ A.2.2.2.2.2.2.2.2.2.2.2.2.1 (ix2 s l) = f (96 + s.val) l.val ∧ A.2.2.2.2.2.2.2.2.2.2.2.2.2.1 (ix2 s l) = f (104 + s.val) l.val ∧ A.2.2.2.2.2.2.2.2.2.2.2.2.2.2.1 (ix2 s l) = f (112 + s.val) l.val ∧ A.2.2.2.2.2.2.2.2.2.2.2.2.2.2.2 (ix2 s l) = f (120 + s.val) l.val

/-- What holds before trip `n`. -/
structure OneInv (x q k' v : ℕ → ℕ → EReal) (r g : ℕ → EReal) (S : Acc × List (View.Piece (Elt Ideal) S128x4096 .f32) × List (View.Piece (Elt Ideal) S128x4096 .f32) × List (View.Piece (Elt Ideal) S8x4096 .f32)) (n : ℕ) : Prop where
  acc : AccIs S.1 fun a l => frow x q k' v r g a l n
  p18 : ∀ p ∈ S.2.1, ∀ y, p.2 y = fdx q k' v g (p.1.emb y 0).val (p.1.emb y 1).val
  p19 : ∀ p ∈ S.2.2.1, ∀ y, p.2 y = fxh x r (p.1.emb y 0).val (p.1.emb y 1).val
  p26 : ∀ p ∈ S.2.2.2, ∀ y, p.2 y = fgs x q k' v r (p.1.emb y 0).val (p.1.emb y 1).val
  c18 : ∀ y : S128x4096.Idx, (y 1).val < 256 * n → ∃ p ∈ S.2.1, y ∈ p.1.set
  c19 : ∀ y : S128x4096.Idx, (y 1).val < 256 * n → ∃ p ∈ S.2.2.1, y ∈ p.1.set
  c26 : ∀ y : S8x4096.Idx, (y 1).val < 256 * n → ∃ p ∈ S.2.2.2, y ∈ p.1.set

/-- One more pair of column groups. -/
theorem frow_succ (x q k' v : ℕ → ℕ → EReal) (r g : ℕ → EReal) (a l n : ℕ) :
    frow x q k' v r g a l n + fcc x q k' v r g a (256 * n + l) + fcc x q k' v r g a (256 * n + 128 + l) = frow x q k' v r g a l (n + 1) := by
  unfold frow; rw [Finset.sum_range_succ, add_assoc]

/-- Covering one more strip of 256 columns. -/
theorem cover_append {S : Shape} {e : EltTy} {L L' : List (View.Piece (Elt Ideal) S e)} {P : ℕ} {v : ℕ} {y : S.Idx}
    (h1 : 256 * P ≤ v → v < 256 * P + 256 → ∃ p ∈ L, y ∈ p.1.set) (h2 : v < 256 * P → ∃ p ∈ L', y ∈ p.1.set) (h : v < 256 * (P + 1)) :
    ∃ p ∈ L ++ L', y ∈ p.1.set := by
  by_cases hc : v < 256 * P
  · obtain ⟨p, hp, hy⟩ := h2 hc; exact ⟨p, List.mem_append_right _ hp, hy⟩
  · obtain ⟨p, hp, hy⟩ := h1 (by omega) (by omega); exact ⟨p, List.mem_append_left _ hp, hy⟩

section Loop
variable (𝒱 : Variants) (c : Dev nD) (bd : Option 𝒱.V) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (arg1 : BitVec 32) (v18 : FVec Ideal S8x128 .f32) (v19 : FVec Ideal S8x128 .f32) (v20 : FVec Ideal S8x128 .f32) (v21 : FVec Ideal S8x128 .f32) (v22 : FVec Ideal S8x128 .f32) (v23 : FVec Ideal S8x128 .f32) (v24 : FVec Ideal S8x128 .f32) (v25 : FVec Ideal S8x128 .f32) (v26 : FVec Ideal S8x128 .f32) (v27 : FVec Ideal S8x128 .f32) (v28 : FVec Ideal S8x128 .f32) (v29 : FVec Ideal S8x128 .f32) (v30 : FVec Ideal S8x128 .f32) (v31 : FVec Ideal S8x128 .f32) (v32 : FVec Ideal S8x128 .f32) (cst_18 : Ideal .f32) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (X_arg8 : BufTy.Contents (Elt Ideal) arg8.view.ty) (X_arg16 : BufTy.Contents (Elt Ideal) arg16.view.ty)
variable (init : Acc)
variable (x q k' v : ℕ → ℕ → EReal) (r g : ℕ → EReal)
    (hx : ∀ (a b : ℕ) (ha : a < 128) (hb : b < 4096), arg2.view.read (Elt Ideal) X_arg2 (ix3 (0 : Fin 1) ⟨a, ha⟩ ⟨b, hb⟩) = x a b)
    (hg : ∀ (b : ℕ) (hb : b < 4096), arg4.view.read (Elt Ideal) X_arg4 (ix2 (0 : Fin 1) ⟨b, hb⟩) = g b)
    (hq : ∀ (a b : ℕ) (ha : a < 128) (hb : b < 4096), arg6.view.read (Elt Ideal) X_arg6 (ix3 (0 : Fin 1) ⟨a, ha⟩ ⟨b, hb⟩) = q a b)
    (hk : ∀ (a b : ℕ) (ha : a < 128) (hb : b < 4096), arg7.view.read (Elt Ideal) X_arg7 (ix3 (0 : Fin 1) ⟨a, ha⟩ ⟨b, hb⟩) = k' a b)
    (hv : ∀ (a b : ℕ) (ha : a < 128) (hb : b < 4096), arg8.view.read (Elt Ideal) X_arg8 (ix3 (0 : Fin 1) ⟨a, ha⟩ ⟨b, hb⟩) = v a b)
    (hr : ∀ (a b : ℕ) (ha : a < 128) (hb : b < 128), arg16.view.read (Elt Ideal) X_arg16 (ix2 ⟨a, ha⟩ ⟨b, hb⟩) = r a)
include hx hg hq hk hv hr

/-- The invariant of the first loop, from carried sums that are zero. -/
theorem one_inv (h0 : AccIs init fun _ _ => 0) (n : ℕ) (hn : n ≤ k0_t1_loop.trips) : OneInv x q k' v r g (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 init n) n := by
  induction n with
  | zero => exact ⟨fun s l => by simpa [AccIs, frow, st_k0_t1] using h0 s l, by intro p hp; exact absurd hp List.not_mem_nil, by intro p hp; exact absurd hp List.not_mem_nil,
      by intro p hp; exact absurd hp List.not_mem_nil, fun y h => absurd h (by omega), fun y h => absurd h (by omega), fun y h => absurd h (by omega)⟩
  | succ n ih =>
    have I := ih (by omega)
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 init ⟨n, hn⟩
    rw [show n + 1 = (⟨n, hn⟩ : Fin k0_t1_loop.trips).val + 1 from rfl, e]
    generalize (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 init (⟨n, hn⟩ : Fin k0_t1_loop.trips).val) = S at I ⊢
    refine ⟨fun s l => ?_, ?_, ?_, ?_, ?_, ?_, ?_⟩
    · have a := acc_one 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 ⟨n, hn⟩ S.1 x q k' v r g hx hg hq hk hv hr s l
      have b := I.acc s l
      simp only [← frow_succ]
      obtain ⟨a0, a1, a2, a3, a4, a5, a6, a7, a8, a9, a10, a11, a12, a13, a14, a15⟩ := a
      obtain ⟨b0, b1, b2, b3, b4, b5, b6, b7, b8, b9, b10, b11, b12, b13, b14, b15⟩ := b
      refine ⟨a0.trans (by rw [b0]), a1.trans (by rw [b1]), a2.trans (by rw [b2]), a3.trans (by rw [b3]), a4.trans (by rw [b4]), a5.trans (by rw [b5]), a6.trans (by rw [b6]), a7.trans (by rw [b7]), a8.trans (by rw [b8]), a9.trans (by rw [b9]), a10.trans (by rw [b10]), a11.trans (by rw [b11]), a12.trans (by rw [b12]), a13.trans (by rw [b13]), a14.trans (by rw [b14]), a15.trans (by rw [b15])⟩
    · intro p hp
      rcases List.mem_append.1 hp with hp | hp
      · exact pieces_one 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 ⟨n, hn⟩ S.1 x q k' v r g hx hg hq hk hv hr p hp
      · exact I.p18 p hp
    · intro p hp
      rcases List.mem_append.1 hp with hp | hp
      · exact pieces_one19 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 ⟨n, hn⟩ S.1 x q k' v r g hx hg hq hk hv hr p hp
      · exact I.p19 p hp
    · intro p hp
      rcases List.mem_append.1 hp with hp | hp
      · exact pieces_one26 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 ⟨n, hn⟩ S.1 x q k' v r g hx hg hq hk hv hr p hp
      · exact I.p26 p hp
    · exact fun y h => cover_append (fun h0 h1 => (cover_one 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 ⟨n, hn⟩ S.1 y h0 h1).1) (I.c18 y) h
    · exact fun y h => cover_append (fun h0 h1 => (cover_one 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 ⟨n, hn⟩ S.1 y h0 h1).2) (I.c19 y) h
    · exact fun y h => cover_append (fun h0 h1 => cover_one26 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg2 X_arg4 X_arg6 X_arg7 X_arg8 X_arg16 ⟨n, hn⟩ S.1 y h0 h1) (I.c26 y) h
end Loop

end Cert.KernelIdeal.Gen

end
-- ==== Proof.KernelIdeal.TripB.lean ====
/- One trip of the second loop over the extended reals: what it writes in the result, and where it writes in the scratch block. -/
module

public import proofs.«01_k».proof.Proof.KernelIdeal.Base
public import proofs.«01_k».proof.Proof.KernelIdeal.Spec
public import Idealize.ShloMosaic.Lib.Writes
public import Idealize.ShloMosaic.Lib.ValueIdx
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.ShloMosaic.Pipeline Idealize.ShloMosaic.ValueIdx

theorem o21_0 (k : Fin k0_t2_loop.trips) : k0_off21 k 0#32 = ![0, 256 * k.val + 0] := k0_off21_eq k 0
theorem o21_1 (k : Fin k0_t2_loop.trips) : k0_off21 k 128#32 = ![0, 256 * k.val + 128] := k0_off21_eq k 1
theorem o22_0 (k : Fin k0_t2_loop.trips) : k0_off22 k 0#32 = ![0, 0, 256 * k.val + 0] := k0_off22_eq k 0
theorem o22_1 (k : Fin k0_t2_loop.trips) : k0_off22 k 128#32 = ![0, 0, 256 * k.val + 128] := k0_off22_eq k 1
theorem o23_0 (k : Fin k0_t2_loop.trips) : k0_off23 k 0#32 = ![16, 256 * k.val + 0] := k0_off23_eq k 0
theorem o23_1 (k : Fin k0_t2_loop.trips) : k0_off23 k 128#32 = ![16, 256 * k.val + 128] := k0_off23_eq k 1
theorem o24_0 (k : Fin k0_t2_loop.trips) : k0_off24 k 0#32 = ![0, 16, 256 * k.val + 0] := k0_off24_eq k 0
theorem o24_1 (k : Fin k0_t2_loop.trips) : k0_off24 k 128#32 = ![0, 16, 256 * k.val + 128] := k0_off24_eq k 1
theorem o25_0 (k : Fin k0_t2_loop.trips) : k0_off25 k 0#32 = ![32, 256 * k.val + 0] := k0_off25_eq k 0
theorem o25_1 (k : Fin k0_t2_loop.trips) : k0_off25 k 128#32 = ![32, 256 * k.val + 128] := k0_off25_eq k 1
theorem o26_0 (k : Fin k0_t2_loop.trips) : k0_off26 k 0#32 = ![0, 32, 256 * k.val + 0] := k0_off26_eq k 0
theorem o26_1 (k : Fin k0_t2_loop.trips) : k0_off26 k 128#32 = ![0, 32, 256 * k.val + 128] := k0_off26_eq k 1
theorem o27_0 (k : Fin k0_t2_loop.trips) : k0_off27 k 0#32 = ![48, 256 * k.val + 0] := k0_off27_eq k 0
theorem o27_1 (k : Fin k0_t2_loop.trips) : k0_off27 k 128#32 = ![48, 256 * k.val + 128] := k0_off27_eq k 1
theorem o28_0 (k : Fin k0_t2_loop.trips) : k0_off28 k 0#32 = ![0, 48, 256 * k.val + 0] := k0_off28_eq k 0
theorem o28_1 (k : Fin k0_t2_loop.trips) : k0_off28 k 128#32 = ![0, 48, 256 * k.val + 128] := k0_off28_eq k 1
theorem o29_0 (k : Fin k0_t2_loop.trips) : k0_off29 k 0#32 = ![64, 256 * k.val + 0] := k0_off29_eq k 0
theorem o29_1 (k : Fin k0_t2_loop.trips) : k0_off29 k 128#32 = ![64, 256 * k.val + 128] := k0_off29_eq k 1
theorem o30_0 (k : Fin k0_t2_loop.trips) : k0_off30 k 0#32 = ![0, 64, 256 * k.val + 0] := k0_off30_eq k 0
theorem o30_1 (k : Fin k0_t2_loop.trips) : k0_off30 k 128#32 = ![0, 64, 256 * k.val + 128] := k0_off30_eq k 1
theorem o31_0 (k : Fin k0_t2_loop.trips) : k0_off31 k 0#32 = ![80, 256 * k.val + 0] := k0_off31_eq k 0
theorem o31_1 (k : Fin k0_t2_loop.trips) : k0_off31 k 128#32 = ![80, 256 * k.val + 128] := k0_off31_eq k 1
theorem o32_0 (k : Fin k0_t2_loop.trips) : k0_off32 k 0#32 = ![0, 80, 256 * k.val + 0] := k0_off32_eq k 0
theorem o32_1 (k : Fin k0_t2_loop.trips) : k0_off32 k 128#32 = ![0, 80, 256 * k.val + 128] := k0_off32_eq k 1
theorem o33_0 (k : Fin k0_t2_loop.trips) : k0_off33 k 0#32 = ![96, 256 * k.val + 0] := k0_off33_eq k 0
theorem o33_1 (k : Fin k0_t2_loop.trips) : k0_off33 k 128#32 = ![96, 256 * k.val + 128] := k0_off33_eq k 1
theorem o34_0 (k : Fin k0_t2_loop.trips) : k0_off34 k 0#32 = ![0, 96, 256 * k.val + 0] := k0_off34_eq k 0
theorem o34_1 (k : Fin k0_t2_loop.trips) : k0_off34 k 128#32 = ![0, 96, 256 * k.val + 128] := k0_off34_eq k 1
theorem o35_0 (k : Fin k0_t2_loop.trips) : k0_off35 k 0#32 = ![112, 256 * k.val + 0] := k0_off35_eq k 0
theorem o35_1 (k : Fin k0_t2_loop.trips) : k0_off35 k 128#32 = ![112, 256 * k.val + 128] := k0_off35_eq k 1
theorem o36_0 (k : Fin k0_t2_loop.trips) : k0_off36 k 0#32 = ![0, 112, 256 * k.val + 0] := k0_off36_eq k 0
theorem o36_1 (k : Fin k0_t2_loop.trips) : k0_off36 k 128#32 = ![0, 112, 256 * k.val + 128] := k0_off36_eq k 1

section Trip
variable (𝒱 : Variants) (c : Dev nD) (bd : Option 𝒱.V) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (v35_15 : FVec Ideal S8x128 .f32) (X_arg5 : BufTy.Contents (Elt Ideal) arg5.view.ty) (X_arg16 : BufTy.Contents (Elt Ideal) arg16.view.ty) (X_arg17 : BufTy.Contents (Elt Ideal) arg17.view.ty) (X_arg19 : BufTy.Contents (Elt Ideal) arg19.view.ty)
variable (k : Fin k0_t2_loop.trips) (f_arg9 : BufTy.Contents (Elt Ideal) arg9.view.ty) (f_arg18 : BufTy.Contents (Elt Ideal) arg18.view.ty) (f_arg20 : BufTy.Contents (Elt Ideal) arg20.view.ty) (f_arg21 : BufTy.Contents (Elt Ideal) arg21.view.ty)

set_option maxHeartbeats 4000000 in
/-- The boxes of the trip's pieces of the result cover its 256 columns. -/
theorem cover_two (y : S1x128x4096.Idx) (h0 : 256 * k.val ≤ (y 2).val) (h1 : (y 2).val < 256 * k.val + 256) :
    (∃ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 k f_arg9 f_arg18 f_arg20 f_arg21).1, y ∈ p.1.set) := by
  have e0 : (y 1).val < 128 := (y 1).isLt
  have ez : (y 0).val < 1 := (y 0).isLt
  unfold tripL_k0_t2 trip_k0_t2
  dsimp only
  simp only [List.mem_cons, List.not_mem_nil, or_false, exists_eq_or_imp, exists_eq_left, Rect.mem_set_unit, o22_0 k, o22_1 k, o24_0 k, o24_1 k, o26_0 k, o26_1 k, o28_0 k, o28_1 k, o30_0 k, o30_1 k, o32_0 k, o32_1 k, o34_0 k, o34_1 k, o36_0 k, o36_1 k, Fin.forall_fin_succ, Fin.forall_fin_zero_pi, Fin.isEmpty, IsEmpty.forall_iff, and_true, Fin.succ_zero_eq_one, Fin.succ_one_eq_two, Matrix.cons_val_zero, Matrix.cons_val_one, Matrix.cons_val]
  have hm : (y 2).val < 256 * k.val + 128 ∨ 256 * k.val + 128 ≤ (y 2).val := by omega
  have hn : (0 ≤ (y 1).val ∧ (y 1).val < 16) ∨ (16 ≤ (y 1).val ∧ (y 1).val < 32) ∨ (32 ≤ (y 1).val ∧ (y 1).val < 48) ∨ (48 ≤ (y 1).val ∧ (y 1).val < 64) ∨ (64 ≤ (y 1).val ∧ (y 1).val < 80) ∨ (80 ≤ (y 1).val ∧ (y 1).val < 96) ∨ (96 ≤ (y 1).val ∧ (y 1).val < 112) ∨ (112 ≤ (y 1).val ∧ (y 1).val < 128) := by omega
  rcases hm with hm | hm <;> rcases hn with hn | hn | hn | hn | hn | hn | hn | hn <;>
    (repeat (first | (refine Or.inl ?_; omega) | refine Or.inr ?_)) <;> omega

set_option maxHeartbeats 4000000 in
/-- The trip writes the first scratch block only in its own columns. -/
theorem inside_two : (∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 k f_arg9 f_arg18 f_arg20 f_arg21).2.1, ∀ y ∈ p.1.set, (y 1).val < 256 * (k.val + 1)) := by
  intro p hp
  unfold tripL_k0_t2 trip_k0_t2 at hp
  dsimp only at hp
  simp only [List.mem_cons, List.not_mem_nil, or_false] at hp
  rcases hp with rfl | rfl | rfl | rfl | rfl | rfl | rfl | rfl | rfl | rfl | rfl | rfl | rfl | rfl | rfl | rfl
  all_goals
    intro y hy
    simp only [Rect.mem_set_unit] at hy
    have h := (hy 1).2
    simp only [o21_0 k, o21_1 k, o23_0 k, o23_1 k, o25_0 k, o25_1 k, o27_0 k, o27_1 k, o29_0 k, o29_1 k, o31_0 k, o31_1 k, o33_0 k, o33_1 k, o35_0 k, o35_1 k, Matrix.cons_val_one, Matrix.cons_val_zero] at h
    have e : S16x128.size 1 = 128 := rfl
    omega

variable (d xh dx : ℕ → ℕ → EReal) (r cc : ℕ → EReal)
    (hd : ∀ (a b : ℕ) (ha : a < 128) (hb : b < 4096), arg5.view.read (Elt Ideal) X_arg5 (ix3 (0 : Fin 1) ⟨a, ha⟩ ⟨b, hb⟩) = d a b)
    (hxh : ∀ (a b : ℕ) (ha : a < 128) (hb : b < 4096), arg19.view.read (Elt Ideal) X_arg19 (ix2 ⟨a, ha⟩ ⟨b, hb⟩) = xh a b)
    (hr : ∀ (a b : ℕ) (ha : a < 128) (hb : b < 128), arg16.view.read (Elt Ideal) X_arg16 (ix2 ⟨a, ha⟩ ⟨b, hb⟩) = r a)
    (hc : ∀ (a b : ℕ) (ha : a < 128) (hb : b < 128), arg17.view.read (Elt Ideal) X_arg17 (ix2 ⟨a, ha⟩ ⟨b, hb⟩) = cc a)
    (hdx : ∀ (a b : ℕ) (ha : a < 128) (hb : b < 4096) (hB : 256 * k.val ≤ b), arg18.view.read (Elt Ideal) f_arg18 (ix2 ⟨a, ha⟩ ⟨b, hb⟩) = dx a b)
include hd hxh hr hc hdx

set_option maxHeartbeats 8000000 in
/-- What the trip writes in the result. -/
theorem pieces_two : (∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 k f_arg9 f_arg18 f_arg20 f_arg21).1, ∀ y, p.2 y = fout' d r cc dx xh (p.1.emb y 1).val (p.1.emb y 2).val) := by
  have hdx0 : ∀ (a b : ℕ) (ha : a < 128) (hb : b < 4096) (hB : 256 * k.val + 0 ≤ b), arg18.view.read (Elt Ideal) f_arg18 (ix2 ⟨a, ha⟩ ⟨b, hb⟩) = dx a b := fun a b ha hb hB => hdx a b ha hb (by omega)
  have hdx1 : ∀ (a b : ℕ) (ha : a < 128) (hb : b < 4096) (hB : 256 * k.val + 128 ≤ b), arg18.view.read (Elt Ideal) f_arg18 (ix2 ⟨a, ha⟩ ⟨b, hb⟩) = dx a b := fun a b ha hb hB => hdx a b ha hb (by omega)
  have hxh0 : ∀ (a b : ℕ) (ha : a < 128) (hb : b < 4096) (hB : 256 * k.val + 0 ≤ b), arg19.view.read (Elt Ideal) X_arg19 (ix2 ⟨a, ha⟩ ⟨b, hb⟩) = xh a b := fun a b ha hb _ => hxh a b ha hb
  have hxh1 : ∀ (a b : ℕ) (ha : a < 128) (hb : b < 4096) (hB : 256 * k.val + 128 ≤ b), arg19.view.read (Elt Ideal) X_arg19 (ix2 ⟨a, ha⟩ ⟨b, hb⟩) = xh a b := fun a b ha hb _ => hxh a b ha hb
  intro p hp
  unfold tripL_k0_t2 trip_k0_t2 at hp
  dsimp only at hp
  simp only [List.mem_cons, List.not_mem_nil, or_false] at hp
  rcases hp with rfl | rfl | rfl | rfl | rfl | rfl | rfl | rfl | rfl | rfl | rfl | rfl | rfl | rfl | rfl | rfl
  all_goals
    intro y
    obtain ⟨u, s, l, rfl⟩ : ∃ (u : Fin 1) (s : Fin 16) (l : Fin 128), y = ix3 u s l := ⟨y 0, y 1, y 2, eq_ix3 y⟩
    obtain rfl : u = 0 := Subsingleton.elim _ _
    simp only [emb_val, o22_0 k, o22_1 k, o24_0 k, o24_1 k, o26_0 k, o26_1 k, o28_0 k, o28_1 k, o30_0 k, o30_1 k, o32_0 k, o32_1 k, o34_0 k, o34_1 k, o36_0 k, o36_1 k]
    simp only [trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_3, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_4, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_5, trip_k0_t2.sl.r_50, trip_k0_t2.sl.r_51, trip_k0_t2.sl.r_52, trip_k0_t2.sl.r_53, trip_k0_t2.sl.r_54, trip_k0_t2.sl.r_55, trip_k0_t2.sl.r_56, trip_k0_t2.sl.r_57, trip_k0_t2.sl.r_58, trip_k0_t2.sl.r_59, trip_k0_t2.sl.r_6, trip_k0_t2.sl.r_60, trip_k0_t2.sl.r_61, trip_k0_t2.sl.r_62, trip_k0_t2.sl.r_63, trip_k0_t2.sl.r_64, trip_k0_t2.sl.r_65, trip_k0_t2.sl.r_66, trip_k0_t2.sl.r_67, trip_k0_t2.sl.r_68, trip_k0_t2.sl.r_69, trip_k0_t2.sl.r_7, trip_k0_t2.sl.r_70, trip_k0_t2.sl.r_8, trip_k0_t2.sl.r_9, trip_k0_t2.sl.v4077, trip_k0_t2.sl.v4109, trip_k0_t2.sl.v4136, trip_k0_t2.sl.v4168, trip_k0_t2.sl.v4195, trip_k0_t2.sl.v4227, trip_k0_t2.sl.v4254, trip_k0_t2.sl.v4286, trip_k0_t2.sl.v4313, trip_k0_t2.sl.v4345, trip_k0_t2.sl.v4372, trip_k0_t2.sl.v4404, trip_k0_t2.sl.v4431, trip_k0_t2.sl.v4463, trip_k0_t2.sl.v4490, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, shapeCast_self, shapeCast_1ab_ab_apply, shapeCast_ab_1ab_apply, broadcastTo_1b_ab_apply, top_rows, bottom_rows, mulf_apply, addf_apply, subf_apply, extf_apply, truncf_apply, broadcast_apply, ld_block arg5 X_arg5 d hd (o22_0 k), ld_block arg5 X_arg5 d hd (o22_1 k), ld_block arg5 X_arg5 d hd (o24_0 k), ld_block arg5 X_arg5 d hd (o24_1 k), ld_block arg5 X_arg5 d hd (o26_0 k), ld_block arg5 X_arg5 d hd (o26_1 k), ld_block arg5 X_arg5 d hd (o28_0 k), ld_block arg5 X_arg5 d hd (o28_1 k), ld_block arg5 X_arg5 d hd (o30_0 k), ld_block arg5 X_arg5 d hd (o30_1 k), ld_block arg5 X_arg5 d hd (o32_0 k), ld_block arg5 X_arg5 d hd (o32_1 k), ld_block arg5 X_arg5 d hd (o34_0 k), ld_block arg5 X_arg5 d hd (o34_1 k), ld_block arg5 X_arg5 d hd (o36_0 k), ld_block arg5 X_arg5 d hd (o36_1 k), ld_scratch arg18 f_arg18 dx (o21_0 k) hdx0, ld_scratch arg18 f_arg18 dx (o21_1 k) hdx1, ld_scratch arg18 f_arg18 dx (o23_0 k) hdx0, ld_scratch arg18 f_arg18 dx (o23_1 k) hdx1, ld_scratch arg18 f_arg18 dx (o25_0 k) hdx0, ld_scratch arg18 f_arg18 dx (o25_1 k) hdx1, ld_scratch arg18 f_arg18 dx (o27_0 k) hdx0, ld_scratch arg18 f_arg18 dx (o27_1 k) hdx1, ld_scratch arg18 f_arg18 dx (o29_0 k) hdx0, ld_scratch arg18 f_arg18 dx (o29_1 k) hdx1, ld_scratch arg18 f_arg18 dx (o31_0 k) hdx0, ld_scratch arg18 f_arg18 dx (o31_1 k) hdx1, ld_scratch arg18 f_arg18 dx (o33_0 k) hdx0, ld_scratch arg18 f_arg18 dx (o33_1 k) hdx1, ld_scratch arg18 f_arg18 dx (o35_0 k) hdx0, ld_scratch arg18 f_arg18 dx (o35_1 k) hdx1, ld_scratch arg19 X_arg19 xh (o21_0 k) hxh0, ld_scratch arg19 X_arg19 xh (o21_1 k) hxh1, ld_scratch arg19 X_arg19 xh (o23_0 k) hxh0, ld_scratch arg19 X_arg19 xh (o23_1 k) hxh1, ld_scratch arg19 X_arg19 xh (o25_0 k) hxh0, ld_scratch arg19 X_arg19 xh (o25_1 k) hxh1, ld_scratch arg19 X_arg19 xh (o27_0 k) hxh0, ld_scratch arg19 X_arg19 xh (o27_1 k) hxh1, ld_scratch arg19 X_arg19 xh (o29_0 k) hxh0, ld_scratch arg19 X_arg19 xh (o29_1 k) hxh1, ld_scratch arg19 X_arg19 xh (o31_0 k) hxh0, ld_scratch arg19 X_arg19 xh (o31_1 k) hxh1, ld_scratch arg19 X_arg19 xh (o33_0 k) hxh0, ld_scratch arg19 X_arg19 xh (o33_1 k) hxh1, ld_scratch arg19 X_arg19 xh (o35_0 k) hxh0, ld_scratch arg19 X_arg19 xh (o35_1 k) hxh1, ld_rows arg16 X_arg16 r hr, ld_rows arg17 X_arg17 cc hc, fout', Matrix.cons_val_zero, Matrix.cons_val_one, Matrix.cons_val, Nat.zero_add, Nat.add_zero, ← Nat.add_assoc, Nat.reduceAdd]
    try rfl
end Trip

end Cert.KernelIdeal.Gen

end
-- ==== Proof.KernelIdeal.Two.lean ====
/- The second loop over the extended reals: the result after any number of trips. -/
module

public import proofs.«01_k».proof.Proof.KernelIdeal.Base
public import proofs.«01_k».proof.Proof.KernelIdeal.TripB
public import Idealize.ShloMosaic.Lib.Writes
public import Idealize.ShloMosaic.Lib.ValueIdx
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.ShloMosaic.Pipeline Idealize.ShloMosaic.ValueIdx

/-- What holds before trip `n`. -/
structure TwoInv (d xh dx : ℕ → ℕ → EReal) (r cc : ℕ → EReal) (S : List (View.Piece (Elt Ideal) S1x128x4096 .bf16) × List (View.Piece (Elt Ideal) S128x4096 .f32) × List (View.Piece (Elt Ideal) S4x16x8x2x128 .bf16) × List (View.Piece (Elt Ideal) S4x16x8x2x128 .bf16)) (n : ℕ) : Prop where
  p9 : ∀ p ∈ S.1, ∀ y, p.2 y = fout' d r cc dx xh (p.1.emb y 1).val (p.1.emb y 2).val
  c9 : ∀ y : S1x128x4096.Idx, (y 2).val < 256 * n → ∃ p ∈ S.1, y ∈ p.1.set
  in18 : ∀ p ∈ S.2.1, ∀ y ∈ p.1.set, (y 1).val < 256 * n

section Loop
variable (𝒱 : Variants) (c : Dev nD) (bd : Option 𝒱.V) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (v35_15 : FVec Ideal S8x128 .f32) (X_arg5 : BufTy.Contents (Elt Ideal) arg5.view.ty) (X_arg16 : BufTy.Contents (Elt Ideal) arg16.view.ty) (X_arg17 : BufTy.Contents (Elt Ideal) arg17.view.ty) (X_arg19 : BufTy.Contents (Elt Ideal) arg19.view.ty)
variable (G_arg9 : BufTy.Contents (Elt Ideal) arg9.view.ty) (G_arg18 : BufTy.Contents (Elt Ideal) arg18.view.ty) (G_arg20 : BufTy.Contents (Elt Ideal) arg20.view.ty) (G_arg21 : BufTy.Contents (Elt Ideal) arg21.view.ty)
variable (d xh dx : ℕ → ℕ → EReal) (r cc : ℕ → EReal)
    (hd : ∀ (a b : ℕ) (ha : a < 128) (hb : b < 4096), arg5.view.read (Elt Ideal) X_arg5 (ix3 (0 : Fin 1) ⟨a, ha⟩ ⟨b, hb⟩) = d a b)
    (hxh : ∀ (a b : ℕ) (ha : a < 128) (hb : b < 4096), arg19.view.read (Elt Ideal) X_arg19 (ix2 ⟨a, ha⟩ ⟨b, hb⟩) = xh a b)
    (hr : ∀ (a b : ℕ) (ha : a < 128) (hb : b < 128), arg16.view.read (Elt Ideal) X_arg16 (ix2 ⟨a, ha⟩ ⟨b, hb⟩) = r a)
    (hc : ∀ (a b : ℕ) (ha : a < 128) (hb : b < 128), arg17.view.read (Elt Ideal) X_arg17 (ix2 ⟨a, ha⟩ ⟨b, hb⟩) = cc a)
    (hdx : ∀ (a b : ℕ) (ha : a < 128) (hb : b < 4096), arg18.view.read (Elt Ideal) G_arg18 (ix2 ⟨a, ha⟩ ⟨b, hb⟩) = dx a b)
include hd hxh hr hc hdx

/-- The invariant of the second loop. -/
theorem two_inv (n : ℕ) (hn : n ≤ k0_t2_loop.trips) : TwoInv d xh dx r cc (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 G_arg9 G_arg18 G_arg20 G_arg21 n) n := by
  induction n with
  | zero => exact ⟨by intro p hp; exact absurd hp List.not_mem_nil, fun y h => absurd h (by omega), by intro p hp; exact absurd hp List.not_mem_nil⟩
  | succ n ih =>
    have I := ih (by omega)
    have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 G_arg9 G_arg18 G_arg20 G_arg21 ⟨n, hn⟩
    rw [show n + 1 = (⟨n, hn⟩ : Fin k0_t2_loop.trips).val + 1 from rfl, e]
    generalize (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 G_arg9 G_arg18 G_arg20 G_arg21 (⟨n, hn⟩ : Fin k0_t2_loop.trips).val) = S at I ⊢
    have hdx' : ∀ (a b : ℕ) (ha : a < 128) (hb : b < 4096) (hB : 256 * (⟨n, hn⟩ : Fin k0_t2_loop.trips).val ≤ b), arg18.view.read (Elt Ideal) (arg18.view.writes (Elt Ideal) G_arg18 S.2.1) (ix2 ⟨a, ha⟩ ⟨b, hb⟩) = dx a b := by
      intro a b ha hb hB
      rw [← hdx a b ha hb]
      refine View.read_writes_apply_of_forall_not_mem _ _ _ _ ?_
      intro p hp hy
      have := I.in18 p hp _ hy
      have h2 : b < 256 * n := this
      have h3 : 256 * n ≤ b := hB
      omega
    refine ⟨?_, ?_, ?_⟩
    · intro p hp
      rcases List.mem_append.1 hp with hp | hp
      · exact pieces_two 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 ⟨n, hn⟩ (arg9.view.writes (Elt Ideal) G_arg9 S.1) (arg18.view.writes (Elt Ideal) G_arg18 S.2.1) (arg20.view.writes (Elt Ideal) G_arg20 S.2.2.1) (arg21.view.writes (Elt Ideal) G_arg21 S.2.2.2) d xh dx r cc hd hxh hr hc hdx' p hp
      · exact I.p9 p hp
    · intro y h
      by_cases hlt : (y 2).val < 256 * n
      · obtain ⟨p, hp, hy⟩ := I.c9 y hlt; exact ⟨p, List.mem_append_right _ hp, hy⟩
      · obtain ⟨p, hp, hy⟩ := cover_two 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 ⟨n, hn⟩ (arg9.view.writes (Elt Ideal) G_arg9 S.1) (arg18.view.writes (Elt Ideal) G_arg18 S.2.1) (arg20.view.writes (Elt Ideal) G_arg20 S.2.2.1) (arg21.view.writes (Elt Ideal) G_arg21 S.2.2.2) y (by show 256 * n ≤ _; omega) (by have h' : (y 2).val < 256 * (n + 1) := h; show _ < 256 * n + 256; omega)
        exact ⟨p, List.mem_append_left _ hp, hy⟩
    · intro p hp y hy
      rcases List.mem_append.1 hp with hp | hp
      · exact inside_two 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 ⟨n, hn⟩ (arg9.view.writes (Elt Ideal) G_arg9 S.1) (arg18.view.writes (Elt Ideal) G_arg18 S.2.1) (arg20.view.writes (Elt Ideal) G_arg20 S.2.2.1) (arg21.view.writes (Elt Ideal) G_arg21 S.2.2.2) p hp y hy
      · have h' : (y 1).val < 256 * n := I.in18 p hp y hy
        show _ < 256 * (n + 1); omega
end Loop

end Cert.KernelIdeal.Gen

end
-- ==== Proof.KernelIdeal.PointProofs.lean ====
/- One point of the kernel over the extended reals: how the staged values enter the loops, and what the result windows hold after it. -/
module

public import proofs.«01_k».proof.Proof.KernelIdeal.Base
public import Idealize.ShloMosaic.Lib.VecWindow
public import proofs.«01_k».proof.Proof.KernelIdeal.PointDefs
public import proofs.«01_k».proof.Proof.KernelIdeal.One
public import proofs.«01_k».proof.Proof.KernelIdeal.Two
public import Idealize.ShloMosaic.Lib.ValueLayoutCasts
public import Idealize.ShloMosaic.PureOps.Ideal.Laws

@[expose] public section

noncomputable section

namespace Cert.KernelIdeal.Gen

open Idealize.ShloMosaic Idealize.ShloMosaic.TcCoe Idealize.ShloMosaic.Pipeline Idealize.ShloMosaic.ValueIdx

theorem at3_eq (m : Memref sig .tc .vmem S1x128x4096 .bf16) (h : m.IsWhole) (x : Vec Ideal S1x128x4096 .bf16) (a b : ℕ) (ha : a < 128) (hb : b < 4096) :
    m.view.read (Elt Ideal) (h.unread x) (ix3 (0 : Fin 1) ⟨a, ha⟩ ⟨b, hb⟩) = at3 x a b := by
  rw [h.read_unread, at3, dif_pos ⟨ha, hb⟩]

theorem at2_eq (m : Memref sig .tc .vmem S1x4096 .f32) (h : m.IsWhole) (x : Vec Ideal S1x4096 .f32) (b : ℕ) (hb : b < 4096) :
    m.view.read (Elt Ideal) (h.unread x) (ix2 (0 : Fin 1) ⟨b, hb⟩) = at2 x b := by
  rw [h.read_unread, at2, dif_pos hb]

/-- The stored rows of reciprocal standard deviations, entry by entry. -/
theorem pay396_apply (i : grid0.Coords) (w : Vec Ideal S1x256 .f32) (a b : Fin 128) :
    k0_pay396 (F := Ideal) i w (ix2 a b) = w (ix2 (0 : Fin 1) (⟨128 * (i 1).val + a.val, by have : (i 1).val < 2 := (i 1).isLt; omega⟩ : Fin 256)) := by
  have h2 : (i 1).val < 2 := (i 1).isLt
  unfold k0_pay396
  simp only [shapeCast_self]
  rw [transpose_ix2_apply, broadcastTo_1b_ab_apply]
  have key : ∀ (n : ℕ) (hn : n < 2), Scalar.select (Scalar.cmpi CmpIPredicate.eq (BitVec.ofNat 32 n) 1#32)
      (extractStridedSlice S1x128 ![0, 128] w slices_S1x256_o0_128_S1x128) (extractStridedSlice S1x128 ![0, 0] w slices_S1x256_o0_0_S1x128) (ix2 (0 : Fin 1) a)
        = w (ix2 (0 : Fin 1) (⟨128 * n + a.val, by omega⟩ : Fin 256)) := by
    intro n hn
    rcases (by omega : n = 0 ∨ n = 1) with rfl | rfl
    · refine (extractStridedSlice_apply _ w slices_S1x256_o0_0_S1x128 _ (ix2 (0 : Fin 1) (⟨a.val, by omega⟩ : Fin 256)) fun c => ?_).trans ?_
      · match c with
        | ⟨0, _⟩ => rfl
        | ⟨1, _⟩ => show a.val = 0 + a.val; omega
      · exact congrArg w (funext fun c => Fin.ext (by match c with | ⟨0, _⟩ => rfl | ⟨1, _⟩ => show a.val = 128 * 0 + a.val; omega))
    · refine (extractStridedSlice_apply _ w slices_S1x256_o0_128_S1x128 _ (ix2 (0 : Fin 1) (⟨128 + a.val, by omega⟩ : Fin 256)) fun c => ?_).trans ?_
      · match c with
        | ⟨0, _⟩ => rfl
        | ⟨1, _⟩ => rfl
      · exact congrArg w (funext fun c => Fin.ext (by match c with | ⟨0, _⟩ => rfl | ⟨1, _⟩ => show 128 + a.val = 128 * 1 + a.val; omega))
  exact key _ h2

/-- The buffer of reciprocal standard deviations holds one value a row. -/
theorem rows16 (m : Memref sig .tc .vmem S128x128 .f32) (f : m.view.ty.Contents (Elt Ideal)) (i : grid0.Coords) (m3 : Memref sig .tc .vmem S4x256 .f32) (h3 : m3.IsWhole)
    (x : Vec Ideal S4x256 .f32) (inb inb') (L : List (View.Piece (Elt Ideal) S128x128 .f32)) (a b : ℕ) (ha : a < 128) (hb : b < 128) :
    m.view.read (Elt Ideal) (m.view.writes (Elt Ideal) f (⟨Rect.unit (s := S128x128) ![0, 0] S128x128.size inb,
      k0_pay396 (F := Ideal) i (View.readAt (Elt Ideal) m3.view (Rect.unit (s := S4x256) (k0_off1 i) S1x256.size inb').toLoadRect (h3.unread x))⟩ :: L)) (ix2 ⟨a, ha⟩ ⟨b, hb⟩) = rsAt i x a := by
  have h2 : (i 1).val < 2 := (i 1).isLt
  have h4 : (i 0).val < 4 := (i 0).isLt
  have e : (ix2 (⟨a, ha⟩ : Fin 128) (⟨b, hb⟩ : Fin 128) : S128x128.Idx) = (Rect.unit (s := S128x128) ![0, 0] S128x128.size inb).emb (ix2 (⟨a, ha⟩ : Fin 128) (⟨b, hb⟩ : Fin 128)) :=
    funext fun c => Fin.ext (by rw [emb_val]; match c with | ⟨0, _⟩ => show a = 0 + a; omega | ⟨1, _⟩ => show b = 0 + b; omega)
  conv_lhs => rw [e]
  refine (View.read_writes_cons_emb _ _ _ _ _ _).trans ?_
  rw [pay396_apply, rsAt, dif_pos ⟨h4, by omega⟩, View.readAt_eq_ld, h3.read_unread]
  refine congrArg x (funext fun c => Fin.ext ?_)
  have e1 := k0_off1_eq i
  match c with
  | ⟨0, _⟩ => show k0_off1 i 0 + 1 * 0 = (i 0).val; rw [e1]; rfl
  | ⟨1, _⟩ => show k0_off1 i 1 + 1 * (128 * (i 1).val + a) = 128 * (i 1).val + a; rw [e1]; show 0 + 1 * _ = _; omega

/-- The sum of eight rows of 128 lanes along the lanes. -/
theorem lanes_sum (A : FVec Ideal S8x128 .f32) (h : S8x128.Reduces [1] S8) (hφ) (hacc) (s : Fin 8) :
    multiReduction (F := Ideal) .add [1] S8 A 0x00000000#32 h hφ hacc (ix1 s) = ∑ l : Fin 128, A (ix2 s l) := by
  refine (Ideal.multiReduction_add_single _ _ _ _ _ _).trans ?_
  refine Finset.sum_congr rfl fun l _ => congrArg A (funext fun c => Fin.ext ?_)
  match c with
  | ⟨0, _⟩ => rfl
  | ⟨1, _⟩ => rfl

/-- The sum of eight rows of 4096 columns along the rows. -/
theorem rows_sum (A : FVec Ideal S8x4096 .f32) (h : S8x4096.Reduces [0] S4096) (hφ) (hacc) (b : Fin 4096) :
    multiReduction (F := Ideal) .add [0] S4096 A 0x00000000#32 h hφ hacc (ix1 b) = ∑ s : Fin 8, A (ix2 s b) := by
  refine (Ideal.multiReduction_add_single _ _ _ _ _ _).trans ?_
  refine Finset.sum_congr rfl fun l _ => congrArg A (funext fun c => Fin.ext ?_)
  match c with
  | ⟨0, _⟩ => rfl
  | ⟨1, _⟩ => rfl

theorem col_bcast {α : Type} (x : S8x1.Idx → α) (h : S8x1.Broadcasts S8x128) (s : Fin 8) (l : Fin 128) :
    broadcastTo S8x128 x h (ix2 s l) = x (ix2 s (0 : Fin 1)) :=
  broadcastTo_apply x h _ _ fun c => match c with
    | ⟨0, _⟩ => rfl
    | ⟨1, _⟩ => rfl

theorem scaled (x : FVec Ideal S8x1 .f32) (h h' h'') (s : Fin 8) (l : Fin 128) :
    shapeCast S8x128 (broadcastTo S8x128 (shapeCast S8x1 (mulf x (broadcast S8x1 (Scalar.ofBits (F := Ideal) .f32 0x39800000#32))) h) h') h'' (ix2 s l) = x (ix2 s (0 : Fin 1)) * Ideal.ofBits .f32 0x39800000#32 := by
  rw [shapeCast_self, col_bcast, shapeCast_self]; rfl

/-- Eight rows of means from eight carried sums. -/
theorem pay420_apply (A : FVec Ideal S8x128 .f32) (s : Fin 8) (l : Fin 128) :
    k0_pay420 (F := Ideal) A (ix2 s l) = (∑ l : Fin 128, A (ix2 s l)) * Ideal.ofBits .f32 0x39800000#32 := by
  unfold k0_pay420
  refine (scaled _ _ _ _ s l).trans ?_
  rw [shapeCast_a_a1_apply]
  exact congrArg (· * Ideal.ofBits .f32 0x39800000#32) (lanes_sum A _ _ _ s)

/-- The block's row of sums for gamma. -/
theorem pay417_apply (A : FVec Ideal S8x4096 .f32) (u : Fin 1) (b : Fin 4096) : k0_pay417 (F := Ideal) A (ix2 u b) = ∑ s : Fin 8, A (ix2 s b) := by
  unfold k0_pay417
  refine (shapeCast_a_1a_apply _ _ u b).trans ?_
  exact rows_sum _ _ _ _ b

theorem pay418_apply (A : FVec Ideal S8x4096 .f32) (u v : Fin 1) (b : Fin 4096) : k0_pay418 (F := Ideal) A (ix3 u v b) = ∑ s : Fin 8, A (ix2 s b) := by
  unfold k0_pay418
  refine (shapeCast_ab_1ab_apply _ _ u v b).trans ?_
  exact pay417_apply A v b

theorem pay419_apply (A : FVec Ideal S8x4096 .f32) (w : FVec Ideal S1x4096 .f32) (b : Fin 4096) :
    k0_pay419 (F := Ideal) A w (ix2 (0 : Fin 1) b) = w (ix2 (0 : Fin 1) b) + ∑ s : Fin 8, A (ix2 s b) := by
  unfold k0_pay419
  rw [addf_apply, shapeCast_self, pay417_apply]

/-- A piece of eight rows of means stands at its place. -/
theorem piece_rows (F : ℕ → ℕ → EReal) (n : ℕ) (A P : FVec Ideal S8x128 .f32) (inb : ∀ a, (![n, 0] : Fin 2 → ℕ) a + S8x128.size a ≤ S128x128.size a)
    (hP : P = k0_pay420 (F := Ideal) A) (hA : ∀ (s : Fin 8) (l : Fin 128), A (ix2 s l) = F (n + s.val) l.val) (y : S8x128.Idx) :
    P y = (fun z : S128x128.Idx => (∑ l : Fin 128, F (z 0).val l.val) * Ideal.ofBits .f32 0x39800000#32) ((Rect.unit (s := S128x128) ![n, 0] S8x128.size inb).emb y) := by
  subst hP
  obtain ⟨s, l, rfl⟩ : ∃ (s : Fin 8) (l : Fin 128), y = ix2 s l := ⟨y 0, y 1, eq_ix2 y⟩
  rw [pay420_apply]
  show _ = (∑ l : Fin 128, F _ l.val) * _
  rw [emb_val]
  refine congrArg (· * Ideal.ofBits .f32 0x39800000#32) (Finset.sum_congr rfl fun l _ => ?_)
  exact hA _ l

/-- The pieces of the row means, the last stored first. -/
def pieces17 (A : Acc) : List (View.Piece (Elt Ideal) S128x128 .f32) := [
    ⟨Rect.unit (s := S128x128) ![120, 0] S8x128.size inb_S128x128_S8x128_120_0, k0_pay438 (F := Ideal) (A.2.2.2.2.2.2.2.2.2.2.2.2.2.2.2)⟩,
    ⟨Rect.unit (s := S128x128) ![112, 0] S8x128.size inb_S128x128_S8x128_112_0, k0_pay437 (F := Ideal) (A.2.2.2.2.2.2.2.2.2.2.2.2.2.2.1)⟩,
    ⟨Rect.unit (s := S128x128) ![104, 0] S8x128.size inb_S128x128_S8x128_104_0, k0_pay436 (F := Ideal) (A.2.2.2.2.2.2.2.2.2.2.2.2.2.1)⟩,
    ⟨Rect.unit (s := S128x128) ![96, 0] S8x128.size inb_S128x128_S8x128_96_0, k0_pay435 (F := Ideal) (A.2.2.2.2.2.2.2.2.2.2.2.2.1)⟩,
    ⟨Rect.unit (s := S128x128) ![88, 0] S8x128.size inb_S128x128_S8x128_88_0, k0_pay434 (F := Ideal) (A.2.2.2.2.2.2.2.2.2.2.2.1)⟩,
    ⟨Rect.unit (s := S128x128) ![80, 0] S8x128.size inb_S128x128_S8x128_80_0, k0_pay433 (F := Ideal) (k0_pay432 (F := Ideal) (A.2.2.2.2.2.2.2.2.2.2.1))⟩,
    ⟨Rect.unit (s := S128x128) ![72, 0] S8x128.size inb_S128x128_S8x128_72_0, k0_pay431 (F := Ideal) (A.2.2.2.2.2.2.2.2.2.1)⟩,
    ⟨Rect.unit (s := S128x128) ![64, 0] S8x128.size inb_S128x128_S8x128_64_0, k0_pay430 (F := Ideal) (A.2.2.2.2.2.2.2.2.1)⟩,
    ⟨Rect.unit (s := S128x128) ![56, 0] S8x128.size inb_S128x128_S8x128_56_0, k0_pay429 (F := Ideal) (A.2.2.2.2.2.2.2.1)⟩,
    ⟨Rect.unit (s := S128x128) ![48, 0] S8x128.size inb_S128x128_S8x128_48_0, k0_pay428 (F := Ideal) (k0_pay427 (F := Ideal) (A.2.2.2.2.2.2.1))⟩,
    ⟨Rect.unit (s := S128x128) ![40, 0] S8x128.size inb_S128x128_S8x128_40_0, k0_pay426 (F := Ideal) (A.2.2.2.2.2.1)⟩,
    ⟨Rect.unit (s := S128x128) ![32, 0] S8x128.size inb_S128x128_S8x128_32_0, k0_pay425 (F := Ideal) (A.2.2.2.2.1)⟩,
    ⟨Rect.unit (s := S128x128) ![24, 0] S8x128.size inb_S128x128_S8x128_24_0, k0_pay424 (F := Ideal) (A.2.2.2.1)⟩,
    ⟨Rect.unit (s := S128x128) ![16, 0] S8x128.size inb_S128x128_S8x128_16_0, k0_pay423 (F := Ideal) (k0_pay422 (F := Ideal) (A.2.2.1))⟩,
    ⟨Rect.unit (s := S128x128) ![8, 0] S8x128.size inb_S128x128_S8x128_8_0, k0_pay421 (F := Ideal) (A.2.1)⟩,
    ⟨Rect.unit (s := S128x128) ![0, 0] S8x128.size inb_S128x128_S8x128_0_0, k0_pay420 (F := Ideal) (A.1)⟩]

/-- The buffer of row means holds one value a row. -/
theorem rows17 (m : Memref sig .tc .vmem S128x128 .f32) (f : m.view.ty.Contents (Elt Ideal)) (A : Acc) (F : ℕ → ℕ → EReal) (hA : AccIs A F)
    (a b : ℕ) (ha : a < 128) (hb : b < 128) :
    m.view.read (Elt Ideal) (m.view.writes (Elt Ideal) f (pieces17 A)) (ix2 ⟨a, ha⟩ ⟨b, hb⟩) = (∑ l : Fin 128, F a l.val) * Ideal.ofBits .f32 0x39800000#32 := by
  refine View.read_writes_apply_of_pieces (Val := Elt Ideal) (e := .f32) _ _ (fun z : S128x128.Idx => (∑ l : Fin 128, F (z 0).val l.val) * Ideal.ofBits .f32 0x39800000#32) _ ?_ _ ?_
  · intro p hp
    simp only [pieces17, List.mem_cons, List.not_mem_nil, or_false] at hp
    rcases hp with rfl | rfl | rfl | rfl | rfl | rfl | rfl | rfl | rfl | rfl | rfl | rfl | rfl | rfl | rfl | rfl
    · exact piece_rows F 120 (A.2.2.2.2.2.2.2.2.2.2.2.2.2.2.2) _ inb_S128x128_S8x128_120_0 rfl fun s l => (hA s l).2.2.2.2.2.2.2.2.2.2.2.2.2.2.2
    · exact piece_rows F 112 (A.2.2.2.2.2.2.2.2.2.2.2.2.2.2.1) _ inb_S128x128_S8x128_112_0 rfl fun s l => (hA s l).2.2.2.2.2.2.2.2.2.2.2.2.2.2.1
    · exact piece_rows F 104 (A.2.2.2.2.2.2.2.2.2.2.2.2.2.1) _ inb_S128x128_S8x128_104_0 rfl fun s l => (hA s l).2.2.2.2.2.2.2.2.2.2.2.2.2.1
    · exact piece_rows F 96 (A.2.2.2.2.2.2.2.2.2.2.2.2.1) _ inb_S128x128_S8x128_96_0 rfl fun s l => (hA s l).2.2.2.2.2.2.2.2.2.2.2.2.1
    · exact piece_rows F 88 (A.2.2.2.2.2.2.2.2.2.2.2.1) _ inb_S128x128_S8x128_88_0 rfl fun s l => (hA s l).2.2.2.2.2.2.2.2.2.2.2.1
    · exact piece_rows F 80 (A.2.2.2.2.2.2.2.2.2.2.1) _ inb_S128x128_S8x128_80_0 rfl fun s l => (hA s l).2.2.2.2.2.2.2.2.2.2.1
    · exact piece_rows F 72 (A.2.2.2.2.2.2.2.2.2.1) _ inb_S128x128_S8x128_72_0 rfl fun s l => (hA s l).2.2.2.2.2.2.2.2.2.1
    · exact piece_rows F 64 (A.2.2.2.2.2.2.2.2.1) _ inb_S128x128_S8x128_64_0 rfl fun s l => (hA s l).2.2.2.2.2.2.2.2.1
    · exact piece_rows F 56 (A.2.2.2.2.2.2.2.1) _ inb_S128x128_S8x128_56_0 rfl fun s l => (hA s l).2.2.2.2.2.2.2.1
    · exact piece_rows F 48 (A.2.2.2.2.2.2.1) _ inb_S128x128_S8x128_48_0 rfl fun s l => (hA s l).2.2.2.2.2.2.1
    · exact piece_rows F 40 (A.2.2.2.2.2.1) _ inb_S128x128_S8x128_40_0 rfl fun s l => (hA s l).2.2.2.2.2.1
    · exact piece_rows F 32 (A.2.2.2.2.1) _ inb_S128x128_S8x128_32_0 rfl fun s l => (hA s l).2.2.2.2.1
    · exact piece_rows F 24 (A.2.2.2.1) _ inb_S128x128_S8x128_24_0 rfl fun s l => (hA s l).2.2.2.1
    · exact piece_rows F 16 (A.2.2.1) _ inb_S128x128_S8x128_16_0 rfl fun s l => (hA s l).2.2.1
    · exact piece_rows F 8 (A.2.1) _ inb_S128x128_S8x128_8_0 rfl fun s l => (hA s l).2.1
    · exact piece_rows F 0 (A.1) _ inb_S128x128_S8x128_0_0 rfl fun s l => (hA s l).1
  · have hc : a / 8 < 16 := by omega
    unfold pieces17
    have key : ∀ n : ℕ, 8 * n ≤ a → a < 8 * n + 8 → ∀ (inb : ∀ c, (![8 * n, 0] : Fin 2 → ℕ) c + S8x128.size c ≤ S128x128.size c),
        (ix2 (⟨a, ha⟩ : Fin 128) (⟨b, hb⟩ : Fin 128) : S128x128.Idx) ∈ (Rect.unit (s := S128x128) ![8 * n, 0] S8x128.size inb).set := by
      intro n h1 h2 inb
      simp only [Rect.mem_set_unit]
      intro c
      match c with
      | ⟨0, _⟩ => exact ⟨h1, h2⟩
      | ⟨1, _⟩ => exact ⟨Nat.zero_le _, by show b < 0 + 128; omega⟩
    have hcase : (8 * 15 ≤ a ∧ a < 8 * 15 + 8) ∨ (8 * 14 ≤ a ∧ a < 8 * 14 + 8) ∨ (8 * 13 ≤ a ∧ a < 8 * 13 + 8) ∨ (8 * 12 ≤ a ∧ a < 8 * 12 + 8) ∨ (8 * 11 ≤ a ∧ a < 8 * 11 + 8) ∨ (8 * 10 ≤ a ∧ a < 8 * 10 + 8) ∨ (8 * 9 ≤ a ∧ a < 8 * 9 + 8) ∨ (8 * 8 ≤ a ∧ a < 8 * 8 + 8) ∨ (8 * 7 ≤ a ∧ a < 8 * 7 + 8) ∨ (8 * 6 ≤ a ∧ a < 8 * 6 + 8) ∨ (8 * 5 ≤ a ∧ a < 8 * 5 + 8) ∨ (8 * 4 ≤ a ∧ a < 8 * 4 + 8) ∨ (8 * 3 ≤ a ∧ a < 8 * 3 + 8) ∨ (8 * 2 ≤ a ∧ a < 8 * 2 + 8) ∨ (8 * 1 ≤ a ∧ a < 8 * 1 + 8) ∨ (8 * 0 ≤ a ∧ a < 8 * 0 + 8) := by omega
    rcases hcase with h | h | h | h | h | h | h | h | h | h | h | h | h | h | h | h
    · exact ⟨_, List.mem_cons_self, key 15 h.1 h.2 inb_S128x128_S8x128_120_0⟩
    · exact ⟨_, List.mem_cons_of_mem _ List.mem_cons_self, key 14 h.1 h.2 inb_S128x128_S8x128_112_0⟩
    · exact ⟨_, List.mem_cons_of_mem _ (List.mem_cons_of_mem _ List.mem_cons_self), key 13 h.1 h.2 inb_S128x128_S8x128_104_0⟩
    · exact ⟨_, List.mem_cons_of_mem _ (List.mem_cons_of_mem _ (List.mem_cons_of_mem _ List.mem_cons_self)), key 12 h.1 h.2 inb_S128x128_S8x128_96_0⟩
    · exact ⟨_, List.mem_cons_of_mem _ (List.mem_cons_of_mem _ (List.mem_cons_of_mem _ (List.mem_cons_of_mem _ List.mem_cons_self))), key 11 h.1 h.2 inb_S128x128_S8x128_88_0⟩
    · exact ⟨_, List.mem_cons_of_mem _ (List.mem_cons_of_mem _ (List.mem_cons_of_mem _ (List.mem_cons_of_mem _ (List.mem_cons_of_mem _ List.mem_cons_self)))), key 10 h.1 h.2 inb_S128x128_S8x128_80_0⟩
    · exact ⟨_, List.mem_cons_of_mem _ (List.mem_cons_of_mem _ (List.mem_cons_of_mem _ (List.mem_cons_of_mem _ (List.mem_cons_of_mem _ (List.mem_cons_of_mem _ List.mem_cons_self))))), key 9 h.1 h.2 inb_S128x128_S8x128_72_0⟩
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), key 8 h.1 h.2 inb_S128x128_S8x128_64_0⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))), key 7 h.1 h.2 inb_S128x128_S8x128_56_0⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), key 6 h.1 h.2 inb_S128x128_S8x128_48_0⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), key 5 h.1 h.2 inb_S128x128_S8x128_40_0⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), key 4 h.1 h.2 inb_S128x128_S8x128_32_0⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), key 3 h.1 h.2 inb_S128x128_S8x128_24_0⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), key 2 h.1 h.2 inb_S128x128_S8x128_16_0⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), key 1 h.1 h.2 inb_S128x128_S8x128_8_0⟩
    · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), key 0 h.1 h.2 inb_S128x128_S8x128_0_0⟩

/-- The whole of a staged row. -/
theorem whole_row (m : Memref sig .tc .vmem S1x4096 .f32) (hm : m.IsWhole) (x : Vec Ideal S1x4096 .f32) (inb) (b : Fin 4096) :
    View.readAt (Elt Ideal) m.view (Rect.unit (s := S1x4096) ![0, 0] S1x4096.size inb).toLoadRect (hm.unread x) (ix2 (0 : Fin 1) b) = x (ix2 (0 : Fin 1) b) := by
  rw [View.readAt_eq_ld, hm.read_unread]
  refine congrArg x (funext fun c => Fin.ext ?_)
  match c with
  | ⟨0, _⟩ => rfl
  | ⟨1, _⟩ => show 0 + 1 * b.val = b.val; omega

/-- The row of zeros that the first point stores, read back. -/
theorem zero_row (m : Memref sig .tc .vmem S1x4096 .f32) (inb inb') (b : Fin 4096) :
    m.view.readCov [(⟨Rect.unit (s := S1x4096) ![0, 0] S1x4096.size inb', k0_pay395 (F := Ideal)⟩ : View.Piece (Elt Ideal) S1x4096 .f32)]
      (Rect.unit (s := S1x4096) ![0, 0] S1x4096.size inb).toLoadRect (ix2 (0 : Fin 1) b) = (0 : EReal) := by
  refine (congrFun (View.readCov_full m.view inb inb' _ []) _).trans ?_
  exact zero_bits

/-- The carried sums before the first trip: zero. -/
theorem init_zero : AccIs (k0_pay397 (F := Ideal), k0_pay398 (F := Ideal), k0_pay399 (F := Ideal), k0_pay400 (F := Ideal), k0_pay401 (F := Ideal), k0_pay402 (F := Ideal), k0_pay403 (F := Ideal), k0_pay404 (F := Ideal), k0_pay405 (F := Ideal), k0_pay406 (F := Ideal), k0_pay407 (F := Ideal), k0_pay408 (F := Ideal), k0_pay409 (F := Ideal), k0_pay410 (F := Ideal), k0_pay411 (F := Ideal), k0_pay412 (F := Ideal) (Scalar.ofBits (F := Ideal) .f32 0x00000000#32)) fun _ _ => 0 :=
  fun s l => ⟨zero_bits, zero_bits, zero_bits, zero_bits, zero_bits, zero_bits, zero_bits, zero_bits, zero_bits, zero_bits, zero_bits, zero_bits, zero_bits, zero_bits, zero_bits, zero_bits⟩

theorem trips_one : k0_t1_loop.trips = 16 := by rfl
theorem trips_two : k0_t2_loop.trips = 16 := by rfl

/-! ## One point: the first loop's result and the result windows -/

section Point
variable (𝒱 : Variants) (c : Dev nD) (bd : Option 𝒱.V) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (arg1 : BitVec 32) (v18 : FVec Ideal S8x128 .f32) (v19 : FVec Ideal S8x128 .f32) (v20 : FVec Ideal S8x128 .f32) (v21 : FVec Ideal S8x128 .f32) (v22 : FVec Ideal S8x128 .f32) (v23 : FVec Ideal S8x128 .f32) (v24 : FVec Ideal S8x128 .f32) (v25 : FVec Ideal S8x128 .f32) (v26 : FVec Ideal S8x128 .f32) (v27 : FVec Ideal S8x128 .f32) (v28 : FVec Ideal S8x128 .f32) (v29 : FVec Ideal S8x128 .f32) (v30 : FVec Ideal S8x128 .f32) (v31 : FVec Ideal S8x128 .f32) (v32 : FVec Ideal S8x128 .f32) (cst_18 : Ideal .f32) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (X_arg8 : BufTy.Contents (Elt Ideal) arg8.view.ty) (X_arg16 : BufTy.Contents (Elt Ideal) arg16.view.ty)
variable (x0 : Vec Ideal S1x128x4096 .bf16) (x1 : Vec Ideal S4x256 .f32) (x2 : Vec Ideal S1x4096 .f32) (x3 x4 x5 x6 : Vec Ideal S1x128x4096 .bf16)
variable (init : Acc) (h0 : AccIs init fun _ _ => 0)
    (h16 : ∀ (a b : ℕ) (ha : a < 128) (hb : b < 128), arg16.view.read (Elt Ideal) X_arg16 (ix2 ⟨a, ha⟩ ⟨b, hb⟩) = rsAt i x1 a)
include h0 h16

/-- The first loop's sums and scratch blocks at the point. -/
theorem point_one : OneInv (at3 x0) (at3 x4) (at3 x5) (at3 x6) (rsAt i x1) (at2 x2) (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips) 16 :=
  one_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init (at3 x0) (at3 x4) (at3 x5) (at3 x6) (rsAt i x1) (at2 x2) (at3_eq arg2 harg2 x0) (at2_eq arg4 harg4 x2) (at3_eq arg6 harg6 x4)
    (at3_eq arg7 harg7 x5) (at3_eq arg8 harg8 x6) h16 h0 16 (le_of_eq rfl)

/-- The row means' buffer at the point. -/
theorem point_mean (m : Memref sig .tc .vmem S128x128 .f32) (f : m.view.ty.Contents (Elt Ideal)) (a b : ℕ) (ha : a < 128) (hb : b < 128) :
    m.view.read (Elt Ideal) (m.view.writes (Elt Ideal) f (pieces17 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).1)) (ix2 ⟨a, ha⟩ ⟨b, hb⟩) = meanAt (at3 x0) (at3 x4) (at3 x5) (at3 x6) (rsAt i x1) (at2 x2) a :=
  rows17 m f _ _ (point_one 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg16 x0 x1 x2 x4 x5 x6 init h0 h16).acc a b ha hb

/-- The sums for gamma at the point. -/
theorem point_sums (f : arg26.view.ty.Contents (Elt Ideal)) (inb) (s : Fin 8) (b : Fin 4096) :
    View.readAt (Elt Ideal) arg26.view (Rect.unit (s := S8x4096) ![0, 0] S8x4096.size inb).toLoadRect (arg26.view.writes (Elt Ideal) f (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.2.2) (ix2 s b)
      = fgs (at3 x0) (at3 x4) (at3 x5) (at3 x6) (rsAt i x1) s.val b.val := by
  have I := point_one 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg16 x0 x1 x2 x4 x5 x6 init h0 h16
  rw [View.readAt_eq_ld]
  refine (View.read_writes_apply_of_pieces (Val := Elt Ideal) (e := .f32) _ _ (fun z : S8x4096.Idx => fgs (at3 x0) (at3 x4) (at3 x5) (at3 x6) (rsAt i x1) (z 0).val (z 1).val) _ I.p26 _ (I.c26 _ ?_)).trans ?_
  · show 0 + 1 * b.val < 256 * 16
    omega
  · show fgs _ _ _ _ _ (0 + 1 * s.val) (0 + 1 * b.val) = _
    rw [show 0 + 1 * s.val = s.val by omega, show 0 + 1 * b.val = b.val by omega]

/-- The gradient of gamma at the point. -/
theorem point_10 (m : Memref sig .tc .vmem S1x4096 .f32) (g : m.view.ty.Contents (Elt Ideal)) (f : arg26.view.ty.Contents (Elt Ideal)) (inb inb') (w : FVec Ideal S1x4096 .f32) (base : Fin 4096 → EReal)
    (hw : ∀ b : Fin 4096, w (ix2 (0 : Fin 1) b) = base b) (L : List (View.Piece (Elt Ideal) S1x4096 .f32)) :
    Post10 i base x0 x1 x4 x5 x6 (m.view.read (Elt Ideal) (m.view.writes (Elt Ideal) g (⟨Rect.unit (s := S1x4096) ![0, 0] S1x4096.size inb,
      k0_pay419 (F := Ideal) (View.readAt (Elt Ideal) arg26.view (Rect.unit (s := S8x4096) ![0, 0] S8x4096.size inb').toLoadRect (arg26.view.writes (Elt Ideal) f (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.2.2)) w⟩ :: L))) := by
  intro b
  have e : (ix2 (0 : Fin 1) b : S1x4096.Idx) = (Rect.unit (s := S1x4096) ![0, 0] S1x4096.size inb).emb (ix2 (0 : Fin 1) b) :=
    funext fun c => Fin.ext (by rw [emb_val]; match c with | ⟨0, _⟩ => rfl | ⟨1, _⟩ => show b.val = 0 + b.val; omega)
  conv_lhs => rw [e]
  refine (View.read_writes_cons_emb _ _ _ _ _ _).trans ?_
  rw [pay419_apply, hw]
  unfold partOf partAt
  exact congrArg (base b + ·) (Finset.sum_congr rfl fun s _ => point_sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg16 x0 x1 x2 x4 x5 x6 init h0 h16 f inb' s b)

/-- The two rows' window at the point. -/
theorem point_11 (m : Memref sig .tc .vmem S1x2x4096 .f32) (hm : m.IsWhole) (x9 : Vec Ideal S1x2x4096 .f32) (f : arg26.view.ty.Contents (Elt Ideal)) (inb inb') :
    Post11 i x9 x0 x1 x4 x5 x6 (m.view.read (Elt Ideal) (m.view.writes (Elt Ideal) (hm.unread x9) [⟨Rect.unit (s := S1x2x4096) (k0_off20 i) S1x1x4096.size inb,
      k0_pay418 (F := Ideal) (View.readAt (Elt Ideal) arg26.view (Rect.unit (s := S8x4096) ![0, 0] S8x4096.size inb').toLoadRect (arg26.view.writes (Elt Ideal) f (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.2.2))⟩])) := by
  intro j b
  have ho := k0_off20_eq i
  split_ifs with hj
  · have e : (ix3 (0 : Fin 1) j b : S1x2x4096.Idx) = (Rect.unit (s := S1x2x4096) (k0_off20 i) S1x1x4096.size inb).emb (ix3 (0 : Fin 1) (0 : Fin 1) b) :=
      funext fun c => Fin.ext (by
        rw [emb_val]
        match c with
        | ⟨0, _⟩ => show 0 = k0_off20 i 0 + 0; rw [ho]; rfl
        | ⟨1, _⟩ => show j.val = k0_off20 i 1 + 0; rw [ho]; exact hj
        | ⟨2, _⟩ => show b.val = k0_off20 i 2 + b.val; rw [ho]; show b.val = 0 + b.val; omega)
    conv_lhs => rw [e]
    refine (View.read_writes_cons_emb _ _ _ _ _ _).trans ?_
    rw [pay418_apply]
    unfold partOf partAt
    exact Finset.sum_congr rfl fun s _ => point_sums 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg16 x0 x1 x2 x4 x5 x6 init h0 h16 f inb' s b
  · refine (View.read_writes_cons_miss_of_axis _ _ _ _ _ 1 (i 1).val 1 ?_ rfl rfl ?_).trans ?_
    · show k0_off20 i 1 = _
      rw [ho]; rfl
    · show j.val < (i 1).val ∨ (i 1).val + 1 ≤ j.val
      omega
    · exact congrFun (hm.read_unread x9) _

/-- The result's block at the point. -/
theorem point_9 (v35_15 : FVec Ideal S8x128 .f32) (X_arg17 : BufTy.Contents (Elt Ideal) arg17.view.ty) (G_arg9 f7 : BufTy.Contents (Elt Ideal) arg9.view.ty)
    (f16 : BufTy.Contents (Elt Ideal) arg18.view.ty) (f17 : BufTy.Contents (Elt Ideal) arg19.view.ty) (G_arg20 : BufTy.Contents (Elt Ideal) arg20.view.ty) (G_arg21 : BufTy.Contents (Elt Ideal) arg21.view.ty)
    (h17 : ∀ (a b : ℕ) (ha : a < 128) (hb : b < 128), arg17.view.read (Elt Ideal) X_arg17 (ix2 ⟨a, ha⟩ ⟨b, hb⟩) = meanAt (at3 x0) (at3 x4) (at3 x5) (at3 x6) (rsAt i x1) (at2 x2) a) :
    Post9 i x0 x1 x2 x3 x4 x5 x6 (arg9.view.read (Elt Ideal) (arg9.view.writes (Elt Ideal) f7 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 (harg5.unread x3) X_arg16 X_arg17 (arg19.view.writes (Elt Ideal) f17 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.2.1) G_arg9 (arg18.view.writes (Elt Ideal) f16 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.1) G_arg20 G_arg21 k0_t2_loop.trips).1)) := by
  have I := point_one 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg16 x0 x1 x2 x4 x5 x6 init h0 h16
  have J := two_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 (harg5.unread x3) X_arg16 X_arg17 (arg19.view.writes (Elt Ideal) f17 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.2.1) G_arg9 (arg18.view.writes (Elt Ideal) f16 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.1) G_arg20 G_arg21 (at3 x3) (fxh (at3 x0) (rsAt i x1)) (fdx (at3 x4) (at3 x5) (at3 x6) (at2 x2)) (rsAt i x1) (meanAt (at3 x0) (at3 x4) (at3 x5) (at3 x6) (rsAt i x1) (at2 x2))
    (at3_eq arg5 harg5 x3)
    (fun a b ha hb => View.read_writes_apply_of_pieces (Val := Elt Ideal) (e := .f32) _ _ (fun z : S128x4096.Idx => fxh (at3 x0) (rsAt i x1) (z 0).val (z 1).val) _ I.p19 _ (I.c19 _ (by show b < 256 * 16; omega)))
    h16 h17
    (fun a b ha hb => View.read_writes_apply_of_pieces (Val := Elt Ideal) (e := .f32) _ _ (fun z : S128x4096.Idx => fdx (at3 x4) (at3 x5) (at3 x6) (at2 x2) (z 0).val (z 1).val) _ I.p18 _ (I.c18 _ (by show b < 256 * 16; omega)))
    16 (le_of_eq rfl)
  intro a b
  exact View.read_writes_apply_of_pieces (Val := Elt Ideal) (e := .bf16) _ _ (fun z : S1x128x4096.Idx => fout' (at3 x3) (rsAt i x1) (meanAt (at3 x0) (at3 x4) (at3 x5) (at3 x6) (rsAt i x1) (at2 x2)) (fdx (at3 x4) (at3 x5) (at3 x6) (at2 x2)) (fxh (at3 x0) (rsAt i x1)) (z 1).val (z 2).val) _ J.p9 _ (J.c9 _ (by show b.val < 256 * 16; omega))
end Point

end Cert.KernelIdeal.Gen

end
-- ==== Proof.KernelIdeal.TripC.lean ====
/- One trip of the second loop over the extended reals: what it writes in the first scratch block. -/
module

public import proofs.«01_k».proof.Proof.KernelIdeal.Base
public import proofs.«01_k».proof.Proof.KernelIdeal.TripB
public import Idealize.ShloMosaic.Lib.Writes
public import Idealize.ShloMosaic.Lib.ValueIdx
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.ShloMosaic.Pipeline Idealize.ShloMosaic.ValueIdx

section Trip
variable (𝒱 : Variants) (c : Dev nD) (bd : Option 𝒱.V) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (v35_15 : FVec Ideal S8x128 .f32) (X_arg5 : BufTy.Contents (Elt Ideal) arg5.view.ty) (X_arg16 : BufTy.Contents (Elt Ideal) arg16.view.ty) (X_arg17 : BufTy.Contents (Elt Ideal) arg17.view.ty) (X_arg19 : BufTy.Contents (Elt Ideal) arg19.view.ty)
variable (k : Fin k0_t2_loop.trips) (f_arg9 : BufTy.Contents (Elt Ideal) arg9.view.ty) (f_arg18 : BufTy.Contents (Elt Ideal) arg18.view.ty) (f_arg20 : BufTy.Contents (Elt Ideal) arg20.view.ty) (f_arg21 : BufTy.Contents (Elt Ideal) arg21.view.ty)

set_option maxHeartbeats 4000000 in
/-- The boxes of the trip's pieces of the scratch block cover its 256 columns. -/
theorem cover_two18 (y : S128x4096.Idx) (h0 : 256 * k.val ≤ (y 1).val) (h1 : (y 1).val < 256 * k.val + 256) :
    (∃ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 k f_arg9 f_arg18 f_arg20 f_arg21).2.1, y ∈ p.1.set) := by
  have e0 : (y 0).val < 128 := (y 0).isLt
  unfold tripL_k0_t2 trip_k0_t2
  dsimp only
  simp only [List.mem_cons, List.not_mem_nil, or_false, exists_eq_or_imp, exists_eq_left, Rect.mem_set_unit, o21_0 k, o21_1 k, o23_0 k, o23_1 k, o25_0 k, o25_1 k, o27_0 k, o27_1 k, o29_0 k, o29_1 k, o31_0 k, o31_1 k, o33_0 k, o33_1 k, o35_0 k, o35_1 k, Fin.forall_fin_succ, Fin.forall_fin_zero_pi, Fin.isEmpty, IsEmpty.forall_iff, and_true, Fin.succ_zero_eq_one, Fin.succ_one_eq_two, Matrix.cons_val_zero, Matrix.cons_val_one, Matrix.cons_val]
  have hm : (y 1).val < 256 * k.val + 128 ∨ 256 * k.val + 128 ≤ (y 1).val := by omega
  have hn : (0 ≤ (y 0).val ∧ (y 0).val < 16) ∨ (16 ≤ (y 0).val ∧ (y 0).val < 32) ∨ (32 ≤ (y 0).val ∧ (y 0).val < 48) ∨ (48 ≤ (y 0).val ∧ (y 0).val < 64) ∨ (64 ≤ (y 0).val ∧ (y 0).val < 80) ∨ (80 ≤ (y 0).val ∧ (y 0).val < 96) ∨ (96 ≤ (y 0).val ∧ (y 0).val < 112) ∨ (112 ≤ (y 0).val ∧ (y 0).val < 128) := by omega
  rcases hm with hm | hm <;> rcases hn with hn | hn | hn | hn | hn | hn | hn | hn <;>
    (repeat (first | (refine Or.inl ?_; omega) | refine Or.inr ?_)) <;> omega

variable (d xh dx : ℕ → ℕ → EReal) (r cc : ℕ → EReal)
    (hd : ∀ (a b : ℕ) (ha : a < 128) (hb : b < 4096), arg5.view.read (Elt Ideal) X_arg5 (ix3 (0 : Fin 1) ⟨a, ha⟩ ⟨b, hb⟩) = d a b)
    (hxh : ∀ (a b : ℕ) (ha : a < 128) (hb : b < 4096), arg19.view.read (Elt Ideal) X_arg19 (ix2 ⟨a, ha⟩ ⟨b, hb⟩) = xh a b)
    (hr : ∀ (a b : ℕ) (ha : a < 128) (hb : b < 128), arg16.view.read (Elt Ideal) X_arg16 (ix2 ⟨a, ha⟩ ⟨b, hb⟩) = r a)
    (hc : ∀ (a b : ℕ) (ha : a < 128) (hb : b < 128), arg17.view.read (Elt Ideal) X_arg17 (ix2 ⟨a, ha⟩ ⟨b, hb⟩) = cc a)
    (hdx : ∀ (a b : ℕ) (ha : a < 128) (hb : b < 4096) (hB : 256 * k.val ≤ b), arg18.view.read (Elt Ideal) f_arg18 (ix2 ⟨a, ha⟩ ⟨b, hb⟩) = dx a b)
include hd hxh hr hc hdx

set_option maxHeartbeats 8000000 in
/-- What the trip writes in the scratch block. -/
theorem pieces_two18 : (∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 k f_arg9 f_arg18 f_arg20 f_arg21).2.1, ∀ y, p.2 y = fout' d r cc dx xh (p.1.emb y 0).val (p.1.emb y 1).val) := by
  have hdx0 : ∀ (a b : ℕ) (ha : a < 128) (hb : b < 4096) (hB : 256 * k.val + 0 ≤ b), arg18.view.read (Elt Ideal) f_arg18 (ix2 ⟨a, ha⟩ ⟨b, hb⟩) = dx a b := fun a b ha hb hB => hdx a b ha hb (by omega)
  have hdx1 : ∀ (a b : ℕ) (ha : a < 128) (hb : b < 4096) (hB : 256 * k.val + 128 ≤ b), arg18.view.read (Elt Ideal) f_arg18 (ix2 ⟨a, ha⟩ ⟨b, hb⟩) = dx a b := fun a b ha hb hB => hdx a b ha hb (by omega)
  have hxh0 : ∀ (a b : ℕ) (ha : a < 128) (hb : b < 4096) (hB : 256 * k.val + 0 ≤ b), arg19.view.read (Elt Ideal) X_arg19 (ix2 ⟨a, ha⟩ ⟨b, hb⟩) = xh a b := fun a b ha hb _ => hxh a b ha hb
  have hxh1 : ∀ (a b : ℕ) (ha : a < 128) (hb : b < 4096) (hB : 256 * k.val + 128 ≤ b), arg19.view.read (Elt Ideal) X_arg19 (ix2 ⟨a, ha⟩ ⟨b, hb⟩) = xh a b := fun a b ha hb _ => hxh a b ha hb
  intro p hp
  unfold tripL_k0_t2 trip_k0_t2 at hp
  dsimp only at hp
  simp only [List.mem_cons, List.not_mem_nil, or_false] at hp
  rcases hp with rfl | rfl | rfl | rfl | rfl | rfl | rfl | rfl | rfl | rfl | rfl | rfl | rfl | rfl | rfl | rfl
  all_goals
    intro y
    obtain ⟨s, l, rfl⟩ : ∃ (s : Fin 16) (l : Fin 128), y = ix2 s l := ⟨y 0, y 1, eq_ix2 y⟩
    simp only [emb_val, o21_0 k, o21_1 k, o23_0 k, o23_1 k, o25_0 k, o25_1 k, o27_0 k, o27_1 k, o29_0 k, o29_1 k, o31_0 k, o31_1 k, o33_0 k, o33_1 k, o35_0 k, o35_1 k]
    simp only [trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_3, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_4, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_5, trip_k0_t2.sl.r_50, trip_k0_t2.sl.r_51, trip_k0_t2.sl.r_52, trip_k0_t2.sl.r_53, trip_k0_t2.sl.r_54, trip_k0_t2.sl.r_55, trip_k0_t2.sl.r_56, trip_k0_t2.sl.r_57, trip_k0_t2.sl.r_58, trip_k0_t2.sl.r_59, trip_k0_t2.sl.r_6, trip_k0_t2.sl.r_60, trip_k0_t2.sl.r_61, trip_k0_t2.sl.r_62, trip_k0_t2.sl.r_63, trip_k0_t2.sl.r_64, trip_k0_t2.sl.r_65, trip_k0_t2.sl.r_66, trip_k0_t2.sl.r_67, trip_k0_t2.sl.r_68, trip_k0_t2.sl.r_69, trip_k0_t2.sl.r_7, trip_k0_t2.sl.r_70, trip_k0_t2.sl.r_8, trip_k0_t2.sl.r_9, trip_k0_t2.sl.v4077, trip_k0_t2.sl.v4109, trip_k0_t2.sl.v4136, trip_k0_t2.sl.v4168, trip_k0_t2.sl.v4195, trip_k0_t2.sl.v4227, trip_k0_t2.sl.v4254, trip_k0_t2.sl.v4286, trip_k0_t2.sl.v4313, trip_k0_t2.sl.v4345, trip_k0_t2.sl.v4372, trip_k0_t2.sl.v4404, trip_k0_t2.sl.v4431, trip_k0_t2.sl.v4463, trip_k0_t2.sl.v4490, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, shapeCast_self, shapeCast_1ab_ab_apply, shapeCast_ab_1ab_apply, broadcastTo_1b_ab_apply, top_rows, bottom_rows, mulf_apply, addf_apply, subf_apply, extf_apply, truncf_apply, broadcast_apply, ld_block arg5 X_arg5 d hd (o22_0 k), ld_block arg5 X_arg5 d hd (o22_1 k), ld_block arg5 X_arg5 d hd (o24_0 k), ld_block arg5 X_arg5 d hd (o24_1 k), ld_block arg5 X_arg5 d hd (o26_0 k), ld_block arg5 X_arg5 d hd (o26_1 k), ld_block arg5 X_arg5 d hd (o28_0 k), ld_block arg5 X_arg5 d hd (o28_1 k), ld_block arg5 X_arg5 d hd (o30_0 k), ld_block arg5 X_arg5 d hd (o30_1 k), ld_block arg5 X_arg5 d hd (o32_0 k), ld_block arg5 X_arg5 d hd (o32_1 k), ld_block arg5 X_arg5 d hd (o34_0 k), ld_block arg5 X_arg5 d hd (o34_1 k), ld_block arg5 X_arg5 d hd (o36_0 k), ld_block arg5 X_arg5 d hd (o36_1 k), ld_scratch arg18 f_arg18 dx (o21_0 k) hdx0, ld_scratch arg18 f_arg18 dx (o21_1 k) hdx1, ld_scratch arg18 f_arg18 dx (o23_0 k) hdx0, ld_scratch arg18 f_arg18 dx (o23_1 k) hdx1, ld_scratch arg18 f_arg18 dx (o25_0 k) hdx0, ld_scratch arg18 f_arg18 dx (o25_1 k) hdx1, ld_scratch arg18 f_arg18 dx (o27_0 k) hdx0, ld_scratch arg18 f_arg18 dx (o27_1 k) hdx1, ld_scratch arg18 f_arg18 dx (o29_0 k) hdx0, ld_scratch arg18 f_arg18 dx (o29_1 k) hdx1, ld_scratch arg18 f_arg18 dx (o31_0 k) hdx0, ld_scratch arg18 f_arg18 dx (o31_1 k) hdx1, ld_scratch arg18 f_arg18 dx (o33_0 k) hdx0, ld_scratch arg18 f_arg18 dx (o33_1 k) hdx1, ld_scratch arg18 f_arg18 dx (o35_0 k) hdx0, ld_scratch arg18 f_arg18 dx (o35_1 k) hdx1, ld_scratch arg19 X_arg19 xh (o21_0 k) hxh0, ld_scratch arg19 X_arg19 xh (o21_1 k) hxh1, ld_scratch arg19 X_arg19 xh (o23_0 k) hxh0, ld_scratch arg19 X_arg19 xh (o23_1 k) hxh1, ld_scratch arg19 X_arg19 xh (o25_0 k) hxh0, ld_scratch arg19 X_arg19 xh (o25_1 k) hxh1, ld_scratch arg19 X_arg19 xh (o27_0 k) hxh0, ld_scratch arg19 X_arg19 xh (o27_1 k) hxh1, ld_scratch arg19 X_arg19 xh (o29_0 k) hxh0, ld_scratch arg19 X_arg19 xh (o29_1 k) hxh1, ld_scratch arg19 X_arg19 xh (o31_0 k) hxh0, ld_scratch arg19 X_arg19 xh (o31_1 k) hxh1, ld_scratch arg19 X_arg19 xh (o33_0 k) hxh0, ld_scratch arg19 X_arg19 xh (o33_1 k) hxh1, ld_scratch arg19 X_arg19 xh (o35_0 k) hxh0, ld_scratch arg19 X_arg19 xh (o35_1 k) hxh1, ld_rows arg16 X_arg16 r hr, ld_rows arg17 X_arg17 cc hc, fout', Matrix.cons_val_zero, Matrix.cons_val_one, Matrix.cons_val, Nat.zero_add, Nat.add_zero, ← Nat.add_assoc, Nat.reduceAdd]
    try rfl
end Trip

end Cert.KernelIdeal.Gen

end
-- ==== Proof.Scale.lean ====
/- Powers of two by their exponent field, the binary search for the field of a number, and why the search and the
   reference's exponent lead to the same scale. -/
module

public import Idealize.ShloMosaic.Lib.ValueIdx
public import Idealize.ShloMosaic.Lib.ValueLayout

@[expose] public section

noncomputable section

namespace Cert.Scale

open Idealize.ShloMosaic

/-- The number whose exponent field is `n` and whose other bits are zero. -/
def pw (n : ℕ) : EReal := Ideal.ofBits .f32 (BitVec.ofNat 32 n <<< 23)

theorem pw_zero : pw 0 = 0 := by
  show Ideal.ofBits .f32 _ = _
  simp [Ideal.ofBits, Ideal.ieee]

theorem pw_pos {n : ℕ} (h0 : 1 ≤ n) (h1 : n ≤ 254) : pw n = (((2 : ℝ) ^ ((n : ℤ) - 127) : ℝ) : EReal) := by
  have e1 : ((BitVec.ofNat 32 n <<< 23).extractLsb' (8 + 23) 1 == 1#1) = false := by
    have : (BitVec.ofNat 32 n <<< 23).extractLsb' (8 + 23) 1 = 0#1 := by
      apply BitVec.eq_of_toNat_eq
      simp only [BitVec.extractLsb'_toNat, BitVec.toNat_shiftLeft, BitVec.toNat_ofNat, Nat.shiftLeft_eq, Nat.shiftRight_eq_div_pow]
      omega
    rw [this]; rfl
  have e2 : ((BitVec.ofNat 32 n <<< 23).extractLsb' 23 8).toNat = n := by
    simp only [BitVec.extractLsb'_toNat, BitVec.toNat_shiftLeft, BitVec.toNat_ofNat, Nat.shiftLeft_eq, Nat.shiftRight_eq_div_pow]
    omega
  have e3 : ((BitVec.ofNat 32 n <<< 23).extractLsb' 0 23).toNat = 0 := by
    simp only [BitVec.extractLsb'_toNat, BitVec.toNat_shiftLeft, BitVec.toNat_ofNat, Nat.shiftLeft_eq, Nat.shiftRight_eq_div_pow]
    omega
  show Ideal.ieee 8 23 _ = _
  unfold Ideal.ieee
  simp only [e1, e2, e3]
  rw [if_neg (show ¬ n = 2 ^ 8 - 1 by omega), if_neg (show ¬ n = 0 by omega)]
  have key : ((if false = true then (-1 : ℝ) else 1) * ((2 ^ 23 + 0 : ℕ) : ℝ) * (2 : ℝ) ^ ((n : ℤ) - (2 ^ (8 - 1) - 1) - (23 : ℕ))) = (2 : ℝ) ^ ((n : ℤ) - 127) := by
    have : ((2 ^ 23 + 0 : ℕ) : ℝ) = (2 : ℝ) ^ (23 : ℤ) := by norm_num
    rw [this, if_neg (by decide), one_mul, ← zpow_add₀ (by norm_num), show (23 : ℤ) + ((n : ℤ) - (2 ^ (8 - 1) - 1) - (23 : ℕ)) = (n : ℤ) - 127 by norm_num]
  rw [← key]

theorem pw_top : pw 255 = ⊤ := by
  show Ideal.ofBits .f32 _ = _
  simp [Ideal.ofBits, Ideal.ieee]

theorem pw_lt {m n : ℕ} (h : m < n) (hn : n ≤ 254) : pw m < pw n := by
  rw [pw_pos (by omega) hn]
  rcases Nat.eq_zero_or_pos m with rfl | hm
  · rw [pw_zero]; exact_mod_cast (by positivity : (0 : ℝ) < 2 ^ ((n : ℤ) - 127))
  · rw [pw_pos hm (by omega)]
    exact_mod_cast zpow_lt_zpow_right₀ (by norm_num : (1 : ℝ) < 2) (by omega : (m : ℤ) - 127 < (n : ℤ) - 127)

theorem pw_le {m n : ℕ} (h : m ≤ n) (hn : n ≤ 254) : pw m ≤ pw n := by
  rcases Nat.lt_or_eq_of_le h with h | rfl
  · exact (pw_lt h hn).le
  · exact le_rfl

/-- One step of the search: the field `f` with the bit `c` added, if the number is at least that power of two. -/
def stepS (c : BitVec 32) (x : EReal) (f : BitVec 32) : BitVec 32 :=
  if Ideal.cmp .oge x (Ideal.ofBits .f32 ((f + c) <<< (23#32).toNat)) = 1#1 then f + c else f

/-- The number lies between the powers of two of the fields `n` and `n + w`. -/
def Near (n w : ℕ) (x : EReal) : Prop := pw n ≤ x ∧ (n + w = 256 ∨ n + w < 256 ∧ x < pw (n + w))

theorem step_near {n c : ℕ} {x : EReal} (hn : n + c < 256) (h : Near n (2 * c) x) :
    ∃ m, stepS (BitVec.ofNat 32 c) x (BitVec.ofNat 32 n) = BitVec.ofNat 32 m ∧ Near m c x ∧ (m = n ∨ m = n + c) := by
  have e : BitVec.ofNat 32 n + BitVec.ofNat 32 c = BitVec.ofNat 32 (n + c) := by rw [BitVec.ofNat_add]
  unfold stepS
  rw [e]
  show ∃ m, (if Ideal.cmp .oge x (pw (n + c)) = 1#1 then _ else _) = _ ∧ _
  by_cases hx : pw (n + c) ≤ x
  · refine ⟨n + c, ?_, ⟨hx, ?_⟩, Or.inr rfl⟩
    · rw [if_pos]; simp [Ideal.cmp, hx]
    · rw [show n + c + c = n + 2 * c by ring]; exact h.2
  · refine ⟨n, ?_, ⟨h.1, Or.inr ⟨hn, not_le.1 hx⟩⟩, Or.inl rfl⟩
    rw [if_neg]; simp [Ideal.cmp, hx]

/-- The whole search, from the highest bit down. -/
def fieldS (x : EReal) : BitVec 32 :=
  stepS 1#32 x (stepS 2#32 x (stepS 4#32 x (stepS 8#32 x (stepS 16#32 x (stepS 32#32 x (stepS 64#32 x (stepS 128#32 x 0#32)))))))

theorem field_near {x : EReal} (hx : 0 ≤ x) : ∃ n, fieldS x = BitVec.ofNat 32 n ∧ n ≤ 255 ∧ Near n 1 x := by
  have h0 : Near 0 (2 * 128) x := ⟨by rw [pw_zero]; exact hx, Or.inl rfl⟩
  obtain ⟨a, ea, ha, _⟩ := step_near (c := 128) (by omega) h0
  obtain ⟨b, eb, hb, _⟩ := step_near (c := 64) (by omega) ha
  obtain ⟨d, ed, hd, _⟩ := step_near (c := 32) (by omega) hb
  obtain ⟨e, ee, he, _⟩ := step_near (c := 16) (by omega) hd
  obtain ⟨f, ef, hf, _⟩ := step_near (c := 8) (by omega) he
  obtain ⟨g, eg, hg, _⟩ := step_near (c := 4) (by omega) hf
  obtain ⟨h, eh, hh, _⟩ := step_near (c := 2) (by omega) hg
  obtain ⟨i, ei, hi, _⟩ := step_near (c := 1) (by omega) hh
  refine ⟨i, ?_, by omega, hi⟩
  unfold fieldS
  rw [ea, eb, ed, ee, ef, eg, eh, ei]

/-- The scale's word from the field: the field mirrored, or one where the field is too small or not a number's. -/
def invS (f : BitVec 32) : BitVec 32 :=
  (if (BitVec.ofBool (f.sle 7#32) ||| BitVec.ofBool (f == 255#32)) = 1#1 then 127#32 else 260#32 - f) <<< (23#32).toNat

theorem invS_small {n : ℕ} (h : n ≤ 7) : invS (BitVec.ofNat 32 n) = 127#32 <<< (23#32).toNat := by
  interval_cases n <;> rfl
theorem invS_mid {n : ℕ} (h : 8 ≤ n) (h' : n ≤ 254) : invS (BitVec.ofNat 32 n) = BitVec.ofNat 32 (260 - n) <<< (23#32).toNat := by
  unfold invS
  have a : (BitVec.ofNat 32 n).sle 7#32 = false := by
    have e7 : (7#32).toInt = 7 := rfl
    rw [BitVec.sle_eq_decide, decide_eq_false_iff_not, BitVec.toInt_ofNat', e7]
    simp only [Int.bmod]; omega
  have b : (BitVec.ofNat 32 n == 255#32) = false := by
    rw [beq_eq_false_iff_ne]; intro hh
    have := congrArg BitVec.toNat hh
    simp at this; omega
  rw [a, b, if_neg (by decide)]
  congr 1
  apply BitVec.eq_of_toNat_eq
  simp; omega

theorem kE : Ideal.ofBits .f32 0x3E920001#32 = ((9568257 / 2 ^ 25 : ℝ) : EReal) := by
  simp [Ideal.ofBits, Ideal.ieee]; rw [← EReal.coe_mul]; norm_num
theorem cE : Ideal.ofBits .f32 0x3B124925#32 = ((9586981 / 2 ^ 32 : ℝ) : EReal) := by
  simp [Ideal.ofBits, Ideal.ieee]; rw [← EReal.coe_mul]; norm_num
theorem mE : Ideal.ofBits .f32 0x3F804189#32 = ((8405385 / 2 ^ 23 : ℝ) : EReal) := by
  simp [Ideal.ofBits, Ideal.ieee]; rw [← EReal.coe_mul]; norm_num

/-- Where the quotient of the maximum is not just above a power of two and not too large, the kernel's scale of the
    group is the reference's: one for the field zero, and otherwise the field's mirror. -/
theorem scale_eq {a : EReal} (ha : 0 ≤ a) {m : ℕ} (hm : m ≤ 246)
    (hup : ∀ n, m < n → n ≤ 254 → a * Ideal.ofBits .f32 0x3B124925#32 < pw n)
    (hlo : Ideal.ofBits .f32 0x3F804189#32 * pw m ≤ a * Ideal.ofBits .f32 0x3B124925#32) :
    invS (fieldS (a * Ideal.ofBits .f32 0x3E920001#32)) = BitVec.ofNat 32 (if m = 0 then 127 else 253 - m) <<< (23#32).toNat ∧ (m ≠ 0 → a ≠ 0) := by
  have h1 := hup (m + 1) (by omega) (by omega)
  rw [pw_pos (by omega) (by omega)] at h1
  rw [cE] at h1 hlo
  have hat : a ≠ ⊤ := by
    rintro rfl
    rw [EReal.top_mul_coe_of_pos (by norm_num)] at h1
    exact absurd h1 (by simp)
  have hab : a ≠ ⊥ := by rintro rfl; simp at ha
  lift a to ℝ using ⟨hat, hab⟩
  have ha' : 0 ≤ a := by exact_mod_cast ha
  rw [kE]
  rw [← EReal.coe_mul] at h1 hlo ⊢
  have h1' : a * (9586981 / 2 ^ 32) < (2 : ℝ) ^ (((m + 1 : ℕ) : ℤ) - 127) := by exact_mod_cast h1
  obtain ⟨n, en, hn, hnear⟩ := field_near (x := ((a * (9568257 / 2 ^ 25) : ℝ) : EReal)) (by exact_mod_cast (by positivity))
  rw [en]
  have hup2 : ((a * (9568257 / 2 ^ 25) : ℝ) : EReal) < pw (m + 8) := by
    rw [pw_pos (by omega) (by omega)]
    have e : (2 : ℝ) ^ (((m + 8 : ℕ) : ℤ) - 127) = 2 ^ (((m + 1 : ℕ) : ℤ) - 127) * 128 := by
      rw [show (((m + 8 : ℕ) : ℤ) - 127) = (((m + 1 : ℕ) : ℤ) - 127) + 7 by push_cast; ring, zpow_add₀ (by norm_num)]; norm_num
    rw [e]
    have : a * (9568257 / 2 ^ 25) < 2 ^ (((m + 1 : ℕ) : ℤ) - 127) * 128 := by nlinarith
    exact_mod_cast this
  have hn8 : n < m + 8 := by
    by_contra hc
    rcases Nat.lt_or_ge n 255 with h | h
    · exact absurd (lt_of_le_of_lt hnear.1 hup2) (not_lt.2 (pw_le (by omega) (by omega)))
    · have : n = 255 := by omega
      subst this
      have := hnear.1
      rw [pw_top] at this
      exact absurd (top_le_iff.1 this) (EReal.coe_ne_top _)
  rcases Nat.eq_zero_or_pos m with rfl | hm0
  · exact ⟨by rw [invS_small (by omega), if_pos rfl], fun h => absurd rfl h⟩
  · rw [mE, pw_pos hm0 (by omega), ← EReal.coe_mul] at hlo
    have hlo' : (8405385 / 2 ^ 23) * (2 : ℝ) ^ ((m : ℤ) - 127) ≤ a * (9586981 / 2 ^ 32) := by exact_mod_cast hlo
    have hpos : (0 : ℝ) < 2 ^ ((m : ℤ) - 127) := by positivity
    have hlo2 : pw (m + 7) ≤ ((a * (9568257 / 2 ^ 25) : ℝ) : EReal) := by
      rw [pw_pos (by omega) (by omega)]
      have e : (2 : ℝ) ^ (((m + 7 : ℕ) : ℤ) - 127) = 2 ^ ((m : ℤ) - 127) * 128 := by
        rw [show (((m + 7 : ℕ) : ℤ) - 127) = ((m : ℤ) - 127) + 7 by push_cast; ring, zpow_add₀ (by norm_num)]; norm_num
      rw [e]
      have : 2 ^ ((m : ℤ) - 127) * 128 ≤ a * (9568257 / 2 ^ 25) := by nlinarith
      exact_mod_cast this
    have hn7 : m + 7 ≤ n := by
      by_contra hc
      rcases hnear.2 with h | ⟨_, h⟩
      · omega
      · exact absurd (lt_of_le_of_lt hlo2 h) (not_lt.2 (pw_le (by omega) (by omega)))
    obtain rfl : n = m + 7 := by omega
    refine ⟨?_, ?_⟩
    · rw [invS_mid (by omega) (by omega), if_neg (by omega), show 260 - (m + 7) = 253 - m by omega]
    · intro _ h0
      have : a = 0 := by exact_mod_cast h0
      subst this
      nlinarith
end Cert.Scale

end
-- ==== Proof.KernelIdeal.Words.lean ====
/- Packed words as the kernel compares them, half by half: the larger of two, of four, the tournament of eight words over
   their eight sublanes, and the scales that come out of it. -/
module

public import proofs.«01_k».proof.Proof.KernelIdeal.Spec
public import proofs.«01_k».proof.Proof.Scale
public import Idealize.ShloMosaic.Lib.Bf16PairInverse
public import Idealize.ShloMosaic.Lib.KernelVsHost
public import Idealize.ShloMosaic.Lib.Pointwise

@[expose] public section

noncomputable section

namespace Cert.KernelIdeal.Gen

open Idealize.ShloMosaic hiding ix2 ix3 ix4 ix5 maximumf_apply
open Idealize.ShloMosaic.TcCoe Idealize.ShloMosaic.Pipeline Idealize.ShloMosaic.ValueIdx

/-- One half of eight words. -/
abbrev Half := FVec Ideal S8x128 .bf16

theorem par0_max (a b c d : Half) (h : S16x128.Bitcasts 16 S8x128 32) :
    rowsOfParity 0 S8x128 (maximumf (interleaveRows S16x128 a b h) (interleaveRows S16x128 c d h)) h = maximumf a c := by
  have e : rowsOfParity 0 S8x128 (maximumf (interleaveRows S16x128 a b h) (interleaveRows S16x128 c d h)) h
      = maximumf (rowsOfParity 0 S8x128 (interleaveRows S16x128 a b h) h) (rowsOfParity 0 S8x128 (interleaveRows S16x128 c d h) h) := rfl
  rw [e, rowsOfParity_zero_interleaveRows, rowsOfParity_zero_interleaveRows]
theorem par1_max (a b c d : Half) (h : S16x128.Bitcasts 16 S8x128 32) :
    rowsOfParity 1 S8x128 (maximumf (interleaveRows S16x128 a b h) (interleaveRows S16x128 c d h)) h = maximumf b d := by
  have e : rowsOfParity 1 S8x128 (maximumf (interleaveRows S16x128 a b h) (interleaveRows S16x128 c d h)) h
      = maximumf (rowsOfParity 1 S8x128 (interleaveRows S16x128 a b h) h) (rowsOfParity 1 S8x128 (interleaveRows S16x128 c d h) h) := rfl
  rw [e, rowsOfParity_one_interleaveRows, rowsOfParity_one_interleaveRows]

theorem cast_118 {α : Type} (x : S8x128.Idx → α) (h1 h2) (s : Fin 8) (l : Fin 128) :
    shapeCast S1x1x8x128 (shapeCast S1x8x128 x h1) h2 (ix4 (0 : Fin 1) (0 : Fin 1) s l) = x (ix2 s l) := by
  rw [shapeCast_apply (shapeCast S1x8x128 x h1) h2 _ (ix3 (0 : Fin 1) s l) (by
    rw [Shape.rowMajor_val_four, Shape.rowMajor_val_three]; show (0 * 8 + s.val) * 128 + l.val = ((0 * 1 + 0) * 8 + s.val) * 128 + l.val; omega)]
  exact shapeCast_ab_1ab_apply x h1 0 s l
theorem cast_11 {α : Type} (x : S8x128.Idx → α) (h) (s : Fin 8) (l : Fin 128) :
    shapeCast S1x1x8x128 x h (ix4 (0 : Fin 1) (0 : Fin 1) s l) = x (ix2 s l) :=
  shapeCast_apply x h _ (ix2 s l) (by
    rw [Shape.rowMajor_val_four, Shape.rowMajor_val_two]; show s.val * 128 + l.val = ((0 * 1 + 0) * 8 + s.val) * 128 + l.val; omega)
theorem cast_8 {α : Type} (x : S1x1x8x128.Idx → α) (h) (s : Fin 8) (l : Fin 128) :
    shapeCast S8x128 x h (ix2 s l) = x (ix4 (0 : Fin 1) (0 : Fin 1) s l) :=
  shapeCast_apply x h _ (ix4 (0 : Fin 1) (0 : Fin 1) s l) (by
    rw [Shape.rowMajor_val_four, Shape.rowMajor_val_two]; show ((0 * 1 + 0) * 8 + s.val) * 128 + l.val = s.val * 128 + l.val; omega)
theorem cast_45 {α : Type} (x : S1x1x8x128.Idx → α) (h) (s : Fin 8) (l : Fin 128) :
    shapeCast S1x1x8x1x128 x h (ix5 (0 : Fin 1) (0 : Fin 1) s (0 : Fin 1) l) = x (ix4 (0 : Fin 1) (0 : Fin 1) s l) :=
  shapeCast_apply x h _ (ix4 (0 : Fin 1) (0 : Fin 1) s l) (by
    rw [Shape.rowMajor_val_four, Shape.rowMajor_val_five]; show ((0 * 1 + 0) * 8 + s.val) * 128 + l.val = ((((0 * 1 + 0) * 8 + s.val) * 1 + 0) * 128 + l.val); omega)
theorem cast_54 {α : Type} (x : S1x1x8x1x128.Idx → α) (h) (s : Fin 8) (l : Fin 128) :
    shapeCast S1x1x8x128 x h (ix4 (0 : Fin 1) (0 : Fin 1) s l) = x (ix5 (0 : Fin 1) (0 : Fin 1) s (0 : Fin 1) l) :=
  shapeCast_apply x h _ (ix5 (0 : Fin 1) (0 : Fin 1) s (0 : Fin 1) l) (by
    rw [Shape.rowMajor_val_four, Shape.rowMajor_val_five]; show ((((0 * 1 + 0) * 8 + s.val) * 1 + 0) * 128 + l.val) = ((0 * 1 + 0) * 8 + s.val) * 128 + l.val; omega)

/-- Eight packed words as they lie in the buffer, read by half. -/
theorem pack_apply {α : Type} (lo hi : S1x1x8x1x128.Idx → α) (h) (s : Fin 8) (t : Fin 2) (l : Fin 128) :
    interleaveRows S1x1x8x2x128 lo hi h (ix5 (0 : Fin 1) (0 : Fin 1) s t l)
      = if t.val = 0 then lo (ix5 (0 : Fin 1) (0 : Fin 1) s (0 : Fin 1) l) else hi (ix5 (0 : Fin 1) (0 : Fin 1) s (0 : Fin 1) l) := by
  rw [interleaveRows_apply]
  have hrow : S1x1x8x2x128.row (ix5 (0 : Fin 1) (0 : Fin 1) s t l) % 2 = 0 ↔ t.val = 0 := by
    have : S1x1x8x2x128.row (ix5 (0 : Fin 1) (0 : Fin 1) s t l) = t.val := rfl
    omega
  by_cases ht : t.val = 0
  · rw [if_pos (hrow.2 ht), if_pos ht]
    refine congrArg lo (funext fun a => Fin.ext ?_)
    match a with
    | ⟨0, _⟩ => rfl
    | ⟨1, _⟩ => rfl
    | ⟨2, _⟩ => rfl
    | ⟨3, _⟩ => show t.val / 2 = 0; omega
    | ⟨4, _⟩ => rfl
  · rw [if_neg (fun h => ht (hrow.1 h)), if_neg ht]
    refine congrArg hi (funext fun a => Fin.ext ?_)
    match a with
    | ⟨0, _⟩ => rfl
    | ⟨1, _⟩ => rfl
    | ⟨2, _⟩ => rfl
    | ⟨3, _⟩ => show t.val / 2 = 0; omega
    | ⟨4, _⟩ => rfl

/-- One half of eight words of the buffer. -/
theorem unpack_apply {α : Type} (raw : S1x1x8x2x128.Idx → α) (p : Fin 2) (h) (h1) (h2) (s : Fin 8) (l : Fin 128) :
    shapeCast S8x128 (shapeCast S1x1x8x128 (rowsOfParity p S1x1x8x1x128 raw h) h1) h2 (ix2 s l) = raw (ix5 (0 : Fin 1) (0 : Fin 1) s p l) := by
  rw [cast_8, cast_54, rowsOfParity_apply]
  refine congrArg raw (funext fun a => Fin.ext ?_)
  match a with
  | ⟨0, _⟩ => rfl
  | ⟨1, _⟩ => rfl
  | ⟨2, _⟩ => rfl
  | ⟨3, _⟩ => show 2 * 0 + p.val = p.val; omega
  | ⟨4, _⟩ => rfl

/-! ## The tournament -/

/-- Which sublanes have the bit `n`. -/
def odd (n : BitVec 32) (v0 : IVec S8x128 32) : IVec S8x128 1 := cmpi .ne (andi v0 (broadcast S8x128 n)) (broadcast S8x128 0#32)
/-- One round: of two words, the larger of two sublanes a distance apart. -/
def st (n : BitVec 32) (v0 : IVec S8x128 32) (a b : Half) : Half :=
  maximumf (select (odd n v0) b a) (dynamicRotate 0 n none (select (odd n v0) a b) rotates_S8x128_d0)
/-- Three rounds. -/
def tour (v0 : IVec S8x128 32) (w0 w1 w2 w3 w4 w5 w6 w7 : Half) : Half :=
  st 4#32 v0 (st 2#32 v0 (st 1#32 v0 w0 w1) (st 1#32 v0 w2 w3)) (st 2#32 v0 (st 1#32 v0 w4 w5) (st 1#32 v0 w6 w7))

section Tour
variable (v0 : IVec S8x128 32) (hv0 : ∀ (s : Fin 8) (l : Fin 128), v0 (ix2 s l) = BitVec.ofNat 32 s.val)
include hv0

theorem odd_apply (n : BitVec 32) (s : Fin 8) (l : Fin 128) : odd n v0 (ix2 s l) = BitVec.ofBool ((BitVec.ofNat 32 s.val &&& n) != 0#32) := by
  show IntOp.cmpi .ne (IntOp.andi (v0 (ix2 s l)) n) 0#32 = _
  rw [hv0]; rfl

theorem st_apply (n : BitVec 32) (k : Fin 8) (hk : n.toNat = k.val) (a b : Half) (s u : Fin 8) (hu : u.val = (s.val + 8 - k.val) % 8) (l : Fin 128)
    (ho : ((BitVec.ofNat 32 u.val &&& n) != 0#32) = !((BitVec.ofNat 32 s.val &&& n) != 0#32)) :
    st n v0 a b (ix2 s l) = if ((BitVec.ofNat 32 s.val &&& n) != 0#32) = true then max (b (ix2 s l)) (b (ix2 u l)) else max (a (ix2 s l)) (a (ix2 u l)) := by
  unfold st
  rw [maximumf_apply, dynamicRotate_apply 0 n _ _ (ix2 s l) (ix2 u l) (fun c => match c with
    | ⟨0, _⟩ => by show u.val = if (0 : Fin 2) = 0 then (s.val + 8 - n.toNat % 8) % 8 else s.val; rw [if_pos rfl, hk, Nat.mod_eq_of_lt k.isLt, hu]
    | ⟨1, _⟩ => by show l.val = if (1 : Fin 2) = 0 then (l.val + 128 - n.toNat % 128) % 128 else l.val; rw [if_neg (by decide)]), ValueIdx.select_apply, ValueIdx.select_apply, odd_apply v0 hv0, odd_apply v0 hv0, ho]
  by_cases h : ((BitVec.ofNat 32 s.val &&& n) != 0#32) = true
  · rw [h]; rfl
  · rw [Bool.not_eq_true] at h; rw [h]; rfl

theorem st1 (a b : Half) (l : Fin 128) (s : Fin 8) : st 1#32 v0 a b (ix2 s l) = if ((BitVec.ofNat 32 s.val &&& 1#32) != 0#32) = true then max (b (ix2 s l)) (b (ix2 (s + 7) l)) else max (a (ix2 s l)) (a (ix2 (s + 7) l)) :=
  st_apply v0 hv0 1#32 1 rfl a b s (s + 7) (by revert s; decide) l (by revert s; decide)
theorem st2 (a b : Half) (l : Fin 128) (s : Fin 8) : st 2#32 v0 a b (ix2 s l) = if ((BitVec.ofNat 32 s.val &&& 2#32) != 0#32) = true then max (b (ix2 s l)) (b (ix2 (s + 6) l)) else max (a (ix2 s l)) (a (ix2 (s + 6) l)) :=
  st_apply v0 hv0 2#32 2 rfl a b s (s + 6) (by revert s; decide) l (by revert s; decide)
theorem st4 (a b : Half) (l : Fin 128) (s : Fin 8) : st 4#32 v0 a b (ix2 s l) = if ((BitVec.ofNat 32 s.val &&& 4#32) != 0#32) = true then max (b (ix2 s l)) (b (ix2 (s + 4) l)) else max (a (ix2 s l)) (a (ix2 (s + 4) l)) :=
  st_apply v0 hv0 4#32 4 rfl a b s (s + 4) (by revert s; decide) l (by revert s; decide)

omit hv0 in
theorem sup8 (f : Fin 8 → EReal) : Finset.univ.sup f = max (max (max (f 0) (f 1)) (max (f 2) (f 3))) (max (max (f 4) (f 5)) (max (f 6) (f 7))) := by
  apply le_antisymm
  · refine Finset.sup_le fun u _ => ?_
    fin_cases u <;> simp
  · refine max_le (max_le (max_le ?_ ?_) (max_le ?_ ?_)) (max_le (max_le ?_ ?_) (max_le ?_ ?_)) <;> exact Finset.le_sup (f := f) (Finset.mem_univ _)

omit hv0 in
theorem perm8 (f : Fin 8 → EReal) (s : Fin 8) :
    max (max (max (f s) (f (s + 7))) (max (f (s + 6)) (f (s + 6 + 7)))) (max (max (f (s + 4)) (f (s + 4 + 7))) (max (f (s + 4 + 6)) (f (s + 4 + 6 + 7)))) = Finset.univ.sup f := by
  rw [sup8]
  generalize e0 : f 0 = x0
  generalize e1 : f 1 = x1
  generalize e2 : f 2 = x2
  generalize e3 : f 3 = x3
  generalize e4 : f 4 = x4
  generalize e5 : f 5 = x5
  generalize e6 : f 6 = x6
  generalize e7 : f 7 = x7
  fin_cases s <;> simp [e0, e1, e2, e3, e4, e5, e6, e7] <;> ac_rfl

/-- What the tournament leaves in a sublane: the largest sublane of the sublane's own word. -/
theorem tour_apply (w : Fin 8 → Half) (s : Fin 8) (l : Fin 128) :
    tour v0 (w 0) (w 1) (w 2) (w 3) (w 4) (w 5) (w 6) (w 7) (ix2 s l) = Finset.univ.sup fun u : Fin 8 => w s (ix2 u l) := by
  have e := perm8 (fun u : Fin 8 => (w s (ix2 u l) : EReal)) s
  rw [← e]
  unfold tour
  rw [st4 v0 hv0]
  simp only [st2 v0 hv0, st1 v0 hv0]
  clear e
  fin_cases s <;> rfl
end Tour

/-! ## The scales -/

/-- One step of the search for the field. -/
def stepV (c : BitVec 32) (x : FVec Ideal S8x128 .f32) (f : IVec S8x128 32) : IVec S8x128 32 :=
  select (cmpf .oge x (bitcastToFloat .f32 (shli (addi f (broadcast S8x128 c)) (broadcast S8x128 23#32)))) (addi f (broadcast S8x128 c)) f
/-- The field of every entry. -/
def fieldV (x : FVec Ideal S8x128 .f32) : IVec S8x128 32 :=
  stepV 1#32 x (stepV 2#32 x (stepV 4#32 x (stepV 8#32 x (stepV 16#32 x (stepV 32#32 x (stepV 64#32 x (stepV 128#32 x (broadcast S8x128 0#32))))))))
/-- The scale of every entry. -/
def invV (x : FVec Ideal S8x128 .f32) : FVec Ideal S8x128 .f32 :=
  bitcastToFloat .f32 (shli (select (ori (cmpi .sle (fieldV x) (broadcast S8x128 7#32)) (cmpi .eq (fieldV x) (broadcast S8x128 255#32)))
    (broadcast S8x128 127#32) (subi (broadcast S8x128 260#32) (fieldV x))) (broadcast S8x128 23#32))

theorem stepV_apply (c : BitVec 32) (x : FVec Ideal S8x128 .f32) (f : IVec S8x128 32) (i : S8x128.Idx) : stepV c x f i = Scale.stepS c (x i) (f i) := by
  show Scalar.select (Ideal.cmp .oge (x i) (Ideal.ofBits .f32 ((f i + c) <<< (23#32).toNat))) (f i + c) (f i) = _
  rfl
theorem fieldV_apply (x : FVec Ideal S8x128 .f32) (i : S8x128.Idx) : fieldV x i = Scale.fieldS (x i) := by
  unfold fieldV Scale.fieldS
  simp only [stepV_apply]
  rfl
theorem invV_apply (x : FVec Ideal S8x128 .f32) (i : S8x128.Idx) : invV x i = Ideal.ofBits .f32 (Scale.invS (Scale.fieldS (x i))) := by
  rw [← fieldV_apply x i]
  rfl

end Cert.KernelIdeal.Gen

end
-- ==== Proof.KernelIdeal.TripD.lean ====
/- One trip of the second loop over the extended reals: what it writes in the buffer of the columns' words. -/
module

public import proofs.«01_k».proof.Proof.KernelIdeal.Base
public import proofs.«01_k».proof.Proof.KernelIdeal.TripB
public import proofs.«01_k».proof.Proof.KernelIdeal.Words
public import Idealize.ShloMosaic.Lib.Writes
public import Idealize.ShloMosaic.Lib.ValueIdx
public import Idealize.ShloMosaic.Lib.ValueLayout

@[expose] public section

set_option maxRecDepth 16384

noncomputable section

namespace Cert.KernelIdeal.Gen

open Idealize.ShloMosaic hiding ix2 ix3 ix4 ix5 maximumf_apply mulf_apply addf_apply subf_apply extf_apply truncf_apply absf_apply
open Idealize.ShloMosaic.TcCoe Idealize.ShloMosaic.Tactic
open Idealize.SL Idealize.SL.RA Idealize.SL.BI
open Idealize.ShloMosaic.Pipeline Idealize.ShloMosaic.ValueIdx

/-- The entry's word: its size times the probing factor. -/
def wd (g : ℕ → ℕ → EReal) (a b : ℕ) : EReal := FloatOps.absf (F := Ideal) (φ := .f32) (g a b * Ideal.ofBits .f32 0x3E920001#32)
/-- The largest of the words of four rows eight apart. -/
def w4 (g : ℕ → ℕ → EReal) (a b : ℕ) : EReal := max (max (wd g a b) (wd g (8 + a) b)) (max (wd g (16 + a) b) (wd g (24 + a) b))

/-- An entry of one word box. -/
theorem mem_words {off : Fin 5 → ℕ} {b k : ℕ} (ho : off = ![b, k, 0, 0, 0]) (inb : ∀ a, off a + S1x1x8x2x128.size a ≤ S4x16x8x2x128.size a) (y : S4x16x8x2x128.Idx)
    (h0 : (y 0).val = b) (h1 : (y 1).val = k) : y ∈ (Rect.unit (s := S4x16x8x2x128) off S1x1x8x2x128.size inb).set := by
  subst ho
  rw [Rect.mem_set_unit]
  intro a
  match a with
  | ⟨0, _⟩ => show b ≤ (y 0).val ∧ (y 0).val < b + 1; omega
  | ⟨1, _⟩ => show k ≤ (y 1).val ∧ (y 1).val < k + 1; omega
  | ⟨2, _⟩ => have : (y 2).val < 8 := (y 2).isLt; show 0 ≤ (y 2).val ∧ (y 2).val < 0 + 8; omega
  | ⟨3, _⟩ => have : (y 3).val < 2 := (y 3).isLt; show 0 ≤ (y 3).val ∧ (y 3).val < 0 + 2; omega
  | ⟨4, _⟩ => have : (y 4).val < 128 := (y 4).isLt; show 0 ≤ (y 4).val ∧ (y 4).val < 0 + 128; omega

section Trip
variable (𝒱 : Variants) (c : Dev nD) (bd : Option 𝒱.V) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (v35_15 : FVec Ideal S8x128 .f32) (X_arg5 : BufTy.Contents (Elt Ideal) arg5.view.ty) (X_arg16 : BufTy.Contents (Elt Ideal) arg16.view.ty) (X_arg17 : BufTy.Contents (Elt Ideal) arg17.view.ty) (X_arg19 : BufTy.Contents (Elt Ideal) arg19.view.ty)
variable (k : Fin k0_t2_loop.trips) (f_arg9 : BufTy.Contents (Elt Ideal) arg9.view.ty) (f_arg18 : BufTy.Contents (Elt Ideal) arg18.view.ty) (f_arg20 : BufTy.Contents (Elt Ideal) arg20.view.ty) (f_arg21 : BufTy.Contents (Elt Ideal) arg21.view.ty)

set_option maxHeartbeats 4000000 in
/-- The boxes of the trip's pieces of the words cover its place. -/
theorem cover_two21 (y : S4x16x8x2x128.Idx) (h0 : (y 1).val = k.val) :
    (∃ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 k f_arg9 f_arg18 f_arg20 f_arg21).2.2.2, y ∈ p.1.set) := by
  have e0 : (y 0).val < 4 := (y 0).isLt
  unfold tripL_k0_t2 trip_k0_t2
  dsimp only
  simp only [List.mem_cons, List.not_mem_nil, or_false, exists_eq_or_imp, exists_eq_left]
  have hn : (y 0).val = 0 ∨ (y 0).val = 1 ∨ (y 0).val = 2 ∨ (y 0).val = 3 := by omega
  rcases hn with hn | hn | hn | hn
  · exact Or.inr (Or.inr (Or.inr (mem_words (k0_off37_eq k) _ y hn h0)))
  · exact Or.inr (Or.inr (Or.inl (mem_words (k0_off38_eq k) _ y hn h0)))
  · exact Or.inr (Or.inl (mem_words (k0_off39_eq k) _ y hn h0))
  · exact Or.inl (mem_words (k0_off40_eq k) _ y hn h0)

variable (d xh dx : ℕ → ℕ → EReal) (r cc : ℕ → EReal)
    (hd : ∀ (a b : ℕ) (ha : a < 128) (hb : b < 4096), arg5.view.read (Elt Ideal) X_arg5 (ix3 (0 : Fin 1) ⟨a, ha⟩ ⟨b, hb⟩) = d a b)
    (hxh : ∀ (a b : ℕ) (ha : a < 128) (hb : b < 4096), arg19.view.read (Elt Ideal) X_arg19 (ix2 ⟨a, ha⟩ ⟨b, hb⟩) = xh a b)
    (hr : ∀ (a b : ℕ) (ha : a < 128) (hb : b < 128), arg16.view.read (Elt Ideal) X_arg16 (ix2 ⟨a, ha⟩ ⟨b, hb⟩) = r a)
    (hc : ∀ (a b : ℕ) (ha : a < 128) (hb : b < 128), arg17.view.read (Elt Ideal) X_arg17 (ix2 ⟨a, ha⟩ ⟨b, hb⟩) = cc a)
    (hdx : ∀ (a b : ℕ) (ha : a < 128) (hb : b < 4096) (hB : 256 * k.val ≤ b), arg18.view.read (Elt Ideal) f_arg18 (ix2 ⟨a, ha⟩ ⟨b, hb⟩) = dx a b)
include hd hxh hr hc hdx

set_option maxHeartbeats 8000000 in
/-- What the trip writes in the buffer of the words. -/
theorem pieces_two21 : (∀ p ∈ (tripL_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 k f_arg9 f_arg18 f_arg20 f_arg21).2.2.2, ∀ y, p.2 y = w4 (fout' d r cc dx xh) (32 * (p.1.emb y 0).val + (p.1.emb y 2).val) (256 * (p.1.emb y 1).val + (128 * (p.1.emb y 3).val + (p.1.emb y 4).val))) := by
  have hdx0 : ∀ (a b : ℕ) (ha : a < 128) (hb : b < 4096) (hB : 256 * k.val + 0 ≤ b), arg18.view.read (Elt Ideal) f_arg18 (ix2 ⟨a, ha⟩ ⟨b, hb⟩) = dx a b := fun a b ha hb hB => hdx a b ha hb (by omega)
  have hdx1 : ∀ (a b : ℕ) (ha : a < 128) (hb : b < 4096) (hB : 256 * k.val + 128 ≤ b), arg18.view.read (Elt Ideal) f_arg18 (ix2 ⟨a, ha⟩ ⟨b, hb⟩) = dx a b := fun a b ha hb hB => hdx a b ha hb (by omega)
  have hxh0 : ∀ (a b : ℕ) (ha : a < 128) (hb : b < 4096) (hB : 256 * k.val + 0 ≤ b), arg19.view.read (Elt Ideal) X_arg19 (ix2 ⟨a, ha⟩ ⟨b, hb⟩) = xh a b := fun a b ha hb _ => hxh a b ha hb
  have hxh1 : ∀ (a b : ℕ) (ha : a < 128) (hb : b < 4096) (hB : 256 * k.val + 128 ≤ b), arg19.view.read (Elt Ideal) X_arg19 (ix2 ⟨a, ha⟩ ⟨b, hb⟩) = xh a b := fun a b ha hb _ => hxh a b ha hb
  intro p hp
  unfold tripL_k0_t2 trip_k0_t2 at hp
  dsimp only at hp
  simp only [List.mem_cons, List.not_mem_nil, or_false] at hp
  rcases hp with rfl | rfl | rfl | rfl
  all_goals
    intro y
    obtain ⟨u, v, s, t, l, rfl⟩ : ∃ (u : Fin 1) (v : Fin 1) (s : Fin 8) (t : Fin 2) (l : Fin 128), y = ix5 u v s t l := ⟨y 0, y 1, y 2, y 3, y 4, ValueIdx.eq_ix5 y⟩
    obtain rfl : u = 0 := Subsingleton.elim _ _
    obtain rfl : v = 0 := Subsingleton.elim _ _
    simp only [emb_val, k0_off37_eq k, k0_off38_eq k, k0_off39_eq k, k0_off40_eq k]
    obtain rfl | rfl : t = 0 ∨ t = 1 := by revert t; decide
  · refine Eq.trans ?_ (congrArg₂ (w4 (fout' d r cc dx xh)) (show 96 + s.val = 32 * (3 + 0) + (0 + s.val) by omega) (show 256 * k.val + l.val = 256 * (k.val + 0) + (128 * (0 + 0) + (0 + l.val)) by omega))
    simp only [trip_k0_t2.sl.r_54, trip_k0_t2.sl.r_55, trip_k0_t2.sl.r_56, trip_k0_t2.sl.r_57, k0_pay317, k0_pay318, k0_pay319, k0_pay320, par0_max, par1_max, pack_apply, cast_45, cast_118, maximumf_apply, Fin.isValue, Fin.val_zero, Fin.val_one, if_true, one_ne_zero, if_false]
    simp only [w4, wd, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_3, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_4, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_5, trip_k0_t2.sl.r_50, trip_k0_t2.sl.r_51, trip_k0_t2.sl.r_52, trip_k0_t2.sl.r_53, trip_k0_t2.sl.r_54, trip_k0_t2.sl.r_55, trip_k0_t2.sl.r_56, trip_k0_t2.sl.r_57, trip_k0_t2.sl.r_58, trip_k0_t2.sl.r_59, trip_k0_t2.sl.r_6, trip_k0_t2.sl.r_60, trip_k0_t2.sl.r_61, trip_k0_t2.sl.r_62, trip_k0_t2.sl.r_63, trip_k0_t2.sl.r_64, trip_k0_t2.sl.r_65, trip_k0_t2.sl.r_66, trip_k0_t2.sl.r_67, trip_k0_t2.sl.r_68, trip_k0_t2.sl.r_69, trip_k0_t2.sl.r_7, trip_k0_t2.sl.r_70, trip_k0_t2.sl.r_8, trip_k0_t2.sl.r_9, trip_k0_t2.sl.v4077, trip_k0_t2.sl.v4109, trip_k0_t2.sl.v4136, trip_k0_t2.sl.v4168, trip_k0_t2.sl.v4195, trip_k0_t2.sl.v4227, trip_k0_t2.sl.v4254, trip_k0_t2.sl.v4286, trip_k0_t2.sl.v4313, trip_k0_t2.sl.v4345, trip_k0_t2.sl.v4372, trip_k0_t2.sl.v4404, trip_k0_t2.sl.v4431, trip_k0_t2.sl.v4463, trip_k0_t2.sl.v4490, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, Idealize.ShloMosaic.absf_apply, w4, wd, shapeCast_self, shapeCast_1ab_ab_apply, shapeCast_ab_1ab_apply, broadcastTo_1b_ab_apply, top_rows, bottom_rows, mulf_apply, addf_apply, subf_apply, extf_apply, truncf_apply, broadcast_apply, ld_block arg5 X_arg5 d hd (o22_0 k), ld_block arg5 X_arg5 d hd (o22_1 k), ld_block arg5 X_arg5 d hd (o24_0 k), ld_block arg5 X_arg5 d hd (o24_1 k), ld_block arg5 X_arg5 d hd (o26_0 k), ld_block arg5 X_arg5 d hd (o26_1 k), ld_block arg5 X_arg5 d hd (o28_0 k), ld_block arg5 X_arg5 d hd (o28_1 k), ld_block arg5 X_arg5 d hd (o30_0 k), ld_block arg5 X_arg5 d hd (o30_1 k), ld_block arg5 X_arg5 d hd (o32_0 k), ld_block arg5 X_arg5 d hd (o32_1 k), ld_block arg5 X_arg5 d hd (o34_0 k), ld_block arg5 X_arg5 d hd (o34_1 k), ld_block arg5 X_arg5 d hd (o36_0 k), ld_block arg5 X_arg5 d hd (o36_1 k), ld_scratch arg18 f_arg18 dx (o21_0 k) hdx0, ld_scratch arg18 f_arg18 dx (o21_1 k) hdx1, ld_scratch arg18 f_arg18 dx (o23_0 k) hdx0, ld_scratch arg18 f_arg18 dx (o23_1 k) hdx1, ld_scratch arg18 f_arg18 dx (o25_0 k) hdx0, ld_scratch arg18 f_arg18 dx (o25_1 k) hdx1, ld_scratch arg18 f_arg18 dx (o27_0 k) hdx0, ld_scratch arg18 f_arg18 dx (o27_1 k) hdx1, ld_scratch arg18 f_arg18 dx (o29_0 k) hdx0, ld_scratch arg18 f_arg18 dx (o29_1 k) hdx1, ld_scratch arg18 f_arg18 dx (o31_0 k) hdx0, ld_scratch arg18 f_arg18 dx (o31_1 k) hdx1, ld_scratch arg18 f_arg18 dx (o33_0 k) hdx0, ld_scratch arg18 f_arg18 dx (o33_1 k) hdx1, ld_scratch arg18 f_arg18 dx (o35_0 k) hdx0, ld_scratch arg18 f_arg18 dx (o35_1 k) hdx1, ld_scratch arg19 X_arg19 xh (o21_0 k) hxh0, ld_scratch arg19 X_arg19 xh (o21_1 k) hxh1, ld_scratch arg19 X_arg19 xh (o23_0 k) hxh0, ld_scratch arg19 X_arg19 xh (o23_1 k) hxh1, ld_scratch arg19 X_arg19 xh (o25_0 k) hxh0, ld_scratch arg19 X_arg19 xh (o25_1 k) hxh1, ld_scratch arg19 X_arg19 xh (o27_0 k) hxh0, ld_scratch arg19 X_arg19 xh (o27_1 k) hxh1, ld_scratch arg19 X_arg19 xh (o29_0 k) hxh0, ld_scratch arg19 X_arg19 xh (o29_1 k) hxh1, ld_scratch arg19 X_arg19 xh (o31_0 k) hxh0, ld_scratch arg19 X_arg19 xh (o31_1 k) hxh1, ld_scratch arg19 X_arg19 xh (o33_0 k) hxh0, ld_scratch arg19 X_arg19 xh (o33_1 k) hxh1, ld_scratch arg19 X_arg19 xh (o35_0 k) hxh0, ld_scratch arg19 X_arg19 xh (o35_1 k) hxh1, ld_rows arg16 X_arg16 r hr, ld_rows arg17 X_arg17 cc hc, fout', Matrix.cons_val_zero, Matrix.cons_val_one, Matrix.cons_val, Nat.zero_add, Nat.add_zero, ← Nat.add_assoc, Nat.reduceAdd, Nat.reduceMul, Nat.mul_zero, Nat.mul_one, Fin.isValue, Fin.val_zero, Fin.val_one, if_true, one_ne_zero, if_false]
    rfl
  · refine Eq.trans ?_ (congrArg₂ (w4 (fout' d r cc dx xh)) (show 96 + s.val = 32 * (3 + 0) + (0 + s.val) by omega) (show 256 * k.val + 128 + l.val = 256 * (k.val + 0) + (128 * (0 + 1) + (0 + l.val)) by omega))
    simp only [trip_k0_t2.sl.r_54, trip_k0_t2.sl.r_55, trip_k0_t2.sl.r_56, trip_k0_t2.sl.r_57, k0_pay317, k0_pay318, k0_pay319, k0_pay320, par0_max, par1_max, pack_apply, cast_45, cast_118, maximumf_apply, Fin.isValue, Fin.val_zero, Fin.val_one, if_true, one_ne_zero, if_false]
    simp only [w4, wd, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_3, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_4, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_5, trip_k0_t2.sl.r_50, trip_k0_t2.sl.r_51, trip_k0_t2.sl.r_52, trip_k0_t2.sl.r_53, trip_k0_t2.sl.r_54, trip_k0_t2.sl.r_55, trip_k0_t2.sl.r_56, trip_k0_t2.sl.r_57, trip_k0_t2.sl.r_58, trip_k0_t2.sl.r_59, trip_k0_t2.sl.r_6, trip_k0_t2.sl.r_60, trip_k0_t2.sl.r_61, trip_k0_t2.sl.r_62, trip_k0_t2.sl.r_63, trip_k0_t2.sl.r_64, trip_k0_t2.sl.r_65, trip_k0_t2.sl.r_66, trip_k0_t2.sl.r_67, trip_k0_t2.sl.r_68, trip_k0_t2.sl.r_69, trip_k0_t2.sl.r_7, trip_k0_t2.sl.r_70, trip_k0_t2.sl.r_8, trip_k0_t2.sl.r_9, trip_k0_t2.sl.v4077, trip_k0_t2.sl.v4109, trip_k0_t2.sl.v4136, trip_k0_t2.sl.v4168, trip_k0_t2.sl.v4195, trip_k0_t2.sl.v4227, trip_k0_t2.sl.v4254, trip_k0_t2.sl.v4286, trip_k0_t2.sl.v4313, trip_k0_t2.sl.v4345, trip_k0_t2.sl.v4372, trip_k0_t2.sl.v4404, trip_k0_t2.sl.v4431, trip_k0_t2.sl.v4463, trip_k0_t2.sl.v4490, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, Idealize.ShloMosaic.absf_apply, w4, wd, shapeCast_self, shapeCast_1ab_ab_apply, shapeCast_ab_1ab_apply, broadcastTo_1b_ab_apply, top_rows, bottom_rows, mulf_apply, addf_apply, subf_apply, extf_apply, truncf_apply, broadcast_apply, ld_block arg5 X_arg5 d hd (o22_0 k), ld_block arg5 X_arg5 d hd (o22_1 k), ld_block arg5 X_arg5 d hd (o24_0 k), ld_block arg5 X_arg5 d hd (o24_1 k), ld_block arg5 X_arg5 d hd (o26_0 k), ld_block arg5 X_arg5 d hd (o26_1 k), ld_block arg5 X_arg5 d hd (o28_0 k), ld_block arg5 X_arg5 d hd (o28_1 k), ld_block arg5 X_arg5 d hd (o30_0 k), ld_block arg5 X_arg5 d hd (o30_1 k), ld_block arg5 X_arg5 d hd (o32_0 k), ld_block arg5 X_arg5 d hd (o32_1 k), ld_block arg5 X_arg5 d hd (o34_0 k), ld_block arg5 X_arg5 d hd (o34_1 k), ld_block arg5 X_arg5 d hd (o36_0 k), ld_block arg5 X_arg5 d hd (o36_1 k), ld_scratch arg18 f_arg18 dx (o21_0 k) hdx0, ld_scratch arg18 f_arg18 dx (o21_1 k) hdx1, ld_scratch arg18 f_arg18 dx (o23_0 k) hdx0, ld_scratch arg18 f_arg18 dx (o23_1 k) hdx1, ld_scratch arg18 f_arg18 dx (o25_0 k) hdx0, ld_scratch arg18 f_arg18 dx (o25_1 k) hdx1, ld_scratch arg18 f_arg18 dx (o27_0 k) hdx0, ld_scratch arg18 f_arg18 dx (o27_1 k) hdx1, ld_scratch arg18 f_arg18 dx (o29_0 k) hdx0, ld_scratch arg18 f_arg18 dx (o29_1 k) hdx1, ld_scratch arg18 f_arg18 dx (o31_0 k) hdx0, ld_scratch arg18 f_arg18 dx (o31_1 k) hdx1, ld_scratch arg18 f_arg18 dx (o33_0 k) hdx0, ld_scratch arg18 f_arg18 dx (o33_1 k) hdx1, ld_scratch arg18 f_arg18 dx (o35_0 k) hdx0, ld_scratch arg18 f_arg18 dx (o35_1 k) hdx1, ld_scratch arg19 X_arg19 xh (o21_0 k) hxh0, ld_scratch arg19 X_arg19 xh (o21_1 k) hxh1, ld_scratch arg19 X_arg19 xh (o23_0 k) hxh0, ld_scratch arg19 X_arg19 xh (o23_1 k) hxh1, ld_scratch arg19 X_arg19 xh (o25_0 k) hxh0, ld_scratch arg19 X_arg19 xh (o25_1 k) hxh1, ld_scratch arg19 X_arg19 xh (o27_0 k) hxh0, ld_scratch arg19 X_arg19 xh (o27_1 k) hxh1, ld_scratch arg19 X_arg19 xh (o29_0 k) hxh0, ld_scratch arg19 X_arg19 xh (o29_1 k) hxh1, ld_scratch arg19 X_arg19 xh (o31_0 k) hxh0, ld_scratch arg19 X_arg19 xh (o31_1 k) hxh1, ld_scratch arg19 X_arg19 xh (o33_0 k) hxh0, ld_scratch arg19 X_arg19 xh (o33_1 k) hxh1, ld_scratch arg19 X_arg19 xh (o35_0 k) hxh0, ld_scratch arg19 X_arg19 xh (o35_1 k) hxh1, ld_rows arg16 X_arg16 r hr, ld_rows arg17 X_arg17 cc hc, fout', Matrix.cons_val_zero, Matrix.cons_val_one, Matrix.cons_val, Nat.zero_add, Nat.add_zero, ← Nat.add_assoc, Nat.reduceAdd, Nat.reduceMul, Nat.mul_zero, Nat.mul_one, Fin.isValue, Fin.val_zero, Fin.val_one, if_true, one_ne_zero, if_false]
    rfl
  · refine Eq.trans ?_ (congrArg₂ (w4 (fout' d r cc dx xh)) (show 64 + s.val = 32 * (2 + 0) + (0 + s.val) by omega) (show 256 * k.val + l.val = 256 * (k.val + 0) + (128 * (0 + 0) + (0 + l.val)) by omega))
    simp only [trip_k0_t2.sl.r_54, trip_k0_t2.sl.r_55, trip_k0_t2.sl.r_56, trip_k0_t2.sl.r_57, k0_pay317, k0_pay318, k0_pay319, k0_pay320, par0_max, par1_max, pack_apply, cast_45, cast_118, maximumf_apply, Fin.isValue, Fin.val_zero, Fin.val_one, if_true, one_ne_zero, if_false]
    simp only [w4, wd, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_3, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_4, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_5, trip_k0_t2.sl.r_50, trip_k0_t2.sl.r_51, trip_k0_t2.sl.r_52, trip_k0_t2.sl.r_53, trip_k0_t2.sl.r_54, trip_k0_t2.sl.r_55, trip_k0_t2.sl.r_56, trip_k0_t2.sl.r_57, trip_k0_t2.sl.r_58, trip_k0_t2.sl.r_59, trip_k0_t2.sl.r_6, trip_k0_t2.sl.r_60, trip_k0_t2.sl.r_61, trip_k0_t2.sl.r_62, trip_k0_t2.sl.r_63, trip_k0_t2.sl.r_64, trip_k0_t2.sl.r_65, trip_k0_t2.sl.r_66, trip_k0_t2.sl.r_67, trip_k0_t2.sl.r_68, trip_k0_t2.sl.r_69, trip_k0_t2.sl.r_7, trip_k0_t2.sl.r_70, trip_k0_t2.sl.r_8, trip_k0_t2.sl.r_9, trip_k0_t2.sl.v4077, trip_k0_t2.sl.v4109, trip_k0_t2.sl.v4136, trip_k0_t2.sl.v4168, trip_k0_t2.sl.v4195, trip_k0_t2.sl.v4227, trip_k0_t2.sl.v4254, trip_k0_t2.sl.v4286, trip_k0_t2.sl.v4313, trip_k0_t2.sl.v4345, trip_k0_t2.sl.v4372, trip_k0_t2.sl.v4404, trip_k0_t2.sl.v4431, trip_k0_t2.sl.v4463, trip_k0_t2.sl.v4490, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, Idealize.ShloMosaic.absf_apply, w4, wd, shapeCast_self, shapeCast_1ab_ab_apply, shapeCast_ab_1ab_apply, broadcastTo_1b_ab_apply, top_rows, bottom_rows, mulf_apply, addf_apply, subf_apply, extf_apply, truncf_apply, broadcast_apply, ld_block arg5 X_arg5 d hd (o22_0 k), ld_block arg5 X_arg5 d hd (o22_1 k), ld_block arg5 X_arg5 d hd (o24_0 k), ld_block arg5 X_arg5 d hd (o24_1 k), ld_block arg5 X_arg5 d hd (o26_0 k), ld_block arg5 X_arg5 d hd (o26_1 k), ld_block arg5 X_arg5 d hd (o28_0 k), ld_block arg5 X_arg5 d hd (o28_1 k), ld_block arg5 X_arg5 d hd (o30_0 k), ld_block arg5 X_arg5 d hd (o30_1 k), ld_block arg5 X_arg5 d hd (o32_0 k), ld_block arg5 X_arg5 d hd (o32_1 k), ld_block arg5 X_arg5 d hd (o34_0 k), ld_block arg5 X_arg5 d hd (o34_1 k), ld_block arg5 X_arg5 d hd (o36_0 k), ld_block arg5 X_arg5 d hd (o36_1 k), ld_scratch arg18 f_arg18 dx (o21_0 k) hdx0, ld_scratch arg18 f_arg18 dx (o21_1 k) hdx1, ld_scratch arg18 f_arg18 dx (o23_0 k) hdx0, ld_scratch arg18 f_arg18 dx (o23_1 k) hdx1, ld_scratch arg18 f_arg18 dx (o25_0 k) hdx0, ld_scratch arg18 f_arg18 dx (o25_1 k) hdx1, ld_scratch arg18 f_arg18 dx (o27_0 k) hdx0, ld_scratch arg18 f_arg18 dx (o27_1 k) hdx1, ld_scratch arg18 f_arg18 dx (o29_0 k) hdx0, ld_scratch arg18 f_arg18 dx (o29_1 k) hdx1, ld_scratch arg18 f_arg18 dx (o31_0 k) hdx0, ld_scratch arg18 f_arg18 dx (o31_1 k) hdx1, ld_scratch arg18 f_arg18 dx (o33_0 k) hdx0, ld_scratch arg18 f_arg18 dx (o33_1 k) hdx1, ld_scratch arg18 f_arg18 dx (o35_0 k) hdx0, ld_scratch arg18 f_arg18 dx (o35_1 k) hdx1, ld_scratch arg19 X_arg19 xh (o21_0 k) hxh0, ld_scratch arg19 X_arg19 xh (o21_1 k) hxh1, ld_scratch arg19 X_arg19 xh (o23_0 k) hxh0, ld_scratch arg19 X_arg19 xh (o23_1 k) hxh1, ld_scratch arg19 X_arg19 xh (o25_0 k) hxh0, ld_scratch arg19 X_arg19 xh (o25_1 k) hxh1, ld_scratch arg19 X_arg19 xh (o27_0 k) hxh0, ld_scratch arg19 X_arg19 xh (o27_1 k) hxh1, ld_scratch arg19 X_arg19 xh (o29_0 k) hxh0, ld_scratch arg19 X_arg19 xh (o29_1 k) hxh1, ld_scratch arg19 X_arg19 xh (o31_0 k) hxh0, ld_scratch arg19 X_arg19 xh (o31_1 k) hxh1, ld_scratch arg19 X_arg19 xh (o33_0 k) hxh0, ld_scratch arg19 X_arg19 xh (o33_1 k) hxh1, ld_scratch arg19 X_arg19 xh (o35_0 k) hxh0, ld_scratch arg19 X_arg19 xh (o35_1 k) hxh1, ld_rows arg16 X_arg16 r hr, ld_rows arg17 X_arg17 cc hc, fout', Matrix.cons_val_zero, Matrix.cons_val_one, Matrix.cons_val, Nat.zero_add, Nat.add_zero, ← Nat.add_assoc, Nat.reduceAdd, Nat.reduceMul, Nat.mul_zero, Nat.mul_one, Fin.isValue, Fin.val_zero, Fin.val_one, if_true, one_ne_zero, if_false]
    rfl
  · refine Eq.trans ?_ (congrArg₂ (w4 (fout' d r cc dx xh)) (show 64 + s.val = 32 * (2 + 0) + (0 + s.val) by omega) (show 256 * k.val + 128 + l.val = 256 * (k.val + 0) + (128 * (0 + 1) + (0 + l.val)) by omega))
    simp only [trip_k0_t2.sl.r_54, trip_k0_t2.sl.r_55, trip_k0_t2.sl.r_56, trip_k0_t2.sl.r_57, k0_pay317, k0_pay318, k0_pay319, k0_pay320, par0_max, par1_max, pack_apply, cast_45, cast_118, maximumf_apply, Fin.isValue, Fin.val_zero, Fin.val_one, if_true, one_ne_zero, if_false]
    simp only [w4, wd, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_3, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_4, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_5, trip_k0_t2.sl.r_50, trip_k0_t2.sl.r_51, trip_k0_t2.sl.r_52, trip_k0_t2.sl.r_53, trip_k0_t2.sl.r_54, trip_k0_t2.sl.r_55, trip_k0_t2.sl.r_56, trip_k0_t2.sl.r_57, trip_k0_t2.sl.r_58, trip_k0_t2.sl.r_59, trip_k0_t2.sl.r_6, trip_k0_t2.sl.r_60, trip_k0_t2.sl.r_61, trip_k0_t2.sl.r_62, trip_k0_t2.sl.r_63, trip_k0_t2.sl.r_64, trip_k0_t2.sl.r_65, trip_k0_t2.sl.r_66, trip_k0_t2.sl.r_67, trip_k0_t2.sl.r_68, trip_k0_t2.sl.r_69, trip_k0_t2.sl.r_7, trip_k0_t2.sl.r_70, trip_k0_t2.sl.r_8, trip_k0_t2.sl.r_9, trip_k0_t2.sl.v4077, trip_k0_t2.sl.v4109, trip_k0_t2.sl.v4136, trip_k0_t2.sl.v4168, trip_k0_t2.sl.v4195, trip_k0_t2.sl.v4227, trip_k0_t2.sl.v4254, trip_k0_t2.sl.v4286, trip_k0_t2.sl.v4313, trip_k0_t2.sl.v4345, trip_k0_t2.sl.v4372, trip_k0_t2.sl.v4404, trip_k0_t2.sl.v4431, trip_k0_t2.sl.v4463, trip_k0_t2.sl.v4490, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, Idealize.ShloMosaic.absf_apply, w4, wd, shapeCast_self, shapeCast_1ab_ab_apply, shapeCast_ab_1ab_apply, broadcastTo_1b_ab_apply, top_rows, bottom_rows, mulf_apply, addf_apply, subf_apply, extf_apply, truncf_apply, broadcast_apply, ld_block arg5 X_arg5 d hd (o22_0 k), ld_block arg5 X_arg5 d hd (o22_1 k), ld_block arg5 X_arg5 d hd (o24_0 k), ld_block arg5 X_arg5 d hd (o24_1 k), ld_block arg5 X_arg5 d hd (o26_0 k), ld_block arg5 X_arg5 d hd (o26_1 k), ld_block arg5 X_arg5 d hd (o28_0 k), ld_block arg5 X_arg5 d hd (o28_1 k), ld_block arg5 X_arg5 d hd (o30_0 k), ld_block arg5 X_arg5 d hd (o30_1 k), ld_block arg5 X_arg5 d hd (o32_0 k), ld_block arg5 X_arg5 d hd (o32_1 k), ld_block arg5 X_arg5 d hd (o34_0 k), ld_block arg5 X_arg5 d hd (o34_1 k), ld_block arg5 X_arg5 d hd (o36_0 k), ld_block arg5 X_arg5 d hd (o36_1 k), ld_scratch arg18 f_arg18 dx (o21_0 k) hdx0, ld_scratch arg18 f_arg18 dx (o21_1 k) hdx1, ld_scratch arg18 f_arg18 dx (o23_0 k) hdx0, ld_scratch arg18 f_arg18 dx (o23_1 k) hdx1, ld_scratch arg18 f_arg18 dx (o25_0 k) hdx0, ld_scratch arg18 f_arg18 dx (o25_1 k) hdx1, ld_scratch arg18 f_arg18 dx (o27_0 k) hdx0, ld_scratch arg18 f_arg18 dx (o27_1 k) hdx1, ld_scratch arg18 f_arg18 dx (o29_0 k) hdx0, ld_scratch arg18 f_arg18 dx (o29_1 k) hdx1, ld_scratch arg18 f_arg18 dx (o31_0 k) hdx0, ld_scratch arg18 f_arg18 dx (o31_1 k) hdx1, ld_scratch arg18 f_arg18 dx (o33_0 k) hdx0, ld_scratch arg18 f_arg18 dx (o33_1 k) hdx1, ld_scratch arg18 f_arg18 dx (o35_0 k) hdx0, ld_scratch arg18 f_arg18 dx (o35_1 k) hdx1, ld_scratch arg19 X_arg19 xh (o21_0 k) hxh0, ld_scratch arg19 X_arg19 xh (o21_1 k) hxh1, ld_scratch arg19 X_arg19 xh (o23_0 k) hxh0, ld_scratch arg19 X_arg19 xh (o23_1 k) hxh1, ld_scratch arg19 X_arg19 xh (o25_0 k) hxh0, ld_scratch arg19 X_arg19 xh (o25_1 k) hxh1, ld_scratch arg19 X_arg19 xh (o27_0 k) hxh0, ld_scratch arg19 X_arg19 xh (o27_1 k) hxh1, ld_scratch arg19 X_arg19 xh (o29_0 k) hxh0, ld_scratch arg19 X_arg19 xh (o29_1 k) hxh1, ld_scratch arg19 X_arg19 xh (o31_0 k) hxh0, ld_scratch arg19 X_arg19 xh (o31_1 k) hxh1, ld_scratch arg19 X_arg19 xh (o33_0 k) hxh0, ld_scratch arg19 X_arg19 xh (o33_1 k) hxh1, ld_scratch arg19 X_arg19 xh (o35_0 k) hxh0, ld_scratch arg19 X_arg19 xh (o35_1 k) hxh1, ld_rows arg16 X_arg16 r hr, ld_rows arg17 X_arg17 cc hc, fout', Matrix.cons_val_zero, Matrix.cons_val_one, Matrix.cons_val, Nat.zero_add, Nat.add_zero, ← Nat.add_assoc, Nat.reduceAdd, Nat.reduceMul, Nat.mul_zero, Nat.mul_one, Fin.isValue, Fin.val_zero, Fin.val_one, if_true, one_ne_zero, if_false]
    rfl
  · refine Eq.trans ?_ (congrArg₂ (w4 (fout' d r cc dx xh)) (show 32 + s.val = 32 * (1 + 0) + (0 + s.val) by omega) (show 256 * k.val + l.val = 256 * (k.val + 0) + (128 * (0 + 0) + (0 + l.val)) by omega))
    simp only [trip_k0_t2.sl.r_54, trip_k0_t2.sl.r_55, trip_k0_t2.sl.r_56, trip_k0_t2.sl.r_57, k0_pay317, k0_pay318, k0_pay319, k0_pay320, par0_max, par1_max, pack_apply, cast_45, cast_118, maximumf_apply, Fin.isValue, Fin.val_zero, Fin.val_one, if_true, one_ne_zero, if_false]
    simp only [w4, wd, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_3, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_4, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_5, trip_k0_t2.sl.r_50, trip_k0_t2.sl.r_51, trip_k0_t2.sl.r_52, trip_k0_t2.sl.r_53, trip_k0_t2.sl.r_54, trip_k0_t2.sl.r_55, trip_k0_t2.sl.r_56, trip_k0_t2.sl.r_57, trip_k0_t2.sl.r_58, trip_k0_t2.sl.r_59, trip_k0_t2.sl.r_6, trip_k0_t2.sl.r_60, trip_k0_t2.sl.r_61, trip_k0_t2.sl.r_62, trip_k0_t2.sl.r_63, trip_k0_t2.sl.r_64, trip_k0_t2.sl.r_65, trip_k0_t2.sl.r_66, trip_k0_t2.sl.r_67, trip_k0_t2.sl.r_68, trip_k0_t2.sl.r_69, trip_k0_t2.sl.r_7, trip_k0_t2.sl.r_70, trip_k0_t2.sl.r_8, trip_k0_t2.sl.r_9, trip_k0_t2.sl.v4077, trip_k0_t2.sl.v4109, trip_k0_t2.sl.v4136, trip_k0_t2.sl.v4168, trip_k0_t2.sl.v4195, trip_k0_t2.sl.v4227, trip_k0_t2.sl.v4254, trip_k0_t2.sl.v4286, trip_k0_t2.sl.v4313, trip_k0_t2.sl.v4345, trip_k0_t2.sl.v4372, trip_k0_t2.sl.v4404, trip_k0_t2.sl.v4431, trip_k0_t2.sl.v4463, trip_k0_t2.sl.v4490, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, Idealize.ShloMosaic.absf_apply, w4, wd, shapeCast_self, shapeCast_1ab_ab_apply, shapeCast_ab_1ab_apply, broadcastTo_1b_ab_apply, top_rows, bottom_rows, mulf_apply, addf_apply, subf_apply, extf_apply, truncf_apply, broadcast_apply, ld_block arg5 X_arg5 d hd (o22_0 k), ld_block arg5 X_arg5 d hd (o22_1 k), ld_block arg5 X_arg5 d hd (o24_0 k), ld_block arg5 X_arg5 d hd (o24_1 k), ld_block arg5 X_arg5 d hd (o26_0 k), ld_block arg5 X_arg5 d hd (o26_1 k), ld_block arg5 X_arg5 d hd (o28_0 k), ld_block arg5 X_arg5 d hd (o28_1 k), ld_block arg5 X_arg5 d hd (o30_0 k), ld_block arg5 X_arg5 d hd (o30_1 k), ld_block arg5 X_arg5 d hd (o32_0 k), ld_block arg5 X_arg5 d hd (o32_1 k), ld_block arg5 X_arg5 d hd (o34_0 k), ld_block arg5 X_arg5 d hd (o34_1 k), ld_block arg5 X_arg5 d hd (o36_0 k), ld_block arg5 X_arg5 d hd (o36_1 k), ld_scratch arg18 f_arg18 dx (o21_0 k) hdx0, ld_scratch arg18 f_arg18 dx (o21_1 k) hdx1, ld_scratch arg18 f_arg18 dx (o23_0 k) hdx0, ld_scratch arg18 f_arg18 dx (o23_1 k) hdx1, ld_scratch arg18 f_arg18 dx (o25_0 k) hdx0, ld_scratch arg18 f_arg18 dx (o25_1 k) hdx1, ld_scratch arg18 f_arg18 dx (o27_0 k) hdx0, ld_scratch arg18 f_arg18 dx (o27_1 k) hdx1, ld_scratch arg18 f_arg18 dx (o29_0 k) hdx0, ld_scratch arg18 f_arg18 dx (o29_1 k) hdx1, ld_scratch arg18 f_arg18 dx (o31_0 k) hdx0, ld_scratch arg18 f_arg18 dx (o31_1 k) hdx1, ld_scratch arg18 f_arg18 dx (o33_0 k) hdx0, ld_scratch arg18 f_arg18 dx (o33_1 k) hdx1, ld_scratch arg18 f_arg18 dx (o35_0 k) hdx0, ld_scratch arg18 f_arg18 dx (o35_1 k) hdx1, ld_scratch arg19 X_arg19 xh (o21_0 k) hxh0, ld_scratch arg19 X_arg19 xh (o21_1 k) hxh1, ld_scratch arg19 X_arg19 xh (o23_0 k) hxh0, ld_scratch arg19 X_arg19 xh (o23_1 k) hxh1, ld_scratch arg19 X_arg19 xh (o25_0 k) hxh0, ld_scratch arg19 X_arg19 xh (o25_1 k) hxh1, ld_scratch arg19 X_arg19 xh (o27_0 k) hxh0, ld_scratch arg19 X_arg19 xh (o27_1 k) hxh1, ld_scratch arg19 X_arg19 xh (o29_0 k) hxh0, ld_scratch arg19 X_arg19 xh (o29_1 k) hxh1, ld_scratch arg19 X_arg19 xh (o31_0 k) hxh0, ld_scratch arg19 X_arg19 xh (o31_1 k) hxh1, ld_scratch arg19 X_arg19 xh (o33_0 k) hxh0, ld_scratch arg19 X_arg19 xh (o33_1 k) hxh1, ld_scratch arg19 X_arg19 xh (o35_0 k) hxh0, ld_scratch arg19 X_arg19 xh (o35_1 k) hxh1, ld_rows arg16 X_arg16 r hr, ld_rows arg17 X_arg17 cc hc, fout', Matrix.cons_val_zero, Matrix.cons_val_one, Matrix.cons_val, Nat.zero_add, Nat.add_zero, ← Nat.add_assoc, Nat.reduceAdd, Nat.reduceMul, Nat.mul_zero, Nat.mul_one, Fin.isValue, Fin.val_zero, Fin.val_one, if_true, one_ne_zero, if_false]
    rfl
  · refine Eq.trans ?_ (congrArg₂ (w4 (fout' d r cc dx xh)) (show 32 + s.val = 32 * (1 + 0) + (0 + s.val) by omega) (show 256 * k.val + 128 + l.val = 256 * (k.val + 0) + (128 * (0 + 1) + (0 + l.val)) by omega))
    simp only [trip_k0_t2.sl.r_54, trip_k0_t2.sl.r_55, trip_k0_t2.sl.r_56, trip_k0_t2.sl.r_57, k0_pay317, k0_pay318, k0_pay319, k0_pay320, par0_max, par1_max, pack_apply, cast_45, cast_118, maximumf_apply, Fin.isValue, Fin.val_zero, Fin.val_one, if_true, one_ne_zero, if_false]
    simp only [w4, wd, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_3, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_4, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_5, trip_k0_t2.sl.r_50, trip_k0_t2.sl.r_51, trip_k0_t2.sl.r_52, trip_k0_t2.sl.r_53, trip_k0_t2.sl.r_54, trip_k0_t2.sl.r_55, trip_k0_t2.sl.r_56, trip_k0_t2.sl.r_57, trip_k0_t2.sl.r_58, trip_k0_t2.sl.r_59, trip_k0_t2.sl.r_6, trip_k0_t2.sl.r_60, trip_k0_t2.sl.r_61, trip_k0_t2.sl.r_62, trip_k0_t2.sl.r_63, trip_k0_t2.sl.r_64, trip_k0_t2.sl.r_65, trip_k0_t2.sl.r_66, trip_k0_t2.sl.r_67, trip_k0_t2.sl.r_68, trip_k0_t2.sl.r_69, trip_k0_t2.sl.r_7, trip_k0_t2.sl.r_70, trip_k0_t2.sl.r_8, trip_k0_t2.sl.r_9, trip_k0_t2.sl.v4077, trip_k0_t2.sl.v4109, trip_k0_t2.sl.v4136, trip_k0_t2.sl.v4168, trip_k0_t2.sl.v4195, trip_k0_t2.sl.v4227, trip_k0_t2.sl.v4254, trip_k0_t2.sl.v4286, trip_k0_t2.sl.v4313, trip_k0_t2.sl.v4345, trip_k0_t2.sl.v4372, trip_k0_t2.sl.v4404, trip_k0_t2.sl.v4431, trip_k0_t2.sl.v4463, trip_k0_t2.sl.v4490, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, Idealize.ShloMosaic.absf_apply, w4, wd, shapeCast_self, shapeCast_1ab_ab_apply, shapeCast_ab_1ab_apply, broadcastTo_1b_ab_apply, top_rows, bottom_rows, mulf_apply, addf_apply, subf_apply, extf_apply, truncf_apply, broadcast_apply, ld_block arg5 X_arg5 d hd (o22_0 k), ld_block arg5 X_arg5 d hd (o22_1 k), ld_block arg5 X_arg5 d hd (o24_0 k), ld_block arg5 X_arg5 d hd (o24_1 k), ld_block arg5 X_arg5 d hd (o26_0 k), ld_block arg5 X_arg5 d hd (o26_1 k), ld_block arg5 X_arg5 d hd (o28_0 k), ld_block arg5 X_arg5 d hd (o28_1 k), ld_block arg5 X_arg5 d hd (o30_0 k), ld_block arg5 X_arg5 d hd (o30_1 k), ld_block arg5 X_arg5 d hd (o32_0 k), ld_block arg5 X_arg5 d hd (o32_1 k), ld_block arg5 X_arg5 d hd (o34_0 k), ld_block arg5 X_arg5 d hd (o34_1 k), ld_block arg5 X_arg5 d hd (o36_0 k), ld_block arg5 X_arg5 d hd (o36_1 k), ld_scratch arg18 f_arg18 dx (o21_0 k) hdx0, ld_scratch arg18 f_arg18 dx (o21_1 k) hdx1, ld_scratch arg18 f_arg18 dx (o23_0 k) hdx0, ld_scratch arg18 f_arg18 dx (o23_1 k) hdx1, ld_scratch arg18 f_arg18 dx (o25_0 k) hdx0, ld_scratch arg18 f_arg18 dx (o25_1 k) hdx1, ld_scratch arg18 f_arg18 dx (o27_0 k) hdx0, ld_scratch arg18 f_arg18 dx (o27_1 k) hdx1, ld_scratch arg18 f_arg18 dx (o29_0 k) hdx0, ld_scratch arg18 f_arg18 dx (o29_1 k) hdx1, ld_scratch arg18 f_arg18 dx (o31_0 k) hdx0, ld_scratch arg18 f_arg18 dx (o31_1 k) hdx1, ld_scratch arg18 f_arg18 dx (o33_0 k) hdx0, ld_scratch arg18 f_arg18 dx (o33_1 k) hdx1, ld_scratch arg18 f_arg18 dx (o35_0 k) hdx0, ld_scratch arg18 f_arg18 dx (o35_1 k) hdx1, ld_scratch arg19 X_arg19 xh (o21_0 k) hxh0, ld_scratch arg19 X_arg19 xh (o21_1 k) hxh1, ld_scratch arg19 X_arg19 xh (o23_0 k) hxh0, ld_scratch arg19 X_arg19 xh (o23_1 k) hxh1, ld_scratch arg19 X_arg19 xh (o25_0 k) hxh0, ld_scratch arg19 X_arg19 xh (o25_1 k) hxh1, ld_scratch arg19 X_arg19 xh (o27_0 k) hxh0, ld_scratch arg19 X_arg19 xh (o27_1 k) hxh1, ld_scratch arg19 X_arg19 xh (o29_0 k) hxh0, ld_scratch arg19 X_arg19 xh (o29_1 k) hxh1, ld_scratch arg19 X_arg19 xh (o31_0 k) hxh0, ld_scratch arg19 X_arg19 xh (o31_1 k) hxh1, ld_scratch arg19 X_arg19 xh (o33_0 k) hxh0, ld_scratch arg19 X_arg19 xh (o33_1 k) hxh1, ld_scratch arg19 X_arg19 xh (o35_0 k) hxh0, ld_scratch arg19 X_arg19 xh (o35_1 k) hxh1, ld_rows arg16 X_arg16 r hr, ld_rows arg17 X_arg17 cc hc, fout', Matrix.cons_val_zero, Matrix.cons_val_one, Matrix.cons_val, Nat.zero_add, Nat.add_zero, ← Nat.add_assoc, Nat.reduceAdd, Nat.reduceMul, Nat.mul_zero, Nat.mul_one, Fin.isValue, Fin.val_zero, Fin.val_one, if_true, one_ne_zero, if_false]
    rfl
  · refine Eq.trans ?_ (congrArg₂ (w4 (fout' d r cc dx xh)) (show s.val = 32 * (0 + 0) + (0 + s.val) by omega) (show 256 * k.val + l.val = 256 * (k.val + 0) + (128 * (0 + 0) + (0 + l.val)) by omega))
    simp only [trip_k0_t2.sl.r_54, trip_k0_t2.sl.r_55, trip_k0_t2.sl.r_56, trip_k0_t2.sl.r_57, k0_pay317, k0_pay318, k0_pay319, k0_pay320, par0_max, par1_max, pack_apply, cast_45, cast_118, maximumf_apply, Fin.isValue, Fin.val_zero, Fin.val_one, if_true, one_ne_zero, if_false]
    simp only [w4, wd, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_3, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_4, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_5, trip_k0_t2.sl.r_50, trip_k0_t2.sl.r_51, trip_k0_t2.sl.r_52, trip_k0_t2.sl.r_53, trip_k0_t2.sl.r_54, trip_k0_t2.sl.r_55, trip_k0_t2.sl.r_56, trip_k0_t2.sl.r_57, trip_k0_t2.sl.r_58, trip_k0_t2.sl.r_59, trip_k0_t2.sl.r_6, trip_k0_t2.sl.r_60, trip_k0_t2.sl.r_61, trip_k0_t2.sl.r_62, trip_k0_t2.sl.r_63, trip_k0_t2.sl.r_64, trip_k0_t2.sl.r_65, trip_k0_t2.sl.r_66, trip_k0_t2.sl.r_67, trip_k0_t2.sl.r_68, trip_k0_t2.sl.r_69, trip_k0_t2.sl.r_7, trip_k0_t2.sl.r_70, trip_k0_t2.sl.r_8, trip_k0_t2.sl.r_9, trip_k0_t2.sl.v4077, trip_k0_t2.sl.v4109, trip_k0_t2.sl.v4136, trip_k0_t2.sl.v4168, trip_k0_t2.sl.v4195, trip_k0_t2.sl.v4227, trip_k0_t2.sl.v4254, trip_k0_t2.sl.v4286, trip_k0_t2.sl.v4313, trip_k0_t2.sl.v4345, trip_k0_t2.sl.v4372, trip_k0_t2.sl.v4404, trip_k0_t2.sl.v4431, trip_k0_t2.sl.v4463, trip_k0_t2.sl.v4490, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, Idealize.ShloMosaic.absf_apply, w4, wd, shapeCast_self, shapeCast_1ab_ab_apply, shapeCast_ab_1ab_apply, broadcastTo_1b_ab_apply, top_rows, bottom_rows, mulf_apply, addf_apply, subf_apply, extf_apply, truncf_apply, broadcast_apply, ld_block arg5 X_arg5 d hd (o22_0 k), ld_block arg5 X_arg5 d hd (o22_1 k), ld_block arg5 X_arg5 d hd (o24_0 k), ld_block arg5 X_arg5 d hd (o24_1 k), ld_block arg5 X_arg5 d hd (o26_0 k), ld_block arg5 X_arg5 d hd (o26_1 k), ld_block arg5 X_arg5 d hd (o28_0 k), ld_block arg5 X_arg5 d hd (o28_1 k), ld_block arg5 X_arg5 d hd (o30_0 k), ld_block arg5 X_arg5 d hd (o30_1 k), ld_block arg5 X_arg5 d hd (o32_0 k), ld_block arg5 X_arg5 d hd (o32_1 k), ld_block arg5 X_arg5 d hd (o34_0 k), ld_block arg5 X_arg5 d hd (o34_1 k), ld_block arg5 X_arg5 d hd (o36_0 k), ld_block arg5 X_arg5 d hd (o36_1 k), ld_scratch arg18 f_arg18 dx (o21_0 k) hdx0, ld_scratch arg18 f_arg18 dx (o21_1 k) hdx1, ld_scratch arg18 f_arg18 dx (o23_0 k) hdx0, ld_scratch arg18 f_arg18 dx (o23_1 k) hdx1, ld_scratch arg18 f_arg18 dx (o25_0 k) hdx0, ld_scratch arg18 f_arg18 dx (o25_1 k) hdx1, ld_scratch arg18 f_arg18 dx (o27_0 k) hdx0, ld_scratch arg18 f_arg18 dx (o27_1 k) hdx1, ld_scratch arg18 f_arg18 dx (o29_0 k) hdx0, ld_scratch arg18 f_arg18 dx (o29_1 k) hdx1, ld_scratch arg18 f_arg18 dx (o31_0 k) hdx0, ld_scratch arg18 f_arg18 dx (o31_1 k) hdx1, ld_scratch arg18 f_arg18 dx (o33_0 k) hdx0, ld_scratch arg18 f_arg18 dx (o33_1 k) hdx1, ld_scratch arg18 f_arg18 dx (o35_0 k) hdx0, ld_scratch arg18 f_arg18 dx (o35_1 k) hdx1, ld_scratch arg19 X_arg19 xh (o21_0 k) hxh0, ld_scratch arg19 X_arg19 xh (o21_1 k) hxh1, ld_scratch arg19 X_arg19 xh (o23_0 k) hxh0, ld_scratch arg19 X_arg19 xh (o23_1 k) hxh1, ld_scratch arg19 X_arg19 xh (o25_0 k) hxh0, ld_scratch arg19 X_arg19 xh (o25_1 k) hxh1, ld_scratch arg19 X_arg19 xh (o27_0 k) hxh0, ld_scratch arg19 X_arg19 xh (o27_1 k) hxh1, ld_scratch arg19 X_arg19 xh (o29_0 k) hxh0, ld_scratch arg19 X_arg19 xh (o29_1 k) hxh1, ld_scratch arg19 X_arg19 xh (o31_0 k) hxh0, ld_scratch arg19 X_arg19 xh (o31_1 k) hxh1, ld_scratch arg19 X_arg19 xh (o33_0 k) hxh0, ld_scratch arg19 X_arg19 xh (o33_1 k) hxh1, ld_scratch arg19 X_arg19 xh (o35_0 k) hxh0, ld_scratch arg19 X_arg19 xh (o35_1 k) hxh1, ld_rows arg16 X_arg16 r hr, ld_rows arg17 X_arg17 cc hc, fout', Matrix.cons_val_zero, Matrix.cons_val_one, Matrix.cons_val, Nat.zero_add, Nat.add_zero, ← Nat.add_assoc, Nat.reduceAdd, Nat.reduceMul, Nat.mul_zero, Nat.mul_one, Fin.isValue, Fin.val_zero, Fin.val_one, if_true, one_ne_zero, if_false]
    rfl
  · refine Eq.trans ?_ (congrArg₂ (w4 (fout' d r cc dx xh)) (show s.val = 32 * (0 + 0) + (0 + s.val) by omega) (show 256 * k.val + 128 + l.val = 256 * (k.val + 0) + (128 * (0 + 1) + (0 + l.val)) by omega))
    simp only [trip_k0_t2.sl.r_54, trip_k0_t2.sl.r_55, trip_k0_t2.sl.r_56, trip_k0_t2.sl.r_57, k0_pay317, k0_pay318, k0_pay319, k0_pay320, par0_max, par1_max, pack_apply, cast_45, cast_118, maximumf_apply, Fin.isValue, Fin.val_zero, Fin.val_one, if_true, one_ne_zero, if_false]
    simp only [w4, wd, trip_k0_t2.sl.r, trip_k0_t2.sl.r_1, trip_k0_t2.sl.r_10, trip_k0_t2.sl.r_11, trip_k0_t2.sl.r_12, trip_k0_t2.sl.r_13, trip_k0_t2.sl.r_14, trip_k0_t2.sl.r_15, trip_k0_t2.sl.r_16, trip_k0_t2.sl.r_17, trip_k0_t2.sl.r_18, trip_k0_t2.sl.r_19, trip_k0_t2.sl.r_2, trip_k0_t2.sl.r_20, trip_k0_t2.sl.r_21, trip_k0_t2.sl.r_22, trip_k0_t2.sl.r_23, trip_k0_t2.sl.r_24, trip_k0_t2.sl.r_25, trip_k0_t2.sl.r_26, trip_k0_t2.sl.r_27, trip_k0_t2.sl.r_28, trip_k0_t2.sl.r_29, trip_k0_t2.sl.r_3, trip_k0_t2.sl.r_30, trip_k0_t2.sl.r_31, trip_k0_t2.sl.r_32, trip_k0_t2.sl.r_33, trip_k0_t2.sl.r_34, trip_k0_t2.sl.r_35, trip_k0_t2.sl.r_36, trip_k0_t2.sl.r_37, trip_k0_t2.sl.r_38, trip_k0_t2.sl.r_39, trip_k0_t2.sl.r_4, trip_k0_t2.sl.r_40, trip_k0_t2.sl.r_41, trip_k0_t2.sl.r_42, trip_k0_t2.sl.r_43, trip_k0_t2.sl.r_44, trip_k0_t2.sl.r_45, trip_k0_t2.sl.r_46, trip_k0_t2.sl.r_47, trip_k0_t2.sl.r_48, trip_k0_t2.sl.r_49, trip_k0_t2.sl.r_5, trip_k0_t2.sl.r_50, trip_k0_t2.sl.r_51, trip_k0_t2.sl.r_52, trip_k0_t2.sl.r_53, trip_k0_t2.sl.r_54, trip_k0_t2.sl.r_55, trip_k0_t2.sl.r_56, trip_k0_t2.sl.r_57, trip_k0_t2.sl.r_58, trip_k0_t2.sl.r_59, trip_k0_t2.sl.r_6, trip_k0_t2.sl.r_60, trip_k0_t2.sl.r_61, trip_k0_t2.sl.r_62, trip_k0_t2.sl.r_63, trip_k0_t2.sl.r_64, trip_k0_t2.sl.r_65, trip_k0_t2.sl.r_66, trip_k0_t2.sl.r_67, trip_k0_t2.sl.r_68, trip_k0_t2.sl.r_69, trip_k0_t2.sl.r_7, trip_k0_t2.sl.r_70, trip_k0_t2.sl.r_8, trip_k0_t2.sl.r_9, trip_k0_t2.sl.v4077, trip_k0_t2.sl.v4109, trip_k0_t2.sl.v4136, trip_k0_t2.sl.v4168, trip_k0_t2.sl.v4195, trip_k0_t2.sl.v4227, trip_k0_t2.sl.v4254, trip_k0_t2.sl.v4286, trip_k0_t2.sl.v4313, trip_k0_t2.sl.v4345, trip_k0_t2.sl.v4372, trip_k0_t2.sl.v4404, trip_k0_t2.sl.v4431, trip_k0_t2.sl.v4463, trip_k0_t2.sl.v4490, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, Idealize.ShloMosaic.absf_apply, w4, wd, shapeCast_self, shapeCast_1ab_ab_apply, shapeCast_ab_1ab_apply, broadcastTo_1b_ab_apply, top_rows, bottom_rows, mulf_apply, addf_apply, subf_apply, extf_apply, truncf_apply, broadcast_apply, ld_block arg5 X_arg5 d hd (o22_0 k), ld_block arg5 X_arg5 d hd (o22_1 k), ld_block arg5 X_arg5 d hd (o24_0 k), ld_block arg5 X_arg5 d hd (o24_1 k), ld_block arg5 X_arg5 d hd (o26_0 k), ld_block arg5 X_arg5 d hd (o26_1 k), ld_block arg5 X_arg5 d hd (o28_0 k), ld_block arg5 X_arg5 d hd (o28_1 k), ld_block arg5 X_arg5 d hd (o30_0 k), ld_block arg5 X_arg5 d hd (o30_1 k), ld_block arg5 X_arg5 d hd (o32_0 k), ld_block arg5 X_arg5 d hd (o32_1 k), ld_block arg5 X_arg5 d hd (o34_0 k), ld_block arg5 X_arg5 d hd (o34_1 k), ld_block arg5 X_arg5 d hd (o36_0 k), ld_block arg5 X_arg5 d hd (o36_1 k), ld_scratch arg18 f_arg18 dx (o21_0 k) hdx0, ld_scratch arg18 f_arg18 dx (o21_1 k) hdx1, ld_scratch arg18 f_arg18 dx (o23_0 k) hdx0, ld_scratch arg18 f_arg18 dx (o23_1 k) hdx1, ld_scratch arg18 f_arg18 dx (o25_0 k) hdx0, ld_scratch arg18 f_arg18 dx (o25_1 k) hdx1, ld_scratch arg18 f_arg18 dx (o27_0 k) hdx0, ld_scratch arg18 f_arg18 dx (o27_1 k) hdx1, ld_scratch arg18 f_arg18 dx (o29_0 k) hdx0, ld_scratch arg18 f_arg18 dx (o29_1 k) hdx1, ld_scratch arg18 f_arg18 dx (o31_0 k) hdx0, ld_scratch arg18 f_arg18 dx (o31_1 k) hdx1, ld_scratch arg18 f_arg18 dx (o33_0 k) hdx0, ld_scratch arg18 f_arg18 dx (o33_1 k) hdx1, ld_scratch arg18 f_arg18 dx (o35_0 k) hdx0, ld_scratch arg18 f_arg18 dx (o35_1 k) hdx1, ld_scratch arg19 X_arg19 xh (o21_0 k) hxh0, ld_scratch arg19 X_arg19 xh (o21_1 k) hxh1, ld_scratch arg19 X_arg19 xh (o23_0 k) hxh0, ld_scratch arg19 X_arg19 xh (o23_1 k) hxh1, ld_scratch arg19 X_arg19 xh (o25_0 k) hxh0, ld_scratch arg19 X_arg19 xh (o25_1 k) hxh1, ld_scratch arg19 X_arg19 xh (o27_0 k) hxh0, ld_scratch arg19 X_arg19 xh (o27_1 k) hxh1, ld_scratch arg19 X_arg19 xh (o29_0 k) hxh0, ld_scratch arg19 X_arg19 xh (o29_1 k) hxh1, ld_scratch arg19 X_arg19 xh (o31_0 k) hxh0, ld_scratch arg19 X_arg19 xh (o31_1 k) hxh1, ld_scratch arg19 X_arg19 xh (o33_0 k) hxh0, ld_scratch arg19 X_arg19 xh (o33_1 k) hxh1, ld_scratch arg19 X_arg19 xh (o35_0 k) hxh0, ld_scratch arg19 X_arg19 xh (o35_1 k) hxh1, ld_rows arg16 X_arg16 r hr, ld_rows arg17 X_arg17 cc hc, fout', Matrix.cons_val_zero, Matrix.cons_val_one, Matrix.cons_val, Nat.zero_add, Nat.add_zero, ← Nat.add_assoc, Nat.reduceAdd, Nat.reduceMul, Nat.mul_zero, Nat.mul_one, Fin.isValue, Fin.val_zero, Fin.val_one, if_true, one_ne_zero, if_false]
    rfl
end Trip

end Cert.KernelIdeal.Gen

end
-- ==== Proof.KernelIdeal.Store.lean ====
/- The second loop over the extended reals: what it leaves in the first scratch block and in the words of the columns. -/
module

public import proofs.«01_k».proof.Proof.KernelIdeal.Base
public import proofs.«01_k».proof.Proof.KernelIdeal.Two
public import proofs.«01_k».proof.Proof.KernelIdeal.TripC
public import proofs.«01_k».proof.Proof.KernelIdeal.TripD
public import Idealize.ShloMosaic.Lib.Writes
public import Idealize.ShloMosaic.Lib.ValueIdx
public import Idealize.ShloMosaic.Lib.ValueLayout

@[expose] public section

set_option maxRecDepth 16384

noncomputable section

namespace Cert.KernelIdeal.Gen

open Idealize.ShloMosaic hiding ix2 ix3 ix4 ix5 maximumf_apply mulf_apply addf_apply subf_apply extf_apply truncf_apply absf_apply
open Idealize.ShloMosaic.TcCoe Idealize.ShloMosaic.Tactic
open Idealize.SL Idealize.SL.RA Idealize.SL.BI
open Idealize.ShloMosaic.Pipeline Idealize.ShloMosaic.ValueIdx

/-- What the two buffers hold before trip `n`. -/
structure StoreInv (d xh dx : ℕ → ℕ → EReal) (r cc : ℕ → EReal) (S : List (View.Piece (Elt Ideal) S1x128x4096 .bf16) × List (View.Piece (Elt Ideal) S128x4096 .f32) × List (View.Piece (Elt Ideal) S4x16x8x2x128 .bf16) × List (View.Piece (Elt Ideal) S4x16x8x2x128 .bf16)) (n : ℕ) : Prop where
  p18 : ∀ p ∈ S.2.1, ∀ y, p.2 y = fout' d r cc dx xh (p.1.emb y 0).val (p.1.emb y 1).val
  c18 : ∀ y : S128x4096.Idx, (y 1).val < 256 * n → ∃ p ∈ S.2.1, y ∈ p.1.set
  p21 : ∀ p ∈ S.2.2.2, ∀ y, p.2 y = w4 (fout' d r cc dx xh) (32 * (p.1.emb y 0).val + (p.1.emb y 2).val) (256 * (p.1.emb y 1).val + (128 * (p.1.emb y 3).val + (p.1.emb y 4).val))
  c21 : ∀ y : S4x16x8x2x128.Idx, (y 1).val < n → ∃ p ∈ S.2.2.2, y ∈ p.1.set

section Loop
variable (𝒱 : Variants) (c : Dev nD) (bd : Option 𝒱.V) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (v35_15 : FVec Ideal S8x128 .f32) (X_arg5 : BufTy.Contents (Elt Ideal) arg5.view.ty) (X_arg16 : BufTy.Contents (Elt Ideal) arg16.view.ty) (X_arg17 : BufTy.Contents (Elt Ideal) arg17.view.ty) (X_arg19 : BufTy.Contents (Elt Ideal) arg19.view.ty)
variable (G_arg9 : BufTy.Contents (Elt Ideal) arg9.view.ty) (G_arg18 : BufTy.Contents (Elt Ideal) arg18.view.ty) (G_arg20 : BufTy.Contents (Elt Ideal) arg20.view.ty) (G_arg21 : BufTy.Contents (Elt Ideal) arg21.view.ty)
variable (d xh dx : ℕ → ℕ → EReal) (r cc : ℕ → EReal)
    (hd : ∀ (a b : ℕ) (ha : a < 128) (hb : b < 4096), arg5.view.read (Elt Ideal) X_arg5 (ix3 (0 : Fin 1) ⟨a, ha⟩ ⟨b, hb⟩) = d a b)
    (hxh : ∀ (a b : ℕ) (ha : a < 128) (hb : b < 4096), arg19.view.read (Elt Ideal) X_arg19 (ix2 ⟨a, ha⟩ ⟨b, hb⟩) = xh a b)
    (hr : ∀ (a b : ℕ) (ha : a < 128) (hb : b < 128), arg16.view.read (Elt Ideal) X_arg16 (ix2 ⟨a, ha⟩ ⟨b, hb⟩) = r a)
    (hc : ∀ (a b : ℕ) (ha : a < 128) (hb : b < 128), arg17.view.read (Elt Ideal) X_arg17 (ix2 ⟨a, ha⟩ ⟨b, hb⟩) = cc a)
    (hdx : ∀ (a b : ℕ) (ha : a < 128) (hb : b < 4096), arg18.view.read (Elt Ideal) G_arg18 (ix2 ⟨a, ha⟩ ⟨b, hb⟩) = dx a b)
include hd hxh hr hc hdx

/-- What the second loop leaves in the two buffers. -/
theorem store_inv (n : ℕ) (hn : n ≤ k0_t2_loop.trips) : StoreInv d xh dx r cc (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 G_arg9 G_arg18 G_arg20 G_arg21 n) n := by
  induction n with
  | zero => exact ⟨by intro p hp; exact absurd hp List.not_mem_nil, fun y h => absurd h (by omega), by intro p hp; exact absurd hp List.not_mem_nil, fun y h => absurd h (by omega)⟩
  | succ n ih =>
    have I := ih (by omega)
    have J := two_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 G_arg9 G_arg18 G_arg20 G_arg21 d xh dx r cc hd hxh hr hc hdx n (by omega)
    have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 G_arg9 G_arg18 G_arg20 G_arg21 ⟨n, hn⟩
    rw [show n + 1 = (⟨n, hn⟩ : Fin k0_t2_loop.trips).val + 1 from rfl, e]
    generalize (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 G_arg9 G_arg18 G_arg20 G_arg21 (⟨n, hn⟩ : Fin k0_t2_loop.trips).val) = S at I J ⊢
    have hdx' : ∀ (a b : ℕ) (ha : a < 128) (hb : b < 4096) (hB : 256 * (⟨n, hn⟩ : Fin k0_t2_loop.trips).val ≤ b), arg18.view.read (Elt Ideal) (arg18.view.writes (Elt Ideal) G_arg18 S.2.1) (ix2 ⟨a, ha⟩ ⟨b, hb⟩) = dx a b := by
      intro a b ha hb hB
      rw [← hdx a b ha hb]
      refine View.read_writes_apply_of_forall_not_mem _ _ _ _ ?_
      intro p hp hy
      have := J.in18 p hp _ hy
      have h2 : b < 256 * n := this
      have h3 : 256 * n ≤ b := hB
      omega
    refine ⟨?_, ?_, ?_, ?_⟩
    · intro p hp
      rcases List.mem_append.1 hp with hp | hp
      · exact pieces_two18 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 ⟨n, hn⟩ (arg9.view.writes (Elt Ideal) G_arg9 S.1) (arg18.view.writes (Elt Ideal) G_arg18 S.2.1) (arg20.view.writes (Elt Ideal) G_arg20 S.2.2.1) (arg21.view.writes (Elt Ideal) G_arg21 S.2.2.2) d xh dx r cc hd hxh hr hc hdx' p hp
      · exact I.p18 p hp
    · intro y h
      by_cases hlt : (y 1).val < 256 * n
      · obtain ⟨p, hp, hy⟩ := I.c18 y hlt
        exact ⟨p, List.mem_append_right _ hp, hy⟩
      · obtain ⟨p, hp, hy⟩ := cover_two18 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 ⟨n, hn⟩ (arg9.view.writes (Elt Ideal) G_arg9 S.1) (arg18.view.writes (Elt Ideal) G_arg18 S.2.1) (arg20.view.writes (Elt Ideal) G_arg20 S.2.2.1) (arg21.view.writes (Elt Ideal) G_arg21 S.2.2.2) y (by show 256 * n ≤ _; omega) (by have h' : (y 1).val < 256 * (n + 1) := h; show _ < 256 * n + 256; omega)
        exact ⟨p, List.mem_append_left _ hp, hy⟩
    · intro p hp
      rcases List.mem_append.1 hp with hp | hp
      · exact pieces_two21 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 ⟨n, hn⟩ (arg9.view.writes (Elt Ideal) G_arg9 S.1) (arg18.view.writes (Elt Ideal) G_arg18 S.2.1) (arg20.view.writes (Elt Ideal) G_arg20 S.2.2.1) (arg21.view.writes (Elt Ideal) G_arg21 S.2.2.2) d xh dx r cc hd hxh hr hc hdx' p hp
      · exact I.p21 p hp
    · intro y h
      by_cases hlt : (y 1).val < n
      · obtain ⟨p, hp, hy⟩ := I.c21 y hlt
        exact ⟨p, List.mem_append_right _ hp, hy⟩
      · obtain ⟨p, hp, hy⟩ := cover_two21 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 X_arg5 X_arg16 X_arg17 X_arg19 ⟨n, hn⟩ (arg9.view.writes (Elt Ideal) G_arg9 S.1) (arg18.view.writes (Elt Ideal) G_arg18 S.2.1) (arg20.view.writes (Elt Ideal) G_arg20 S.2.2.1) (arg21.view.writes (Elt Ideal) G_arg21 S.2.2.2) y (by have h' : (y 1).val < n + 1 := h; show _ = n; omega)
        exact ⟨p, List.mem_append_left _ hp, hy⟩
end Loop

end Cert.KernelIdeal.Gen

end
-- ==== Proof.KernelIdeal.TripE.lean ====
/- The third loop over the extended reals: what it writes in the codes of the columns. -/
module

public import proofs.«01_k».proof.Proof.KernelIdeal.Base
public import proofs.«01_k».proof.Proof.KernelIdeal.TripB
public import Idealize.ShloMosaic.Lib.Writes
public import Idealize.ShloMosaic.Lib.ValueIdx
public import Idealize.ShloMosaic.Lib.ValueLayout

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open Idealize.ShloMosaic.Pipeline Idealize.ShloMosaic.ValueIdx

/-- A number brought between the two bounds of the codes. -/
def clip (x : EReal) : EReal := min (Ideal.ofBits .f32 0x43E00000#32) (max (Ideal.ofBits .f32 0xC3E00000#32) x)

/-- A box of thirty-two rows and 128 columns of a scratch block. -/
theorem ld_wide (m : Memref sig .tc .vmem S128x4096 .f32) (X : m.view.ty.Contents (Elt Ideal)) (f : ℕ → ℕ → EReal)
    (hf : ∀ (a b : ℕ) (ha : a < 128) (hb : b < 4096), m.view.read (Elt Ideal) X (ix2 ⟨a, ha⟩ ⟨b, hb⟩) = f a b)
    {off : Fin 2 → ℕ} {A B : ℕ} (ho : off = ![A, B])
    (inb : ∀ a, off a + S32x128.size a ≤ S128x4096.size a)
    (s : Fin 32) (l : Fin 128) :
    View.readAt (Elt Ideal) m.view (Rect.unit (s := S128x4096) off S32x128.size inb).toLoadRect X (ix2 s l) = f (A + s.val) (B + l.val) := by
  subst ho
  have h1 : A + 32 ≤ 128 := inb 0
  have h2 : B + 128 ≤ 4096 := inb 1
  rw [← hf (A + s.val) (B + l.val) (by omega) (by omega), View.readAt_eq_ld]
  refine congrArg (m.view.read (Elt Ideal) X) (funext fun a => Fin.ext ?_)
  match a with
  | ⟨0, _⟩ => show A + 1 * s.val = A + s.val; omega
  | ⟨1, _⟩ => show B + 1 * l.val = B + l.val; omega

/-- A row of the scales. -/
theorem ld_scale (m : Memref sig .tc .vmem S4x2x16x128 .f32) (X : m.view.ty.Contents (Elt Ideal)) (f : ℕ → ℕ → EReal)
    (hf : ∀ (b : Fin 4) (t : Fin 2) (p : Fin 16) (l : Fin 128), m.view.read (Elt Ideal) X (ix4 b t p l) = f b.val (256 * p.val + (128 * t.val + l.val)))
    {off : Fin 4 → ℕ} {b t p : ℕ} (ho : off = ![b, t, p, 0])
    (inb : ∀ a, off a + S1x1x1x128.size a ≤ S4x2x16x128.size a) (l : Fin 128) :
    View.readAt (Elt Ideal) m.view (Rect.unit (s := S4x2x16x128) off S1x1x1x128.size inb).toLoadRect X (ix4 (0 : Fin 1) (0 : Fin 1) (0 : Fin 1) l) = f b (256 * p + (128 * t + l.val)) := by
  subst ho
  have h0 : b + 1 ≤ 4 := inb 0
  have h1 : t + 1 ≤ 2 := inb 1
  have h2 : p + 1 ≤ 16 := inb 2
  rw [← hf ⟨b, by omega⟩ ⟨t, by omega⟩ ⟨p, by omega⟩ l, View.readAt_eq_ld]
  refine congrArg (m.view.read (Elt Ideal) X) (funext fun a => Fin.ext ?_)
  match a with
  | ⟨0, _⟩ => show b + 1 * 0 = b; omega
  | ⟨1, _⟩ => show t + 1 * 0 = t; omega
  | ⟨2, _⟩ => show p + 1 * 0 = p; omega
  | ⟨3, _⟩ => show 0 + 1 * l.val = l.val; omega

theorem cast_1112 {α : Type} (x : S1x1x1x128.Idx → α) (h) (l : Fin 128) :
    shapeCast S1x128 x h (ix2 (0 : Fin 1) l) = x (ix4 (0 : Fin 1) (0 : Fin 1) (0 : Fin 1) l) :=
  shapeCast_apply x h _ (ix4 (0 : Fin 1) (0 : Fin 1) (0 : Fin 1) l) (by
    rw [Shape.rowMajor_val_four, Shape.rowMajor_val_two]; show ((0 * 1 + 0) * 1 + 0) * 128 + l.val = 0 * 128 + l.val; omega)

/-- An entry of one box of thirty-two rows. -/
theorem mem_rows {off : Fin 3 → ℕ} {A B : ℕ} (ho : off = ![0, A, B]) (inb : ∀ a, off a + S1x32x128.size a ≤ S1x128x4096.size a) (y : S1x128x4096.Idx)
    (h0 : A ≤ (y 1).val ∧ (y 1).val < A + 32) (h1 : B ≤ (y 2).val ∧ (y 2).val < B + 128) : y ∈ (Rect.unit (s := S1x128x4096) off S1x32x128.size inb).set := by
  subst ho
  rw [Rect.mem_set_unit]
  intro a
  match a with
  | ⟨0, _⟩ => have : (y 0).val < 1 := (y 0).isLt; show 0 ≤ (y 0).val ∧ (y 0).val < 0 + 1; omega
  | ⟨1, _⟩ => exact h0
  | ⟨2, _⟩ => exact h1

theorem o74_0 (k : Fin k0_t3_loop.trips) : k0_off74 k 0#32 = ![0, 256 * k.val + 0] := k0_off74_eq k 0
theorem o74_1 (k : Fin k0_t3_loop.trips) : k0_off74 k 128#32 = ![0, 256 * k.val + 128] := k0_off74_eq k 1
theorem o75_0 (k : Fin k0_t3_loop.trips) : k0_off75 k 0#32 = ![0, 0, 256 * k.val + 0] := k0_off75_eq k 0
theorem o75_1 (k : Fin k0_t3_loop.trips) : k0_off75 k 128#32 = ![0, 0, 256 * k.val + 128] := k0_off75_eq k 1
theorem o78_0 (k : Fin k0_t3_loop.trips) : k0_off78 k 0#32 = ![32, 256 * k.val + 0] := k0_off78_eq k 0
theorem o78_1 (k : Fin k0_t3_loop.trips) : k0_off78 k 128#32 = ![32, 256 * k.val + 128] := k0_off78_eq k 1
theorem o79_0 (k : Fin k0_t3_loop.trips) : k0_off79 k 0#32 = ![0, 32, 256 * k.val + 0] := k0_off79_eq k 0
theorem o79_1 (k : Fin k0_t3_loop.trips) : k0_off79 k 128#32 = ![0, 32, 256 * k.val + 128] := k0_off79_eq k 1
theorem o82_0 (k : Fin k0_t3_loop.trips) : k0_off82 k 0#32 = ![64, 256 * k.val + 0] := k0_off82_eq k 0
theorem o82_1 (k : Fin k0_t3_loop.trips) : k0_off82 k 128#32 = ![64, 256 * k.val + 128] := k0_off82_eq k 1
theorem o83_0 (k : Fin k0_t3_loop.trips) : k0_off83 k 0#32 = ![0, 64, 256 * k.val + 0] := k0_off83_eq k 0
theorem o83_1 (k : Fin k0_t3_loop.trips) : k0_off83 k 128#32 = ![0, 64, 256 * k.val + 128] := k0_off83_eq k 1
theorem o86_0 (k : Fin k0_t3_loop.trips) : k0_off86 k 0#32 = ![96, 256 * k.val + 0] := k0_off86_eq k 0
theorem o86_1 (k : Fin k0_t3_loop.trips) : k0_off86 k 128#32 = ![96, 256 * k.val + 128] := k0_off86_eq k 1
theorem o87_0 (k : Fin k0_t3_loop.trips) : k0_off87 k 0#32 = ![0, 96, 256 * k.val + 0] := k0_off87_eq k 0
theorem o87_1 (k : Fin k0_t3_loop.trips) : k0_off87 k 128#32 = ![0, 96, 256 * k.val + 128] := k0_off87_eq k 1

section Trip
variable (𝒱 : Variants) (c : Dev nD) (bd : Option 𝒱.V) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole)
variable (X_arg18 : BufTy.Contents (Elt Ideal) arg18.view.ty) (X_arg22 : BufTy.Contents (Elt Ideal) arg22.view.ty) (X_arg23 : BufTy.Contents (Elt Ideal) arg23.view.ty) (X_arg25 : BufTy.Contents (Elt Ideal) arg25.view.ty)
variable (k : Fin k0_t3_loop.trips)

/-- The boxes of the trip's pieces of the codes cover its 256 columns. -/
theorem cover_three (y : S1x128x4096.Idx) (h0 : 256 * k.val ≤ (y 2).val) (h1 : (y 2).val < 256 * k.val + 256) :
    ∃ p ∈ (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg18 X_arg22 X_arg23 X_arg25 k).2, y ∈ p.1.set := by
  have e0 : (y 1).val < 128 := (y 1).isLt
  unfold tripL_k0_t3 trip_k0_t3
  dsimp only
  simp only [List.mem_cons, List.not_mem_nil, or_false, exists_eq_or_imp, exists_eq_left]
  have hm : (y 2).val < 256 * k.val + 128 ∨ 256 * k.val + 128 ≤ (y 2).val := by omega
  have hn : ((y 1).val < 32) ∨ (32 ≤ (y 1).val ∧ (y 1).val < 64) ∨ (64 ≤ (y 1).val ∧ (y 1).val < 96) ∨ (96 ≤ (y 1).val) := by omega
  rcases hn with hn | hn | hn | hn <;> rcases hm with hm | hm
  · exact Or.inr (Or.inr (Or.inr (Or.inr (Or.inr (Or.inr (Or.inr ((mem_rows (o75_0 k) _ y ⟨by omega, by omega⟩ ⟨by omega, by omega⟩))))))))
  · exact Or.inr (Or.inr (Or.inr (Or.inr (Or.inr (Or.inr (Or.inl (mem_rows (o75_1 k) _ y ⟨by omega, by omega⟩ ⟨by omega, by omega⟩)))))))
  · exact Or.inr (Or.inr (Or.inr (Or.inr (Or.inr (Or.inl (mem_rows (o79_0 k) _ y ⟨by omega, by omega⟩ ⟨by omega, by omega⟩))))))
  · exact Or.inr (Or.inr (Or.inr (Or.inr (Or.inl (mem_rows (o79_1 k) _ y ⟨by omega, by omega⟩ ⟨by omega, by omega⟩)))))
  · exact Or.inr (Or.inr (Or.inr (Or.inl (mem_rows (o83_0 k) _ y ⟨by omega, by omega⟩ ⟨by omega, by omega⟩))))
  · exact Or.inr (Or.inr (Or.inl (mem_rows (o83_1 k) _ y ⟨by omega, by omega⟩ ⟨by omega, by omega⟩)))
  · exact Or.inr (Or.inl (mem_rows (o87_0 k) _ y ⟨by omega, by omega⟩ ⟨by omega, by omega⟩))
  · exact Or.inl (mem_rows (o87_1 k) _ y ⟨by omega, by omega⟩ ⟨by omega, by omega⟩)

variable (dx cw : ℕ → ℕ → EReal)
    (hdx : ∀ (a b : ℕ) (ha : a < 128) (hb : b < 4096), arg18.view.read (Elt Ideal) X_arg18 (ix2 ⟨a, ha⟩ ⟨b, hb⟩) = dx a b)
    (hcw : ∀ (b : Fin 4) (t : Fin 2) (p : Fin 16) (l : Fin 128), arg22.view.read (Elt Ideal) X_arg22 (ix4 b t p l) = cw b.val (256 * p.val + (128 * t.val + l.val)))
include hdx hcw

set_option maxHeartbeats 4000000 in
/-- What the trip writes in the codes. -/
theorem pieces_three : ∀ p ∈ (tripL_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg18 X_arg22 X_arg23 X_arg25 k).2, ∀ y, p.2 y = clip (dx (p.1.emb y 1).val (p.1.emb y 2).val * cw ((p.1.emb y 1).val / 32) (p.1.emb y 2).val) := by
  intro p hp
  unfold tripL_k0_t3 trip_k0_t3 at hp
  dsimp only at hp
  simp only [List.mem_cons, List.not_mem_nil, or_false] at hp
  rcases hp with rfl | rfl | rfl | rfl | rfl | rfl | rfl | rfl
  all_goals
    intro y
    obtain ⟨u, s, l, rfl⟩ : ∃ (u : Fin 1) (s : Fin 32) (l : Fin 128), y = ix3 u s l := ⟨y 0, y 1, y 2, eq_ix3 y⟩
    obtain rfl : u = 0 := Subsingleton.elim _ _
    have q0 : (0 + s.val) / 32 = 0 := by omega
    have q1 : (32 + s.val) / 32 = 1 := by omega
    have q2 : (64 + s.val) / 32 = 2 := by omega
    have q3 : (96 + s.val) / 32 = 3 := by omega
    simp only [emb_val, o75_0 k, o75_1 k, o79_0 k, o79_1 k, o83_0 k, o83_1 k, o87_0 k, o87_1 k]
    simp only [trip_k0_t3.sl.r, trip_k0_t3.sl.r_1, trip_k0_t3.sl.r_2, trip_k0_t3.sl.r_3, trip_k0_t3.sl.r_4, trip_k0_t3.sl.r_5, trip_k0_t3.sl.r_6, trip_k0_t3.sl.r_7, trip_k0_t3.sl.r_8, k0_pay2, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, shapeCast_ab_1ab_apply, broadcastTo_1b_ab_apply, cast_1112, mulf_apply, maximumf_apply, minimumf_apply, truncf_apply, broadcast_apply, ld_wide arg18 X_arg18 dx hdx (o74_0 k), ld_wide arg18 X_arg18 dx hdx (o74_1 k), ld_wide arg18 X_arg18 dx hdx (o78_0 k), ld_wide arg18 X_arg18 dx hdx (o78_1 k), ld_wide arg18 X_arg18 dx hdx (o82_0 k), ld_wide arg18 X_arg18 dx hdx (o82_1 k), ld_wide arg18 X_arg18 dx hdx (o86_0 k), ld_wide arg18 X_arg18 dx hdx (o86_1 k), ld_scale arg22 X_arg22 cw hcw (k0_off76_eq k), ld_scale arg22 X_arg22 cw hcw (k0_off77_eq k), ld_scale arg22 X_arg22 cw hcw (k0_off80_eq k), ld_scale arg22 X_arg22 cw hcw (k0_off81_eq k), ld_scale arg22 X_arg22 cw hcw (k0_off84_eq k), ld_scale arg22 X_arg22 cw hcw (k0_off85_eq k), ld_scale arg22 X_arg22 cw hcw (k0_off88_eq k), ld_scale arg22 X_arg22 cw hcw (k0_off89_eq k), clip, Matrix.cons_val_zero, Matrix.cons_val_one, Matrix.cons_val, q0, q1, q2, q3, Nat.mul_zero, Nat.mul_one, Nat.zero_add, ← Nat.add_assoc, Nat.add_zero]
    try rfl
    try (have q4 : s.val / 32 = 0 := by omega
         change _ = min _ (max _ (dx s.val _ * cw (s.val / 32) _))
         rw [q4]; rfl)
end Trip

section Loop
variable (𝒱 : Variants) (c : Dev nD) (bd : Option 𝒱.V) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole)
variable (X_arg18 : BufTy.Contents (Elt Ideal) arg18.view.ty) (X_arg22 : BufTy.Contents (Elt Ideal) arg22.view.ty) (X_arg23 : BufTy.Contents (Elt Ideal) arg23.view.ty) (X_arg25 : BufTy.Contents (Elt Ideal) arg25.view.ty)
variable (dx cw : ℕ → ℕ → EReal)
    (hdx : ∀ (a b : ℕ) (ha : a < 128) (hb : b < 4096), arg18.view.read (Elt Ideal) X_arg18 (ix2 ⟨a, ha⟩ ⟨b, hb⟩) = dx a b)
    (hcw : ∀ (b : Fin 4) (t : Fin 2) (p : Fin 16) (l : Fin 128), arg22.view.read (Elt Ideal) X_arg22 (ix4 b t p l) = cw b.val (256 * p.val + (128 * t.val + l.val)))
include hdx hcw

/-- What the third loop has written in the codes before trip `n`. -/
theorem three_inv (n : ℕ) (hn : n ≤ k0_t3_loop.trips) :
    (∀ p ∈ (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg18 X_arg22 X_arg23 X_arg25 n).2, ∀ y, p.2 y = clip (dx (p.1.emb y 1).val (p.1.emb y 2).val * cw ((p.1.emb y 1).val / 32) (p.1.emb y 2).val))
    ∧ ∀ y : S1x128x4096.Idx, (y 2).val < 256 * n → ∃ p ∈ (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg18 X_arg22 X_arg23 X_arg25 n).2, y ∈ p.1.set := by
  induction n with
  | zero => exact ⟨by intro p hp; exact absurd hp List.not_mem_nil, fun y h => absurd h (by omega)⟩
  | succ n ih =>
    obtain ⟨I1, I2⟩ := ih (by omega)
    have e := pb_k0_t3_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg18 X_arg22 X_arg23 X_arg25 ⟨n, hn⟩
    rw [show n + 1 = (⟨n, hn⟩ : Fin k0_t3_loop.trips).val + 1 from rfl, e]
    refine ⟨?_, ?_⟩
    · intro p hp
      rcases List.mem_append.1 hp with hp | hp
      · exact pieces_three 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg18 X_arg22 X_arg23 X_arg25 ⟨n, hn⟩ dx cw hdx hcw p hp
      · exact I1 p hp
    · intro y h
      by_cases hlt : (y 2).val < 256 * n
      · obtain ⟨p, hp, hy⟩ := I2 y hlt; exact ⟨p, List.mem_append_right _ hp, hy⟩
      · obtain ⟨p, hp, hy⟩ := cover_three 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 X_arg18 X_arg22 X_arg23 X_arg25 ⟨n, hn⟩ y (by show 256 * n ≤ _; omega) (by have h' : (y 2).val < 256 * (n + 1) := h; show _ < 256 * n + 256; omega)
        exact ⟨p, List.mem_append_left _ hp, hy⟩
end Loop

end Cert.KernelIdeal.Gen

end
-- ==== Proof.KernelIdeal.Inv.lean ====
/- The scales of the columns' groups: what the sixteen payloads say, eight words at a time. -/
module

public import proofs.«01_k».proof.Proof.KernelIdeal.Base
public import proofs.«01_k».proof.Proof.KernelIdeal.Words

@[expose] public section

set_option maxRecDepth 16384

noncomputable section

namespace Cert.KernelIdeal.Gen

open Idealize.ShloMosaic hiding ix2 ix3 ix4 ix5 maximumf_apply
open Idealize.ShloMosaic.TcCoe Idealize.ShloMosaic.Pipeline Idealize.ShloMosaic.ValueIdx

/-- One half of eight words of the buffer. -/
def half (p : Fin 2) (w : Vec Ideal S1x1x8x2x128 .bf16) : Half :=
  shapeCast S8x128 (shapeCast S1x1x8x128 (rowsOfParity p S1x1x8x1x128 w bitcasts_S1x1x8x2x128_w16_S1x1x8x1x128_w32) shapeCasts_S1x1x8x1x128_S1x1x8x128) shapeCasts_S1x1x8x128_S8x128

theorem half_apply (p : Fin 2) (w : Vec Ideal S1x1x8x2x128 .bf16) (s : Fin 8) (l : Fin 128) : half p w (ix2 s l) = w (ix5 (0 : Fin 1) (0 : Fin 1) s p l) :=
  unpack_apply w p _ _ _ s l

abbrev e0_0_0 (v0 : IVec S8x128 32) (w0 w1 : Vec Ideal S1x1x8x2x128 .bf16) := k0_pay457 v0 (k0_pay439 w0) (k0_pay440 w0) (k0_pay441 w1) (k0_pay442 w1)
abbrev e0_0_1 (v0 : IVec S8x128 32) (w0 w1 : Vec Ideal S1x1x8x2x128 .bf16) := k0_pay458 v0 (k0_pay439 w0) (k0_pay440 w0) (k0_pay441 w1) (k0_pay442 w1)
abbrev e0_0_2 (v0 : IVec S8x128 32) (w2 w3 : Vec Ideal S1x1x8x2x128 .bf16) := k0_pay459 v0 (k0_pay443 w2) (k0_pay444 w2) (k0_pay445 w3) (k0_pay446 w3)
abbrev e0_0_3 (v0 : IVec S8x128 32) (w2 w3 : Vec Ideal S1x1x8x2x128 .bf16) := k0_pay460 v0 (k0_pay443 w2) (k0_pay444 w2) (k0_pay445 w3) (k0_pay446 w3)
abbrev e0_0_4 (v0 : IVec S8x128 32) (w0 w1 w2 w3 : Vec Ideal S1x1x8x2x128 .bf16) := k0_pay463 v0 (e0_0_0 v0 w0 w1) (e0_0_1 v0 w0 w1) (e0_0_2 v0 w2 w3) (e0_0_3 v0 w2 w3)
abbrev e0_0_5 (v0 : IVec S8x128 32) (w0 w1 w2 w3 : Vec Ideal S1x1x8x2x128 .bf16) := k0_pay464 v0 (e0_0_0 v0 w0 w1) (e0_0_1 v0 w0 w1) (e0_0_2 v0 w2 w3) (e0_0_3 v0 w2 w3)
abbrev e0_0_6 (v0 : IVec S8x128 32) (w4 w5 w6 w7 : Vec Ideal S1x1x8x2x128 .bf16) := k0_pay466 v0 (k0_pay447 w4) (k0_pay448 w4) (k0_pay449 w5) (k0_pay450 w5) (k0_pay451 w6) (k0_pay452 w6) (k0_pay453 w7) (k0_pay454 w7) (k0_pay455 v0)
abbrev e0_0_7 (v0 : IVec S8x128 32) (w4 w5 w6 w7 : Vec Ideal S1x1x8x2x128 .bf16) := k0_pay467 v0 (k0_pay447 w4) (k0_pay448 w4) (k0_pay449 w5) (k0_pay450 w5) (k0_pay451 w6) (k0_pay452 w6) (k0_pay453 w7) (k0_pay454 w7) (k0_pay455 v0)
abbrev e0_0_8 (v0 : IVec S8x128 32) (w0 w1 w2 w3 w4 w5 w6 w7 : Vec Ideal S1x1x8x2x128 .bf16) := k0_pay472 (e0_0_4 v0 w0 w1 w2 w3) (e0_0_5 v0 w0 w1 w2 w3) (e0_0_6 v0 w4 w5 w6 w7) (e0_0_7 v0 w4 w5 w6 w7) (k0_pay468 v0) k0_pay469
abbrev e0_0_9 (v0 : IVec S8x128 32) (w0 w1 w2 w3 w4 w5 w6 w7 : Vec Ideal S1x1x8x2x128 .bf16) := k0_pay473 (e0_0_4 v0 w0 w1 w2 w3) (e0_0_5 v0 w0 w1 w2 w3) (e0_0_6 v0 w4 w5 w6 w7) (e0_0_7 v0 w4 w5 w6 w7) (k0_pay468 v0) k0_pay469
abbrev e0_0_10 (v0 : IVec S8x128 32) (w0 w1 w2 w3 w4 w5 w6 w7 : Vec Ideal S1x1x8x2x128 .bf16) := k0_pay474 (e0_0_4 v0 w0 w1 w2 w3) (e0_0_5 v0 w0 w1 w2 w3) (e0_0_6 v0 w4 w5 w6 w7) (e0_0_7 v0 w4 w5 w6 w7) (k0_pay468 v0) k0_pay469
abbrev e0_0_11 (v0 : IVec S8x128 32) (w0 w1 w2 w3 w4 w5 w6 w7 : Vec Ideal S1x1x8x2x128 .bf16) := k0_pay471 (e0_0_4 v0 w0 w1 w2 w3) (e0_0_5 v0 w0 w1 w2 w3) (e0_0_6 v0 w4 w5 w6 w7) (e0_0_7 v0 w4 w5 w6 w7) (k0_pay468 v0) k0_pay469
/-- What is stored at block row 0, half 0, from sublane 0 on. -/
def pl_0_0_0 (v0 : IVec S8x128 32) (w0 w1 w2 w3 w4 w5 w6 w7 : Vec Ideal S1x1x8x2x128 .bf16) : Vec Ideal S1x1x8x128 .f32 := k0_pay479 (F := Ideal) (k0_pay475 (e0_0_8 v0 w0 w1 w2 w3 w4 w5 w6 w7) (e0_0_9 v0 w0 w1 w2 w3 w4 w5 w6 w7) (e0_0_10 v0 w0 w1 w2 w3 w4 w5 w6 w7) 23#32) (k0_pay476 (e0_0_8 v0 w0 w1 w2 w3 w4 w5 w6 w7) (e0_0_9 v0 w0 w1 w2 w3 w4 w5 w6 w7) (e0_0_10 v0 w0 w1 w2 w3 w4 w5 w6 w7) 23#32) 255#32
theorem top_0_0_0 (v0 : IVec S8x128 32) (w0 w1 w2 w3 w4 w5 w6 w7 : Vec Ideal S1x1x8x2x128 .bf16) : k0_pay472 (e0_0_4 v0 w0 w1 w2 w3) (e0_0_5 v0 w0 w1 w2 w3) (e0_0_6 v0 w4 w5 w6 w7) (e0_0_7 v0 w4 w5 w6 w7) (k0_pay468 v0) k0_pay469 = extf .f32 (tour v0 (half 0 w0) (half 0 w1) (half 0 w2) (half 0 w3) (half 0 w4) (half 0 w5) (half 0 w6) (half 0 w7)) bitsLt_bf16_f32 := by
  simp only [e0_0_0, e0_0_1, e0_0_2, e0_0_3, e0_0_4, e0_0_5, e0_0_6, e0_0_7, e0_0_8, e0_0_9, e0_0_10, e0_0_11, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay472, half, par0_max, par1_max]
  rfl
theorem inv_0_0_0 (v0 : IVec S8x128 32) (w0 w1 w2 w3 w4 w5 w6 w7 : Vec Ideal S1x1x8x2x128 .bf16) : pl_0_0_0 v0 w0 w1 w2 w3 w4 w5 w6 w7 = shapeCast S1x1x8x128 (invV (extf .f32 (tour v0 (half 0 w0) (half 0 w1) (half 0 w2) (half 0 w3) (half 0 w4) (half 0 w5) (half 0 w6) (half 0 w7)) bitsLt_bf16_f32)) shapeCasts_S8x128_S1x1x8x128 := by
  rw [← top_0_0_0]
  rfl
/-- What is stored at block row 0, half 1, from sublane 0 on. -/
def pl_0_1_0 (v0 : IVec S8x128 32) (w0 w1 w2 w3 w4 w5 w6 w7 : Vec Ideal S1x1x8x2x128 .bf16) : Vec Ideal S1x1x8x128 .f32 := k0_pay498 (F := Ideal) (k0_pay495 (k0_pay490 (e0_0_11 v0 w0 w1 w2 w3 w4 w5 w6 w7)) (k0_pay491 (e0_0_11 v0 w0 w1 w2 w3 w4 w5 w6 w7)) (k0_pay492 (e0_0_11 v0 w0 w1 w2 w3 w4 w5 w6 w7))) k0_pay496
theorem top_0_1_0 (v0 : IVec S8x128 32) (w0 w1 w2 w3 w4 w5 w6 w7 : Vec Ideal S1x1x8x2x128 .bf16) : k0_pay490 (e0_0_11 v0 w0 w1 w2 w3 w4 w5 w6 w7) = extf .f32 (tour v0 (half 1 w0) (half 1 w1) (half 1 w2) (half 1 w3) (half 1 w4) (half 1 w5) (half 1 w6) (half 1 w7)) bitsLt_bf16_f32 := by
  simp only [e0_0_0, e0_0_1, e0_0_2, e0_0_3, e0_0_4, e0_0_5, e0_0_6, e0_0_7, e0_0_8, e0_0_9, e0_0_10, e0_0_11, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay490, half, par0_max, par1_max]
  rfl
theorem inv_0_1_0 (v0 : IVec S8x128 32) (w0 w1 w2 w3 w4 w5 w6 w7 : Vec Ideal S1x1x8x2x128 .bf16) : pl_0_1_0 v0 w0 w1 w2 w3 w4 w5 w6 w7 = shapeCast S1x1x8x128 (invV (extf .f32 (tour v0 (half 1 w0) (half 1 w1) (half 1 w2) (half 1 w3) (half 1 w4) (half 1 w5) (half 1 w6) (half 1 w7)) bitsLt_bf16_f32)) shapeCasts_S8x128_S1x1x8x128 := by
  rw [← top_0_1_0]
  rfl

abbrev e0_8_0 (v0 : IVec S8x128 32) (w0 w1 : Vec Ideal S1x1x8x2x128 .bf16) := k0_pay524 v0 (half 0 w0) (half 1 w0) (half 0 w1) (half 1 w1)
abbrev e0_8_1 (v0 : IVec S8x128 32) (w0 w1 : Vec Ideal S1x1x8x2x128 .bf16) := k0_pay525 v0 (half 0 w0) (half 1 w0) (half 0 w1) (half 1 w1)
abbrev e0_8_2 (v0 : IVec S8x128 32) (w2 w3 : Vec Ideal S1x1x8x2x128 .bf16) := k0_pay527 v0 (half 0 w2) (half 1 w2) (half 0 w3) (half 1 w3)
abbrev e0_8_3 (v0 : IVec S8x128 32) (w2 w3 : Vec Ideal S1x1x8x2x128 .bf16) := k0_pay528 v0 (half 0 w2) (half 1 w2) (half 0 w3) (half 1 w3)
abbrev e0_8_4 (v0 : IVec S8x128 32) (w4 w5 : Vec Ideal S1x1x8x2x128 .bf16) := k0_pay530 v0 (half 0 w4) (half 1 w4) (half 0 w5) (half 1 w5)
abbrev e0_8_5 (v0 : IVec S8x128 32) (w4 w5 : Vec Ideal S1x1x8x2x128 .bf16) := k0_pay531 v0 (half 0 w4) (half 1 w4) (half 0 w5) (half 1 w5)
abbrev e0_8_6 (v0 : IVec S8x128 32) (w0 w1 w2 w3 w4 w5 w6 w7 : Vec Ideal S1x1x8x2x128 .bf16) := k0_pay536 v0 (e0_8_0 v0 w0 w1) (e0_8_1 v0 w0 w1) (e0_8_2 v0 w2 w3) (e0_8_3 v0 w2 w3) (e0_8_4 v0 w4 w5) (e0_8_5 v0 w4 w5) (k0_pay532 v0 (half 0 w6) (half 1 w6) w7) (k0_pay533 v0 (half 0 w6) (half 1 w6) w7)
abbrev e0_8_7 (v0 : IVec S8x128 32) (w0 w1 w2 w3 w4 w5 w6 w7 : Vec Ideal S1x1x8x2x128 .bf16) := k0_pay535 v0 (e0_8_0 v0 w0 w1) (e0_8_1 v0 w0 w1) (e0_8_2 v0 w2 w3) (e0_8_3 v0 w2 w3) (e0_8_4 v0 w4 w5) (e0_8_5 v0 w4 w5) (k0_pay532 v0 (half 0 w6) (half 1 w6) w7) (k0_pay533 v0 (half 0 w6) (half 1 w6) w7)
abbrev e0_8_8 (v0 : IVec S8x128 32) (w0 w1 w2 w3 w4 w5 w6 w7 : Vec Ideal S1x1x8x2x128 .bf16) := k0_pay555 (e0_8_7 v0 w0 w1 w2 w3 w4 w5 w6 w7)
abbrev e0_8_9 (v0 : IVec S8x128 32) (w0 w1 w2 w3 w4 w5 w6 w7 : Vec Ideal S1x1x8x2x128 .bf16) := k0_pay556 (e0_8_7 v0 w0 w1 w2 w3 w4 w5 w6 w7)
abbrev e0_8_10 (v0 : IVec S8x128 32) (w0 w1 w2 w3 w4 w5 w6 w7 : Vec Ideal S1x1x8x2x128 .bf16) := k0_pay557 (e0_8_7 v0 w0 w1 w2 w3 w4 w5 w6 w7)
/-- What is stored at block row 0, half 0, from sublane 8 on. -/
def pl_0_0_8 (v0 : IVec S8x128 32) (w0 w1 w2 w3 w4 w5 w6 w7 : Vec Ideal S1x1x8x2x128 .bf16) : Vec Ideal S1x1x8x128 .f32 := shapeCast S1x1x8x128 (k0_pay544 (e0_8_6 v0 w0 w1 w2 w3 w4 w5 w6 w7) (k0_pay539 (e0_8_6 v0 w0 w1 w2 w3 w4 w5 w6 w7) k0_pay537 k0_pay538 23#32) (k0_pay540 (e0_8_6 v0 w0 w1 w2 w3 w4 w5 w6 w7) k0_pay537 k0_pay538 23#32) 23#32) (by decide)
theorem top_0_0_8 (v0 : IVec S8x128 32) (w0 w1 w2 w3 w4 w5 w6 w7 : Vec Ideal S1x1x8x2x128 .bf16) : k0_pay536 v0 (e0_8_0 v0 w0 w1) (e0_8_1 v0 w0 w1) (e0_8_2 v0 w2 w3) (e0_8_3 v0 w2 w3) (e0_8_4 v0 w4 w5) (e0_8_5 v0 w4 w5) (k0_pay532 v0 (half 0 w6) (half 1 w6) w7) (k0_pay533 v0 (half 0 w6) (half 1 w6) w7) = extf .f32 (tour v0 (half 0 w0) (half 0 w1) (half 0 w2) (half 0 w3) (half 0 w4) (half 0 w5) (half 0 w6) (half 0 w7)) bitsLt_bf16_f32 := by
  simp only [e0_8_0, e0_8_1, e0_8_2, e0_8_3, e0_8_4, e0_8_5, e0_8_6, e0_8_7, e0_8_8, e0_8_9, e0_8_10, k0_pay522, k0_pay523, k0_pay524, k0_pay525, k0_pay526, k0_pay527, k0_pay528, k0_pay529, k0_pay530, k0_pay531, k0_pay532, k0_pay533, k0_pay534, k0_pay536, half, par0_max, par1_max]
  rfl
theorem inv_0_0_8 (v0 : IVec S8x128 32) (w0 w1 w2 w3 w4 w5 w6 w7 : Vec Ideal S1x1x8x2x128 .bf16) : pl_0_0_8 v0 w0 w1 w2 w3 w4 w5 w6 w7 = shapeCast S1x1x8x128 (invV (extf .f32 (tour v0 (half 0 w0) (half 0 w1) (half 0 w2) (half 0 w3) (half 0 w4) (half 0 w5) (half 0 w6) (half 0 w7)) bitsLt_bf16_f32)) shapeCasts_S8x128_S1x1x8x128 := by
  rw [← top_0_0_8]
  rfl
/-- What is stored at block row 0, half 1, from sublane 8 on. -/
def pl_0_1_8 (v0 : IVec S8x128 32) (w0 w1 w2 w3 w4 w5 w6 w7 : Vec Ideal S1x1x8x2x128 .bf16) : Vec Ideal S1x1x8x128 .f32 := k0_pay563 (F := Ideal) (e0_8_8 v0 w0 w1 w2 w3 w4 w5 w6 w7) (k0_pay558 (e0_8_8 v0 w0 w1 w2 w3 w4 w5 w6 w7) (e0_8_9 v0 w0 w1 w2 w3 w4 w5 w6 w7) (e0_8_10 v0 w0 w1 w2 w3 w4 w5 w6 w7)) (k0_pay559 (e0_8_8 v0 w0 w1 w2 w3 w4 w5 w6 w7) (e0_8_9 v0 w0 w1 w2 w3 w4 w5 w6 w7) (e0_8_10 v0 w0 w1 w2 w3 w4 w5 w6 w7))
theorem top_0_1_8 (v0 : IVec S8x128 32) (w0 w1 w2 w3 w4 w5 w6 w7 : Vec Ideal S1x1x8x2x128 .bf16) : k0_pay555 (e0_8_7 v0 w0 w1 w2 w3 w4 w5 w6 w7) = extf .f32 (tour v0 (half 1 w0) (half 1 w1) (half 1 w2) (half 1 w3) (half 1 w4) (half 1 w5) (half 1 w6) (half 1 w7)) bitsLt_bf16_f32 := by
  simp only [e0_8_0, e0_8_1, e0_8_2, e0_8_3, e0_8_4, e0_8_5, e0_8_6, e0_8_7, e0_8_8, e0_8_9, e0_8_10, k0_pay522, k0_pay523, k0_pay524, k0_pay525, k0_pay526, k0_pay527, k0_pay528, k0_pay529, k0_pay530, k0_pay531, k0_pay532, k0_pay533, k0_pay534, k0_pay535, k0_pay555, half, par0_max, par1_max]
  rfl
theorem inv_0_1_8 (v0 : IVec S8x128 32) (w0 w1 w2 w3 w4 w5 w6 w7 : Vec Ideal S1x1x8x2x128 .bf16) : pl_0_1_8 v0 w0 w1 w2 w3 w4 w5 w6 w7 = shapeCast S1x1x8x128 (invV (extf .f32 (tour v0 (half 1 w0) (half 1 w1) (half 1 w2) (half 1 w3) (half 1 w4) (half 1 w5) (half 1 w6) (half 1 w7)) bitsLt_bf16_f32)) shapeCasts_S8x128_S1x1x8x128 := by
  rw [← top_0_1_8]
  rfl

abbrev e1_0_0 (v0 : IVec S8x128 32) (w0 w1 : Vec Ideal S1x1x8x2x128 .bf16) := k0_pay591 v0 (half 0 w0) (half 1 w0) (half 0 w1) (half 1 w1)
abbrev e1_0_1 (v0 : IVec S8x128 32) (w0 w1 : Vec Ideal S1x1x8x2x128 .bf16) := k0_pay592 v0 (half 0 w0) (half 1 w0) (half 0 w1) (half 1 w1)
abbrev e1_0_2 (v0 : IVec S8x128 32) (w0 w1 w2 w3 : Vec Ideal S1x1x8x2x128 .bf16) := k0_pay601 v0 (half 0 w2) (half 1 w2) (k0_pay580 w3) (k0_pay581 w3) (k0_pay590 v0) (e1_0_0 v0 w0 w1) (e1_0_1 v0 w0 w1)
abbrev e1_0_3 (v0 : IVec S8x128 32) (w0 w1 w2 w3 : Vec Ideal S1x1x8x2x128 .bf16) := k0_pay602 v0 (half 0 w2) (half 1 w2) (k0_pay580 w3) (k0_pay581 w3) (k0_pay590 v0) (e1_0_0 v0 w0 w1) (e1_0_1 v0 w0 w1)
abbrev e1_0_4 (v0 : IVec S8x128 32) (w4 w5 w6 w7 : Vec Ideal S1x1x8x2x128 .bf16) := k0_pay603 v0 (k0_pay582 w4) (k0_pay583 w4) (k0_pay584 w5) (k0_pay585 w5) (k0_pay586 w6) (k0_pay587 w6) (k0_pay588 w7) (k0_pay589 w7) (k0_pay590 v0)
abbrev e1_0_5 (v0 : IVec S8x128 32) (w4 w5 w6 w7 : Vec Ideal S1x1x8x2x128 .bf16) := k0_pay604 v0 (k0_pay582 w4) (k0_pay583 w4) (k0_pay584 w5) (k0_pay585 w5) (k0_pay586 w6) (k0_pay587 w6) (k0_pay588 w7) (k0_pay589 w7) (k0_pay590 v0)
abbrev e1_0_6 (v0 : IVec S8x128 32) (w4 w5 w6 w7 : Vec Ideal S1x1x8x2x128 .bf16) := k0_pay605 v0 (k0_pay582 w4) (k0_pay583 w4) (k0_pay584 w5) (k0_pay585 w5) (k0_pay586 w6) (k0_pay587 w6) (k0_pay588 w7) (k0_pay589 w7) (k0_pay590 v0)
abbrev e1_0_7 (v0 : IVec S8x128 32) (w4 w5 w6 w7 : Vec Ideal S1x1x8x2x128 .bf16) := k0_pay606 v0 (k0_pay582 w4) (k0_pay583 w4) (k0_pay584 w5) (k0_pay585 w5) (k0_pay586 w6) (k0_pay587 w6) (k0_pay588 w7) (k0_pay589 w7) (k0_pay590 v0)
abbrev e1_0_8 (v0 : IVec S8x128 32) (w0 w1 w2 w3 w4 w5 w6 w7 : Vec Ideal S1x1x8x2x128 .bf16) := k0_pay609 v0 (e1_0_2 v0 w0 w1 w2 w3) (e1_0_3 v0 w0 w1 w2 w3) (e1_0_4 v0 w4 w5 w6 w7) (e1_0_5 v0 w4 w5 w6 w7) (e1_0_6 v0 w4 w5 w6 w7) (e1_0_7 v0 w4 w5 w6 w7) 2#32
abbrev e1_0_9 (v0 : IVec S8x128 32) (w0 w1 w2 w3 w4 w5 w6 w7 : Vec Ideal S1x1x8x2x128 .bf16) := k0_pay610 v0 (e1_0_2 v0 w0 w1 w2 w3) (e1_0_3 v0 w0 w1 w2 w3) (e1_0_4 v0 w4 w5 w6 w7) (e1_0_5 v0 w4 w5 w6 w7) (e1_0_6 v0 w4 w5 w6 w7) (e1_0_7 v0 w4 w5 w6 w7) 2#32
abbrev e1_0_10 (v0 : IVec S8x128 32) (w0 w1 w2 w3 w4 w5 w6 w7 : Vec Ideal S1x1x8x2x128 .bf16) := k0_pay611 v0 (e1_0_2 v0 w0 w1 w2 w3) (e1_0_3 v0 w0 w1 w2 w3) (e1_0_4 v0 w4 w5 w6 w7) (e1_0_5 v0 w4 w5 w6 w7) (e1_0_6 v0 w4 w5 w6 w7) (e1_0_7 v0 w4 w5 w6 w7) 2#32
abbrev e1_0_11 (v0 : IVec S8x128 32) (w0 w1 w2 w3 w4 w5 w6 w7 : Vec Ideal S1x1x8x2x128 .bf16) := k0_pay608 v0 (e1_0_2 v0 w0 w1 w2 w3) (e1_0_3 v0 w0 w1 w2 w3) (e1_0_4 v0 w4 w5 w6 w7) (e1_0_5 v0 w4 w5 w6 w7) (e1_0_6 v0 w4 w5 w6 w7) (e1_0_7 v0 w4 w5 w6 w7) 2#32
abbrev e1_0_12 (v0 : IVec S8x128 32) (w0 w1 w2 w3 w4 w5 w6 w7 : Vec Ideal S1x1x8x2x128 .bf16) := k0_pay628 (e1_0_11 v0 w0 w1 w2 w3 w4 w5 w6 w7)
abbrev e1_0_13 (v0 : IVec S8x128 32) (w0 w1 w2 w3 w4 w5 w6 w7 : Vec Ideal S1x1x8x2x128 .bf16) := k0_pay629 (e1_0_11 v0 w0 w1 w2 w3 w4 w5 w6 w7)
abbrev e1_0_14 (v0 : IVec S8x128 32) (w0 w1 w2 w3 w4 w5 w6 w7 : Vec Ideal S1x1x8x2x128 .bf16) := k0_pay630 (e1_0_11 v0 w0 w1 w2 w3 w4 w5 w6 w7)
/-- What is stored at block row 1, half 0, from sublane 0 on. -/
def pl_1_0_0 (v0 : IVec S8x128 32) (w0 w1 w2 w3 w4 w5 w6 w7 : Vec Ideal S1x1x8x2x128 .bf16) : Vec Ideal S1x1x8x128 .f32 := k0_pay617 (F := Ideal) (e1_0_8 v0 w0 w1 w2 w3 w4 w5 w6 w7) (k0_pay612 (e1_0_8 v0 w0 w1 w2 w3 w4 w5 w6 w7) (e1_0_9 v0 w0 w1 w2 w3 w4 w5 w6 w7) (e1_0_10 v0 w0 w1 w2 w3 w4 w5 w6 w7) 23#32) (k0_pay613 (e1_0_8 v0 w0 w1 w2 w3 w4 w5 w6 w7) (e1_0_9 v0 w0 w1 w2 w3 w4 w5 w6 w7) (e1_0_10 v0 w0 w1 w2 w3 w4 w5 w6 w7) 23#32) 23#32
theorem top_1_0_0 (v0 : IVec S8x128 32) (w0 w1 w2 w3 w4 w5 w6 w7 : Vec Ideal S1x1x8x2x128 .bf16) : k0_pay609 v0 (e1_0_2 v0 w0 w1 w2 w3) (e1_0_3 v0 w0 w1 w2 w3) (e1_0_4 v0 w4 w5 w6 w7) (e1_0_5 v0 w4 w5 w6 w7) (e1_0_6 v0 w4 w5 w6 w7) (e1_0_7 v0 w4 w5 w6 w7) 2#32 = extf .f32 (tour v0 (half 0 w0) (half 0 w1) (half 0 w2) (half 0 w3) (half 0 w4) (half 0 w5) (half 0 w6) (half 0 w7)) bitsLt_bf16_f32 := by
  simp only [e1_0_0, e1_0_1, e1_0_2, e1_0_3, e1_0_4, e1_0_5, e1_0_6, e1_0_7, e1_0_8, e1_0_9, e1_0_10, e1_0_11, e1_0_12, e1_0_13, e1_0_14, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay609, half, par0_max, par1_max]
  rfl
theorem inv_1_0_0 (v0 : IVec S8x128 32) (w0 w1 w2 w3 w4 w5 w6 w7 : Vec Ideal S1x1x8x2x128 .bf16) : pl_1_0_0 v0 w0 w1 w2 w3 w4 w5 w6 w7 = shapeCast S1x1x8x128 (invV (extf .f32 (tour v0 (half 0 w0) (half 0 w1) (half 0 w2) (half 0 w3) (half 0 w4) (half 0 w5) (half 0 w6) (half 0 w7)) bitsLt_bf16_f32)) shapeCasts_S8x128_S1x1x8x128 := by
  rw [← top_1_0_0]
  rfl
/-- What is stored at block row 1, half 1, from sublane 0 on. -/
def pl_1_1_0 (v0 : IVec S8x128 32) (w0 w1 w2 w3 w4 w5 w6 w7 : Vec Ideal S1x1x8x2x128 .bf16) : Vec Ideal S1x1x8x128 .f32 := k0_pay635 (F := Ideal) (k0_pay631 (e1_0_12 v0 w0 w1 w2 w3 w4 w5 w6 w7) (e1_0_13 v0 w0 w1 w2 w3 w4 w5 w6 w7) (e1_0_14 v0 w0 w1 w2 w3 w4 w5 w6 w7)) (k0_pay632 (e1_0_12 v0 w0 w1 w2 w3 w4 w5 w6 w7) (e1_0_13 v0 w0 w1 w2 w3 w4 w5 w6 w7) (e1_0_14 v0 w0 w1 w2 w3 w4 w5 w6 w7))
theorem top_1_1_0 (v0 : IVec S8x128 32) (w0 w1 w2 w3 w4 w5 w6 w7 : Vec Ideal S1x1x8x2x128 .bf16) : k0_pay628 (e1_0_11 v0 w0 w1 w2 w3 w4 w5 w6 w7) = extf .f32 (tour v0 (half 1 w0) (half 1 w1) (half 1 w2) (half 1 w3) (half 1 w4) (half 1 w5) (half 1 w6) (half 1 w7)) bitsLt_bf16_f32 := by
  simp only [e1_0_0, e1_0_1, e1_0_2, e1_0_3, e1_0_4, e1_0_5, e1_0_6, e1_0_7, e1_0_8, e1_0_9, e1_0_10, e1_0_11, e1_0_12, e1_0_13, e1_0_14, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay628, half, par0_max, par1_max]
  rfl
theorem inv_1_1_0 (v0 : IVec S8x128 32) (w0 w1 w2 w3 w4 w5 w6 w7 : Vec Ideal S1x1x8x2x128 .bf16) : pl_1_1_0 v0 w0 w1 w2 w3 w4 w5 w6 w7 = shapeCast S1x1x8x128 (invV (extf .f32 (tour v0 (half 1 w0) (half 1 w1) (half 1 w2) (half 1 w3) (half 1 w4) (half 1 w5) (half 1 w6) (half 1 w7)) bitsLt_bf16_f32)) shapeCasts_S8x128_S1x1x8x128 := by
  rw [← top_1_1_0]
  rfl

abbrev e1_8_0 (v0 : IVec S8x128 32) (w0 w1 : Vec Ideal S1x1x8x2x128 .bf16) := k0_pay664 v0 (half 0 w0) (half 1 w0) (half 0 w1) (half 1 w1)
abbrev e1_8_1 (v0 : IVec S8x128 32) (w0 w1 : Vec Ideal S1x1x8x2x128 .bf16) := k0_pay665 v0 (half 0 w0) (half 1 w0) (half 0 w1) (half 1 w1)
abbrev e1_8_2 (v0 : IVec S8x128 32) (w2 w3 : Vec Ideal S1x1x8x2x128 .bf16) := k0_pay667 v0 (half 0 w2) (half 1 w2) (half 0 w3) (half 1 w3)
abbrev e1_8_3 (v0 : IVec S8x128 32) (w2 w3 : Vec Ideal S1x1x8x2x128 .bf16) := k0_pay668 v0 (half 0 w2) (half 1 w2) (half 0 w3) (half 1 w3)
abbrev e1_8_4 (w5 : Vec Ideal S1x1x8x2x128 .bf16) := shapeCast S1x1x8x128 (rowsOfParity 1 S1x1x8x1x128 w5 (by decide)) (by decide)
abbrev e1_8_5 (v0 : IVec S8x128 32) (w4 w5 : Vec Ideal S1x1x8x2x128 .bf16) := k0_pay669 v0 (half 0 w4) (half 1 w4) (e1_8_4 w5) (half 0 w5)
abbrev e1_8_6 (v0 : IVec S8x128 32) (w4 w5 : Vec Ideal S1x1x8x2x128 .bf16) := k0_pay670 v0 (half 0 w4) (half 1 w4) (e1_8_4 w5) (half 0 w5)
abbrev e1_8_7 (v0 : IVec S8x128 32) (w0 w1 w2 w3 w4 w5 w6 w7 : Vec Ideal S1x1x8x2x128 .bf16) := k0_pay672 v0 (k0_pay658 w6) (k0_pay659 w6) (k0_pay660 w7) (k0_pay661 w7) (k0_pay662 v0) (e1_8_0 v0 w0 w1) (e1_8_1 v0 w0 w1) (e1_8_2 v0 w2 w3) (e1_8_3 v0 w2 w3) (e1_8_5 v0 w4 w5) (e1_8_6 v0 w4 w5)
abbrev e1_8_8 (v0 : IVec S8x128 32) (w0 w1 w2 w3 w4 w5 w6 w7 : Vec Ideal S1x1x8x2x128 .bf16) := k0_pay691 (k0_pay673 (k0_pay671 v0 (k0_pay658 w6) (k0_pay659 w6) (k0_pay660 w7) (k0_pay661 w7) (k0_pay662 v0) (e1_8_0 v0 w0 w1) (e1_8_1 v0 w0 w1) (e1_8_2 v0 w2 w3) (e1_8_3 v0 w2 w3) (e1_8_5 v0 w4 w5) (e1_8_6 v0 w4 w5)))
/-- What is stored at block row 1, half 0, from sublane 8 on. -/
def pl_1_0_8 (v0 : IVec S8x128 32) (w0 w1 w2 w3 w4 w5 w6 w7 : Vec Ideal S1x1x8x2x128 .bf16) : Vec Ideal S1x1x8x128 .f32 := k0_pay681 (F := Ideal) (k0_pay679 (k0_pay674 (e1_8_7 v0 w0 w1 w2 w3 w4 w5 w6 w7)) (k0_pay675 (e1_8_7 v0 w0 w1 w2 w3 w4 w5 w6 w7)) (k0_pay676 (e1_8_7 v0 w0 w1 w2 w3 w4 w5 w6 w7)) 23#32)
theorem top_1_0_8 (v0 : IVec S8x128 32) (w0 w1 w2 w3 w4 w5 w6 w7 : Vec Ideal S1x1x8x2x128 .bf16) : k0_pay674 (e1_8_7 v0 w0 w1 w2 w3 w4 w5 w6 w7) = extf .f32 (tour v0 (half 0 w0) (half 0 w1) (half 0 w2) (half 0 w3) (half 0 w4) (half 0 w5) (half 0 w6) (half 0 w7)) bitsLt_bf16_f32 := by
  simp only [e1_8_0, e1_8_1, e1_8_2, e1_8_3, e1_8_4, e1_8_5, e1_8_6, e1_8_7, e1_8_8, k0_pay658, k0_pay659, k0_pay660, k0_pay661, k0_pay662, k0_pay663, k0_pay664, k0_pay665, k0_pay666, k0_pay667, k0_pay668, k0_pay669, k0_pay670, k0_pay671, k0_pay672, k0_pay674, half, par0_max, par1_max]
  rfl
theorem inv_1_0_8 (v0 : IVec S8x128 32) (w0 w1 w2 w3 w4 w5 w6 w7 : Vec Ideal S1x1x8x2x128 .bf16) : pl_1_0_8 v0 w0 w1 w2 w3 w4 w5 w6 w7 = shapeCast S1x1x8x128 (invV (extf .f32 (tour v0 (half 0 w0) (half 0 w1) (half 0 w2) (half 0 w3) (half 0 w4) (half 0 w5) (half 0 w6) (half 0 w7)) bitsLt_bf16_f32)) shapeCasts_S8x128_S1x1x8x128 := by
  rw [← top_1_0_8]
  rfl
/-- What is stored at block row 1, half 1, from sublane 8 on. -/
def pl_1_1_8 (v0 : IVec S8x128 32) (w0 w1 w2 w3 w4 w5 w6 w7 : Vec Ideal S1x1x8x2x128 .bf16) : Vec Ideal S1x1x8x128 .f32 := shapeCast S1x1x8x128 (k0_pay699 (e1_8_8 v0 w0 w1 w2 w3 w4 w5 w6 w7) (k0_pay694 (e1_8_8 v0 w0 w1 w2 w3 w4 w5 w6 w7) k0_pay692 k0_pay693) (k0_pay695 (e1_8_8 v0 w0 w1 w2 w3 w4 w5 w6 w7) k0_pay692 k0_pay693)) (by decide)
theorem top_1_1_8 (v0 : IVec S8x128 32) (w0 w1 w2 w3 w4 w5 w6 w7 : Vec Ideal S1x1x8x2x128 .bf16) : k0_pay691 (k0_pay673 (k0_pay671 v0 (k0_pay658 w6) (k0_pay659 w6) (k0_pay660 w7) (k0_pay661 w7) (k0_pay662 v0) (e1_8_0 v0 w0 w1) (e1_8_1 v0 w0 w1) (e1_8_2 v0 w2 w3) (e1_8_3 v0 w2 w3) (e1_8_5 v0 w4 w5) (e1_8_6 v0 w4 w5))) = extf .f32 (tour v0 (half 1 w0) (half 1 w1) (half 1 w2) (half 1 w3) (half 1 w4) (half 1 w5) (half 1 w6) (half 1 w7)) bitsLt_bf16_f32 := by
  simp only [e1_8_0, e1_8_1, e1_8_2, e1_8_3, e1_8_4, e1_8_5, e1_8_6, e1_8_7, e1_8_8, k0_pay658, k0_pay659, k0_pay660, k0_pay661, k0_pay662, k0_pay663, k0_pay664, k0_pay665, k0_pay666, k0_pay667, k0_pay668, k0_pay669, k0_pay670, k0_pay671, k0_pay673, k0_pay691, half, par0_max, par1_max]
  rfl
theorem inv_1_1_8 (v0 : IVec S8x128 32) (w0 w1 w2 w3 w4 w5 w6 w7 : Vec Ideal S1x1x8x2x128 .bf16) : pl_1_1_8 v0 w0 w1 w2 w3 w4 w5 w6 w7 = shapeCast S1x1x8x128 (invV (extf .f32 (tour v0 (half 1 w0) (half 1 w1) (half 1 w2) (half 1 w3) (half 1 w4) (half 1 w5) (half 1 w6) (half 1 w7)) bitsLt_bf16_f32)) shapeCasts_S8x128_S1x1x8x128 := by
  rw [← top_1_1_8]
  rfl

abbrev e2_0_0 (v0 : IVec S8x128 32) (w4 w5 : Vec Ideal S1x1x8x2x128 .bf16) := k0_pay737 (half 0 w4) (half 1 w4) (half 0 w5) (half 1 w5) (andi v0 (broadcast S8x128 1#32)) (broadcast S8x128 0#32)
abbrev e2_0_1 (v0 : IVec S8x128 32) (w4 w5 : Vec Ideal S1x1x8x2x128 .bf16) := k0_pay738 (half 0 w4) (half 1 w4) (half 0 w5) (half 1 w5) (andi v0 (broadcast S8x128 1#32)) (broadcast S8x128 0#32)
abbrev e2_0_2 (v0 : IVec S8x128 32) (w6 w7 : Vec Ideal S1x1x8x2x128 .bf16) := k0_pay740 (half 0 w6) (half 1 w6) (half 0 w7) (half 1 w7) (andi v0 (broadcast S8x128 1#32)) (broadcast S8x128 0#32)
abbrev e2_0_3 (v0 : IVec S8x128 32) (w6 w7 : Vec Ideal S1x1x8x2x128 .bf16) := k0_pay741 (half 0 w6) (half 1 w6) (half 0 w7) (half 1 w7) (andi v0 (broadcast S8x128 1#32)) (broadcast S8x128 0#32)
abbrev e2_0_4 (v0 : IVec S8x128 32) (w0 w1 w2 w3 : Vec Ideal S1x1x8x2x128 .bf16) := k0_pay743 v0 (half 0 w0) (half 1 w0) (half 0 w1) (half 1 w1) (half 0 w2) (half 1 w2) (half 0 w3) (half 1 w3) (andi v0 (broadcast S8x128 1#32)) (broadcast S8x128 0#32)
abbrev e2_0_5 (v0 : IVec S8x128 32) (w0 w1 w2 w3 : Vec Ideal S1x1x8x2x128 .bf16) := k0_pay744 v0 (half 0 w0) (half 1 w0) (half 0 w1) (half 1 w1) (half 0 w2) (half 1 w2) (half 0 w3) (half 1 w3) (andi v0 (broadcast S8x128 1#32)) (broadcast S8x128 0#32)
abbrev e2_0_6 (v0 : IVec S8x128 32) (w0 w1 w2 w3 : Vec Ideal S1x1x8x2x128 .bf16) := k0_pay745 v0 (half 0 w0) (half 1 w0) (half 0 w1) (half 1 w1) (half 0 w2) (half 1 w2) (half 0 w3) (half 1 w3) (andi v0 (broadcast S8x128 1#32)) (broadcast S8x128 0#32)
abbrev e2_0_7 (v0 : IVec S8x128 32) (w0 w1 w2 w3 : Vec Ideal S1x1x8x2x128 .bf16) := k0_pay746 v0 (half 0 w0) (half 1 w0) (half 0 w1) (half 1 w1) (half 0 w2) (half 1 w2) (half 0 w3) (half 1 w3) (andi v0 (broadcast S8x128 1#32)) (broadcast S8x128 0#32)
abbrev e2_0_8 (v0 : IVec S8x128 32) (w0 w1 w2 w3 w4 w5 w6 w7 : Vec Ideal S1x1x8x2x128 .bf16) := k0_pay749 v0 (e2_0_0 v0 w4 w5) (e2_0_1 v0 w4 w5) (e2_0_2 v0 w6 w7) (e2_0_3 v0 w6 w7) (k0_pay742 v0) (e2_0_4 v0 w0 w1 w2 w3) (e2_0_5 v0 w0 w1 w2 w3) (e2_0_6 v0 w0 w1 w2 w3) (e2_0_7 v0 w0 w1 w2 w3) 2#32
abbrev e2_0_9 (v0 : IVec S8x128 32) (w0 w1 w2 w3 w4 w5 w6 w7 : Vec Ideal S1x1x8x2x128 .bf16) := k0_pay750 v0 (e2_0_0 v0 w4 w5) (e2_0_1 v0 w4 w5) (e2_0_2 v0 w6 w7) (e2_0_3 v0 w6 w7) (k0_pay742 v0) (e2_0_4 v0 w0 w1 w2 w3) (e2_0_5 v0 w0 w1 w2 w3) (e2_0_6 v0 w0 w1 w2 w3) (e2_0_7 v0 w0 w1 w2 w3) 2#32
abbrev e2_0_10 (v0 : IVec S8x128 32) (w0 w1 w2 w3 w4 w5 w6 w7 : Vec Ideal S1x1x8x2x128 .bf16) := k0_pay751 v0 (e2_0_0 v0 w4 w5) (e2_0_1 v0 w4 w5) (e2_0_2 v0 w6 w7) (e2_0_3 v0 w6 w7) (k0_pay742 v0) (e2_0_4 v0 w0 w1 w2 w3) (e2_0_5 v0 w0 w1 w2 w3) (e2_0_6 v0 w0 w1 w2 w3) (e2_0_7 v0 w0 w1 w2 w3) 2#32
abbrev e2_0_11 (v0 : IVec S8x128 32) (w0 w1 w2 w3 w4 w5 w6 w7 : Vec Ideal S1x1x8x2x128 .bf16) := k0_pay748 v0 (e2_0_0 v0 w4 w5) (e2_0_1 v0 w4 w5) (e2_0_2 v0 w6 w7) (e2_0_3 v0 w6 w7) (k0_pay742 v0) (e2_0_4 v0 w0 w1 w2 w3) (e2_0_5 v0 w0 w1 w2 w3) (e2_0_6 v0 w0 w1 w2 w3) (e2_0_7 v0 w0 w1 w2 w3) 2#32
abbrev e2_0_12 (v0 : IVec S8x128 32) (w0 w1 w2 w3 w4 w5 w6 w7 : Vec Ideal S1x1x8x2x128 .bf16) := k0_pay768 (e2_0_11 v0 w0 w1 w2 w3 w4 w5 w6 w7)
abbrev e2_0_13 (v0 : IVec S8x128 32) (w0 w1 w2 w3 w4 w5 w6 w7 : Vec Ideal S1x1x8x2x128 .bf16) := k0_pay769 (e2_0_11 v0 w0 w1 w2 w3 w4 w5 w6 w7)
abbrev e2_0_14 (v0 : IVec S8x128 32) (w0 w1 w2 w3 w4 w5 w6 w7 : Vec Ideal S1x1x8x2x128 .bf16) := k0_pay770 (e2_0_11 v0 w0 w1 w2 w3 w4 w5 w6 w7)
/-- What is stored at block row 2, half 0, from sublane 0 on. -/
def pl_2_0_0 (v0 : IVec S8x128 32) (w0 w1 w2 w3 w4 w5 w6 w7 : Vec Ideal S1x1x8x2x128 .bf16) : Vec Ideal S1x1x8x128 .f32 := k0_pay757 (F := Ideal) (e2_0_8 v0 w0 w1 w2 w3 w4 w5 w6 w7) (k0_pay752 (e2_0_8 v0 w0 w1 w2 w3 w4 w5 w6 w7) (e2_0_9 v0 w0 w1 w2 w3 w4 w5 w6 w7) (e2_0_10 v0 w0 w1 w2 w3 w4 w5 w6 w7) 23#32) (k0_pay753 (e2_0_8 v0 w0 w1 w2 w3 w4 w5 w6 w7) (e2_0_9 v0 w0 w1 w2 w3 w4 w5 w6 w7) (e2_0_10 v0 w0 w1 w2 w3 w4 w5 w6 w7) 23#32) 23#32
theorem top_2_0_0 (v0 : IVec S8x128 32) (w0 w1 w2 w3 w4 w5 w6 w7 : Vec Ideal S1x1x8x2x128 .bf16) : k0_pay749 v0 (e2_0_0 v0 w4 w5) (e2_0_1 v0 w4 w5) (e2_0_2 v0 w6 w7) (e2_0_3 v0 w6 w7) (k0_pay742 v0) (e2_0_4 v0 w0 w1 w2 w3) (e2_0_5 v0 w0 w1 w2 w3) (e2_0_6 v0 w0 w1 w2 w3) (e2_0_7 v0 w0 w1 w2 w3) 2#32 = extf .f32 (tour v0 (half 0 w0) (half 0 w1) (half 0 w2) (half 0 w3) (half 0 w4) (half 0 w5) (half 0 w6) (half 0 w7)) bitsLt_bf16_f32 := by
  simp only [e2_0_0, e2_0_1, e2_0_2, e2_0_3, e2_0_4, e2_0_5, e2_0_6, e2_0_7, e2_0_8, e2_0_9, e2_0_10, e2_0_11, e2_0_12, e2_0_13, e2_0_14, k0_pay729, k0_pay730, k0_pay731, k0_pay732, k0_pay733, k0_pay734, k0_pay735, k0_pay736, k0_pay737, k0_pay738, k0_pay739, k0_pay740, k0_pay741, k0_pay742, k0_pay743, k0_pay744, k0_pay745, k0_pay746, k0_pay747, k0_pay749, half, par0_max, par1_max]
  rfl
theorem inv_2_0_0 (v0 : IVec S8x128 32) (w0 w1 w2 w3 w4 w5 w6 w7 : Vec Ideal S1x1x8x2x128 .bf16) : pl_2_0_0 v0 w0 w1 w2 w3 w4 w5 w6 w7 = shapeCast S1x1x8x128 (invV (extf .f32 (tour v0 (half 0 w0) (half 0 w1) (half 0 w2) (half 0 w3) (half 0 w4) (half 0 w5) (half 0 w6) (half 0 w7)) bitsLt_bf16_f32)) shapeCasts_S8x128_S1x1x8x128 := by
  rw [← top_2_0_0]
  rfl
/-- What is stored at block row 2, half 1, from sublane 0 on. -/
def pl_2_1_0 (v0 : IVec S8x128 32) (w0 w1 w2 w3 w4 w5 w6 w7 : Vec Ideal S1x1x8x2x128 .bf16) : Vec Ideal S1x1x8x128 .f32 := k0_pay776 (F := Ideal) (e2_0_12 v0 w0 w1 w2 w3 w4 w5 w6 w7) (k0_pay771 (e2_0_12 v0 w0 w1 w2 w3 w4 w5 w6 w7) (e2_0_13 v0 w0 w1 w2 w3 w4 w5 w6 w7) (e2_0_14 v0 w0 w1 w2 w3 w4 w5 w6 w7)) (k0_pay772 (e2_0_12 v0 w0 w1 w2 w3 w4 w5 w6 w7) (e2_0_13 v0 w0 w1 w2 w3 w4 w5 w6 w7) (e2_0_14 v0 w0 w1 w2 w3 w4 w5 w6 w7))
theorem top_2_1_0 (v0 : IVec S8x128 32) (w0 w1 w2 w3 w4 w5 w6 w7 : Vec Ideal S1x1x8x2x128 .bf16) : k0_pay768 (e2_0_11 v0 w0 w1 w2 w3 w4 w5 w6 w7) = extf .f32 (tour v0 (half 1 w0) (half 1 w1) (half 1 w2) (half 1 w3) (half 1 w4) (half 1 w5) (half 1 w6) (half 1 w7)) bitsLt_bf16_f32 := by
  simp only [e2_0_0, e2_0_1, e2_0_2, e2_0_3, e2_0_4, e2_0_5, e2_0_6, e2_0_7, e2_0_8, e2_0_9, e2_0_10, e2_0_11, e2_0_12, e2_0_13, e2_0_14, k0_pay729, k0_pay730, k0_pay731, k0_pay732, k0_pay733, k0_pay734, k0_pay735, k0_pay736, k0_pay737, k0_pay738, k0_pay739, k0_pay740, k0_pay741, k0_pay742, k0_pay743, k0_pay744, k0_pay745, k0_pay746, k0_pay747, k0_pay748, k0_pay768, half, par0_max, par1_max]
  rfl
theorem inv_2_1_0 (v0 : IVec S8x128 32) (w0 w1 w2 w3 w4 w5 w6 w7 : Vec Ideal S1x1x8x2x128 .bf16) : pl_2_1_0 v0 w0 w1 w2 w3 w4 w5 w6 w7 = shapeCast S1x1x8x128 (invV (extf .f32 (tour v0 (half 1 w0) (half 1 w1) (half 1 w2) (half 1 w3) (half 1 w4) (half 1 w5) (half 1 w6) (half 1 w7)) bitsLt_bf16_f32)) shapeCasts_S8x128_S1x1x8x128 := by
  rw [← top_2_1_0]
  rfl

abbrev e2_8_0 (v0 : IVec S8x128 32) (w0 w1 : Vec Ideal S1x1x8x2x128 .bf16) := k0_pay805 v0 (half 0 w0) (half 1 w0) (half 0 w1) (half 1 w1)
abbrev e2_8_1 (v0 : IVec S8x128 32) (w0 w1 : Vec Ideal S1x1x8x2x128 .bf16) := k0_pay806 v0 (half 0 w0) (half 1 w0) (half 0 w1) (half 1 w1)
abbrev e2_8_2 (v0 : IVec S8x128 32) (w2 w3 : Vec Ideal S1x1x8x2x128 .bf16) := k0_pay807 v0 (half 0 w2) (half 1 w2) (half 0 w3) (half 1 w3)
abbrev e2_8_3 (v0 : IVec S8x128 32) (w2 w3 : Vec Ideal S1x1x8x2x128 .bf16) := k0_pay808 v0 (half 0 w2) (half 1 w2) (half 0 w3) (half 1 w3)
abbrev e2_8_4 (v0 : IVec S8x128 32) (w0 w1 w2 w3 : Vec Ideal S1x1x8x2x128 .bf16) := k0_pay811 v0 (e2_8_0 v0 w0 w1) (e2_8_1 v0 w0 w1) (e2_8_2 v0 w2 w3) (e2_8_3 v0 w2 w3)
abbrev e2_8_5 (v0 : IVec S8x128 32) (w0 w1 w2 w3 : Vec Ideal S1x1x8x2x128 .bf16) := k0_pay812 v0 (e2_8_0 v0 w0 w1) (e2_8_1 v0 w0 w1) (e2_8_2 v0 w2 w3) (e2_8_3 v0 w2 w3)
abbrev e2_8_6 (v0 : IVec S8x128 32) (w4 w5 w6 w7 : Vec Ideal S1x1x8x2x128 .bf16) := k0_pay814 v0 (k0_pay795 w4) (k0_pay796 w4) (k0_pay797 w5) (k0_pay798 w5) (k0_pay799 w6) (k0_pay800 w6) (k0_pay801 w7) (k0_pay802 w7) (k0_pay803 v0)
abbrev e2_8_7 (v0 : IVec S8x128 32) (w4 w5 w6 w7 : Vec Ideal S1x1x8x2x128 .bf16) := k0_pay815 v0 (k0_pay795 w4) (k0_pay796 w4) (k0_pay797 w5) (k0_pay798 w5) (k0_pay799 w6) (k0_pay800 w6) (k0_pay801 w7) (k0_pay802 w7) (k0_pay803 v0)
abbrev e2_8_8 (v0 : IVec S8x128 32) (w0 w1 w2 w3 w4 w5 w6 w7 : Vec Ideal S1x1x8x2x128 .bf16) := k0_pay820 (e2_8_4 v0 w0 w1 w2 w3) (e2_8_5 v0 w0 w1 w2 w3) (e2_8_6 v0 w4 w5 w6 w7) (e2_8_7 v0 w4 w5 w6 w7) (k0_pay816 v0) k0_pay817
abbrev e2_8_9 (v0 : IVec S8x128 32) (w0 w1 w2 w3 w4 w5 w6 w7 : Vec Ideal S1x1x8x2x128 .bf16) := k0_pay821 (e2_8_4 v0 w0 w1 w2 w3) (e2_8_5 v0 w0 w1 w2 w3) (e2_8_6 v0 w4 w5 w6 w7) (e2_8_7 v0 w4 w5 w6 w7) (k0_pay816 v0) k0_pay817
abbrev e2_8_10 (v0 : IVec S8x128 32) (w0 w1 w2 w3 w4 w5 w6 w7 : Vec Ideal S1x1x8x2x128 .bf16) := k0_pay822 (e2_8_4 v0 w0 w1 w2 w3) (e2_8_5 v0 w0 w1 w2 w3) (e2_8_6 v0 w4 w5 w6 w7) (e2_8_7 v0 w4 w5 w6 w7) (k0_pay816 v0) k0_pay817
abbrev e2_8_11 (v0 : IVec S8x128 32) (w0 w1 w2 w3 w4 w5 w6 w7 : Vec Ideal S1x1x8x2x128 .bf16) := k0_pay819 (e2_8_4 v0 w0 w1 w2 w3) (e2_8_5 v0 w0 w1 w2 w3) (e2_8_6 v0 w4 w5 w6 w7) (e2_8_7 v0 w4 w5 w6 w7) (k0_pay816 v0) k0_pay817
/-- What is stored at block row 2, half 0, from sublane 8 on. -/
def pl_2_0_8 (v0 : IVec S8x128 32) (w0 w1 w2 w3 w4 w5 w6 w7 : Vec Ideal S1x1x8x2x128 .bf16) : Vec Ideal S1x1x8x128 .f32 := k0_pay827 (F := Ideal) (k0_pay823 (e2_8_8 v0 w0 w1 w2 w3 w4 w5 w6 w7) (e2_8_9 v0 w0 w1 w2 w3 w4 w5 w6 w7) (e2_8_10 v0 w0 w1 w2 w3 w4 w5 w6 w7) 23#32) (k0_pay824 (e2_8_8 v0 w0 w1 w2 w3 w4 w5 w6 w7) (e2_8_9 v0 w0 w1 w2 w3 w4 w5 w6 w7) (e2_8_10 v0 w0 w1 w2 w3 w4 w5 w6 w7) 23#32) 255#32
theorem top_2_0_8 (v0 : IVec S8x128 32) (w0 w1 w2 w3 w4 w5 w6 w7 : Vec Ideal S1x1x8x2x128 .bf16) : k0_pay820 (e2_8_4 v0 w0 w1 w2 w3) (e2_8_5 v0 w0 w1 w2 w3) (e2_8_6 v0 w4 w5 w6 w7) (e2_8_7 v0 w4 w5 w6 w7) (k0_pay816 v0) k0_pay817 = extf .f32 (tour v0 (half 0 w0) (half 0 w1) (half 0 w2) (half 0 w3) (half 0 w4) (half 0 w5) (half 0 w6) (half 0 w7)) bitsLt_bf16_f32 := by
  simp only [e2_8_0, e2_8_1, e2_8_2, e2_8_3, e2_8_4, e2_8_5, e2_8_6, e2_8_7, e2_8_8, e2_8_9, e2_8_10, e2_8_11, k0_pay795, k0_pay796, k0_pay797, k0_pay798, k0_pay799, k0_pay800, k0_pay801, k0_pay802, k0_pay803, k0_pay804, k0_pay805, k0_pay806, k0_pay807, k0_pay808, k0_pay809, k0_pay810, k0_pay811, k0_pay812, k0_pay813, k0_pay814, k0_pay815, k0_pay816, k0_pay817, k0_pay818, k0_pay820, half, par0_max, par1_max]
  rfl
theorem inv_2_0_8 (v0 : IVec S8x128 32) (w0 w1 w2 w3 w4 w5 w6 w7 : Vec Ideal S1x1x8x2x128 .bf16) : pl_2_0_8 v0 w0 w1 w2 w3 w4 w5 w6 w7 = shapeCast S1x1x8x128 (invV (extf .f32 (tour v0 (half 0 w0) (half 0 w1) (half 0 w2) (half 0 w3) (half 0 w4) (half 0 w5) (half 0 w6) (half 0 w7)) bitsLt_bf16_f32)) shapeCasts_S8x128_S1x1x8x128 := by
  rw [← top_2_0_8]
  rfl
/-- What is stored at block row 2, half 1, from sublane 8 on. -/
def pl_2_1_8 (v0 : IVec S8x128 32) (w0 w1 w2 w3 w4 w5 w6 w7 : Vec Ideal S1x1x8x2x128 .bf16) : Vec Ideal S1x1x8x128 .f32 := k0_pay846 (F := Ideal) (k0_pay843 (k0_pay838 (e2_8_11 v0 w0 w1 w2 w3 w4 w5 w6 w7)) (k0_pay839 (e2_8_11 v0 w0 w1 w2 w3 w4 w5 w6 w7)) (k0_pay840 (e2_8_11 v0 w0 w1 w2 w3 w4 w5 w6 w7))) k0_pay844
theorem top_2_1_8 (v0 : IVec S8x128 32) (w0 w1 w2 w3 w4 w5 w6 w7 : Vec Ideal S1x1x8x2x128 .bf16) : k0_pay838 (e2_8_11 v0 w0 w1 w2 w3 w4 w5 w6 w7) = extf .f32 (tour v0 (half 1 w0) (half 1 w1) (half 1 w2) (half 1 w3) (half 1 w4) (half 1 w5) (half 1 w6) (half 1 w7)) bitsLt_bf16_f32 := by
  simp only [e2_8_0, e2_8_1, e2_8_2, e2_8_3, e2_8_4, e2_8_5, e2_8_6, e2_8_7, e2_8_8, e2_8_9, e2_8_10, e2_8_11, k0_pay795, k0_pay796, k0_pay797, k0_pay798, k0_pay799, k0_pay800, k0_pay801, k0_pay802, k0_pay803, k0_pay804, k0_pay805, k0_pay806, k0_pay807, k0_pay808, k0_pay809, k0_pay810, k0_pay811, k0_pay812, k0_pay813, k0_pay814, k0_pay815, k0_pay816, k0_pay817, k0_pay818, k0_pay819, k0_pay838, half, par0_max, par1_max]
  rfl
theorem inv_2_1_8 (v0 : IVec S8x128 32) (w0 w1 w2 w3 w4 w5 w6 w7 : Vec Ideal S1x1x8x2x128 .bf16) : pl_2_1_8 v0 w0 w1 w2 w3 w4 w5 w6 w7 = shapeCast S1x1x8x128 (invV (extf .f32 (tour v0 (half 1 w0) (half 1 w1) (half 1 w2) (half 1 w3) (half 1 w4) (half 1 w5) (half 1 w6) (half 1 w7)) bitsLt_bf16_f32)) shapeCasts_S8x128_S1x1x8x128 := by
  rw [← top_2_1_8]
  rfl

abbrev e3_0_0 (v0 : IVec S8x128 32) (w0 w1 : Vec Ideal S1x1x8x2x128 .bf16) := k0_pay872 v0 (half 0 w0) (half 1 w0) (half 0 w1) (half 1 w1)
abbrev e3_0_1 (v0 : IVec S8x128 32) (w0 w1 : Vec Ideal S1x1x8x2x128 .bf16) := k0_pay873 v0 (half 0 w0) (half 1 w0) (half 0 w1) (half 1 w1)
abbrev e3_0_2 (v0 : IVec S8x128 32) (w2 w3 : Vec Ideal S1x1x8x2x128 .bf16) := k0_pay875 v0 (half 0 w2) (half 1 w2) (half 0 w3) (half 1 w3)
abbrev e3_0_3 (v0 : IVec S8x128 32) (w2 w3 : Vec Ideal S1x1x8x2x128 .bf16) := k0_pay876 v0 (half 0 w2) (half 1 w2) (half 0 w3) (half 1 w3)
abbrev e3_0_4 (v0 : IVec S8x128 32) (w4 w5 : Vec Ideal S1x1x8x2x128 .bf16) := k0_pay878 v0 (half 0 w4) (half 1 w4) (half 0 w5) (half 1 w5)
abbrev e3_0_5 (v0 : IVec S8x128 32) (w4 w5 : Vec Ideal S1x1x8x2x128 .bf16) := k0_pay879 v0 (half 0 w4) (half 1 w4) (half 0 w5) (half 1 w5)
abbrev e3_0_6 (v0 : IVec S8x128 32) (w0 w1 w2 w3 w4 w5 w6 w7 : Vec Ideal S1x1x8x2x128 .bf16) := k0_pay884 v0 (e3_0_0 v0 w0 w1) (e3_0_1 v0 w0 w1) (e3_0_2 v0 w2 w3) (e3_0_3 v0 w2 w3) (e3_0_4 v0 w4 w5) (e3_0_5 v0 w4 w5) (k0_pay880 v0 (half 0 w6) (half 1 w6) w7) (k0_pay881 v0 (half 0 w6) (half 1 w6) w7)
abbrev e3_0_7 (v0 : IVec S8x128 32) (w0 w1 w2 w3 w4 w5 w6 w7 : Vec Ideal S1x1x8x2x128 .bf16) := k0_pay883 v0 (e3_0_0 v0 w0 w1) (e3_0_1 v0 w0 w1) (e3_0_2 v0 w2 w3) (e3_0_3 v0 w2 w3) (e3_0_4 v0 w4 w5) (e3_0_5 v0 w4 w5) (k0_pay880 v0 (half 0 w6) (half 1 w6) w7) (k0_pay881 v0 (half 0 w6) (half 1 w6) w7)
abbrev e3_0_8 (v0 : IVec S8x128 32) (w0 w1 w2 w3 w4 w5 w6 w7 : Vec Ideal S1x1x8x2x128 .bf16) := k0_pay903 (e3_0_7 v0 w0 w1 w2 w3 w4 w5 w6 w7)
abbrev e3_0_9 (v0 : IVec S8x128 32) (w0 w1 w2 w3 w4 w5 w6 w7 : Vec Ideal S1x1x8x2x128 .bf16) := k0_pay904 (e3_0_7 v0 w0 w1 w2 w3 w4 w5 w6 w7)
abbrev e3_0_10 (v0 : IVec S8x128 32) (w0 w1 w2 w3 w4 w5 w6 w7 : Vec Ideal S1x1x8x2x128 .bf16) := k0_pay905 (e3_0_7 v0 w0 w1 w2 w3 w4 w5 w6 w7)
/-- What is stored at block row 3, half 0, from sublane 0 on. -/
def pl_3_0_0 (v0 : IVec S8x128 32) (w0 w1 w2 w3 w4 w5 w6 w7 : Vec Ideal S1x1x8x2x128 .bf16) : Vec Ideal S1x1x8x128 .f32 := shapeCast S1x1x8x128 (k0_pay892 (e3_0_6 v0 w0 w1 w2 w3 w4 w5 w6 w7) (k0_pay887 (e3_0_6 v0 w0 w1 w2 w3 w4 w5 w6 w7) k0_pay885 k0_pay886 23#32) (k0_pay888 (e3_0_6 v0 w0 w1 w2 w3 w4 w5 w6 w7) k0_pay885 k0_pay886 23#32) 23#32) (by decide)
theorem top_3_0_0 (v0 : IVec S8x128 32) (w0 w1 w2 w3 w4 w5 w6 w7 : Vec Ideal S1x1x8x2x128 .bf16) : k0_pay884 v0 (e3_0_0 v0 w0 w1) (e3_0_1 v0 w0 w1) (e3_0_2 v0 w2 w3) (e3_0_3 v0 w2 w3) (e3_0_4 v0 w4 w5) (e3_0_5 v0 w4 w5) (k0_pay880 v0 (half 0 w6) (half 1 w6) w7) (k0_pay881 v0 (half 0 w6) (half 1 w6) w7) = extf .f32 (tour v0 (half 0 w0) (half 0 w1) (half 0 w2) (half 0 w3) (half 0 w4) (half 0 w5) (half 0 w6) (half 0 w7)) bitsLt_bf16_f32 := by
  simp only [e3_0_0, e3_0_1, e3_0_2, e3_0_3, e3_0_4, e3_0_5, e3_0_6, e3_0_7, e3_0_8, e3_0_9, e3_0_10, k0_pay870, k0_pay871, k0_pay872, k0_pay873, k0_pay874, k0_pay875, k0_pay876, k0_pay877, k0_pay878, k0_pay879, k0_pay880, k0_pay881, k0_pay882, k0_pay884, half, par0_max, par1_max]
  rfl
theorem inv_3_0_0 (v0 : IVec S8x128 32) (w0 w1 w2 w3 w4 w5 w6 w7 : Vec Ideal S1x1x8x2x128 .bf16) : pl_3_0_0 v0 w0 w1 w2 w3 w4 w5 w6 w7 = shapeCast S1x1x8x128 (invV (extf .f32 (tour v0 (half 0 w0) (half 0 w1) (half 0 w2) (half 0 w3) (half 0 w4) (half 0 w5) (half 0 w6) (half 0 w7)) bitsLt_bf16_f32)) shapeCasts_S8x128_S1x1x8x128 := by
  rw [← top_3_0_0]
  rfl
/-- What is stored at block row 3, half 1, from sublane 0 on. -/
def pl_3_1_0 (v0 : IVec S8x128 32) (w0 w1 w2 w3 w4 w5 w6 w7 : Vec Ideal S1x1x8x2x128 .bf16) : Vec Ideal S1x1x8x128 .f32 := k0_pay911 (F := Ideal) (e3_0_8 v0 w0 w1 w2 w3 w4 w5 w6 w7) (k0_pay906 (e3_0_8 v0 w0 w1 w2 w3 w4 w5 w6 w7) (e3_0_9 v0 w0 w1 w2 w3 w4 w5 w6 w7) (e3_0_10 v0 w0 w1 w2 w3 w4 w5 w6 w7)) (k0_pay907 (e3_0_8 v0 w0 w1 w2 w3 w4 w5 w6 w7) (e3_0_9 v0 w0 w1 w2 w3 w4 w5 w6 w7) (e3_0_10 v0 w0 w1 w2 w3 w4 w5 w6 w7))
theorem top_3_1_0 (v0 : IVec S8x128 32) (w0 w1 w2 w3 w4 w5 w6 w7 : Vec Ideal S1x1x8x2x128 .bf16) : k0_pay903 (e3_0_7 v0 w0 w1 w2 w3 w4 w5 w6 w7) = extf .f32 (tour v0 (half 1 w0) (half 1 w1) (half 1 w2) (half 1 w3) (half 1 w4) (half 1 w5) (half 1 w6) (half 1 w7)) bitsLt_bf16_f32 := by
  simp only [e3_0_0, e3_0_1, e3_0_2, e3_0_3, e3_0_4, e3_0_5, e3_0_6, e3_0_7, e3_0_8, e3_0_9, e3_0_10, k0_pay870, k0_pay871, k0_pay872, k0_pay873, k0_pay874, k0_pay875, k0_pay876, k0_pay877, k0_pay878, k0_pay879, k0_pay880, k0_pay881, k0_pay882, k0_pay883, k0_pay903, half, par0_max, par1_max]
  rfl
theorem inv_3_1_0 (v0 : IVec S8x128 32) (w0 w1 w2 w3 w4 w5 w6 w7 : Vec Ideal S1x1x8x2x128 .bf16) : pl_3_1_0 v0 w0 w1 w2 w3 w4 w5 w6 w7 = shapeCast S1x1x8x128 (invV (extf .f32 (tour v0 (half 1 w0) (half 1 w1) (half 1 w2) (half 1 w3) (half 1 w4) (half 1 w5) (half 1 w6) (half 1 w7)) bitsLt_bf16_f32)) shapeCasts_S8x128_S1x1x8x128 := by
  rw [← top_3_1_0]
  rfl

abbrev e3_8_0 (v0 : IVec S8x128 32) (w0 w1 : Vec Ideal S1x1x8x2x128 .bf16) := k0_pay939 v0 (half 0 w0) (half 1 w0) (half 0 w1) (half 1 w1)
abbrev e3_8_1 (v0 : IVec S8x128 32) (w0 w1 : Vec Ideal S1x1x8x2x128 .bf16) := k0_pay940 v0 (half 0 w0) (half 1 w0) (half 0 w1) (half 1 w1)
abbrev e3_8_2 (v0 : IVec S8x128 32) (w0 w1 w2 w3 : Vec Ideal S1x1x8x2x128 .bf16) := k0_pay949 v0 (half 0 w2) (half 1 w2) (k0_pay928 w3) (k0_pay929 w3) (k0_pay938 v0) (e3_8_0 v0 w0 w1) (e3_8_1 v0 w0 w1)
abbrev e3_8_3 (v0 : IVec S8x128 32) (w0 w1 w2 w3 : Vec Ideal S1x1x8x2x128 .bf16) := k0_pay950 v0 (half 0 w2) (half 1 w2) (k0_pay928 w3) (k0_pay929 w3) (k0_pay938 v0) (e3_8_0 v0 w0 w1) (e3_8_1 v0 w0 w1)
abbrev e3_8_4 (v0 : IVec S8x128 32) (w4 w5 w6 w7 : Vec Ideal S1x1x8x2x128 .bf16) := k0_pay951 v0 (k0_pay930 w4) (k0_pay931 w4) (k0_pay932 w5) (k0_pay933 w5) (k0_pay934 w6) (k0_pay935 w6) (k0_pay936 w7) (k0_pay937 w7) (k0_pay938 v0)
abbrev e3_8_5 (v0 : IVec S8x128 32) (w4 w5 w6 w7 : Vec Ideal S1x1x8x2x128 .bf16) := k0_pay952 v0 (k0_pay930 w4) (k0_pay931 w4) (k0_pay932 w5) (k0_pay933 w5) (k0_pay934 w6) (k0_pay935 w6) (k0_pay936 w7) (k0_pay937 w7) (k0_pay938 v0)
abbrev e3_8_6 (v0 : IVec S8x128 32) (w4 w5 w6 w7 : Vec Ideal S1x1x8x2x128 .bf16) := k0_pay953 v0 (k0_pay930 w4) (k0_pay931 w4) (k0_pay932 w5) (k0_pay933 w5) (k0_pay934 w6) (k0_pay935 w6) (k0_pay936 w7) (k0_pay937 w7) (k0_pay938 v0)
abbrev e3_8_7 (v0 : IVec S8x128 32) (w4 w5 w6 w7 : Vec Ideal S1x1x8x2x128 .bf16) := k0_pay954 v0 (k0_pay930 w4) (k0_pay931 w4) (k0_pay932 w5) (k0_pay933 w5) (k0_pay934 w6) (k0_pay935 w6) (k0_pay936 w7) (k0_pay937 w7) (k0_pay938 v0)
abbrev e3_8_8 (v0 : IVec S8x128 32) (w0 w1 w2 w3 w4 w5 w6 w7 : Vec Ideal S1x1x8x2x128 .bf16) := k0_pay957 v0 (e3_8_2 v0 w0 w1 w2 w3) (e3_8_3 v0 w0 w1 w2 w3) (e3_8_4 v0 w4 w5 w6 w7) (e3_8_5 v0 w4 w5 w6 w7) (e3_8_6 v0 w4 w5 w6 w7) (e3_8_7 v0 w4 w5 w6 w7) 2#32
abbrev e3_8_9 (v0 : IVec S8x128 32) (w0 w1 w2 w3 w4 w5 w6 w7 : Vec Ideal S1x1x8x2x128 .bf16) := k0_pay958 v0 (e3_8_2 v0 w0 w1 w2 w3) (e3_8_3 v0 w0 w1 w2 w3) (e3_8_4 v0 w4 w5 w6 w7) (e3_8_5 v0 w4 w5 w6 w7) (e3_8_6 v0 w4 w5 w6 w7) (e3_8_7 v0 w4 w5 w6 w7) 2#32
abbrev e3_8_10 (v0 : IVec S8x128 32) (w0 w1 w2 w3 w4 w5 w6 w7 : Vec Ideal S1x1x8x2x128 .bf16) := k0_pay959 v0 (e3_8_2 v0 w0 w1 w2 w3) (e3_8_3 v0 w0 w1 w2 w3) (e3_8_4 v0 w4 w5 w6 w7) (e3_8_5 v0 w4 w5 w6 w7) (e3_8_6 v0 w4 w5 w6 w7) (e3_8_7 v0 w4 w5 w6 w7) 2#32
abbrev e3_8_11 (v0 : IVec S8x128 32) (w0 w1 w2 w3 w4 w5 w6 w7 : Vec Ideal S1x1x8x2x128 .bf16) := k0_pay956 v0 (e3_8_2 v0 w0 w1 w2 w3) (e3_8_3 v0 w0 w1 w2 w3) (e3_8_4 v0 w4 w5 w6 w7) (e3_8_5 v0 w4 w5 w6 w7) (e3_8_6 v0 w4 w5 w6 w7) (e3_8_7 v0 w4 w5 w6 w7) 2#32
abbrev e3_8_12 (v0 : IVec S8x128 32) (w0 w1 w2 w3 w4 w5 w6 w7 : Vec Ideal S1x1x8x2x128 .bf16) := k0_pay976 (e3_8_11 v0 w0 w1 w2 w3 w4 w5 w6 w7)
abbrev e3_8_13 (v0 : IVec S8x128 32) (w0 w1 w2 w3 w4 w5 w6 w7 : Vec Ideal S1x1x8x2x128 .bf16) := k0_pay977 (e3_8_11 v0 w0 w1 w2 w3 w4 w5 w6 w7)
abbrev e3_8_14 (v0 : IVec S8x128 32) (w0 w1 w2 w3 w4 w5 w6 w7 : Vec Ideal S1x1x8x2x128 .bf16) := k0_pay978 (e3_8_11 v0 w0 w1 w2 w3 w4 w5 w6 w7)
/-- What is stored at block row 3, half 0, from sublane 8 on. -/
def pl_3_0_8 (v0 : IVec S8x128 32) (w0 w1 w2 w3 w4 w5 w6 w7 : Vec Ideal S1x1x8x2x128 .bf16) : Vec Ideal S1x1x8x128 .f32 := k0_pay965 (F := Ideal) (e3_8_8 v0 w0 w1 w2 w3 w4 w5 w6 w7) (k0_pay960 (e3_8_8 v0 w0 w1 w2 w3 w4 w5 w6 w7) (e3_8_9 v0 w0 w1 w2 w3 w4 w5 w6 w7) (e3_8_10 v0 w0 w1 w2 w3 w4 w5 w6 w7) 23#32) (k0_pay961 (e3_8_8 v0 w0 w1 w2 w3 w4 w5 w6 w7) (e3_8_9 v0 w0 w1 w2 w3 w4 w5 w6 w7) (e3_8_10 v0 w0 w1 w2 w3 w4 w5 w6 w7) 23#32) 23#32
theorem top_3_0_8 (v0 : IVec S8x128 32) (w0 w1 w2 w3 w4 w5 w6 w7 : Vec Ideal S1x1x8x2x128 .bf16) : k0_pay957 v0 (e3_8_2 v0 w0 w1 w2 w3) (e3_8_3 v0 w0 w1 w2 w3) (e3_8_4 v0 w4 w5 w6 w7) (e3_8_5 v0 w4 w5 w6 w7) (e3_8_6 v0 w4 w5 w6 w7) (e3_8_7 v0 w4 w5 w6 w7) 2#32 = extf .f32 (tour v0 (half 0 w0) (half 0 w1) (half 0 w2) (half 0 w3) (half 0 w4) (half 0 w5) (half 0 w6) (half 0 w7)) bitsLt_bf16_f32 := by
  simp only [e3_8_0, e3_8_1, e3_8_2, e3_8_3, e3_8_4, e3_8_5, e3_8_6, e3_8_7, e3_8_8, e3_8_9, e3_8_10, e3_8_11, e3_8_12, e3_8_13, e3_8_14, k0_pay928, k0_pay929, k0_pay930, k0_pay931, k0_pay932, k0_pay933, k0_pay934, k0_pay935, k0_pay936, k0_pay937, k0_pay938, k0_pay939, k0_pay940, k0_pay941, k0_pay942, k0_pay943, k0_pay944, k0_pay945, k0_pay946, k0_pay947, k0_pay948, k0_pay949, k0_pay950, k0_pay951, k0_pay952, k0_pay953, k0_pay954, k0_pay955, k0_pay957, half, par0_max, par1_max]
  rfl
theorem inv_3_0_8 (v0 : IVec S8x128 32) (w0 w1 w2 w3 w4 w5 w6 w7 : Vec Ideal S1x1x8x2x128 .bf16) : pl_3_0_8 v0 w0 w1 w2 w3 w4 w5 w6 w7 = shapeCast S1x1x8x128 (invV (extf .f32 (tour v0 (half 0 w0) (half 0 w1) (half 0 w2) (half 0 w3) (half 0 w4) (half 0 w5) (half 0 w6) (half 0 w7)) bitsLt_bf16_f32)) shapeCasts_S8x128_S1x1x8x128 := by
  rw [← top_3_0_8]
  rfl
/-- What is stored at block row 3, half 1, from sublane 8 on. -/
def pl_3_1_8 (v0 : IVec S8x128 32) (w0 w1 w2 w3 w4 w5 w6 w7 : Vec Ideal S1x1x8x2x128 .bf16) : Vec Ideal S1x1x8x128 .f32 := k0_pay983 (F := Ideal) (k0_pay979 (e3_8_12 v0 w0 w1 w2 w3 w4 w5 w6 w7) (e3_8_13 v0 w0 w1 w2 w3 w4 w5 w6 w7) (e3_8_14 v0 w0 w1 w2 w3 w4 w5 w6 w7)) (k0_pay980 (e3_8_12 v0 w0 w1 w2 w3 w4 w5 w6 w7) (e3_8_13 v0 w0 w1 w2 w3 w4 w5 w6 w7) (e3_8_14 v0 w0 w1 w2 w3 w4 w5 w6 w7))
theorem top_3_1_8 (v0 : IVec S8x128 32) (w0 w1 w2 w3 w4 w5 w6 w7 : Vec Ideal S1x1x8x2x128 .bf16) : k0_pay976 (e3_8_11 v0 w0 w1 w2 w3 w4 w5 w6 w7) = extf .f32 (tour v0 (half 1 w0) (half 1 w1) (half 1 w2) (half 1 w3) (half 1 w4) (half 1 w5) (half 1 w6) (half 1 w7)) bitsLt_bf16_f32 := by
  simp only [e3_8_0, e3_8_1, e3_8_2, e3_8_3, e3_8_4, e3_8_5, e3_8_6, e3_8_7, e3_8_8, e3_8_9, e3_8_10, e3_8_11, e3_8_12, e3_8_13, e3_8_14, k0_pay928, k0_pay929, k0_pay930, k0_pay931, k0_pay932, k0_pay933, k0_pay934, k0_pay935, k0_pay936, k0_pay937, k0_pay938, k0_pay939, k0_pay940, k0_pay941, k0_pay942, k0_pay943, k0_pay944, k0_pay945, k0_pay946, k0_pay947, k0_pay948, k0_pay949, k0_pay950, k0_pay951, k0_pay952, k0_pay953, k0_pay954, k0_pay955, k0_pay956, k0_pay976, half, par0_max, par1_max]
  rfl
theorem inv_3_1_8 (v0 : IVec S8x128 32) (w0 w1 w2 w3 w4 w5 w6 w7 : Vec Ideal S1x1x8x2x128 .bf16) : pl_3_1_8 v0 w0 w1 w2 w3 w4 w5 w6 w7 = shapeCast S1x1x8x128 (invV (extf .f32 (tour v0 (half 1 w0) (half 1 w1) (half 1 w2) (half 1 w3) (half 1 w4) (half 1 w5) (half 1 w6) (half 1 w7)) bitsLt_bf16_f32)) shapeCasts_S8x128_S1x1x8x128 := by
  rw [← top_3_1_8]
  rfl

/-- The words' sublanes. -/
abbrev lanes8 : IVec S8x128 32 := iota .tc S8x128 32 [0] iota_S8x128_d0_w32
/-- Eight words of the buffer. -/
abbrev ldw (m : Memref sig .tc .vmem S4x16x8x2x128 .bf16) (X : m.view.ty.Contents (Elt Ideal)) (b k : ℕ)
    (inb : ∀ a, (![b, k, 0, 0, 0] : Fin 5 → ℕ) a + S1x1x8x2x128.size a ≤ S4x16x8x2x128.size a) : Vec Ideal S1x1x8x2x128 .bf16 :=
  View.readAt (Elt Ideal) m.view (Rect.unit (s := S4x16x8x2x128) ![b, k, 0, 0, 0] S1x1x8x2x128.size inb).toLoadRect X
/-- The sixteen pieces that make up the scales. -/
def invL (m : Memref sig .tc .vmem S4x16x8x2x128 .bf16) (X : m.view.ty.Contents (Elt Ideal)) : List (View.Piece (Elt Ideal) S4x2x16x128 .f32) :=
  [⟨Rect.unit (s := S4x2x16x128) ![3, 1, 8, 0] S1x1x8x128.size inb_S4x2x16x128_S1x1x8x128_3_1_8_0, pl_3_1_8 lanes8 (ldw m X 3 8 inb_S4x16x8x2x128_S1x1x8x2x128_3_8_0_0_0) (ldw m X 3 9 inb_S4x16x8x2x128_S1x1x8x2x128_3_9_0_0_0) (ldw m X 3 10 inb_S4x16x8x2x128_S1x1x8x2x128_3_10_0_0_0) (ldw m X 3 11 inb_S4x16x8x2x128_S1x1x8x2x128_3_11_0_0_0) (ldw m X 3 12 inb_S4x16x8x2x128_S1x1x8x2x128_3_12_0_0_0) (ldw m X 3 13 inb_S4x16x8x2x128_S1x1x8x2x128_3_13_0_0_0) (ldw m X 3 14 inb_S4x16x8x2x128_S1x1x8x2x128_3_14_0_0_0) (ldw m X 3 15 inb_S4x16x8x2x128_S1x1x8x2x128_3_15_0_0_0)⟩,
    ⟨Rect.unit (s := S4x2x16x128) ![3, 0, 8, 0] S1x1x8x128.size inb_S4x2x16x128_S1x1x8x128_3_0_8_0, pl_3_0_8 lanes8 (ldw m X 3 8 inb_S4x16x8x2x128_S1x1x8x2x128_3_8_0_0_0) (ldw m X 3 9 inb_S4x16x8x2x128_S1x1x8x2x128_3_9_0_0_0) (ldw m X 3 10 inb_S4x16x8x2x128_S1x1x8x2x128_3_10_0_0_0) (ldw m X 3 11 inb_S4x16x8x2x128_S1x1x8x2x128_3_11_0_0_0) (ldw m X 3 12 inb_S4x16x8x2x128_S1x1x8x2x128_3_12_0_0_0) (ldw m X 3 13 inb_S4x16x8x2x128_S1x1x8x2x128_3_13_0_0_0) (ldw m X 3 14 inb_S4x16x8x2x128_S1x1x8x2x128_3_14_0_0_0) (ldw m X 3 15 inb_S4x16x8x2x128_S1x1x8x2x128_3_15_0_0_0)⟩,
    ⟨Rect.unit (s := S4x2x16x128) ![3, 1, 0, 0] S1x1x8x128.size inb_S4x2x16x128_S1x1x8x128_3_1_0_0, pl_3_1_0 lanes8 (ldw m X 3 0 inb_S4x16x8x2x128_S1x1x8x2x128_3_0_0_0_0) (ldw m X 3 1 inb_S4x16x8x2x128_S1x1x8x2x128_3_1_0_0_0) (ldw m X 3 2 inb_S4x16x8x2x128_S1x1x8x2x128_3_2_0_0_0) (ldw m X 3 3 inb_S4x16x8x2x128_S1x1x8x2x128_3_3_0_0_0) (ldw m X 3 4 inb_S4x16x8x2x128_S1x1x8x2x128_3_4_0_0_0) (ldw m X 3 5 inb_S4x16x8x2x128_S1x1x8x2x128_3_5_0_0_0) (ldw m X 3 6 inb_S4x16x8x2x128_S1x1x8x2x128_3_6_0_0_0) (ldw m X 3 7 inb_S4x16x8x2x128_S1x1x8x2x128_3_7_0_0_0)⟩,
    ⟨Rect.unit (s := S4x2x16x128) ![3, 0, 0, 0] S1x1x8x128.size inb_S4x2x16x128_S1x1x8x128_3_0_0_0, pl_3_0_0 lanes8 (ldw m X 3 0 inb_S4x16x8x2x128_S1x1x8x2x128_3_0_0_0_0) (ldw m X 3 1 inb_S4x16x8x2x128_S1x1x8x2x128_3_1_0_0_0) (ldw m X 3 2 inb_S4x16x8x2x128_S1x1x8x2x128_3_2_0_0_0) (ldw m X 3 3 inb_S4x16x8x2x128_S1x1x8x2x128_3_3_0_0_0) (ldw m X 3 4 inb_S4x16x8x2x128_S1x1x8x2x128_3_4_0_0_0) (ldw m X 3 5 inb_S4x16x8x2x128_S1x1x8x2x128_3_5_0_0_0) (ldw m X 3 6 inb_S4x16x8x2x128_S1x1x8x2x128_3_6_0_0_0) (ldw m X 3 7 inb_S4x16x8x2x128_S1x1x8x2x128_3_7_0_0_0)⟩,
    ⟨Rect.unit (s := S4x2x16x128) ![2, 1, 8, 0] S1x1x8x128.size inb_S4x2x16x128_S1x1x8x128_2_1_8_0, pl_2_1_8 lanes8 (ldw m X 2 8 inb_S4x16x8x2x128_S1x1x8x2x128_2_8_0_0_0) (ldw m X 2 9 inb_S4x16x8x2x128_S1x1x8x2x128_2_9_0_0_0) (ldw m X 2 10 inb_S4x16x8x2x128_S1x1x8x2x128_2_10_0_0_0) (ldw m X 2 11 inb_S4x16x8x2x128_S1x1x8x2x128_2_11_0_0_0) (ldw m X 2 12 inb_S4x16x8x2x128_S1x1x8x2x128_2_12_0_0_0) (ldw m X 2 13 inb_S4x16x8x2x128_S1x1x8x2x128_2_13_0_0_0) (ldw m X 2 14 inb_S4x16x8x2x128_S1x1x8x2x128_2_14_0_0_0) (ldw m X 2 15 inb_S4x16x8x2x128_S1x1x8x2x128_2_15_0_0_0)⟩,
    ⟨Rect.unit (s := S4x2x16x128) ![2, 0, 8, 0] S1x1x8x128.size inb_S4x2x16x128_S1x1x8x128_2_0_8_0, pl_2_0_8 lanes8 (ldw m X 2 8 inb_S4x16x8x2x128_S1x1x8x2x128_2_8_0_0_0) (ldw m X 2 9 inb_S4x16x8x2x128_S1x1x8x2x128_2_9_0_0_0) (ldw m X 2 10 inb_S4x16x8x2x128_S1x1x8x2x128_2_10_0_0_0) (ldw m X 2 11 inb_S4x16x8x2x128_S1x1x8x2x128_2_11_0_0_0) (ldw m X 2 12 inb_S4x16x8x2x128_S1x1x8x2x128_2_12_0_0_0) (ldw m X 2 13 inb_S4x16x8x2x128_S1x1x8x2x128_2_13_0_0_0) (ldw m X 2 14 inb_S4x16x8x2x128_S1x1x8x2x128_2_14_0_0_0) (ldw m X 2 15 inb_S4x16x8x2x128_S1x1x8x2x128_2_15_0_0_0)⟩,
    ⟨Rect.unit (s := S4x2x16x128) ![2, 1, 0, 0] S1x1x8x128.size inb_S4x2x16x128_S1x1x8x128_2_1_0_0, pl_2_1_0 lanes8 (ldw m X 2 0 inb_S4x16x8x2x128_S1x1x8x2x128_2_0_0_0_0) (ldw m X 2 1 inb_S4x16x8x2x128_S1x1x8x2x128_2_1_0_0_0) (ldw m X 2 2 inb_S4x16x8x2x128_S1x1x8x2x128_2_2_0_0_0) (ldw m X 2 3 inb_S4x16x8x2x128_S1x1x8x2x128_2_3_0_0_0) (ldw m X 2 4 inb_S4x16x8x2x128_S1x1x8x2x128_2_4_0_0_0) (ldw m X 2 5 inb_S4x16x8x2x128_S1x1x8x2x128_2_5_0_0_0) (ldw m X 2 6 inb_S4x16x8x2x128_S1x1x8x2x128_2_6_0_0_0) (ldw m X 2 7 inb_S4x16x8x2x128_S1x1x8x2x128_2_7_0_0_0)⟩,
    ⟨Rect.unit (s := S4x2x16x128) ![2, 0, 0, 0] S1x1x8x128.size inb_S4x2x16x128_S1x1x8x128_2_0_0_0, pl_2_0_0 lanes8 (ldw m X 2 0 inb_S4x16x8x2x128_S1x1x8x2x128_2_0_0_0_0) (ldw m X 2 1 inb_S4x16x8x2x128_S1x1x8x2x128_2_1_0_0_0) (ldw m X 2 2 inb_S4x16x8x2x128_S1x1x8x2x128_2_2_0_0_0) (ldw m X 2 3 inb_S4x16x8x2x128_S1x1x8x2x128_2_3_0_0_0) (ldw m X 2 4 inb_S4x16x8x2x128_S1x1x8x2x128_2_4_0_0_0) (ldw m X 2 5 inb_S4x16x8x2x128_S1x1x8x2x128_2_5_0_0_0) (ldw m X 2 6 inb_S4x16x8x2x128_S1x1x8x2x128_2_6_0_0_0) (ldw m X 2 7 inb_S4x16x8x2x128_S1x1x8x2x128_2_7_0_0_0)⟩,
    ⟨Rect.unit (s := S4x2x16x128) ![1, 1, 8, 0] S1x1x8x128.size inb_S4x2x16x128_S1x1x8x128_1_1_8_0, pl_1_1_8 lanes8 (ldw m X 1 8 inb_S4x16x8x2x128_S1x1x8x2x128_1_8_0_0_0) (ldw m X 1 9 inb_S4x16x8x2x128_S1x1x8x2x128_1_9_0_0_0) (ldw m X 1 10 inb_S4x16x8x2x128_S1x1x8x2x128_1_10_0_0_0) (ldw m X 1 11 inb_S4x16x8x2x128_S1x1x8x2x128_1_11_0_0_0) (ldw m X 1 12 inb_S4x16x8x2x128_S1x1x8x2x128_1_12_0_0_0) (ldw m X 1 13 inb_S4x16x8x2x128_S1x1x8x2x128_1_13_0_0_0) (ldw m X 1 14 inb_S4x16x8x2x128_S1x1x8x2x128_1_14_0_0_0) (ldw m X 1 15 inb_S4x16x8x2x128_S1x1x8x2x128_1_15_0_0_0)⟩,
    ⟨Rect.unit (s := S4x2x16x128) ![1, 0, 8, 0] S1x1x8x128.size inb_S4x2x16x128_S1x1x8x128_1_0_8_0, pl_1_0_8 lanes8 (ldw m X 1 8 inb_S4x16x8x2x128_S1x1x8x2x128_1_8_0_0_0) (ldw m X 1 9 inb_S4x16x8x2x128_S1x1x8x2x128_1_9_0_0_0) (ldw m X 1 10 inb_S4x16x8x2x128_S1x1x8x2x128_1_10_0_0_0) (ldw m X 1 11 inb_S4x16x8x2x128_S1x1x8x2x128_1_11_0_0_0) (ldw m X 1 12 inb_S4x16x8x2x128_S1x1x8x2x128_1_12_0_0_0) (ldw m X 1 13 inb_S4x16x8x2x128_S1x1x8x2x128_1_13_0_0_0) (ldw m X 1 14 inb_S4x16x8x2x128_S1x1x8x2x128_1_14_0_0_0) (ldw m X 1 15 inb_S4x16x8x2x128_S1x1x8x2x128_1_15_0_0_0)⟩,
    ⟨Rect.unit (s := S4x2x16x128) ![1, 1, 0, 0] S1x1x8x128.size inb_S4x2x16x128_S1x1x8x128_1_1_0_0, pl_1_1_0 lanes8 (ldw m X 1 0 inb_S4x16x8x2x128_S1x1x8x2x128_1_0_0_0_0) (ldw m X 1 1 inb_S4x16x8x2x128_S1x1x8x2x128_1_1_0_0_0) (ldw m X 1 2 inb_S4x16x8x2x128_S1x1x8x2x128_1_2_0_0_0) (ldw m X 1 3 inb_S4x16x8x2x128_S1x1x8x2x128_1_3_0_0_0) (ldw m X 1 4 inb_S4x16x8x2x128_S1x1x8x2x128_1_4_0_0_0) (ldw m X 1 5 inb_S4x16x8x2x128_S1x1x8x2x128_1_5_0_0_0) (ldw m X 1 6 inb_S4x16x8x2x128_S1x1x8x2x128_1_6_0_0_0) (ldw m X 1 7 inb_S4x16x8x2x128_S1x1x8x2x128_1_7_0_0_0)⟩,
    ⟨Rect.unit (s := S4x2x16x128) ![1, 0, 0, 0] S1x1x8x128.size inb_S4x2x16x128_S1x1x8x128_1_0_0_0, pl_1_0_0 lanes8 (ldw m X 1 0 inb_S4x16x8x2x128_S1x1x8x2x128_1_0_0_0_0) (ldw m X 1 1 inb_S4x16x8x2x128_S1x1x8x2x128_1_1_0_0_0) (ldw m X 1 2 inb_S4x16x8x2x128_S1x1x8x2x128_1_2_0_0_0) (ldw m X 1 3 inb_S4x16x8x2x128_S1x1x8x2x128_1_3_0_0_0) (ldw m X 1 4 inb_S4x16x8x2x128_S1x1x8x2x128_1_4_0_0_0) (ldw m X 1 5 inb_S4x16x8x2x128_S1x1x8x2x128_1_5_0_0_0) (ldw m X 1 6 inb_S4x16x8x2x128_S1x1x8x2x128_1_6_0_0_0) (ldw m X 1 7 inb_S4x16x8x2x128_S1x1x8x2x128_1_7_0_0_0)⟩,
    ⟨Rect.unit (s := S4x2x16x128) ![0, 1, 8, 0] S1x1x8x128.size inb_S4x2x16x128_S1x1x8x128_0_1_8_0, pl_0_1_8 lanes8 (ldw m X 0 8 inb_S4x16x8x2x128_S1x1x8x2x128_0_8_0_0_0) (ldw m X 0 9 inb_S4x16x8x2x128_S1x1x8x2x128_0_9_0_0_0) (ldw m X 0 10 inb_S4x16x8x2x128_S1x1x8x2x128_0_10_0_0_0) (ldw m X 0 11 inb_S4x16x8x2x128_S1x1x8x2x128_0_11_0_0_0) (ldw m X 0 12 inb_S4x16x8x2x128_S1x1x8x2x128_0_12_0_0_0) (ldw m X 0 13 inb_S4x16x8x2x128_S1x1x8x2x128_0_13_0_0_0) (ldw m X 0 14 inb_S4x16x8x2x128_S1x1x8x2x128_0_14_0_0_0) (ldw m X 0 15 inb_S4x16x8x2x128_S1x1x8x2x128_0_15_0_0_0)⟩,
    ⟨Rect.unit (s := S4x2x16x128) ![0, 0, 8, 0] S1x1x8x128.size inb_S4x2x16x128_S1x1x8x128_0_0_8_0, pl_0_0_8 lanes8 (ldw m X 0 8 inb_S4x16x8x2x128_S1x1x8x2x128_0_8_0_0_0) (ldw m X 0 9 inb_S4x16x8x2x128_S1x1x8x2x128_0_9_0_0_0) (ldw m X 0 10 inb_S4x16x8x2x128_S1x1x8x2x128_0_10_0_0_0) (ldw m X 0 11 inb_S4x16x8x2x128_S1x1x8x2x128_0_11_0_0_0) (ldw m X 0 12 inb_S4x16x8x2x128_S1x1x8x2x128_0_12_0_0_0) (ldw m X 0 13 inb_S4x16x8x2x128_S1x1x8x2x128_0_13_0_0_0) (ldw m X 0 14 inb_S4x16x8x2x128_S1x1x8x2x128_0_14_0_0_0) (ldw m X 0 15 inb_S4x16x8x2x128_S1x1x8x2x128_0_15_0_0_0)⟩,
    ⟨Rect.unit (s := S4x2x16x128) ![0, 1, 0, 0] S1x1x8x128.size inb_S4x2x16x128_S1x1x8x128_0_1_0_0, pl_0_1_0 lanes8 (ldw m X 0 0 inb_S4x16x8x2x128_S1x1x8x2x128_0_0_0_0_0) (ldw m X 0 1 inb_S4x16x8x2x128_S1x1x8x2x128_0_1_0_0_0) (ldw m X 0 2 inb_S4x16x8x2x128_S1x1x8x2x128_0_2_0_0_0) (ldw m X 0 3 inb_S4x16x8x2x128_S1x1x8x2x128_0_3_0_0_0) (ldw m X 0 4 inb_S4x16x8x2x128_S1x1x8x2x128_0_4_0_0_0) (ldw m X 0 5 inb_S4x16x8x2x128_S1x1x8x2x128_0_5_0_0_0) (ldw m X 0 6 inb_S4x16x8x2x128_S1x1x8x2x128_0_6_0_0_0) (ldw m X 0 7 inb_S4x16x8x2x128_S1x1x8x2x128_0_7_0_0_0)⟩,
    ⟨Rect.unit (s := S4x2x16x128) ![0, 0, 0, 0] S1x1x8x128.size inb_S4x2x16x128_S1x1x8x128_0_0_0_0, pl_0_0_0 lanes8 (ldw m X 0 0 inb_S4x16x8x2x128_S1x1x8x2x128_0_0_0_0_0) (ldw m X 0 1 inb_S4x16x8x2x128_S1x1x8x2x128_0_1_0_0_0) (ldw m X 0 2 inb_S4x16x8x2x128_S1x1x8x2x128_0_2_0_0_0) (ldw m X 0 3 inb_S4x16x8x2x128_S1x1x8x2x128_0_3_0_0_0) (ldw m X 0 4 inb_S4x16x8x2x128_S1x1x8x2x128_0_4_0_0_0) (ldw m X 0 5 inb_S4x16x8x2x128_S1x1x8x2x128_0_5_0_0_0) (ldw m X 0 6 inb_S4x16x8x2x128_S1x1x8x2x128_0_6_0_0_0) (ldw m X 0 7 inb_S4x16x8x2x128_S1x1x8x2x128_0_7_0_0_0)⟩]

end Cert.KernelIdeal.Gen

end
-- ==== Proof.KernelIdeal.Code.lean ====
/- The scales of the columns' groups, read entry by entry from the sixteen pieces that make them up. -/
module

public import proofs.«01_k».proof.Proof.KernelIdeal.Base
public import proofs.«01_k».proof.Proof.KernelIdeal.Inv
public import proofs.«01_k».proof.Proof.KernelIdeal.TripD
public import Idealize.ShloMosaic.Lib.Writes

@[expose] public section

set_option maxRecDepth 16384

noncomputable section

namespace Cert.KernelIdeal.Gen

open Idealize.ShloMosaic hiding ix2 ix3 ix4 ix5 maximumf_apply extf_apply
open Idealize.ShloMosaic.TcCoe Idealize.ShloMosaic.Pipeline Idealize.ShloMosaic.ValueIdx

/-- The largest word of a column of thirty-two rows. -/
def colMax (g : ℕ → ℕ → EReal) (A b : ℕ) : EReal := Finset.univ.sup fun u : Fin 8 => w4 g (32 * A + u.val) b
/-- The scale of a column of thirty-two rows. -/
def scaleAt (g : ℕ → ℕ → EReal) (A b : ℕ) : EReal := Ideal.ofBits .f32 (Scale.invS (Scale.fieldS (colMax g A b)))

theorem lanes8_apply (s : Fin 8) (l : Fin 128) : lanes8 (ix2 s l) = BitVec.ofNat 32 s.val := iota_single_apply .tc S8x128 32 0 iota_S8x128_d0_w32 (ix2 s l)

section Read
variable (g : ℕ → ℕ → EReal) (m : Memref sig .tc .vmem S4x16x8x2x128 .bf16) (X : m.view.ty.Contents (Elt Ideal))
    (hX : ∀ (b : Fin 4) (k : Fin 16) (s : Fin 8) (t : Fin 2) (l : Fin 128), m.view.read (Elt Ideal) X (ix5 b k s t l) = w4 g (32 * b.val + s.val) (256 * k.val + (128 * t.val + l.val)))
include hX

theorem ldw_apply (b k : ℕ) (inb) (s : Fin 8) (t : Fin 2) (l : Fin 128) :
    ldw m X b k inb (ix5 (0 : Fin 1) (0 : Fin 1) s t l) = w4 g (32 * b + s.val) (256 * k + (128 * t.val + l.val)) := by
  have h0 : b + 1 ≤ 4 := inb 0
  have h1 : k + 1 ≤ 16 := inb 1
  rw [← hX ⟨b, by omega⟩ ⟨k, by omega⟩ s t l]
  unfold ldw
  rw [View.readAt_eq_ld]
  refine congrArg (m.view.read (Elt Ideal) X) (funext fun a => Fin.ext ?_)
  match a with
  | ⟨0, _⟩ => show b + 1 * 0 = b; omega
  | ⟨1, _⟩ => show k + 1 * 0 = k; omega
  | ⟨2, _⟩ => show 0 + 1 * s.val = s.val; omega
  | ⟨3, _⟩ => show 0 + 1 * t.val = t.val; omega
  | ⟨4, _⟩ => show 0 + 1 * l.val = l.val; omega

omit hX in
theorem scale_piece (b k : ℕ) (W : Fin 8 → Vec Ideal S1x1x8x2x128 .bf16)
    (hW : ∀ (j u : Fin 8) (t : Fin 2) (l : Fin 128), W j (ix5 (0 : Fin 1) (0 : Fin 1) u t l) = w4 g (32 * b + u.val) (256 * (k + j.val) + (128 * t.val + l.val)))
    (t : Fin 2) (s : Fin 8) (l : Fin 128) (h1 h2) :
    shapeCast S1x1x8x128 (invV (extf .f32 (tour lanes8 (half t (W 0)) (half t (W 1)) (half t (W 2)) (half t (W 3)) (half t (W 4)) (half t (W 5)) (half t (W 6)) (half t (W 7))) h1)) h2 (ix4 (0 : Fin 1) (0 : Fin 1) s l)
      = scaleAt g b (256 * (k + s.val) + (128 * t.val + l.val)) := by
  rw [cast_11, invV_apply]
  unfold scaleAt colMax
  have e : (extf .f32 (tour lanes8 (half t (W 0)) (half t (W 1)) (half t (W 2)) (half t (W 3)) (half t (W 4)) (half t (W 5)) (half t (W 6)) (half t (W 7))) h1 : FVec Ideal S8x128 .f32) (ix2 s l)
      = Finset.univ.sup fun u : Fin 8 => w4 g (32 * b + u.val) (256 * (k + s.val) + (128 * t.val + l.val)) := by
    refine (tour_apply lanes8 lanes8_apply (fun j => half t (W j)) s l).trans ?_
    refine Finset.sup_congr rfl fun u _ => ?_
    rw [half_apply, hW]
  rw [e]

theorem words8 (b k : ℕ) (i0 i1 i2 i3 i4 i5 i6 i7) (j u : Fin 8) (t : Fin 2) (l : Fin 128) :
    (![ldw m X b (k + 0) i0, ldw m X b (k + 1) i1, ldw m X b (k + 2) i2, ldw m X b (k + 3) i3, ldw m X b (k + 4) i4, ldw m X b (k + 5) i5, ldw m X b (k + 6) i6, ldw m X b (k + 7) i7] : Fin 8 → Vec Ideal S1x1x8x2x128 .bf16) j (ix5 (0 : Fin 1) (0 : Fin 1) u t l)
      = w4 g (32 * b + u.val) (256 * (k + j.val) + (128 * t.val + l.val)) := by
  fin_cases j <;> exact ldw_apply g m X hX _ _ _ u t l

theorem scale8 (b k : ℕ) (k0 k1 k2 k3 k4 k5 k6 k7 : ℕ) (e0 : k + 0 = k0) (e1 : k + 1 = k1) (e2 : k + 2 = k2) (e3 : k + 3 = k3) (e4 : k + 4 = k4) (e5 : k + 5 = k5) (e6 : k + 6 = k6) (e7 : k + 7 = k7) (i0 i1 i2 i3 i4 i5 i6 i7) (t : Fin 2) (s : Fin 8) (l : Fin 128) (h1 h2) :
    shapeCast S1x1x8x128 (invV (extf .f32 (tour lanes8 (half t (ldw m X b k0 i0)) (half t (ldw m X b k1 i1)) (half t (ldw m X b k2 i2)) (half t (ldw m X b k3 i3)) (half t (ldw m X b k4 i4)) (half t (ldw m X b k5 i5)) (half t (ldw m X b k6 i6)) (half t (ldw m X b k7 i7))) h1)) h2 (ix4 (0 : Fin 1) (0 : Fin 1) s l)
      = scaleAt g b (256 * (k + s.val) + (128 * t.val + l.val)) := by
  subst e0 e1 e2 e3 e4 e5 e6 e7
  exact scale_piece g b k _ (words8 g m X hX b k i0 i1 i2 i3 i4 i5 i6 i7) t s l h1 h2

theorem piece_0_0_0 (s : Fin 8) (l : Fin 128) : pl_0_0_0 lanes8 (ldw m X 0 0 inb_S4x16x8x2x128_S1x1x8x2x128_0_0_0_0_0) (ldw m X 0 1 inb_S4x16x8x2x128_S1x1x8x2x128_0_1_0_0_0) (ldw m X 0 2 inb_S4x16x8x2x128_S1x1x8x2x128_0_2_0_0_0) (ldw m X 0 3 inb_S4x16x8x2x128_S1x1x8x2x128_0_3_0_0_0) (ldw m X 0 4 inb_S4x16x8x2x128_S1x1x8x2x128_0_4_0_0_0) (ldw m X 0 5 inb_S4x16x8x2x128_S1x1x8x2x128_0_5_0_0_0) (ldw m X 0 6 inb_S4x16x8x2x128_S1x1x8x2x128_0_6_0_0_0) (ldw m X 0 7 inb_S4x16x8x2x128_S1x1x8x2x128_0_7_0_0_0) (ix4 (0 : Fin 1) (0 : Fin 1) s l) = scaleAt g 0 (256 * (0 + s.val) + (128 * 0 + l.val)) :=
  (congrFun (inv_0_0_0 lanes8 _ _ _ _ _ _ _ _) _).trans (scale8 g m X hX 0 0 0 1 2 3 4 5 6 7 rfl rfl rfl rfl rfl rfl rfl rfl _ _ _ _ _ _ _ _ 0 s l _ _)
theorem piece_0_0_8 (s : Fin 8) (l : Fin 128) : pl_0_0_8 lanes8 (ldw m X 0 8 inb_S4x16x8x2x128_S1x1x8x2x128_0_8_0_0_0) (ldw m X 0 9 inb_S4x16x8x2x128_S1x1x8x2x128_0_9_0_0_0) (ldw m X 0 10 inb_S4x16x8x2x128_S1x1x8x2x128_0_10_0_0_0) (ldw m X 0 11 inb_S4x16x8x2x128_S1x1x8x2x128_0_11_0_0_0) (ldw m X 0 12 inb_S4x16x8x2x128_S1x1x8x2x128_0_12_0_0_0) (ldw m X 0 13 inb_S4x16x8x2x128_S1x1x8x2x128_0_13_0_0_0) (ldw m X 0 14 inb_S4x16x8x2x128_S1x1x8x2x128_0_14_0_0_0) (ldw m X 0 15 inb_S4x16x8x2x128_S1x1x8x2x128_0_15_0_0_0) (ix4 (0 : Fin 1) (0 : Fin 1) s l) = scaleAt g 0 (256 * (8 + s.val) + (128 * 0 + l.val)) :=
  (congrFun (inv_0_0_8 lanes8 _ _ _ _ _ _ _ _) _).trans (scale8 g m X hX 0 8 8 9 10 11 12 13 14 15 rfl rfl rfl rfl rfl rfl rfl rfl _ _ _ _ _ _ _ _ 0 s l _ _)
theorem piece_0_1_0 (s : Fin 8) (l : Fin 128) : pl_0_1_0 lanes8 (ldw m X 0 0 inb_S4x16x8x2x128_S1x1x8x2x128_0_0_0_0_0) (ldw m X 0 1 inb_S4x16x8x2x128_S1x1x8x2x128_0_1_0_0_0) (ldw m X 0 2 inb_S4x16x8x2x128_S1x1x8x2x128_0_2_0_0_0) (ldw m X 0 3 inb_S4x16x8x2x128_S1x1x8x2x128_0_3_0_0_0) (ldw m X 0 4 inb_S4x16x8x2x128_S1x1x8x2x128_0_4_0_0_0) (ldw m X 0 5 inb_S4x16x8x2x128_S1x1x8x2x128_0_5_0_0_0) (ldw m X 0 6 inb_S4x16x8x2x128_S1x1x8x2x128_0_6_0_0_0) (ldw m X 0 7 inb_S4x16x8x2x128_S1x1x8x2x128_0_7_0_0_0) (ix4 (0 : Fin 1) (0 : Fin 1) s l) = scaleAt g 0 (256 * (0 + s.val) + (128 * 1 + l.val)) :=
  (congrFun (inv_0_1_0 lanes8 _ _ _ _ _ _ _ _) _).trans (scale8 g m X hX 0 0 0 1 2 3 4 5 6 7 rfl rfl rfl rfl rfl rfl rfl rfl _ _ _ _ _ _ _ _ 1 s l _ _)
theorem piece_0_1_8 (s : Fin 8) (l : Fin 128) : pl_0_1_8 lanes8 (ldw m X 0 8 inb_S4x16x8x2x128_S1x1x8x2x128_0_8_0_0_0) (ldw m X 0 9 inb_S4x16x8x2x128_S1x1x8x2x128_0_9_0_0_0) (ldw m X 0 10 inb_S4x16x8x2x128_S1x1x8x2x128_0_10_0_0_0) (ldw m X 0 11 inb_S4x16x8x2x128_S1x1x8x2x128_0_11_0_0_0) (ldw m X 0 12 inb_S4x16x8x2x128_S1x1x8x2x128_0_12_0_0_0) (ldw m X 0 13 inb_S4x16x8x2x128_S1x1x8x2x128_0_13_0_0_0) (ldw m X 0 14 inb_S4x16x8x2x128_S1x1x8x2x128_0_14_0_0_0) (ldw m X 0 15 inb_S4x16x8x2x128_S1x1x8x2x128_0_15_0_0_0) (ix4 (0 : Fin 1) (0 : Fin 1) s l) = scaleAt g 0 (256 * (8 + s.val) + (128 * 1 + l.val)) :=
  (congrFun (inv_0_1_8 lanes8 _ _ _ _ _ _ _ _) _).trans (scale8 g m X hX 0 8 8 9 10 11 12 13 14 15 rfl rfl rfl rfl rfl rfl rfl rfl _ _ _ _ _ _ _ _ 1 s l _ _)
theorem piece_1_0_0 (s : Fin 8) (l : Fin 128) : pl_1_0_0 lanes8 (ldw m X 1 0 inb_S4x16x8x2x128_S1x1x8x2x128_1_0_0_0_0) (ldw m X 1 1 inb_S4x16x8x2x128_S1x1x8x2x128_1_1_0_0_0) (ldw m X 1 2 inb_S4x16x8x2x128_S1x1x8x2x128_1_2_0_0_0) (ldw m X 1 3 inb_S4x16x8x2x128_S1x1x8x2x128_1_3_0_0_0) (ldw m X 1 4 inb_S4x16x8x2x128_S1x1x8x2x128_1_4_0_0_0) (ldw m X 1 5 inb_S4x16x8x2x128_S1x1x8x2x128_1_5_0_0_0) (ldw m X 1 6 inb_S4x16x8x2x128_S1x1x8x2x128_1_6_0_0_0) (ldw m X 1 7 inb_S4x16x8x2x128_S1x1x8x2x128_1_7_0_0_0) (ix4 (0 : Fin 1) (0 : Fin 1) s l) = scaleAt g 1 (256 * (0 + s.val) + (128 * 0 + l.val)) :=
  (congrFun (inv_1_0_0 lanes8 _ _ _ _ _ _ _ _) _).trans (scale8 g m X hX 1 0 0 1 2 3 4 5 6 7 rfl rfl rfl rfl rfl rfl rfl rfl _ _ _ _ _ _ _ _ 0 s l _ _)
theorem piece_1_0_8 (s : Fin 8) (l : Fin 128) : pl_1_0_8 lanes8 (ldw m X 1 8 inb_S4x16x8x2x128_S1x1x8x2x128_1_8_0_0_0) (ldw m X 1 9 inb_S4x16x8x2x128_S1x1x8x2x128_1_9_0_0_0) (ldw m X 1 10 inb_S4x16x8x2x128_S1x1x8x2x128_1_10_0_0_0) (ldw m X 1 11 inb_S4x16x8x2x128_S1x1x8x2x128_1_11_0_0_0) (ldw m X 1 12 inb_S4x16x8x2x128_S1x1x8x2x128_1_12_0_0_0) (ldw m X 1 13 inb_S4x16x8x2x128_S1x1x8x2x128_1_13_0_0_0) (ldw m X 1 14 inb_S4x16x8x2x128_S1x1x8x2x128_1_14_0_0_0) (ldw m X 1 15 inb_S4x16x8x2x128_S1x1x8x2x128_1_15_0_0_0) (ix4 (0 : Fin 1) (0 : Fin 1) s l) = scaleAt g 1 (256 * (8 + s.val) + (128 * 0 + l.val)) :=
  (congrFun (inv_1_0_8 lanes8 _ _ _ _ _ _ _ _) _).trans (scale8 g m X hX 1 8 8 9 10 11 12 13 14 15 rfl rfl rfl rfl rfl rfl rfl rfl _ _ _ _ _ _ _ _ 0 s l _ _)
theorem piece_1_1_0 (s : Fin 8) (l : Fin 128) : pl_1_1_0 lanes8 (ldw m X 1 0 inb_S4x16x8x2x128_S1x1x8x2x128_1_0_0_0_0) (ldw m X 1 1 inb_S4x16x8x2x128_S1x1x8x2x128_1_1_0_0_0) (ldw m X 1 2 inb_S4x16x8x2x128_S1x1x8x2x128_1_2_0_0_0) (ldw m X 1 3 inb_S4x16x8x2x128_S1x1x8x2x128_1_3_0_0_0) (ldw m X 1 4 inb_S4x16x8x2x128_S1x1x8x2x128_1_4_0_0_0) (ldw m X 1 5 inb_S4x16x8x2x128_S1x1x8x2x128_1_5_0_0_0) (ldw m X 1 6 inb_S4x16x8x2x128_S1x1x8x2x128_1_6_0_0_0) (ldw m X 1 7 inb_S4x16x8x2x128_S1x1x8x2x128_1_7_0_0_0) (ix4 (0 : Fin 1) (0 : Fin 1) s l) = scaleAt g 1 (256 * (0 + s.val) + (128 * 1 + l.val)) :=
  (congrFun (inv_1_1_0 lanes8 _ _ _ _ _ _ _ _) _).trans (scale8 g m X hX 1 0 0 1 2 3 4 5 6 7 rfl rfl rfl rfl rfl rfl rfl rfl _ _ _ _ _ _ _ _ 1 s l _ _)
theorem piece_1_1_8 (s : Fin 8) (l : Fin 128) : pl_1_1_8 lanes8 (ldw m X 1 8 inb_S4x16x8x2x128_S1x1x8x2x128_1_8_0_0_0) (ldw m X 1 9 inb_S4x16x8x2x128_S1x1x8x2x128_1_9_0_0_0) (ldw m X 1 10 inb_S4x16x8x2x128_S1x1x8x2x128_1_10_0_0_0) (ldw m X 1 11 inb_S4x16x8x2x128_S1x1x8x2x128_1_11_0_0_0) (ldw m X 1 12 inb_S4x16x8x2x128_S1x1x8x2x128_1_12_0_0_0) (ldw m X 1 13 inb_S4x16x8x2x128_S1x1x8x2x128_1_13_0_0_0) (ldw m X 1 14 inb_S4x16x8x2x128_S1x1x8x2x128_1_14_0_0_0) (ldw m X 1 15 inb_S4x16x8x2x128_S1x1x8x2x128_1_15_0_0_0) (ix4 (0 : Fin 1) (0 : Fin 1) s l) = scaleAt g 1 (256 * (8 + s.val) + (128 * 1 + l.val)) :=
  (congrFun (inv_1_1_8 lanes8 _ _ _ _ _ _ _ _) _).trans (scale8 g m X hX 1 8 8 9 10 11 12 13 14 15 rfl rfl rfl rfl rfl rfl rfl rfl _ _ _ _ _ _ _ _ 1 s l _ _)
theorem piece_2_0_0 (s : Fin 8) (l : Fin 128) : pl_2_0_0 lanes8 (ldw m X 2 0 inb_S4x16x8x2x128_S1x1x8x2x128_2_0_0_0_0) (ldw m X 2 1 inb_S4x16x8x2x128_S1x1x8x2x128_2_1_0_0_0) (ldw m X 2 2 inb_S4x16x8x2x128_S1x1x8x2x128_2_2_0_0_0) (ldw m X 2 3 inb_S4x16x8x2x128_S1x1x8x2x128_2_3_0_0_0) (ldw m X 2 4 inb_S4x16x8x2x128_S1x1x8x2x128_2_4_0_0_0) (ldw m X 2 5 inb_S4x16x8x2x128_S1x1x8x2x128_2_5_0_0_0) (ldw m X 2 6 inb_S4x16x8x2x128_S1x1x8x2x128_2_6_0_0_0) (ldw m X 2 7 inb_S4x16x8x2x128_S1x1x8x2x128_2_7_0_0_0) (ix4 (0 : Fin 1) (0 : Fin 1) s l) = scaleAt g 2 (256 * (0 + s.val) + (128 * 0 + l.val)) :=
  (congrFun (inv_2_0_0 lanes8 _ _ _ _ _ _ _ _) _).trans (scale8 g m X hX 2 0 0 1 2 3 4 5 6 7 rfl rfl rfl rfl rfl rfl rfl rfl _ _ _ _ _ _ _ _ 0 s l _ _)
theorem piece_2_0_8 (s : Fin 8) (l : Fin 128) : pl_2_0_8 lanes8 (ldw m X 2 8 inb_S4x16x8x2x128_S1x1x8x2x128_2_8_0_0_0) (ldw m X 2 9 inb_S4x16x8x2x128_S1x1x8x2x128_2_9_0_0_0) (ldw m X 2 10 inb_S4x16x8x2x128_S1x1x8x2x128_2_10_0_0_0) (ldw m X 2 11 inb_S4x16x8x2x128_S1x1x8x2x128_2_11_0_0_0) (ldw m X 2 12 inb_S4x16x8x2x128_S1x1x8x2x128_2_12_0_0_0) (ldw m X 2 13 inb_S4x16x8x2x128_S1x1x8x2x128_2_13_0_0_0) (ldw m X 2 14 inb_S4x16x8x2x128_S1x1x8x2x128_2_14_0_0_0) (ldw m X 2 15 inb_S4x16x8x2x128_S1x1x8x2x128_2_15_0_0_0) (ix4 (0 : Fin 1) (0 : Fin 1) s l) = scaleAt g 2 (256 * (8 + s.val) + (128 * 0 + l.val)) :=
  (congrFun (inv_2_0_8 lanes8 _ _ _ _ _ _ _ _) _).trans (scale8 g m X hX 2 8 8 9 10 11 12 13 14 15 rfl rfl rfl rfl rfl rfl rfl rfl _ _ _ _ _ _ _ _ 0 s l _ _)
theorem piece_2_1_0 (s : Fin 8) (l : Fin 128) : pl_2_1_0 lanes8 (ldw m X 2 0 inb_S4x16x8x2x128_S1x1x8x2x128_2_0_0_0_0) (ldw m X 2 1 inb_S4x16x8x2x128_S1x1x8x2x128_2_1_0_0_0) (ldw m X 2 2 inb_S4x16x8x2x128_S1x1x8x2x128_2_2_0_0_0) (ldw m X 2 3 inb_S4x16x8x2x128_S1x1x8x2x128_2_3_0_0_0) (ldw m X 2 4 inb_S4x16x8x2x128_S1x1x8x2x128_2_4_0_0_0) (ldw m X 2 5 inb_S4x16x8x2x128_S1x1x8x2x128_2_5_0_0_0) (ldw m X 2 6 inb_S4x16x8x2x128_S1x1x8x2x128_2_6_0_0_0) (ldw m X 2 7 inb_S4x16x8x2x128_S1x1x8x2x128_2_7_0_0_0) (ix4 (0 : Fin 1) (0 : Fin 1) s l) = scaleAt g 2 (256 * (0 + s.val) + (128 * 1 + l.val)) :=
  (congrFun (inv_2_1_0 lanes8 _ _ _ _ _ _ _ _) _).trans (scale8 g m X hX 2 0 0 1 2 3 4 5 6 7 rfl rfl rfl rfl rfl rfl rfl rfl _ _ _ _ _ _ _ _ 1 s l _ _)
theorem piece_2_1_8 (s : Fin 8) (l : Fin 128) : pl_2_1_8 lanes8 (ldw m X 2 8 inb_S4x16x8x2x128_S1x1x8x2x128_2_8_0_0_0) (ldw m X 2 9 inb_S4x16x8x2x128_S1x1x8x2x128_2_9_0_0_0) (ldw m X 2 10 inb_S4x16x8x2x128_S1x1x8x2x128_2_10_0_0_0) (ldw m X 2 11 inb_S4x16x8x2x128_S1x1x8x2x128_2_11_0_0_0) (ldw m X 2 12 inb_S4x16x8x2x128_S1x1x8x2x128_2_12_0_0_0) (ldw m X 2 13 inb_S4x16x8x2x128_S1x1x8x2x128_2_13_0_0_0) (ldw m X 2 14 inb_S4x16x8x2x128_S1x1x8x2x128_2_14_0_0_0) (ldw m X 2 15 inb_S4x16x8x2x128_S1x1x8x2x128_2_15_0_0_0) (ix4 (0 : Fin 1) (0 : Fin 1) s l) = scaleAt g 2 (256 * (8 + s.val) + (128 * 1 + l.val)) :=
  (congrFun (inv_2_1_8 lanes8 _ _ _ _ _ _ _ _) _).trans (scale8 g m X hX 2 8 8 9 10 11 12 13 14 15 rfl rfl rfl rfl rfl rfl rfl rfl _ _ _ _ _ _ _ _ 1 s l _ _)
theorem piece_3_0_0 (s : Fin 8) (l : Fin 128) : pl_3_0_0 lanes8 (ldw m X 3 0 inb_S4x16x8x2x128_S1x1x8x2x128_3_0_0_0_0) (ldw m X 3 1 inb_S4x16x8x2x128_S1x1x8x2x128_3_1_0_0_0) (ldw m X 3 2 inb_S4x16x8x2x128_S1x1x8x2x128_3_2_0_0_0) (ldw m X 3 3 inb_S4x16x8x2x128_S1x1x8x2x128_3_3_0_0_0) (ldw m X 3 4 inb_S4x16x8x2x128_S1x1x8x2x128_3_4_0_0_0) (ldw m X 3 5 inb_S4x16x8x2x128_S1x1x8x2x128_3_5_0_0_0) (ldw m X 3 6 inb_S4x16x8x2x128_S1x1x8x2x128_3_6_0_0_0) (ldw m X 3 7 inb_S4x16x8x2x128_S1x1x8x2x128_3_7_0_0_0) (ix4 (0 : Fin 1) (0 : Fin 1) s l) = scaleAt g 3 (256 * (0 + s.val) + (128 * 0 + l.val)) :=
  (congrFun (inv_3_0_0 lanes8 _ _ _ _ _ _ _ _) _).trans (scale8 g m X hX 3 0 0 1 2 3 4 5 6 7 rfl rfl rfl rfl rfl rfl rfl rfl _ _ _ _ _ _ _ _ 0 s l _ _)
theorem piece_3_0_8 (s : Fin 8) (l : Fin 128) : pl_3_0_8 lanes8 (ldw m X 3 8 inb_S4x16x8x2x128_S1x1x8x2x128_3_8_0_0_0) (ldw m X 3 9 inb_S4x16x8x2x128_S1x1x8x2x128_3_9_0_0_0) (ldw m X 3 10 inb_S4x16x8x2x128_S1x1x8x2x128_3_10_0_0_0) (ldw m X 3 11 inb_S4x16x8x2x128_S1x1x8x2x128_3_11_0_0_0) (ldw m X 3 12 inb_S4x16x8x2x128_S1x1x8x2x128_3_12_0_0_0) (ldw m X 3 13 inb_S4x16x8x2x128_S1x1x8x2x128_3_13_0_0_0) (ldw m X 3 14 inb_S4x16x8x2x128_S1x1x8x2x128_3_14_0_0_0) (ldw m X 3 15 inb_S4x16x8x2x128_S1x1x8x2x128_3_15_0_0_0) (ix4 (0 : Fin 1) (0 : Fin 1) s l) = scaleAt g 3 (256 * (8 + s.val) + (128 * 0 + l.val)) :=
  (congrFun (inv_3_0_8 lanes8 _ _ _ _ _ _ _ _) _).trans (scale8 g m X hX 3 8 8 9 10 11 12 13 14 15 rfl rfl rfl rfl rfl rfl rfl rfl _ _ _ _ _ _ _ _ 0 s l _ _)
theorem piece_3_1_0 (s : Fin 8) (l : Fin 128) : pl_3_1_0 lanes8 (ldw m X 3 0 inb_S4x16x8x2x128_S1x1x8x2x128_3_0_0_0_0) (ldw m X 3 1 inb_S4x16x8x2x128_S1x1x8x2x128_3_1_0_0_0) (ldw m X 3 2 inb_S4x16x8x2x128_S1x1x8x2x128_3_2_0_0_0) (ldw m X 3 3 inb_S4x16x8x2x128_S1x1x8x2x128_3_3_0_0_0) (ldw m X 3 4 inb_S4x16x8x2x128_S1x1x8x2x128_3_4_0_0_0) (ldw m X 3 5 inb_S4x16x8x2x128_S1x1x8x2x128_3_5_0_0_0) (ldw m X 3 6 inb_S4x16x8x2x128_S1x1x8x2x128_3_6_0_0_0) (ldw m X 3 7 inb_S4x16x8x2x128_S1x1x8x2x128_3_7_0_0_0) (ix4 (0 : Fin 1) (0 : Fin 1) s l) = scaleAt g 3 (256 * (0 + s.val) + (128 * 1 + l.val)) :=
  (congrFun (inv_3_1_0 lanes8 _ _ _ _ _ _ _ _) _).trans (scale8 g m X hX 3 0 0 1 2 3 4 5 6 7 rfl rfl rfl rfl rfl rfl rfl rfl _ _ _ _ _ _ _ _ 1 s l _ _)
theorem piece_3_1_8 (s : Fin 8) (l : Fin 128) : pl_3_1_8 lanes8 (ldw m X 3 8 inb_S4x16x8x2x128_S1x1x8x2x128_3_8_0_0_0) (ldw m X 3 9 inb_S4x16x8x2x128_S1x1x8x2x128_3_9_0_0_0) (ldw m X 3 10 inb_S4x16x8x2x128_S1x1x8x2x128_3_10_0_0_0) (ldw m X 3 11 inb_S4x16x8x2x128_S1x1x8x2x128_3_11_0_0_0) (ldw m X 3 12 inb_S4x16x8x2x128_S1x1x8x2x128_3_12_0_0_0) (ldw m X 3 13 inb_S4x16x8x2x128_S1x1x8x2x128_3_13_0_0_0) (ldw m X 3 14 inb_S4x16x8x2x128_S1x1x8x2x128_3_14_0_0_0) (ldw m X 3 15 inb_S4x16x8x2x128_S1x1x8x2x128_3_15_0_0_0) (ix4 (0 : Fin 1) (0 : Fin 1) s l) = scaleAt g 3 (256 * (8 + s.val) + (128 * 1 + l.val)) :=
  (congrFun (inv_3_1_8 lanes8 _ _ _ _ _ _ _ _) _).trans (scale8 g m X hX 3 8 8 9 10 11 12 13 14 15 rfl rfl rfl rfl rfl rfl rfl rfl _ _ _ _ _ _ _ _ 1 s l _ _)

set_option maxHeartbeats 4000000 in
/-- Every piece of the scales holds the scales of its place. -/
theorem invL_pieces : ∀ p ∈ invL m X, ∀ y, p.2 y = scaleAt g (p.1.emb y 0).val (256 * (p.1.emb y 2).val + (128 * (p.1.emb y 1).val + (p.1.emb y 3).val)) := by
  intro p hp
  unfold invL at hp
  simp only [List.mem_cons, List.not_mem_nil, or_false] at hp
  rcases hp with rfl | rfl | rfl | rfl | rfl | rfl | rfl | rfl | rfl | rfl | rfl | rfl | rfl | rfl | rfl | rfl
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_3_1_8 g m X hX s l).trans ?_
    show scaleAt g 3 (256 * (8 + s.val) + (128 * 1 + l.val)) = scaleAt g (3 + 1 * 0) (256 * (8 + 1 * s.val) + (128 * (1 + 1 * 0) + (0 + 1 * l.val)))
    simp only [Nat.mul_zero, Nat.one_mul, Nat.add_zero, Nat.zero_add]
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_3_0_8 g m X hX s l).trans ?_
    show scaleAt g 3 (256 * (8 + s.val) + (128 * 0 + l.val)) = scaleAt g (3 + 1 * 0) (256 * (8 + 1 * s.val) + (128 * (0 + 1 * 0) + (0 + 1 * l.val)))
    simp only [Nat.mul_zero, Nat.one_mul, Nat.add_zero, Nat.zero_add]
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_3_1_0 g m X hX s l).trans ?_
    show scaleAt g 3 (256 * (0 + s.val) + (128 * 1 + l.val)) = scaleAt g (3 + 1 * 0) (256 * (0 + 1 * s.val) + (128 * (1 + 1 * 0) + (0 + 1 * l.val)))
    simp only [Nat.mul_zero, Nat.one_mul, Nat.add_zero, Nat.zero_add]
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_3_0_0 g m X hX s l).trans ?_
    show scaleAt g 3 (256 * (0 + s.val) + (128 * 0 + l.val)) = scaleAt g (3 + 1 * 0) (256 * (0 + 1 * s.val) + (128 * (0 + 1 * 0) + (0 + 1 * l.val)))
    simp only [Nat.mul_zero, Nat.one_mul, Nat.add_zero, Nat.zero_add]
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_2_1_8 g m X hX s l).trans ?_
    show scaleAt g 2 (256 * (8 + s.val) + (128 * 1 + l.val)) = scaleAt g (2 + 1 * 0) (256 * (8 + 1 * s.val) + (128 * (1 + 1 * 0) + (0 + 1 * l.val)))
    simp only [Nat.mul_zero, Nat.one_mul, Nat.add_zero, Nat.zero_add]
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_2_0_8 g m X hX s l).trans ?_
    show scaleAt g 2 (256 * (8 + s.val) + (128 * 0 + l.val)) = scaleAt g (2 + 1 * 0) (256 * (8 + 1 * s.val) + (128 * (0 + 1 * 0) + (0 + 1 * l.val)))
    simp only [Nat.mul_zero, Nat.one_mul, Nat.add_zero, Nat.zero_add]
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_2_1_0 g m X hX s l).trans ?_
    show scaleAt g 2 (256 * (0 + s.val) + (128 * 1 + l.val)) = scaleAt g (2 + 1 * 0) (256 * (0 + 1 * s.val) + (128 * (1 + 1 * 0) + (0 + 1 * l.val)))
    simp only [Nat.mul_zero, Nat.one_mul, Nat.add_zero, Nat.zero_add]
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_2_0_0 g m X hX s l).trans ?_
    show scaleAt g 2 (256 * (0 + s.val) + (128 * 0 + l.val)) = scaleAt g (2 + 1 * 0) (256 * (0 + 1 * s.val) + (128 * (0 + 1 * 0) + (0 + 1 * l.val)))
    simp only [Nat.mul_zero, Nat.one_mul, Nat.add_zero, Nat.zero_add]
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_1_1_8 g m X hX s l).trans ?_
    show scaleAt g 1 (256 * (8 + s.val) + (128 * 1 + l.val)) = scaleAt g (1 + 1 * 0) (256 * (8 + 1 * s.val) + (128 * (1 + 1 * 0) + (0 + 1 * l.val)))
    simp only [Nat.mul_zero, Nat.one_mul, Nat.add_zero, Nat.zero_add]
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_1_0_8 g m X hX s l).trans ?_
    show scaleAt g 1 (256 * (8 + s.val) + (128 * 0 + l.val)) = scaleAt g (1 + 1 * 0) (256 * (8 + 1 * s.val) + (128 * (0 + 1 * 0) + (0 + 1 * l.val)))
    simp only [Nat.mul_zero, Nat.one_mul, Nat.add_zero, Nat.zero_add]
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_1_1_0 g m X hX s l).trans ?_
    show scaleAt g 1 (256 * (0 + s.val) + (128 * 1 + l.val)) = scaleAt g (1 + 1 * 0) (256 * (0 + 1 * s.val) + (128 * (1 + 1 * 0) + (0 + 1 * l.val)))
    simp only [Nat.mul_zero, Nat.one_mul, Nat.add_zero, Nat.zero_add]
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_1_0_0 g m X hX s l).trans ?_
    show scaleAt g 1 (256 * (0 + s.val) + (128 * 0 + l.val)) = scaleAt g (1 + 1 * 0) (256 * (0 + 1 * s.val) + (128 * (0 + 1 * 0) + (0 + 1 * l.val)))
    simp only [Nat.mul_zero, Nat.one_mul, Nat.add_zero, Nat.zero_add]
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_0_1_8 g m X hX s l).trans ?_
    show scaleAt g 0 (256 * (8 + s.val) + (128 * 1 + l.val)) = scaleAt g (0 + 1 * 0) (256 * (8 + 1 * s.val) + (128 * (1 + 1 * 0) + (0 + 1 * l.val)))
    simp only [Nat.mul_zero, Nat.one_mul, Nat.add_zero, Nat.zero_add]
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_0_0_8 g m X hX s l).trans ?_
    show scaleAt g 0 (256 * (8 + s.val) + (128 * 0 + l.val)) = scaleAt g (0 + 1 * 0) (256 * (8 + 1 * s.val) + (128 * (0 + 1 * 0) + (0 + 1 * l.val)))
    simp only [Nat.mul_zero, Nat.one_mul, Nat.add_zero, Nat.zero_add]
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_0_1_0 g m X hX s l).trans ?_
    show scaleAt g 0 (256 * (0 + s.val) + (128 * 1 + l.val)) = scaleAt g (0 + 1 * 0) (256 * (0 + 1 * s.val) + (128 * (1 + 1 * 0) + (0 + 1 * l.val)))
    simp only [Nat.mul_zero, Nat.one_mul, Nat.add_zero, Nat.zero_add]
  · intro y
    obtain ⟨u, v, s, l, rfl⟩ : ∃ (u : Fin 1) (v : Fin 1) (s : Fin 8) (l : Fin 128), y = ix4 u v s l := ⟨y 0, y 1, y 2, y 3, ValueIdx.eq_ix4 y⟩
    obtain rfl : u = 0 := Subsingleton.elim _ _
    obtain rfl : v = 0 := Subsingleton.elim _ _
    refine (piece_0_0_0 g m X hX s l).trans ?_
    show scaleAt g 0 (256 * (0 + s.val) + (128 * 0 + l.val)) = scaleAt g (0 + 1 * 0) (256 * (0 + 1 * s.val) + (128 * (0 + 1 * 0) + (0 + 1 * l.val)))
    simp only [Nat.mul_zero, Nat.one_mul, Nat.add_zero, Nat.zero_add]

omit hX in
theorem mem_scales {b t k : ℕ} (inb : ∀ a, (![b, t, k, 0] : Fin 4 → ℕ) a + S1x1x8x128.size a ≤ S4x2x16x128.size a) (y : S4x2x16x128.Idx)
    (h0 : (y 0).val = b) (h1 : (y 1).val = t) (h2 : k ≤ (y 2).val ∧ (y 2).val < k + 8) : y ∈ (Rect.unit (s := S4x2x16x128) ![b, t, k, 0] S1x1x8x128.size inb).set := by
  rw [Rect.mem_set_unit]
  intro a
  match a with
  | ⟨0, _⟩ => show b ≤ (y 0).val ∧ (y 0).val < b + 1; omega
  | ⟨1, _⟩ => show t ≤ (y 1).val ∧ (y 1).val < t + 1; omega
  | ⟨2, _⟩ => exact h2
  | ⟨3, _⟩ => have : (y 3).val < 128 := (y 3).isLt; show 0 ≤ (y 3).val ∧ (y 3).val < 0 + 128; omega

omit hX in
theorem invL_cover (y : S4x2x16x128.Idx) : ∃ p ∈ invL m X, y ∈ p.1.set := by
  have e0 : (y 0).val < 4 := (y 0).isLt
  have e1 : (y 1).val < 2 := (y 1).isLt
  have e2 : (y 2).val < 16 := (y 2).isLt
  unfold invL
  simp only [List.mem_cons, List.not_mem_nil, or_false, exists_eq_or_imp, exists_eq_left]
  have h0 : (y 0).val = 0 ∨ (y 0).val = 1 ∨ (y 0).val = 2 ∨ (y 0).val = 3 := by omega
  have h1 : (y 1).val = 0 ∨ (y 1).val = 1 := by omega
  have h2 : (0 ≤ (y 2).val ∧ (y 2).val < 0 + 8) ∨ (8 ≤ (y 2).val ∧ (y 2).val < 8 + 8) := by omega
  rcases h0 with h0 | h0 | h0 | h0 <;> rcases h2 with h2 | h2 <;> rcases h1 with h1 | h1
  · exact Or.inr (Or.inr (Or.inr (Or.inr (Or.inr (Or.inr (Or.inr (Or.inr (Or.inr (Or.inr (Or.inr (Or.inr (Or.inr (Or.inr (Or.inr ((mem_scales _ y h0 h1 h2))))))))))))))))
  · exact Or.inr (Or.inr (Or.inr (Or.inr (Or.inr (Or.inr (Or.inr (Or.inr (Or.inr (Or.inr (Or.inr (Or.inr (Or.inr (Or.inr (Or.inl (mem_scales _ y h0 h1 h2)))))))))))))))
  · exact Or.inr (Or.inr (Or.inr (Or.inr (Or.inr (Or.inr (Or.inr (Or.inr (Or.inr (Or.inr (Or.inr (Or.inr (Or.inr (Or.inl (mem_scales _ y h0 h1 h2))))))))))))))
  · exact Or.inr (Or.inr (Or.inr (Or.inr (Or.inr (Or.inr (Or.inr (Or.inr (Or.inr (Or.inr (Or.inr (Or.inr (Or.inl (mem_scales _ y h0 h1 h2)))))))))))))
  · exact Or.inr (Or.inr (Or.inr (Or.inr (Or.inr (Or.inr (Or.inr (Or.inr (Or.inr (Or.inr (Or.inr (Or.inl (mem_scales _ y h0 h1 h2))))))))))))
  · exact Or.inr (Or.inr (Or.inr (Or.inr (Or.inr (Or.inr (Or.inr (Or.inr (Or.inr (Or.inr (Or.inl (mem_scales _ y h0 h1 h2)))))))))))
  · exact Or.inr (Or.inr (Or.inr (Or.inr (Or.inr (Or.inr (Or.inr (Or.inr (Or.inr (Or.inl (mem_scales _ y h0 h1 h2))))))))))
  · exact Or.inr (Or.inr (Or.inr (Or.inr (Or.inr (Or.inr (Or.inr (Or.inr (Or.inl (mem_scales _ y h0 h1 h2)))))))))
  · exact Or.inr (Or.inr (Or.inr (Or.inr (Or.inr (Or.inr (Or.inr (Or.inl (mem_scales _ y h0 h1 h2))))))))
  · exact Or.inr (Or.inr (Or.inr (Or.inr (Or.inr (Or.inr (Or.inl (mem_scales _ y h0 h1 h2)))))))
  · exact Or.inr (Or.inr (Or.inr (Or.inr (Or.inr (Or.inl (mem_scales _ y h0 h1 h2))))))
  · exact Or.inr (Or.inr (Or.inr (Or.inr (Or.inl (mem_scales _ y h0 h1 h2)))))
  · exact Or.inr (Or.inr (Or.inr (Or.inl (mem_scales _ y h0 h1 h2))))
  · exact Or.inr (Or.inr (Or.inl (mem_scales _ y h0 h1 h2)))
  · exact Or.inr (Or.inl (mem_scales _ y h0 h1 h2))
  · exact Or.inl (mem_scales _ y h0 h1 h2)

/-- The scales, entry by entry. -/
theorem inv_read (n : Memref sig .tc .vmem S4x2x16x128 .f32) (f : n.view.ty.Contents (Elt Ideal)) (b : Fin 4) (t : Fin 2) (p : Fin 16) (l : Fin 128) :
    n.view.read (Elt Ideal) (n.view.writes (Elt Ideal) f (invL m X)) (ix4 b t p l) = scaleAt g b.val (256 * p.val + (128 * t.val + l.val)) :=
  View.read_writes_apply_of_pieces (Val := Elt Ideal) (e := .f32) _ _ (fun z : S4x2x16x128.Idx => scaleAt g (z 0).val (256 * (z 2).val + (128 * (z 1).val + (z 3).val))) _ (invL_pieces g m X hX) _ (invL_cover m X _)
end Read

end Cert.KernelIdeal.Gen

end
-- ==== Proof.KernelIdeal.Codes.lean ====
/- The codes of the columns' groups after a point of the kernel, over the extended reals. -/
module

public import proofs.«01_k».proof.Proof.KernelIdeal.PointProofs
public import proofs.«01_k».proof.Proof.KernelIdeal.Store
public import proofs.«01_k».proof.Proof.KernelIdeal.TripE
public import proofs.«01_k».proof.Proof.KernelIdeal.Code

@[expose] public section

noncomputable section

namespace Cert.KernelIdeal.Gen

open Idealize.ShloMosaic hiding ix2 ix3 ix4 ix5 maximumf_apply mulf_apply addf_apply subf_apply extf_apply truncf_apply absf_apply
open Idealize.ShloMosaic.TcCoe Idealize.ShloMosaic.Pipeline Idealize.ShloMosaic.ValueIdx

/-- A column's codes' block after the point. -/
def Post12 (i : grid0.Coords) (x0 : Vec Ideal S1x128x4096 .bf16) (x1 : Vec Ideal S4x256 .f32) (x2 : Vec Ideal S1x4096 .f32)
    (x3 x4 x5 x6 : Vec Ideal S1x128x4096 .bf16) (d : Vec Ideal S1x128x4096 .fp8e4m3) : Prop :=
  ∀ (a : Fin 128) (b : Fin 4096), d (ix3 (0 : Fin 1) a b) = clip (dxOf i x0 x1 x2 x3 x4 x5 x6 a.val b.val * scaleAt (dxOf i x0 x1 x2 x3 x4 x5 x6) (a.val / 32) b.val)

section Point
variable (𝒱 : Variants) (c : Dev nD) (bd : Option 𝒱.V) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (arg1 : BitVec 32) (v18 : FVec Ideal S8x128 .f32) (v19 : FVec Ideal S8x128 .f32) (v20 : FVec Ideal S8x128 .f32) (v21 : FVec Ideal S8x128 .f32) (v22 : FVec Ideal S8x128 .f32) (v23 : FVec Ideal S8x128 .f32) (v24 : FVec Ideal S8x128 .f32) (v25 : FVec Ideal S8x128 .f32) (v26 : FVec Ideal S8x128 .f32) (v27 : FVec Ideal S8x128 .f32) (v28 : FVec Ideal S8x128 .f32) (v29 : FVec Ideal S8x128 .f32) (v30 : FVec Ideal S8x128 .f32) (v31 : FVec Ideal S8x128 .f32) (v32 : FVec Ideal S8x128 .f32) (cst_18 : Ideal .f32) (X_arg2 : BufTy.Contents (Elt Ideal) arg2.view.ty) (X_arg4 : BufTy.Contents (Elt Ideal) arg4.view.ty) (X_arg6 : BufTy.Contents (Elt Ideal) arg6.view.ty) (X_arg7 : BufTy.Contents (Elt Ideal) arg7.view.ty) (X_arg8 : BufTy.Contents (Elt Ideal) arg8.view.ty) (X_arg16 : BufTy.Contents (Elt Ideal) arg16.view.ty)
variable (x0 : Vec Ideal S1x128x4096 .bf16) (x1 : Vec Ideal S4x256 .f32) (x2 : Vec Ideal S1x4096 .f32) (x3 x4 x5 x6 : Vec Ideal S1x128x4096 .bf16)
variable (init : Acc) (h0 : AccIs init fun _ _ => 0)
    (h16 : ∀ (a b : ℕ) (ha : a < 128) (hb : b < 128), arg16.view.read (Elt Ideal) X_arg16 (ix2 ⟨a, ha⟩ ⟨b, hb⟩) = rsAt i x1 a)
include h0 h16

/-- The codes' block at the point. -/
theorem point_12 (v35_15 : FVec Ideal S8x128 .f32) (X_arg17 : BufTy.Contents (Elt Ideal) arg17.view.ty) (G_arg9 : BufTy.Contents (Elt Ideal) arg9.view.ty)
    (f16 : BufTy.Contents (Elt Ideal) arg18.view.ty) (f17 : BufTy.Contents (Elt Ideal) arg19.view.ty) (G_arg20 : BufTy.Contents (Elt Ideal) arg20.view.ty) (G_arg21 : BufTy.Contents (Elt Ideal) arg21.view.ty)
    (h17 : ∀ (a b : ℕ) (ha : a < 128) (hb : b < 128), arg17.view.read (Elt Ideal) X_arg17 (ix2 ⟨a, ha⟩ ⟨b, hb⟩) = meanAt (at3 x0) (at3 x4) (at3 x5) (at3 x6) (rsAt i x1) (at2 x2) a)
    (X_arg22 : BufTy.Contents (Elt Ideal) arg22.view.ty) (g22 : BufTy.Contents (Elt Ideal) arg22.view.ty) (X_arg23 : BufTy.Contents (Elt Ideal) arg23.view.ty) (X_arg25 : BufTy.Contents (Elt Ideal) arg25.view.ty) (f12 : BufTy.Contents (Elt Ideal) arg14.view.ty)
    (h22 : X_arg22 = arg22.view.writes (Elt Ideal) g22 (invL arg21 (arg21.view.writes (Elt Ideal) G_arg21 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 (harg5.unread x3) X_arg16 X_arg17 (arg19.view.writes (Elt Ideal) f17 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.2.1) G_arg9 (arg18.view.writes (Elt Ideal) f16 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.1) G_arg20 G_arg21 k0_t2_loop.trips).2.2.2))) :
    Post12 i x0 x1 x2 x3 x4 x5 x6 (arg14.view.read (Elt Ideal) (arg14.view.writes (Elt Ideal) f12 (pb_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (arg18.view.writes (Elt Ideal) f16 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 (harg5.unread x3) X_arg16 X_arg17 (arg19.view.writes (Elt Ideal) f17 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.2.1) G_arg9 (arg18.view.writes (Elt Ideal) f16 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.1) G_arg20 G_arg21 k0_t2_loop.trips).2.1 ++ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.1)) X_arg22 X_arg23 X_arg25 k0_t3_loop.trips).2)) := by
  have I := point_one 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 X_arg16 x0 x1 x2 x4 x5 x6 init h0 h16
  have J := store_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 (harg5.unread x3) X_arg16 X_arg17 (arg19.view.writes (Elt Ideal) f17 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.2.1) G_arg9 (arg18.view.writes (Elt Ideal) f16 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.1) G_arg20 G_arg21 (at3 x3) (fxh (at3 x0) (rsAt i x1)) (fdx (at3 x4) (at3 x5) (at3 x6) (at2 x2)) (rsAt i x1) (meanAt (at3 x0) (at3 x4) (at3 x5) (at3 x6) (rsAt i x1) (at2 x2))
    (at3_eq arg5 harg5 x3)
    (fun a b ha hb => View.read_writes_apply_of_pieces (Val := Elt Ideal) (e := .f32) _ _ (fun z : S128x4096.Idx => fxh (at3 x0) (rsAt i x1) (z 0).val (z 1).val) _ I.p19 _ (I.c19 _ (by show b < 256 * 16; omega)))
    h16 h17
    (fun a b ha hb => View.read_writes_apply_of_pieces (Val := Elt Ideal) (e := .f32) _ _ (fun z : S128x4096.Idx => fdx (at3 x4) (at3 x5) (at3 x6) (at2 x2) (z 0).val (z 1).val) _ I.p18 _ (I.c18 _ (by show b < 256 * 16; omega)))
    16 (le_of_eq rfl)
  have E18 : ∀ (a b : ℕ) (ha : a < 128) (hb : b < 4096), arg18.view.read (Elt Ideal) (arg18.view.writes (Elt Ideal) f16 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 (harg5.unread x3) X_arg16 X_arg17 (arg19.view.writes (Elt Ideal) f17 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.2.1) G_arg9 (arg18.view.writes (Elt Ideal) f16 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.1) G_arg20 G_arg21 k0_t2_loop.trips).2.1 ++ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.1)) (ix2 ⟨a, ha⟩ ⟨b, hb⟩) = (dxOf i x0 x1 x2 x3 x4 x5 x6) a b := by
    intro a b ha hb
    rw [View.writes_append]
    exact View.read_writes_apply_of_pieces (Val := Elt Ideal) (e := .f32) _ _ (fun z : S128x4096.Idx => fout' (at3 x3) (rsAt i x1) (meanAt (at3 x0) (at3 x4) (at3 x5) (at3 x6) (rsAt i x1) (at2 x2)) (fdx (at3 x4) (at3 x5) (at3 x6) (at2 x2)) (fxh (at3 x0) (rsAt i x1)) (z 0).val (z 1).val) _ J.p18 _ (J.c18 _ (by show b < 256 * 16; omega))
  have E22 : ∀ (b : Fin 4) (t : Fin 2) (p : Fin 16) (l : Fin 128), arg22.view.read (Elt Ideal) X_arg22 (ix4 b t p l) = (fun A b => scaleAt (dxOf i x0 x1 x2 x3 x4 x5 x6) A b) b.val (256 * p.val + (128 * t.val + l.val)) := by
    intro b t p l
    rw [h22]
    refine inv_read (dxOf i x0 x1 x2 x3 x4 x5 x6) arg21 _ (fun b k s t l => ?_) arg22 g22 b t p l
    exact View.read_writes_apply_of_pieces (Val := Elt Ideal) (e := .bf16) _ _ (fun y : S4x16x8x2x128.Idx => w4 (fout' (at3 x3) (rsAt i x1) (meanAt (at3 x0) (at3 x4) (at3 x5) (at3 x6) (rsAt i x1) (at2 x2)) (fdx (at3 x4) (at3 x5) (at3 x6) (at2 x2)) (fxh (at3 x0) (rsAt i x1))) (32 * (y 0).val + (y 2).val) (256 * (y 1).val + (128 * (y 3).val + (y 4).val))) _ J.p21 _ (J.c21 _ k.isLt)
  have T := three_inv 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (arg18.view.writes (Elt Ideal) f16 ((pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v35_15 (harg5.unread x3) X_arg16 X_arg17 (arg19.view.writes (Elt Ideal) f17 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.2.1) G_arg9 (arg18.view.writes (Elt Ideal) f16 (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.1) G_arg20 G_arg21 k0_t2_loop.trips).2.1 ++ (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg1 v18 v19 v20 v21 v22 v23 v24 v25 v26 v27 v28 v29 v30 v31 v32 cst_18 (harg2.unread x0) (harg4.unread x2) (harg6.unread x4) (harg7.unread x5) (harg8.unread x6) X_arg16 init k0_t1_loop.trips).2.1)) X_arg22 X_arg23 X_arg25 (dxOf i x0 x1 x2 x3 x4 x5 x6) (fun A b => scaleAt (dxOf i x0 x1 x2 x3 x4 x5 x6) A b) E18 E22 16 (le_of_eq rfl)
  intro a b
  exact View.read_writes_apply_of_pieces (Val := Elt Ideal) (e := .fp8e4m3) _ _ (fun z : S1x128x4096.Idx => clip ((dxOf i x0 x1 x2 x3 x4 x5 x6) (z 1).val (z 2).val * scaleAt (dxOf i x0 x1 x2 x3 x4 x5 x6) ((z 1).val / 32) (z 2).val)) _ T.1 _ (T.2 _ (by show b.val < 256 * 16; omega))
end Point

end Cert.KernelIdeal.Gen

end
-- ==== Proof.KernelIdeal.RunA.lean ====
/- The run of the kernel's body at the first point: the first branch taken, the second not. Every input's staging buffer is
   handed back as it was, the first three results' and the columns' codes' at what the point computes, the others' and every scratch buffer at some contents. -/
module

public import proofs.«01_k».proof.Proof.KernelIdeal.Base
public import proofs.«01_k».proof.Proof.KernelIdeal.Codes

@[expose] public section

set_option maxRecDepth 16384

noncomputable section

namespace Cert.KernelIdeal.Gen

open Idealize.ShloMosaic hiding ix2 ix3 ix4 ix5
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

set_option maxHeartbeats 6000000 in
/-- The body's run at the first point: the first branch taken, the second not. -/
theorem run_A (c : Dev nD) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (hc0 : cond0_0 i) (hc1 : ¬cond0_1 i)
    (x0 : Vec Ideal S1x128x4096 .bf16) (x1 : Vec Ideal S4x256 .f32) (x2 : Vec Ideal S1x4096 .f32) (x3 : Vec Ideal S1x128x4096 .bf16) (x4 : Vec Ideal S1x128x4096 .bf16) (x5 : Vec Ideal S1x128x4096 .bf16) (x6 : Vec Ideal S1x128x4096 .bf16) (x8 : Vec Ideal S1x4096 .f32) (x9 : Vec Ideal S1x2x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, ⌜Post9 i x0 x1 x2 x3 x4 x5 x6 d⌝ ∗ owns (c : Thread nD τ) arg9 fullShare d) ∗ (∃ d, ⌜Post10 i (fun _ => 0) x0 x1 x4 x5 x6 d⌝ ∗ owns (c : Thread nD τ) arg10 fullShare d) ∗ (∃ d, ⌜Post11 i x9 x0 x1 x4 x5 x6 d⌝ ∗ owns (c : Thread nD τ) arg11 fullShare d) ∗ (∃ d, owns (c : Thread nD τ) arg12 fullShare d) ∗ (∃ d, owns (c : Thread nD τ) arg13 fullShare d) ∗ (∃ d, ⌜Post12 i x0 x1 x2 x3 x4 x5 x6 d⌝ ∗ owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := Ideal)) Variants.none c none) E (cc0_norm_bwd_dual_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    simp only [cc0_norm_bwd_dual_quant_eq_skeleton]; unfold cc0_norm_bwd_dual_quant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part47_eq_skeleton, k0_part48_eq_skeleton, k0_part49_eq_skeleton, k0_part50_eq_skeleton, k0_part51_eq_skeleton, k0_part52_eq_skeleton, k0_part53_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, HS0⟩, ⟨%d15, %f15, -, HS1⟩, ⟨%d16, %f16, -, HS2⟩, ⟨%d17, %f17, -, HS3⟩, ⟨%d18, %f18, -, HS4⟩, ⟨%d19, %f19, -, HS5⟩, ⟨%d20, %f20, -, HS6⟩, ⟨%d21, %f21, -, HS7⟩, ⟨%d22, %f22, -, HS8⟩, ⟨%d23, %f23, -, HS9⟩, ⟨%d24, %f24, -, HS10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _
      isplitr
      swap
      · iexists _
        isplitr
        swap
        · iexact H7
        ipureintro
        rfl
      ipureintro
      refine point_9 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x3 x4 x5 x6 _ ?_ ?_ _ _ _ _ _ _ _ _ ?_
      · exact init_zero
      · exact (fun a b ha hb => rows16 arg16 _ i arg3 harg3 x1 _ _ _ a b ha hb)
      · exact fun a b ha hb => point_mean Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x4 x5 x6 _ init_zero (fun a b ha hb => rows16 arg16 _ i arg3 harg3 x1 _ _ _ a b ha hb) arg17 _ a b ha hb
    isplitl [H8]
    · iexists _
      isplitr
      swap
      · iexists _
        isplitr
        swap
        · iexact H8
        ipureintro
        rfl
      ipureintro
      refine point_10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x4 x5 x6 _ ?_ ?_ arg10 _ _ _ _ _ _ ?_ _
      · exact init_zero
      · exact (fun a b ha hb => rows16 arg16 _ i arg3 harg3 x1 _ _ _ a b ha hb)
      · exact (fun b => zero_row arg10 _ _ b)
    isplitl [H9]
    · iexists _
      isplitr
      swap
      · iexists _
        isplitr
        swap
        · iexact H9
        ipureintro
        rfl
      ipureintro
      refine point_11 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x4 x5 x6 _ ?_ ?_ arg11 harg11 x9 _ _ _
      · exact init_zero
      · exact (fun a b ha hb => rows16 arg16 _ i arg3 harg3 x1 _ _ _ a b ha hb)
    isplitl [H10]
    · iexists _, _; isplitr; swap; · iexact H10
      ipureintro; rfl
    isplitl [H11]
    · iexists _, _; isplitr; swap; · iexact H11
      ipureintro; rfl
    isplitl [H12]
    · iexists _
      isplitr
      swap
      · iexists _
        isplitr
        swap
        · iexact H12
        ipureintro
        rfl
      ipureintro
      refine point_12 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x3 x4 x5 x6 _ ?_ ?_ _ _ _ _ _ _ _ ?_ _ arg22.view.junk _ _ _ ?_
      · exact init_zero
      · exact (fun a b ha hb => rows16 arg16 _ i arg3 harg3 x1 _ _ _ a b ha hb)
      · exact fun a b ha hb => point_mean Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x4 x5 x6 _ init_zero (fun a b ha hb => rows16 arg16 _ i arg3 harg3 x1 _ _ _ a b ha hb) arg17 _ a b ha hb
      · rfl
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexists _, _; isplitr; swap; · iexact HS10
    ipureintro; rfl

end Cert.KernelIdeal.Gen

end
-- ==== Proof.KernelIdeal.RunB.lean ====
/- The run of the kernel's body at a point of the second block: the first branch not taken, the second taken. Every input's staging buffer is
   handed back as it was, the first three results' and the columns' codes' at what the point computes, the others' and every scratch buffer at some contents. -/
module

public import proofs.«01_k».proof.Proof.KernelIdeal.Base
public import proofs.«01_k».proof.Proof.KernelIdeal.Codes

@[expose] public section

set_option maxRecDepth 16384

noncomputable section

namespace Cert.KernelIdeal.Gen

open Idealize.ShloMosaic hiding ix2 ix3 ix4 ix5
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

set_option maxHeartbeats 6000000 in
/-- The body's run at a point of the second block: the first branch not taken, the second taken. -/
theorem run_B (c : Dev nD) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (hc0 : ¬cond0_0 i) (hc1 : cond0_1 i)
    (x0 : Vec Ideal S1x128x4096 .bf16) (x1 : Vec Ideal S4x256 .f32) (x2 : Vec Ideal S1x4096 .f32) (x3 : Vec Ideal S1x128x4096 .bf16) (x4 : Vec Ideal S1x128x4096 .bf16) (x5 : Vec Ideal S1x128x4096 .bf16) (x6 : Vec Ideal S1x128x4096 .bf16) (x8 : Vec Ideal S1x4096 .f32) (x9 : Vec Ideal S1x2x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, ⌜Post9 i x0 x1 x2 x3 x4 x5 x6 d⌝ ∗ owns (c : Thread nD τ) arg9 fullShare d) ∗ (∃ d, ⌜Post10 i (fun b => x8 (ix2 (0 : Fin 1) b)) x0 x1 x4 x5 x6 d⌝ ∗ owns (c : Thread nD τ) arg10 fullShare d) ∗ (∃ d, ⌜Post11 i x9 x0 x1 x4 x5 x6 d⌝ ∗ owns (c : Thread nD τ) arg11 fullShare d) ∗ (∃ d, owns (c : Thread nD τ) arg12 fullShare d) ∗ (∃ d, owns (c : Thread nD τ) arg13 fullShare d) ∗ (∃ d, ⌜Post12 i x0 x1 x2 x3 x4 x5 x6 d⌝ ∗ owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := Ideal)) Variants.none c none) E (cc0_norm_bwd_dual_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    simp only [cc0_norm_bwd_dual_quant_eq_skeleton]; unfold cc0_norm_bwd_dual_quant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part47_eq_skeleton, k0_part48_eq_skeleton, k0_part49_eq_skeleton, k0_part50_eq_skeleton, k0_part51_eq_skeleton, k0_part52_eq_skeleton, k0_part53_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, HS0⟩, ⟨%d15, %f15, -, HS1⟩, ⟨%d16, %f16, -, HS2⟩, ⟨%d17, %f17, -, HS3⟩, ⟨%d18, %f18, -, HS4⟩, ⟨%d19, %f19, -, HS5⟩, ⟨%d20, %f20, -, HS6⟩, ⟨%d21, %f21, -, HS7⟩, ⟨%d22, %f22, -, HS8⟩, ⟨%d23, %f23, -, HS9⟩, ⟨%d24, %f24, -, HS10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _
      isplitr
      swap
      · iexists _
        isplitr
        swap
        · iexact H7
        ipureintro
        rfl
      ipureintro
      refine point_9 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x3 x4 x5 x6 _ ?_ ?_ _ _ _ _ _ _ _ _ ?_
      · exact init_zero
      · exact (fun a b ha hb => rows16 arg16 _ i arg3 harg3 x1 _ _ _ a b ha hb)
      · exact fun a b ha hb => point_mean Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x4 x5 x6 _ init_zero (fun a b ha hb => rows16 arg16 _ i arg3 harg3 x1 _ _ _ a b ha hb) arg17 _ a b ha hb
    isplitl [H8]
    · iexists _
      isplitr
      swap
      · iexists _
        isplitr
        swap
        · iexact H8
        ipureintro
        rfl
      ipureintro
      refine point_10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x4 x5 x6 _ ?_ ?_ arg10 _ _ _ _ _ _ ?_ _
      · exact init_zero
      · exact (fun a b ha hb => rows16 arg16 _ i arg3 harg3 x1 _ _ _ a b ha hb)
      · exact (fun b => whole_row arg10 harg10 x8 _ b)
    isplitl [H9]
    · iexists _
      isplitr
      swap
      · iexists _
        isplitr
        swap
        · iexact H9
        ipureintro
        rfl
      ipureintro
      refine point_11 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x4 x5 x6 _ ?_ ?_ arg11 harg11 x9 _ _ _
      · exact init_zero
      · exact (fun a b ha hb => rows16 arg16 _ i arg3 harg3 x1 _ _ _ a b ha hb)
    isplitl [H10]
    · iexists _, _; isplitr; swap; · iexact H10
      ipureintro; rfl
    isplitl [H11]
    · iexists _, _; isplitr; swap; · iexact H11
      ipureintro; rfl
    isplitl [H12]
    · iexists _
      isplitr
      swap
      · iexists _
        isplitr
        swap
        · iexact H12
        ipureintro
        rfl
      ipureintro
      refine point_12 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x3 x4 x5 x6 _ ?_ ?_ _ _ _ _ _ _ _ ?_ _ arg22.view.junk _ _ _ ?_
      · exact init_zero
      · exact (fun a b ha hb => rows16 arg16 _ i arg3 harg3 x1 _ _ _ a b ha hb)
      · exact fun a b ha hb => point_mean Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x4 x5 x6 _ init_zero (fun a b ha hb => rows16 arg16 _ i arg3 harg3 x1 _ _ _ a b ha hb) arg17 _ a b ha hb
      · rfl
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexists _, _; isplitr; swap; · iexact HS10
    ipureintro; rfl

end Cert.KernelIdeal.Gen

end
-- ==== Proof.KernelIdeal.RunC.lean ====
/- The run of the kernel's body at a later point of the first block: neither branch taken. Every input's staging buffer is
   handed back as it was, the first three results' and the columns' codes' at what the point computes, the others' and every scratch buffer at some contents. -/
module

public import proofs.«01_k».proof.Proof.KernelIdeal.Base
public import proofs.«01_k».proof.Proof.KernelIdeal.Codes

@[expose] public section

set_option maxRecDepth 16384

noncomputable section

namespace Cert.KernelIdeal.Gen

open Idealize.ShloMosaic hiding ix2 ix3 ix4 ix5
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

set_option maxHeartbeats 6000000 in
/-- The body's run at a later point of the first block: neither branch taken. -/
theorem run_C (c : Dev nD) (i : grid0.Coords) (arg2 : Memref sig .tc .vmem S1x128x4096 .bf16) (harg2 : arg2.IsWhole) (arg3 : Memref sig .tc .vmem S4x256 .f32) (harg3 : arg3.IsWhole) (arg4 : Memref sig .tc .vmem S1x4096 .f32) (harg4 : arg4.IsWhole) (arg5 : Memref sig .tc .vmem S1x128x4096 .bf16) (harg5 : arg5.IsWhole) (arg6 : Memref sig .tc .vmem S1x128x4096 .bf16) (harg6 : arg6.IsWhole) (arg7 : Memref sig .tc .vmem S1x128x4096 .bf16) (harg7 : arg7.IsWhole) (arg8 : Memref sig .tc .vmem S1x128x4096 .bf16) (harg8 : arg8.IsWhole) (arg9 : Memref sig .tc .vmem S1x128x4096 .bf16) (harg9 : arg9.IsWhole) (arg10 : Memref sig .tc .vmem S1x4096 .f32) (harg10 : arg10.IsWhole) (arg11 : Memref sig .tc .vmem S1x2x4096 .f32) (harg11 : arg11.IsWhole) (arg12 : Memref sig .tc .vmem S1x128x4096 .fp8e4m3) (harg12 : arg12.IsWhole) (arg13 : Memref sig .tc .vmem S1x128x128 .i8) (harg13 : arg13.IsWhole) (arg14 : Memref sig .tc .vmem S1x128x4096 .fp8e4m3) (harg14 : arg14.IsWhole) (arg15 : Memref sig .tc .vmem S1x8x4096 .i8) (harg15 : arg15.IsWhole) (arg16 : Memref sig .tc .vmem S128x128 .f32) (harg16 : arg16.IsWhole) (arg17 : Memref sig .tc .vmem S128x128 .f32) (harg17 : arg17.IsWhole) (arg18 : Memref sig .tc .vmem S128x4096 .f32) (harg18 : arg18.IsWhole) (arg19 : Memref sig .tc .vmem S128x4096 .f32) (harg19 : arg19.IsWhole) (arg20 : Memref sig .tc .vmem S4x16x8x2x128 .bf16) (harg20 : arg20.IsWhole) (arg21 : Memref sig .tc .vmem S4x16x8x2x128 .bf16) (harg21 : arg21.IsWhole) (arg22 : Memref sig .tc .vmem S4x2x16x128 .f32) (harg22 : arg22.IsWhole) (arg23 : Memref sig .tc .vmem S128x128 .bf16) (harg23 : arg23.IsWhole) (arg24 : Memref sig .tc .vmem S32x8x128 .i32) (harg24 : arg24.IsWhole) (arg25 : Memref sig .tc .vmem S128x4096 .bf16) (harg25 : arg25.IsWhole) (arg26 : Memref sig .tc .vmem S8x4096 .f32) (harg26 : arg26.IsWhole) (hc0 : ¬cond0_0 i) (hc1 : ¬cond0_1 i)
    (x0 : Vec Ideal S1x128x4096 .bf16) (x1 : Vec Ideal S4x256 .f32) (x2 : Vec Ideal S1x4096 .f32) (x3 : Vec Ideal S1x128x4096 .bf16) (x4 : Vec Ideal S1x128x4096 .bf16) (x5 : Vec Ideal S1x128x4096 .bf16) (x6 : Vec Ideal S1x128x4096 .bf16) (x8 : Vec Ideal S1x4096 .f32) (x9 : Vec Ideal S1x2x4096 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, ⌜Post9 i x0 x1 x2 x3 x4 x5 x6 d⌝ ∗ owns (c : Thread nD τ) arg9 fullShare d) ∗ (∃ d, ⌜Post10 i (fun b => x8 (ix2 (0 : Fin 1) b)) x0 x1 x4 x5 x6 d⌝ ∗ owns (c : Thread nD τ) arg10 fullShare d) ∗ (∃ d, ⌜Post11 i x9 x0 x1 x4 x5 x6 d⌝ ∗ owns (c : Thread nD τ) arg11 fullShare d) ∗ (∃ d, owns (c : Thread nD τ) arg12 fullShare d) ∗ (∃ d, owns (c : Thread nD τ) arg13 fullShare d) ∗ (∃ d, ⌜Post12 i x0 x1 x2 x3 x4 x5 x6 d⌝ ∗ owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
      ⊢ wp frame (wpE (defs₀ (F := Ideal)) Variants.none c none) E (cc0_norm_bwd_dual_quant i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
    simp only [cc0_norm_bwd_dual_quant_eq_skeleton]; unfold cc0_norm_bwd_dual_quant_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part47_eq_skeleton, k0_part48_eq_skeleton, k0_part49_eq_skeleton, k0_part50_eq_skeleton, k0_part51_eq_skeleton, k0_part52_eq_skeleton, k0_part53_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, HS0⟩, ⟨%d15, %f15, -, HS1⟩, ⟨%d16, %f16, -, HS2⟩, ⟨%d17, %f17, -, HS3⟩, ⟨%d18, %f18, -, HS4⟩, ⟨%d19, %f19, -, HS5⟩, ⟨%d20, %f20, -, HS6⟩, ⟨%d21, %f21, -, HS7⟩, ⟨%d22, %f22, -, HS8⟩, ⟨%d23, %f23, -, HS9⟩, ⟨%d24, %f24, -, HS10⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8; obtain rfl := harg11.eq_unread hf9
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _
      isplitr
      swap
      · iexists _
        isplitr
        swap
        · iexact H7
        ipureintro
        rfl
      ipureintro
      refine point_9 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x3 x4 x5 x6 _ ?_ ?_ _ _ _ _ _ _ _ _ ?_
      · exact init_zero
      · exact (fun a b ha hb => rows16 arg16 _ i arg3 harg3 x1 _ _ _ a b ha hb)
      · exact fun a b ha hb => point_mean Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x4 x5 x6 _ init_zero (fun a b ha hb => rows16 arg16 _ i arg3 harg3 x1 _ _ _ a b ha hb) arg17 _ a b ha hb
    isplitl [H8]
    · iexists _
      isplitr
      swap
      · iexists _
        isplitr
        swap
        · iexact H8
        ipureintro
        rfl
      ipureintro
      refine point_10 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x4 x5 x6 _ ?_ ?_ arg10 _ _ _ _ _ _ ?_ _
      · exact init_zero
      · exact (fun a b ha hb => rows16 arg16 _ i arg3 harg3 x1 _ _ _ a b ha hb)
      · exact (fun b => whole_row arg10 harg10 x8 _ b)
    isplitl [H9]
    · iexists _
      isplitr
      swap
      · iexists _
        isplitr
        swap
        · iexact H9
        ipureintro
        rfl
      ipureintro
      refine point_11 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x4 x5 x6 _ ?_ ?_ arg11 harg11 x9 _ _ _
      · exact init_zero
      · exact (fun a b ha hb => rows16 arg16 _ i arg3 harg3 x1 _ _ _ a b ha hb)
    isplitl [H10]
    · iexists _, _; isplitr; swap; · iexact H10
      ipureintro; rfl
    isplitl [H11]
    · iexists _, _; isplitr; swap; · iexact H11
      ipureintro; rfl
    isplitl [H12]
    · iexists _
      isplitr
      swap
      · iexists _
        isplitr
        swap
        · iexact H12
        ipureintro
        rfl
      ipureintro
      refine point_12 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x3 x4 x5 x6 _ ?_ ?_ _ _ _ _ _ _ _ ?_ _ arg22.view.junk _ _ _ ?_
      · exact init_zero
      · exact (fun a b ha hb => rows16 arg16 _ i arg3 harg3 x1 _ _ _ a b ha hb)
      · exact fun a b ha hb => point_mean Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 _ _ _ _ _ _ _ _ _ _ _ _ _ _ _ _ _ _ x0 x1 x2 x4 x5 x6 _ init_zero (fun a b ha hb => rows16 arg16 _ i arg3 harg3 x1 _ _ _ a b ha hb) arg17 _ a b ha hb
      · rfl
    isplitl [H13]
    · iexists _, _; isplitr; swap; · iexact H13
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    isplitl [HS7]
    · iexists _, _; isplitr; swap; · iexact HS7
      ipureintro; rfl
    isplitl [HS8]
    · iexists _, _; isplitr; swap; · iexact HS8
      ipureintro; rfl
    isplitl [HS9]
    · iexists _, _; isplitr; swap; · iexact HS9
      ipureintro; rfl
    iexists _, _; isplitr; swap; · iexact HS10
    ipureintro; rfl

end Cert.KernelIdeal.Gen

end
-- ==== Proof.KernelIdeal.Whole.lean ====
/- The idealization over the extended reals: the proof data of its one pipeline, the body's obligation at every point from the
   three runs, and the launch. Of the windows of the first three results and of the columns' codes the data say what the points leave there. -/
module

public import proofs.«01_k».proof.Proof.KernelIdeal.RunA
public import proofs.«01_k».proof.Proof.KernelIdeal.RunB
public import proofs.«01_k».proof.Proof.KernelIdeal.RunC
public import Idealize.ShloMosaic.Lib.Pipeline.DatRel

@[expose] public section

set_option maxRecDepth 16384

noncomputable section

namespace Cert.KernelIdeal.Gen

open Idealize.ShloMosaic hiding ix2 ix3 ix4 ix5
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-- The outputs' windows: what the body leaves there is held to a predicate. -/
def marked : Fin 14 → Bool := fun w => decide (7 ≤ w.val)

/-- A point's row of contributions to gamma; nothing past the last point. -/
def partN (c : Dev nD) (u b : ℕ) : EReal :=
  if h : u < cfg0.N then partOf (grid0.coords ⟨u, h⟩) (iblk m c 0 ⟨u, h⟩) (iblk m c 1 ⟨u, h⟩) (iblk m c 4 ⟨u, h⟩) (iblk m c 5 ⟨u, h⟩) (iblk m c 6 ⟨u, h⟩) b else 0

theorem partN_eq (c : Dev nD) (t : Fin cfg0.N) (b : ℕ) :
    partN m c t.val b = partOf (grid0.coords t) (iblk m c 0 t) (iblk m c 1 t) (iblk m c 4 t) (iblk m c 5 t) (iblk m c 6 t) b := by
  unfold partN; rw [dif_pos t.isLt]

/-- The gradient of gamma after a point: the sum of the rows so far. -/
def Sum8 (c : Dev nD) (n : ℕ) (X : Vec Ideal S1x4096 .f32) : Prop :=
  ∀ b : Fin 4096, X (ix2 (0 : Fin 1) b) = ∑ u ∈ Finset.range n, partN m c u b.val

/-- The two rows' window after a point: the rows of the batch's points so far. -/
def Rows9 (c : Dev nD) (n : ℕ) (X : Vec Ideal S1x2x4096 .f32) : Prop :=
  ∀ (j : Fin 2) (b : Fin 4096), j.val ≤ n % 2 → X (ix3 (0 : Fin 1) j b) = partN m c (2 * (n / 2) + j.val) b.val

/-- What the body leaves in an output's window. -/
def Rl (c : Dev nD) : (w : Fin cfg0.W) → (t : Fin cfg0.N) → ((cfg0.win w).block.Idx → Elt Ideal (cfg0.win w).elt) → Prop
  | ⟨7, _⟩, t, X => Post9 (grid0.coords t) (iblk m c 0 t) (iblk m c 1 t) (iblk m c 2 t) (iblk m c 3 t) (iblk m c 4 t) (iblk m c 5 t) (iblk m c 6 t) X
  | ⟨8, _⟩, t, X => Sum8 m c (t.val + 1) X
  | ⟨9, _⟩, t, X => Rows9 m c t.val X
  | ⟨12, _⟩, t, X => Post12 (grid0.coords t) (iblk m c 0 t) (iblk m c 1 t) (iblk m c 2 t) (iblk m c 3 t) (iblk m c 4 t) (iblk m c 5 t) (iblk m c 6 t) X
  | _, _, _ => True

/-- The proof data: each input's buffer at its block, the outputs' unnamed, the scratch at some contents. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- The proof data read relationally. -/
abbrev rdat (c : Dev nD) : Pipeline.RDat τ (Elt Ideal) Unit ℕ (UR sig nD τ) ℕ cfg0 c := (dats m 0 c).toRRel marked (Rl m c)

/-- What the body is called with at a point, -/
def bodyPre (c : Dev nD) (t : Fin cfg0.N) : sProp 𝕄 :=
  iprop(Pipeline.ΦA spec0 c ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ Y, ⌜(rdat m c).Finds 7 t Y⌝ ∗ owns (c : Thread nD τ) (ms0_7 t) fullShare Y)
    ∗ (∃ Y, ⌜(rdat m c).Finds 8 t Y⌝ ∗ owns (c : Thread nD τ) (ms0_8 t) fullShare Y)
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y)
    ∗ (∃ Y, ⌜(rdat m c).Finds 12 t Y⌝ ∗ owns (c : Thread nD τ) (ms0_12 t) fullShare Y)
    ∗ (∃ Y, ⌜(rdat m c).Finds 13 t Y⌝ ∗ owns (c : Thread nD τ) (ms0_13 t) fullShare Y))

/-- and what it returns. -/
def bodyPost (c : Dev nD) (t : Fin cfg0.N) : sProp 𝕄 :=
  iprop(Pipeline.ΦA spec0 c ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ X, ⌜Rl m c 7 t X⌝ ∗ owns (c : Thread nD τ) (ms0_7 t) fullShare X)
    ∗ (∃ X, ⌜Rl m c 8 t X⌝ ∗ owns (c : Thread nD τ) (ms0_8 t) fullShare X)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X)
    ∗ (∃ X, ⌜Rl m c 12 t X⌝ ∗ owns (c : Thread nD τ) (ms0_12 t) fullShare X)
    ∗ (∃ X, ⌜Rl m c 13 t X⌝ ∗ owns (c : Thread nD τ) (ms0_13 t) fullShare X))

/-- A later point finds the sum of the rows before it. -/
theorem find8 (c : Dev nD) (t : Fin cfg0.N) (h0 : ¬t.val % 8 = 0) (Y : (cfg0.win 8).block.Idx → Elt Ideal (cfg0.win 8).elt) (h : (rdat m c).Finds 8 t Y) : Sum8 m c t.val Y := by
  have ht : t.val < 8 := Nat.lt_of_lt_of_eq t.isLt N_0
  rcases ((rdat m c).finds_of_pos ((cfg0.win 8).fetch_out rfl _) (by omega) Y).mp h with hf | hl
  · exact absurd ((flush0_8 _).mp hf) (by show ¬(t.val - 1) % 8 = 7; omega)
  · have h8 : Sum8 m c (t.val - 1 + 1) Y := Dat.toRRel_leaves (dats m 0 c) (fgt := marked) (Rl := Rl m c) (w := 8) rfl hl
    rwa [show t.val - 1 + 1 = t.val by omega] at h8

/-- A batch's second point finds the row of its first. -/
theorem find9 (c : Dev nD) (t : Fin cfg0.N) (h1 : t.val % 2 = 1) (Y : (cfg0.win 9).block.Idx → Elt Ideal (cfg0.win 9).elt) (h : (rdat m c).Finds 9 t Y) : Rows9 m c (t.val - 1) Y := by
  rcases ((rdat m c).finds_of_pos ((cfg0.win 9).fetch_out rfl _) (by omega) Y).mp h with hf | hl
  · exact absurd ((flush0_9 _).mp hf) (by show ¬(t.val - 1) % 2 = 1; omega)
  · exact Dat.toRRel_leaves (dats m 0 c) (fgt := marked) (Rl := Rl m c) (w := 9) rfl hl

theorem sum_first (c : Dev nD) (t : Fin cfg0.N) (h0 : t.val % 8 = 0) (X : Vec Ideal S1x4096 .f32)
    (h : Post10 (grid0.coords t) (fun _ => 0) (iblk m c 0 t) (iblk m c 1 t) (iblk m c 4 t) (iblk m c 5 t) (iblk m c 6 t) X) : Sum8 m c (t.val + 1) X := by
  have ht : t.val < 8 := Nat.lt_of_lt_of_eq t.isLt N_0
  intro b
  rw [h b, ← partN_eq, Finset.sum_range_succ, show t.val = 0 by omega, Finset.sum_range_zero]

theorem sum_next (c : Dev nD) (t : Fin cfg0.N) (Y X : Vec Ideal S1x4096 .f32) (hY : Sum8 m c t.val Y)
    (h : Post10 (grid0.coords t) (fun b => Y (ix2 (0 : Fin 1) b)) (iblk m c 0 t) (iblk m c 1 t) (iblk m c 4 t) (iblk m c 5 t) (iblk m c 6 t) X) : Sum8 m c (t.val + 1) X := by
  intro b
  rw [h b, ← partN_eq, Finset.sum_range_succ, ← hY b]

theorem coord_1 (t : Fin cfg0.N) : (grid0.coords t 1).val = t.val % 2 := by
  have e1 : (grid0.coords t 1).val = t.val / 1 % 2 := Pipeline.Grid.coords_val t 1 (by decide) rfl
  rw [e1, Nat.div_one]

theorem rows_next (c : Dev nD) (t : Fin cfg0.N) (Y X : Vec Ideal S1x2x4096 .f32) (hY : t.val % 2 = 1 → Rows9 m c (t.val - 1) Y)
    (h : Post11 (grid0.coords t) Y (iblk m c 0 t) (iblk m c 1 t) (iblk m c 4 t) (iblk m c 5 t) (iblk m c 6 t) X) : Rows9 m c t.val X := by
  intro j b hj
  rw [h j b, coord_1]
  split_ifs with e
  · rw [← partN_eq]
    congr 1; omega
  · have h1 : t.val % 2 = 1 := by omega
    rw [hY h1 j b (by omega)]
    congr 1; omega

set_option maxHeartbeats 28800000 in
/-- The body at any point, by the run of the point's case. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [PhiA0_eq]
  rw [show (dats m 0 c).leavesExact 0 t = owns (c : Thread nD τ) (ms0_0 t) fullShare (iblk m c 0 t) from by
    unfold Dat.leavesExact; rw [liveAt0_0 t, after0_0]]
  rw [show (dats m 0 c).leavesExact 1 t = owns (c : Thread nD τ) (ms0_1 t) fullShare (iblk m c 1 t) from by
    unfold Dat.leavesExact; rw [liveAt0_1 t, after0_1]]
  rw [show (dats m 0 c).leavesExact 2 t = owns (c : Thread nD τ) (ms0_2 t) fullShare (iblk m c 2 t) from by
    unfold Dat.leavesExact; rw [liveAt0_2 t, after0_2]]
  rw [show (dats m 0 c).leavesExact 3 t = owns (c : Thread nD τ) (ms0_3 t) fullShare (iblk m c 3 t) from by
    unfold Dat.leavesExact; rw [liveAt0_3 t, after0_3]]
  rw [show (dats m 0 c).leavesExact 4 t = owns (c : Thread nD τ) (ms0_4 t) fullShare (iblk m c 4 t) from by
    unfold Dat.leavesExact; rw [liveAt0_4 t, after0_4]]
  rw [show (dats m 0 c).leavesExact 5 t = owns (c : Thread nD τ) (ms0_5 t) fullShare (iblk m c 5 t) from by
    unfold Dat.leavesExact; rw [liveAt0_5 t, after0_5]]
  rw [show (dats m 0 c).leavesExact 6 t = owns (c : Thread nD τ) (ms0_6 t) fullShare (iblk m c 6 t) from by
    unfold Dat.leavesExact; rw [liveAt0_6 t, after0_6]]
  by_cases h0 : t.val % 8 = 0
  · have h1 : ¬t.val % 2 = 1 := by omega
    iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩, ⟨%y11, %hy11, H11⟩, ⟨%y12, %hy12, H12⟩, ⟨%y13, %hy13, H13⟩⟩
    iapply (run_A c (grid0.coords t) _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) y8 y9 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HS7]; · iexact HS7
    isplitl [HS8]; · iexact HS8
    isplitl [HS9]; · iexact HS9
    isplitl [HS10]; · iexact HS10
    iintro ⟨H0, H1, H2, H3, H4, H5, H6, ⟨%e7, %p7, H7⟩, ⟨%e8, %p8, H8⟩, ⟨%e9, %p9, H9⟩, ⟨%e10, H10⟩, ⟨%e11, H11⟩, ⟨%e12, %p12, H12⟩, ⟨%e13, H13⟩, HS0, HS1, HS2, HS3, HS4, HS5, HS6, HS7, HS8, HS9, HS10⟩
    isplitl [HS0 HS1 HS2 HS3 HS4 HS5 HS6 HS7 HS8 HS9 HS10 Hg]
    · isplitl [HS0 HS1 HS2 HS3 HS4 HS5 HS6 HS7 HS8 HS9 HS10]
      · isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        isplitl [HS9]; · iexact HS9
        iexact HS10
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexists e7; isplitr; · ipureintro; exact p7
      iexact H7
    isplitl [H8]
    · iexists e8; isplitr; · ipureintro; exact sum_first m c t h0 e8 p8
      iexact H8
    isplitl [H9]
    · iexists e9; isplitr; · ipureintro; exact rows_next m c t y9 e9 (fun h => absurd h h1) p9
      iexact H9
    isplitl [H10]
    · iexists e10; isplitr; · ipureintro; trivial
      iexact H10
    isplitl [H11]
    · iexists e11; isplitr; · ipureintro; trivial
      iexact H11
    isplitl [H12]
    · iexists e12; isplitr; · ipureintro; exact p12
      iexact H12
    iexists e13; isplitr; · ipureintro; trivial
    iexact H13
  · by_cases h1 : t.val % 2 = 1
    · skip
      iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩, ⟨%y11, %hy11, H11⟩, ⟨%y12, %hy12, H12⟩, ⟨%y13, %hy13, H13⟩⟩
      iapply (run_B c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) y8 y9 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iintro ⟨H0, H1, H2, H3, H4, H5, H6, ⟨%e7, %p7, H7⟩, ⟨%e8, %p8, H8⟩, ⟨%e9, %p9, H9⟩, ⟨%e10, H10⟩, ⟨%e11, H11⟩, ⟨%e12, %p12, H12⟩, ⟨%e13, H13⟩, HS0, HS1, HS2, HS3, HS4, HS5, HS6, HS7, HS8, HS9, HS10⟩
      isplitl [HS0 HS1 HS2 HS3 HS4 HS5 HS6 HS7 HS8 HS9 HS10 Hg]
      · isplitl [HS0 HS1 HS2 HS3 HS4 HS5 HS6 HS7 HS8 HS9 HS10]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          iexact HS10
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iexists e7; isplitr; · ipureintro; exact p7
        iexact H7
      isplitl [H8]
      · iexists e8; isplitr; · ipureintro; exact sum_next m c t y8 e8 (find8 m c t h0 y8 hy8) p8
        iexact H8
      isplitl [H9]
      · iexists e9; isplitr; · ipureintro; exact rows_next m c t y9 e9 (fun h => find9 m c t h y9 hy9) p9
        iexact H9
      isplitl [H10]
      · iexists e10; isplitr; · ipureintro; trivial
        iexact H10
      isplitl [H11]
      · iexists e11; isplitr; · ipureintro; trivial
        iexact H11
      isplitl [H12]
      · iexists e12; isplitr; · ipureintro; exact p12
        iexact H12
      iexists e13; isplitr; · ipureintro; trivial
      iexact H13
    · skip
      iintro ⟨⟨⟨HS0, HS1, HS2, HS3, HS4, HS5, HS6, HS7, HS8, HS9, HS10⟩, Hg⟩, Ho, ⟨%d0, H0⟩, ⟨%d1, H1⟩, ⟨%d2, H2⟩, ⟨%d3, H3⟩, ⟨%d4, H4⟩, ⟨%d5, H5⟩, ⟨%d6, H6⟩, ⟨%y7, %hy7, H7⟩, ⟨%y8, %hy8, H8⟩, ⟨%y9, %hy9, H9⟩, ⟨%y10, %hy10, H10⟩, ⟨%y11, %hy11, H11⟩, ⟨%y12, %hy12, H12⟩, ⟨%y13, %hy13, H13⟩⟩
      iapply (run_C c (grid0.coords t) _ _ _ _ _ _ _ _ _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) y8 y9 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      isplitl [HS3]; · iexact HS3
      isplitl [HS4]; · iexact HS4
      isplitl [HS5]; · iexact HS5
      isplitl [HS6]; · iexact HS6
      isplitl [HS7]; · iexact HS7
      isplitl [HS8]; · iexact HS8
      isplitl [HS9]; · iexact HS9
      isplitl [HS10]; · iexact HS10
      iintro ⟨H0, H1, H2, H3, H4, H5, H6, ⟨%e7, %p7, H7⟩, ⟨%e8, %p8, H8⟩, ⟨%e9, %p9, H9⟩, ⟨%e10, H10⟩, ⟨%e11, H11⟩, ⟨%e12, %p12, H12⟩, ⟨%e13, H13⟩, HS0, HS1, HS2, HS3, HS4, HS5, HS6, HS7, HS8, HS9, HS10⟩
      isplitl [HS0 HS1 HS2 HS3 HS4 HS5 HS6 HS7 HS8 HS9 HS10 Hg]
      · isplitl [HS0 HS1 HS2 HS3 HS4 HS5 HS6 HS7 HS8 HS9 HS10]
        · isplitl [HS0]; · iexact HS0
          isplitl [HS1]; · iexact HS1
          isplitl [HS2]; · iexact HS2
          isplitl [HS3]; · iexact HS3
          isplitl [HS4]; · iexact HS4
          isplitl [HS5]; · iexact HS5
          isplitl [HS6]; · iexact HS6
          isplitl [HS7]; · iexact HS7
          isplitl [HS8]; · iexact HS8
          isplitl [HS9]; · iexact HS9
          iexact HS10
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · iexists e7; isplitr; · ipureintro; exact p7
        iexact H7
      isplitl [H8]
      · iexists e8; isplitr; · ipureintro; exact sum_next m c t y8 e8 (find8 m c t h0 y8 hy8) p8
        iexact H8
      isplitl [H9]
      · iexists e9; isplitr; · ipureintro; exact rows_next m c t y9 e9 (fun h => absurd h h1) p9
        iexact H9
      isplitl [H10]
      · iexists e10; isplitr; · ipureintro; trivial
        iexact H10
      isplitl [H11]
      · iexists e11; isplitr; · ipureintro; trivial
        iexact H11
      isplitl [H12]
      · iexists e12; isplitr; · ipureintro; exact p12
        iexact H12
      iexists e13; isplitr; · ipureintro; trivial
      iexact H13

/-- The body table's row at a point's slots is the body. -/
theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) :
    Pipeline.BodyObligationRel (dats m 0 c) (defs₀ (F := Ideal)) Variants.none () Set.univ marked (Rl m c) := fun t => by
  rw [bigSep_W0, bigSep_W0, defs₀_row]
  exact triple_restated (sound_body m c t) rfl .rfl fun _ => .rfl

set_option backward.isDefEq.respectTransparency.types false in
set_option maxHeartbeats 800000 in
/-- The launch: the arrays as the write-backs leave them, and every semaphore counter at zero. -/
theorem run_main_quiescent : θ_run defs (onTc (τ := τ) (main (F := Ideal))) (s₀ m ρ)
    (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

/-- The argument arrays end unchanged and the semaphores at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ hq => ⟨fun c => by
    have h := hq.1
    exact ⟨(Pipeline.RDat.FramePost.arr_in h c 0 rfl).trans (V_main_arg0 m c),
      (Pipeline.RDat.FramePost.arr_in h c 1 rfl).trans (V_main_arg1 m c),
      ((h c).2 main_arg2 (Pipeline.mem_restRefs_of main_arg2 (by decide) (by decide))).trans (V_main_arg2 m c),
      (Pipeline.RDat.FramePost.arr_in h c 3 rfl).trans (V_main_arg3 m c),
      (Pipeline.RDat.FramePost.arr_in h c 4 rfl).trans (V_main_arg4 m c),
      (Pipeline.RDat.FramePost.arr_in h c 5 rfl).trans (V_main_arg5 m c),
      (Pipeline.RDat.FramePost.arr_in h c 6 rfl).trans (V_main_arg6 m c)⟩, hq.2⟩) (run_main_quiescent m ρ)

end Cert.KernelIdeal.Gen

end
-- ==== Proof.Easy.lean ====
/- The claims that need no value: the three frames, and the idealization's rewrites. -/
module

public import proofs.«01_k».proof.Defs
public import proofs.«01_k».proof.Proof.Kernel.Whole
public import proofs.«01_k».proof.Proof.KernelIdeal.Whole
public import proofs.«01_k».proof.Proof.Gen.ReferenceIdeal.Run
public import Idealize.ShloMosaic.Lib.Quiescent
public import Idealize.ShloMosaic.Lib.Bf16Pair
public import Idealize.ShloMosaic.Lib.Bf16PairInverse

@[expose] public section

noncomputable section

namespace Cert.Proof

open Idealize.ShloMosaic Idealize.SL.Sem

/-- The printed program runs, leaves its arguments unchanged and every counter at zero. -/
theorem frame_p : Cert.quiescent_Kernel := fun m ρ _ => Cert.Kernel.Gen.frame (F := Bits) m ρ

/-- So does its idealization. -/
theorem frame_pi : Cert.quiescent_KernelIdeal := fun m ρ _ => Cert.KernelIdeal.Gen.frame m ρ

/-- So does the reference, which declares no semaphore. -/
theorem frame_r : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- Each rewrite of the idealization holds of the bits. -/
theorem preserves : Cert.preserves_Kernel_KernelIdeal :=
  ⟨IdealRules.bf16_pair.bufferStatement _ _, IdealRules.bf16_pair.packStatement _, IdealRules.bf16_pair.statement _ _,
    IdealRules.bf16_pair.statement _ _, IdealRules.bf16_pair.statement _ _, IdealRules.bf16_pair.packStatement _⟩

end Cert.Proof

end
-- ==== Proof.Sums.lean ====
/- The reference's three results, entry by entry, in the form of what the kernel's points compute: its sums over a row and
   over a block of rows re-associated, and its quotient by 4096 read as the product with the reciprocal. -/
module

public import proofs.«01_k».proof.Proof.KernelIdeal.PointDefs
public import proofs.«01_k».proof.Proof.Gen.ReferenceIdeal.Read

@[expose] public section

noncomputable section

namespace Cert.Algebra

open Idealize.ShloMosaic Idealize.ShloMosaic.TcCoe Idealize.ShloMosaic.ValueIdx
open Cert.KernelIdeal.Gen Cert.ReferenceIdeal.Read
open Cert.ReferenceIdeal

/-! ## Sums -/

/-- 128 lanes of pairs of column groups are the columns. -/
theorem sum_pairs (f : ℕ → EReal) (n : ℕ) :
    ∑ l ∈ Finset.range 128, ∑ p ∈ Finset.range n, (f (256 * p + l) + f (256 * p + 128 + l)) = ∑ k ∈ Finset.range (256 * n), f k := by
  induction n with
  | zero => simp
  | succ n ih =>
    simp only [Finset.sum_range_succ (fun p => _) n]
    rw [Finset.sum_add_distrib, ih, Finset.sum_add_distrib, show 256 * (n + 1) = 256 * n + 128 + 128 by ring,
      Finset.sum_range_add, Finset.sum_range_add, add_assoc]

/-- Eight sublanes of `n` rows each are the rows. -/
theorem sum_eights (f : ℕ → EReal) (n : ℕ) :
    ∑ s ∈ Finset.range 8, ∑ j ∈ Finset.range n, f (8 * j + s) = ∑ k ∈ Finset.range (8 * n), f k := by
  induction n with
  | zero => simp
  | succ n ih =>
    simp only [Finset.sum_range_succ (fun p => _) n]
    rw [Finset.sum_add_distrib, ih, show 8 * (n + 1) = 8 * n + 8 by ring, Finset.sum_range_add]

/-- The row's sum in the kernel's order is the sum over the columns. -/
theorem row_sum (x q k v : ℕ → ℕ → EReal) (r g : ℕ → EReal) (a : ℕ) :
    ∑ l : Fin 128, frow x q k v r g a l.val 16 = ∑ b : Fin 4096, fcc x q k v r g a b.val := by
  rw [← Finset.sum_range (fun l => frow x q k v r g a l 16), ← Finset.sum_range (fun b => fcc x q k v r g a b)]
  unfold frow
  exact sum_pairs (fcc x q k v r g a) 16

/-- The block's sum in the kernel's order is the sum over its rows. -/
theorem block_sum (x q k v : ℕ → ℕ → EReal) (r : ℕ → EReal) (b : ℕ) :
    partAt x q k v r b = ∑ a : Fin 128, fg x q k v r a.val b := by
  unfold partAt
  rw [← Finset.sum_range (fun s => fgs x q k v r s b), ← Finset.sum_range (fun a => fg x q k v r a b)]
  refine Eq.trans (Finset.sum_congr rfl fun s _ => ?_) (sum_eights (fun a => fg x q k v r a b) 16)
  unfold fgs
  simp only [Finset.sum_range_succ, Finset.sum_range_zero, Nat.mul_zero, Nat.zero_add, Nat.mul_one]

/-- The word of one over 4096. -/
theorem bits_recip : Ideal.ofBits .f32 0x39800000#32 = ((1 / 4096 : ℝ) : EReal) := by
  simp [Ideal.ofBits, Ideal.ieee]
  norm_num
  rw [← EReal.coe_mul]
  norm_num

/-- The word of 4096. -/
theorem bits_4096 : Ideal.ofBits .f32 0x45800000#32 = ((4096 : ℝ) : EReal) := by
  simp [Ideal.ofBits, Ideal.ieee]
  norm_num
  rw [← EReal.coe_mul]
  norm_num

/-! ## The reference -/

section
variable (x0 : (⟨S4x256x4096, .bf16⟩ : BufTy).Contents (Elt Ideal)) (x1 : (⟨S4x256, .f32⟩ : BufTy).Contents (Elt Ideal))
  (x2 : (⟨S4096, .f32⟩ : BufTy).Contents (Elt Ideal)) (x3 x4 x5 x6 : (⟨S4x256x4096, .bf16⟩ : BufTy).Contents (Elt Ideal))
  (fx fd fq fk fv : ℕ → ℕ → EReal) (fr g : ℕ → EReal)

theorem ref_dn (p : Fin 4) (n : Fin 256) (b : Fin 4096) (a : ℕ) (h4 : x4 (ix3 p n b) = fq a b.val) (h5 : x5 (ix3 p n b) = fk a b.val) (h6 : x6 (ix3 p n b) = fv a b.val) :
    val_main_v5 (F := Ideal) x4 x5 x6 (ix3 p n b) = fdn fq fk fv a b.val := by
  rw [val_main_v5_apply, val_main_v3_apply, val_main_v1_apply, val_main_v2_apply, val_main_v4_apply, h4, h5, h6]
  rfl

theorem ref_r (p : Fin 4) (n : Fin 256) (b : Fin 4096) (a : ℕ) (h1 : x1 (ix2 p n) = fr a) : val_main_v7 (F := Ideal) x1 (ix3 p n b) = fr a := by
  rw [val_main_v7_apply, val_main_v0_apply, ← h1]
  exact congrArg x1 (eq_ix2 _)

theorem ref_r' (p : Fin 4) (n : Fin 256) (b : Fin 4096) (a : ℕ) (h1 : x1 (ix2 p n) = fr a) : val_main_v20 (F := Ideal) x1 (ix3 p n b) = fr a := by
  rw [val_main_v20_apply, val_main_v0_apply, ← h1]
  exact congrArg x1 (eq_ix2 _)

theorem ref_xh (p : Fin 4) (n : Fin 256) (b : Fin 4096) (a : ℕ) (h0 : x0 (ix3 p n b) = fx a b.val) (h1 : x1 (ix2 p n) = fr a) :
    val_main_v8 (F := Ideal) x0 x1 (ix3 p n b) = fxh fx fr a b.val := by
  rw [val_main_v8_apply, val_main_v6_apply, ref_r x1 fr p n b a h1, h0]
  rfl

theorem ref_g (p : Fin 4) (n : Fin 256) (b : Fin 4096) (h2 : x2 (ix1 b) = g b.val) : val_main_v10 (F := Ideal) x2 (ix3 p n b) = g b.val := by
  rw [val_main_v10_apply, val_main_v9_apply, ← h2]
  exact congrArg x2 (funext fun a => match a with | ⟨0, _⟩ => rfl)

theorem ref_cc (p : Fin 4) (n : Fin 256) (b : Fin 4096) (a : ℕ) (h0 : x0 (ix3 p n b) = fx a b.val) (h1 : x1 (ix2 p n) = fr a) (h2 : x2 (ix1 b) = g b.val)
    (h4 : x4 (ix3 p n b) = fq a b.val) (h5 : x5 (ix3 p n b) = fk a b.val) (h6 : x6 (ix3 p n b) = fv a b.val) :
    val_main_v12 (F := Ideal) x0 x1 x2 x4 x5 x6 (ix3 p n b) = fcc fx fq fk fv fr g a b.val := by
  rw [val_main_v12_apply, val_main_v11_apply, ref_dn x4 x5 x6 fq fk fv p n b a h4 h5 h6, ref_g x2 g p n b h2, ref_xh x0 x1 fx fr p n b a h0 h1]
  rfl

/-- The reference's mean of a row. -/
theorem ref_mean (p : Fin 4) (n : Fin 256) (a : ℕ) (h0 : ∀ b : Fin 4096, x0 (ix3 p n b) = fx a b.val) (h1 : x1 (ix2 p n) = fr a)
    (h2 : ∀ b : Fin 4096, x2 (ix1 b) = g b.val) (h4 : ∀ b : Fin 4096, x4 (ix3 p n b) = fq a b.val) (h5 : ∀ b : Fin 4096, x5 (ix3 p n b) = fk a b.val)
    (h6 : ∀ b : Fin 4096, x6 (ix3 p n b) = fv a b.val) (b : Fin 4096) :
    val_main_v17 (F := Ideal) x0 x1 x2 x4 x5 x6 (ix3 p n b) = meanAt fx fq fk fv fr g a := by
  have hs : val_main_v14 (F := Ideal) x0 x1 x2 x4 x5 x6 (idx_main_v17 (ix3 p n b)) = ∑ k : Fin 4096, fcc fx fq fk fv fr g a k.val := by
    rw [val_main_v14_apply, val_main_v13_apply, val_main_cst_apply, zero_bits, zero_add]
    refine Finset.sum_congr rfl fun k _ => ?_
    rw [← ref_cc x0 x1 x2 x4 x5 x6 fx fq fk fv fr g p n k a (h0 k) h1 (h2 k) (h4 k) (h5 k) (h6 k)]
    exact congrArg _ (eq_ix3 _)
  rw [val_main_v17_apply, val_main_v16_apply, hs, val_main_v15_apply, val_main_cst_0_apply]
  show Ideal.div _ (Ideal.ofBits .f32 0x45800000#32) = _
  unfold meanAt
  rw [bits_4096, Ideal.div_coe (by norm_num), bits_recip, row_sum]

/-- The reference's first result at an entry. -/
theorem ref_dx (p : Fin 4) (n : Fin 256) (a : ℕ) (h0 : ∀ b : Fin 4096, x0 (ix3 p n b) = fx a b.val) (h1 : x1 (ix2 p n) = fr a)
    (h2 : ∀ b : Fin 4096, x2 (ix1 b) = g b.val) (h3 : ∀ b : Fin 4096, x3 (ix3 p n b) = fd a b.val) (h4 : ∀ b : Fin 4096, x4 (ix3 p n b) = fq a b.val)
    (h5 : ∀ b : Fin 4096, x5 (ix3 p n b) = fk a b.val) (h6 : ∀ b : Fin 4096, x6 (ix3 p n b) = fv a b.val) (b : Fin 4096) :
    val_main_v66 (F := Ideal) x0 x1 x2 x3 x4 x5 x6 (ix3 p n b) = fout fx fq fk fv fd fr g (meanAt fx fq fk fv fr g) a b.val := by
  rw [val_main_v66_apply, val_main_v27_apply, val_main_v21_apply, val_main_v19_apply, val_main_v11_apply, val_main_v18_apply, val_main_v26_apply,
    ref_r' x1 fr p n b a h1, ref_dn x4 x5 x6 fq fk fv p n b a (h4 b) (h5 b) (h6 b), ref_g x2 g p n b (h2 b), ref_xh x0 x1 fx fr p n b a (h0 b) h1,
    ref_mean x0 x1 x2 x4 x5 x6 fx fq fk fv fr g p n a h0 h1 h2 h4 h5 h6 b, h3]
  rfl

/-- The reference's third result at an entry. -/
theorem ref_part (p : Fin 4) (j : Fin 2) (b : Fin 4096) (h0 : ∀ (a : Fin 128), x0 (ix3 p ⟨128 * j.val + a.val, by omega⟩ b) = fx a b.val)
    (h1 : ∀ a : Fin 128, x1 (ix2 p ⟨128 * j.val + a.val, by omega⟩) = fr a)
    (h4 : ∀ (a : Fin 128), x4 (ix3 p ⟨128 * j.val + a.val, by omega⟩ b) = fq a b.val)
    (h5 : ∀ (a : Fin 128), x5 (ix3 p ⟨128 * j.val + a.val, by omega⟩ b) = fk a b.val)
    (h6 : ∀ (a : Fin 128), x6 (ix3 p ⟨128 * j.val + a.val, by omega⟩ b) = fv a b.val) :
    val_main_v24 (F := Ideal) x0 x1 x4 x5 x6 (ix3 p j b) = partAt fx fq fk fv fr b.val := by
  rw [val_main_v24_apply, val_main_cst_1_apply, zero_bits, zero_add, block_sum]
  refine Finset.sum_congr rfl fun a _ => ?_
  have e : idx_main_v23 (idx_main_v24 (ix3 p j b) a) = ix3 p ⟨128 * j.val + a.val, by omega⟩ b := funext fun c => Fin.ext (by
    have hp := p.isLt
    have hj := j.isLt
    have ha := a.isLt
    have hb := b.isLt
    match c with
    | ⟨0, _⟩ => show (((p.val * 2 + j.val) * 128 + a.val) * 4096 + b.val) / 1048576 = p.val; omega
    | ⟨1, _⟩ => show (((p.val * 2 + j.val) * 128 + a.val) * 4096 + b.val) / 4096 % 256 = 128 * j.val + a.val; omega
    | ⟨2, _⟩ => show (((p.val * 2 + j.val) * 128 + a.val) * 4096 + b.val) % 4096 = b.val; omega)
  rw [val_main_v23_apply, e, val_main_v22_apply, ref_dn x4 x5 x6 fq fk fv p _ b a.val (h4 a) (h5 a) (h6 a), ref_xh x0 x1 fx fr p _ b a.val (h0 a) (h1 a)]
  rfl

/-- The reference's second result at an entry: the rows of contributions summed, by the points' order. -/
theorem ref_dgamma (b : Fin 4096) :
    val_main_v67 (F := Ideal) x0 x1 x4 x5 x6 (ix2 (0 : Fin 1) b)
      = ∑ u ∈ Finset.range 8, val_main_v24 (F := Ideal) x0 x1 x4 x5 x6 (ix3 (⟨u / 2 % 4, by omega⟩ : Fin 4) (⟨u % 2, by omega⟩ : Fin 2) b) := by
  rw [val_main_v67_apply]
  unfold val_main_v25
  generalize val_main_v24 (F := Ideal) x0 x1 x4 x5 x6 = y
  show Ideal.hostReduceAdd _ y (Ideal.ofBits .f32 0#32) _ = _
  unfold Ideal.hostReduceAdd
  rw [show Ideal.ofBits .f32 0#32 = 0 from zero_bits, zero_add]
  have hd : ∀ i : S4x2x4096.Idx, (Cert.ReferenceIdeal.Gen.reducesTo_S4x2x4096_S4096_d0_1.drop i 0).val = (i 2).val := fun i => rfl
  refine Finset.sum_nbij' (fun i => 2 * (i 0).val + (i 1).val) (fun u => ix3 (⟨u / 2 % 4, by omega⟩ : Fin 4) (⟨u % 2, by omega⟩ : Fin 2) b) ?_ ?_ ?_ ?_ ?_
  · intro i _
    have h0 : (i 0).val < 4 := (i 0).isLt
    have h1 : (i 1).val < 2 := (i 1).isLt
    rw [Finset.mem_range]
    show 2 * (i 0).val + (i 1).val < 8
    omega
  · intro u _
    rw [Finset.mem_filter]
    refine ⟨Finset.mem_univ _, funext fun a => Fin.ext ?_⟩
    match a with
    | ⟨0, _⟩ =>
      refine (hd _).trans ?_
      show b.val = 0 * 4096 + b.val
      omega
  · intro i hi
    have hb := congrArg Fin.val (congrFun (Finset.mem_filter.mp hi).2 0)
    rw [hd] at hb
    have hb' : (i 2).val = 0 * 4096 + b.val := hb
    have h0 : (i 0).val < 4 := (i 0).isLt
    have h1 : (i 1).val < 2 := (i 1).isLt
    funext a
    apply Fin.ext
    match a with
    | ⟨0, _⟩ => show (2 * (i 0).val + (i 1).val) / 2 % 4 = (i 0).val; omega
    | ⟨1, _⟩ => show (2 * (i 0).val + (i 1).val) % 2 = (i 1).val; omega
    | ⟨2, _⟩ => show b.val = (i 2).val; omega
  · intro u hu
    have hu' : u < 8 := Finset.mem_range.mp hu
    show 2 * (u / 2 % 4) + u % 2 = u
    omega
  · intro i hi
    have hb := congrArg Fin.val (congrFun (Finset.mem_filter.mp hi).2 0)
    rw [hd] at hb
    have hb' : (i 2).val = 0 * 4096 + b.val := hb
    have h0 : (i 0).val < 4 := (i 0).isLt
    have h1 : (i 1).val < 2 := (i 1).isLt
    refine congrArg y (funext fun a => Fin.ext ?_)
    match a with
    | ⟨0, _⟩ => show (i 0).val = (2 * (i 0).val + (i 1).val) / 2 % 4; omega
    | ⟨1, _⟩ => show (i 1).val = (2 * (i 0).val + (i 1).val) % 2; omega
    | ⟨2, _⟩ => show (i 2).val = b.val; omega
end

end Cert.Algebra

end
-- ==== Proof.Blocks.lean ====
/- The blocks that a point of the kernel is handed, as entries of the arguments; and what the point computes, as entries of
   the reference's results. -/
module

public import proofs.«01_k».proof.Proof.Sums
public import proofs.«01_k».proof.Proof.Gen.KernelIdeal.Frame
public import Idealize.ShloMosaic.Lib.Pipeline.ValueKit.Geometry

@[expose] public section

noncomputable section

namespace Cert.KernelIdeal.Gen

open Idealize.ShloMosaic Idealize.ShloMosaic.TcCoe Idealize.ShloMosaic.Tactic Idealize.ShloMosaic.ValueIdx Idealize.ShloMosaic.StableHlo
open Cert.ReferenceIdeal.Read (val_main_v66 val_main_v67 val_main_v24)

variable (m : (ℓ : Loc nD τ sig) → Buf (Elt Ideal) ℓ)

/-! ## Where the windows' blocks sit -/

theorem index_0 : ∀ t : Fin cfg0.N, win0_0.index t = ![(grid0.coords t 0).val, (grid0.coords t 1).val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![0, 0] := (by decide +kernel : ∀ t : Fin grid0.N, _)
theorem index_3 : ∀ t : Fin cfg0.N, win0_3.index t = ![(grid0.coords t 0).val, (grid0.coords t 1).val, 0] := (by decide +kernel : ∀ t : Fin grid0.N, _)
theorem index_4 : ∀ t : Fin cfg0.N, win0_4.index t = ![(grid0.coords t 0).val, (grid0.coords t 1).val, 0] := (by decide +kernel : ∀ t : Fin grid0.N, _)
theorem index_5 : ∀ t : Fin cfg0.N, win0_5.index t = ![(grid0.coords t 0).val, (grid0.coords t 1).val, 0] := (by decide +kernel : ∀ t : Fin grid0.N, _)
theorem index_6 : ∀ t : Fin cfg0.N, win0_6.index t = ![(grid0.coords t 0).val, (grid0.coords t 1).val, 0] := (by decide +kernel : ∀ t : Fin grid0.N, _)
theorem index_7 : ∀ t : Fin cfg0.N, win0_7.index t = ![(grid0.coords t 0).val, (grid0.coords t 1).val, 0] := (by decide +kernel : ∀ t : Fin grid0.N, _)
theorem index_8 : ∀ t : Fin cfg0.N, win0_8.index t = ![0, 0] := (by decide +kernel : ∀ t : Fin grid0.N, _)
theorem index_9 : ∀ t : Fin cfg0.N, win0_9.index t = ![(grid0.coords t 0).val, 0, 0] := (by decide +kernel : ∀ t : Fin grid0.N, _)

theorem lt_0 (t : Fin cfg0.N) : (grid0.coords t 0).val < 4 := (grid0.coords t 0).isLt
theorem lt_1 (t : Fin cfg0.N) : (grid0.coords t 1).val < 2 := (grid0.coords t 1).isLt

/-- The row of the array that row `a` of the point's block is. -/
def rowOf (t : Fin cfg0.N) (a : Fin 128) : Fin 256 := ⟨128 * (grid0.coords t 1).val + a.val, by have := lt_1 t; omega⟩
/-- The batch of the point. -/
def batchOf (t : Fin cfg0.N) : Fin 4 := ⟨(grid0.coords t 0).val, lt_0 t⟩

/-! ## The blocks -/

theorem iblk_0 (c : Dev nD) (t : Fin cfg0.N) (a : Fin 128) (b : Fin 4096) :
    (m ((c : Thread nD τ).loc main_arg0) : (⟨S4x256x4096, .bf16⟩ : BufTy).Contents (Elt Ideal)) (ix3 (batchOf t) (rowOf t a) b) = at3 (iblk m c 0 t) a.val b.val := by
  unfold at3
  rw [dif_pos ⟨a.isLt, b.isLt⟩, ← V_main_arg0 m c]
  blk_simp [iblk, index_0]
  refine congrArg _ (funext fun k => Fin.ext ?_)
  match k with
  | ⟨0, _⟩ => blk_simp [index_0]; rfl
  | ⟨1, _⟩ => blk_simp [index_0]; show 128 * (grid0.coords t 1).val + a.val = (grid0.coords t 1).val * 128 + a.val; omega
  | ⟨2, _⟩ => blk_simp [index_0]

theorem iblk_3 (c : Dev nD) (t : Fin cfg0.N) (a : Fin 128) (b : Fin 4096) :
    (m ((c : Thread nD τ).loc main_arg3) : (⟨S4x256x4096, .bf16⟩ : BufTy).Contents (Elt Ideal)) (ix3 (batchOf t) (rowOf t a) b) = at3 (iblk m c 3 t) a.val b.val := by
  unfold at3
  rw [dif_pos ⟨a.isLt, b.isLt⟩, ← V_main_arg3 m c]
  blk_simp [iblk, index_3]
  refine congrArg _ (funext fun k => Fin.ext ?_)
  match k with
  | ⟨0, _⟩ => blk_simp [index_3]; rfl
  | ⟨1, _⟩ => blk_simp [index_3]; show 128 * (grid0.coords t 1).val + a.val = (grid0.coords t 1).val * 128 + a.val; omega
  | ⟨2, _⟩ => blk_simp [index_3]

theorem iblk_4 (c : Dev nD) (t : Fin cfg0.N) (a : Fin 128) (b : Fin 4096) :
    (m ((c : Thread nD τ).loc main_arg4) : (⟨S4x256x4096, .bf16⟩ : BufTy).Contents (Elt Ideal)) (ix3 (batchOf t) (rowOf t a) b) = at3 (iblk m c 4 t) a.val b.val := by
  unfold at3
  rw [dif_pos ⟨a.isLt, b.isLt⟩, ← V_main_arg4 m c]
  blk_simp [iblk, index_4]
  refine congrArg _ (funext fun k => Fin.ext ?_)
  match k with
  | ⟨0, _⟩ => blk_simp [index_4]; rfl
  | ⟨1, _⟩ => blk_simp [index_4]; show 128 * (grid0.coords t 1).val + a.val = (grid0.coords t 1).val * 128 + a.val; omega
  | ⟨2, _⟩ => blk_simp [index_4]

theorem iblk_5 (c : Dev nD) (t : Fin cfg0.N) (a : Fin 128) (b : Fin 4096) :
    (m ((c : Thread nD τ).loc main_arg5) : (⟨S4x256x4096, .bf16⟩ : BufTy).Contents (Elt Ideal)) (ix3 (batchOf t) (rowOf t a) b) = at3 (iblk m c 5 t) a.val b.val := by
  unfold at3
  rw [dif_pos ⟨a.isLt, b.isLt⟩, ← V_main_arg5 m c]
  blk_simp [iblk, index_5]
  refine congrArg _ (funext fun k => Fin.ext ?_)
  match k with
  | ⟨0, _⟩ => blk_simp [index_5]; rfl
  | ⟨1, _⟩ => blk_simp [index_5]; show 128 * (grid0.coords t 1).val + a.val = (grid0.coords t 1).val * 128 + a.val; omega
  | ⟨2, _⟩ => blk_simp [index_5]

theorem iblk_6 (c : Dev nD) (t : Fin cfg0.N) (a : Fin 128) (b : Fin 4096) :
    (m ((c : Thread nD τ).loc main_arg6) : (⟨S4x256x4096, .bf16⟩ : BufTy).Contents (Elt Ideal)) (ix3 (batchOf t) (rowOf t a) b) = at3 (iblk m c 6 t) a.val b.val := by
  unfold at3
  rw [dif_pos ⟨a.isLt, b.isLt⟩, ← V_main_arg6 m c]
  blk_simp [iblk, index_6]
  refine congrArg _ (funext fun k => Fin.ext ?_)
  match k with
  | ⟨0, _⟩ => blk_simp [index_6]; rfl
  | ⟨1, _⟩ => blk_simp [index_6]; show 128 * (grid0.coords t 1).val + a.val = (grid0.coords t 1).val * 128 + a.val; omega
  | ⟨2, _⟩ => blk_simp [index_6]

theorem iblk_1 (c : Dev nD) (t : Fin cfg0.N) (a : Fin 128) :
    (m ((c : Thread nD τ).loc main_arg1) : (⟨S4x256, .f32⟩ : BufTy).Contents (Elt Ideal)) (ix2 (batchOf t) (rowOf t a)) = rsAt (grid0.coords t) (iblk m c 1 t) a.val := by
  unfold rsAt
  have h1 := lt_1 t
  rw [dif_pos ⟨lt_0 t, by omega⟩, ← V_main_arg1 m c]
  blk_simp [iblk, index_1]
  refine congrArg _ (funext fun k => Fin.ext ?_)
  match k with
  | ⟨0, _⟩ => blk_simp [index_1]; rfl
  | ⟨1, _⟩ => blk_simp [index_1]; rfl

/-- Gamma's array is gamma's row, reshaped. -/
theorem V_main_v0 (c : Dev nD) : V m c main_v0 = shapeCast _ (m ((c : Thread nD τ).loc main_arg2)) shapeCasts_S4096_S1x4096 := by
  unfold V
  unfold hostOps0
  after_results_simp <;> rfl

theorem iblk_2 (c : Dev nD) (t : Fin cfg0.N) (b : Fin 4096) :
    (m ((c : Thread nD τ).loc main_arg2) : (⟨S4096, .f32⟩ : BufTy).Contents (Elt Ideal)) (ix1 b) = at2 (iblk m c 2 t) b.val := by
  unfold at2
  rw [dif_pos b.isLt]
  blk_simp [iblk, index_2]
  rw [V_main_v0]
  symm
  refine shapeCast_apply _ shapeCasts_S4096_S1x4096 _ _ ?_
  rw [Shape.rowMajor_val_one, Shape.rowMajor_val_two]
  blk_simp [index_2]

/-! ## What a point computes -/

section
variable (c : Dev nD)

/-- The reference's results of the kernel's arguments. -/
def ref0 : (⟨S4x256x4096, .bf16⟩ : BufTy).Contents (Elt Ideal) :=
  val_main_v66 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))
def ref1 : (⟨S1x4096, .f32⟩ : BufTy).Contents (Elt Ideal) :=
  val_main_v67 (F := Ideal) (m ((c : Thread nD τ).loc main_arg0)) (m ((c : Thread nD τ).loc main_arg1))
    (m ((c : Thread nD τ).loc main_arg4)) (m ((c : Thread nD τ).loc main_arg5)) (m ((c : Thread nD τ).loc main_arg6))
def ref2 : (⟨S4x2x4096, .f32⟩ : BufTy).Contents (Elt Ideal) :=
  val_main_v24 (F := Ideal) (m ((c : Thread nD τ).loc main_arg0)) (m ((c : Thread nD τ).loc main_arg1))
    (m ((c : Thread nD τ).loc main_arg4)) (m ((c : Thread nD τ).loc main_arg5)) (m ((c : Thread nD τ).loc main_arg6))

/-- The point's block of the first result is the reference's. -/
theorem dxOf_eq (t : Fin cfg0.N) (a : Fin 128) (b : Fin 4096) :
    dxOf (grid0.coords t) (iblk m c 0 t) (iblk m c 1 t) (iblk m c 2 t) (iblk m c 3 t) (iblk m c 4 t) (iblk m c 5 t) (iblk m c 6 t) a.val b.val
      = ref0 m c (ix3 (batchOf t) (rowOf t a) b) := by
  unfold dxOf ref0
  exact (Cert.Algebra.ref_dx _ _ _ _ _ _ _ _ _ _ _ _ _ _ (batchOf t) (rowOf t a) a.val (iblk_0 m c t a) (iblk_1 m c t a) (iblk_2 m c t)
    (iblk_3 m c t a) (iblk_4 m c t a) (iblk_5 m c t a) (iblk_6 m c t a) b).symm

/-- The point's row of contributions to gamma is the reference's. -/
theorem partOf_eq (t : Fin cfg0.N) (b : Fin 4096) :
    partOf (grid0.coords t) (iblk m c 0 t) (iblk m c 1 t) (iblk m c 4 t) (iblk m c 5 t) (iblk m c 6 t) b.val
      = ref2 m c (ix3 (batchOf t) (⟨(grid0.coords t 1).val, lt_1 t⟩ : Fin 2) b) := by
  unfold partOf ref2
  exact (Cert.Algebra.ref_part _ _ _ _ _ _ _ _ _ _ (batchOf t) ⟨(grid0.coords t 1).val, lt_1 t⟩ b (fun a => iblk_0 m c t a b) (iblk_1 m c t)
    (fun a => iblk_4 m c t a b) (fun a => iblk_5 m c t a b) (fun a => iblk_6 m c t a b)).symm
end

end Cert.KernelIdeal.Gen

end
-- ==== Proof.Masked.lean ====
/- The reference's scale of a column's codes, and the mask that says where it is claimed: both in terms of one natural number,
   the field of the largest power of two that is at most the quotient of the column's maximum. -/
module

public import proofs.«01_k».proof.Proof.Sums
public import proofs.«01_k».proof.Proof.Scale
public import proofs.«01_k».proof.On_claimed

@[expose] public section

noncomputable section

namespace Cert.Algebra

open Cert.ReferenceIdeal Cert.ReferenceIdeal.Gen Cert.ReferenceIdeal.Read
open Idealize.ShloMosaic Idealize.ShloMosaic.TcCoe Idealize.ShloMosaic.ValueIdx Idealize.ShloMosaic.StableHlo
open Cert.Scale (pw pw_zero pw_le)

/-! ## The largest field -/

theorem small_toInt {n : ℕ} (h : n ≤ 254) : (BitVec.ofNat 32 n).toInt = n := by
  rw [BitVec.toInt_ofNat']; simp only [Int.bmod]; omega

theorem maxsi_small {x y : ℕ} (hx : x ≤ 254) (hy : y ≤ 254) :
    IntOp.maxsi (BitVec.ofNat 32 x) (BitVec.ofNat 32 y) = BitVec.ofNat 32 (max x y) := by
  unfold IntOp.maxsi
  rw [BitVec.slt_eq_decide, small_toInt hx, small_toInt hy]
  by_cases h : y < x
  · rw [if_pos (by simpa using h), max_eq_left (by omega)]
  · rw [if_neg (by simpa using h), max_eq_right (by omega)]

theorem maxsi_least {x : ℕ} (hx : x ≤ 254) : IntOp.maxsi (BitVec.ofNat 32 x) 2147483648#32 = BitVec.ofNat 32 x := by
  unfold IntOp.maxsi
  have e : (2147483648#32).toInt = -2147483648 := rfl
  rw [BitVec.slt_eq_decide, small_toInt hx, e, if_pos (by simp; omega)]

/-- The field number `k + 1` where the quotient is at least its power of two, and zero elsewhere. -/
def gate (q : EReal) (k : Fin 254) : BitVec 32 :=
  Scalar.select (FloatOps.cmpf (F := Ideal) (φ := .f32) .oge q (pw (1 + k.val))) (BitVec.ofNat 32 (1 + k.val)) 0#32

theorem gate_eq (q : EReal) (k : Fin 254) : gate q k = BitVec.ofNat 32 (if pw (1 + k.val) ≤ q then 1 + k.val else 0) := by
  unfold gate
  show Scalar.select (Ideal.cmp .oge q (pw (1 + k.val))) _ _ = _
  unfold Scalar.select
  by_cases h : pw (1 + k.val) ≤ q
  · rw [if_pos (by simp [Ideal.cmp, h]), if_pos h]
  · rw [if_neg (by simp [Ideal.cmp, h]), if_neg h]

theorem fold_gate (q : EReal) (s : Finset (Fin 254)) :
    (s = ∅ ∧ s.fold IntOp.maxsi 2147483648#32 (gate q) = 2147483648#32)
      ∨ ∃ m, m ≤ 254 ∧ s.fold IntOp.maxsi 2147483648#32 (gate q) = BitVec.ofNat 32 m ∧ ∀ k ∈ s, pw (1 + k.val) ≤ q → 1 + k.val ≤ m := by
  induction s using Finset.induction with
  | empty => exact Or.inl ⟨rfl, rfl⟩
  | insert k s hk ih =>
    right
    have hk' := k.isLt
    rw [Finset.fold_insert hk, gate_eq]
    have hg : (if pw (1 + k.val) ≤ q then 1 + k.val else 0) ≤ 254 := by split <;> omega
    rcases ih with ⟨hs, e⟩ | ⟨m, hm, e, hle⟩
    · refine ⟨_, hg, ?_, ?_⟩
      · rw [e, maxsi_least hg]
      · subst hs
        intro j hj hq
        obtain rfl : j = k := by simpa using hj
        rw [if_pos hq]
    · refine ⟨max (if pw (1 + k.val) ≤ q then 1 + k.val else 0) m, by omega, ?_, ?_⟩
      · rw [e, maxsi_small hg hm]
      · intro j hj hq
        rcases Finset.mem_insert.1 hj with rfl | hj
        · rw [if_pos hq]; omega
        · exact (hle j hj hq).trans (by omega)

theorem fold_field (q : EReal) : ∃ m, m ≤ 254 ∧ (Finset.univ : Finset (Fin 254)).fold IntOp.maxsi 2147483648#32 (gate q) = BitVec.ofNat 32 m
    ∧ ∀ n, m < n → n ≤ 254 → q < pw n := by
  rcases fold_gate q Finset.univ with ⟨h, _⟩ | ⟨m, hm, e, hle⟩
  · exact absurd (Finset.mem_univ (0 : Fin 254)) (by rw [h]; simp)
  · refine ⟨m, hm, e, fun n h1 h2 => ?_⟩
    by_contra hq
    have := hle ⟨n - 1, by omega⟩ (Finset.mem_univ _) (by rw [show 1 + (n - 1) = n by omega]; exact not_lt.1 hq)
    simp at this; omega

/-! ## The reference, one column of thirty-two rows -/

section
variable (x0 : (⟨S4x256x4096, .bf16⟩ : BufTy).Contents (Elt Ideal)) (x1 : (⟨S4x256, .f32⟩ : BufTy).Contents (Elt Ideal))
  (x2 : (⟨S4096, .f32⟩ : BufTy).Contents (Elt Ideal)) (x3 x4 x5 x6 : (⟨S4x256x4096, .bf16⟩ : BufTy).Contents (Elt Ideal))

/-- The maximum of the absolute values of a column of thirty-two rows. -/
def absMax (p : Fin 4) (A : Fin 8) (b : Fin 4096) : EReal :=
  Finset.univ.sup fun u : Fin 32 => FloatOps.absf (F := Ideal) (φ := .f32) (val_main_v27 (F := Ideal) x0 x1 x2 x3 x4 x5 x6 (ix3 p ⟨32 * A.val + u.val, by omega⟩ b))

theorem ref_max (p : Fin 4) (A : Fin 8) (b : Fin 4096) :
    val_main_v30 (F := Ideal) x0 x1 x2 x3 x4 x5 x6 (ix3 p A b) = absMax x0 x1 x2 x3 x4 x5 x6 p A b := by
  unfold val_main_v30
  rw [Host.reduce_eq_fold_single FloatOps.maximumf _ _ _ (by decide : S4x8x32x4096.Reduces [2] S4x8x4096) _ _]
  have hb : (val_main_cst_3 (F := Ideal) (Shape.Idx.first h_S_) : EReal) = ⊥ := by
    show Ideal.ofBits .f32 0xFF800000#32 = ⊥; simp [Ideal.ofBits, Ideal.ieee]
  unfold absMax
  show Finset.fold (max : EReal → EReal → EReal) (val_main_cst_3 (F := Ideal) (Shape.Idx.first h_S_)) _ _ = Finset.fold (max : EReal → EReal → EReal) ⊥ _ _
  rw [hb]
  refine congrArg (fun f => Finset.fold (max : EReal → EReal → EReal) ⊥ f (Finset.univ : Finset (Fin 32))) (funext fun u => ?_)
  show val_main_v29 (F := Ideal) x0 x1 x2 x3 x4 x5 x6 _ = _
  rw [val_main_v29_apply, val_main_v28_apply]
  refine congrArg (fun z => FloatOps.absf (F := Ideal) (φ := .f32) (val_main_v27 (F := Ideal) x0 x1 x2 x3 x4 x5 x6 z)) (funext fun a => Fin.ext ?_)
  have hp := p.isLt; have hA := A.isLt; have hu : u.val < 32 := u.isLt; have hb := b.isLt
  match a with
  | ⟨0, _⟩ => show (((p.val * 8 + A.val) * 32 + u.val) * 4096 + b.val) / 1048576 = p.val; omega
  | ⟨1, _⟩ => show (((p.val * 8 + A.val) * 32 + u.val) * 4096 + b.val) / 4096 % 256 = 32 * A.val + u.val; omega
  | ⟨2, _⟩ => show (((p.val * 8 + A.val) * 32 + u.val) * 4096 + b.val) % 4096 = b.val; omega

theorem ref_v31 (p : Fin 4) (A : Fin 8) (b : Fin 4096) :
    val_main_v31 (F := Ideal) x0 x1 x2 x3 x4 x5 x6 (ix4 p A (0 : Fin 1) b) = absMax x0 x1 x2 x3 x4 x5 x6 p A b := by
  rw [val_main_v31_apply, ← ref_max]
  exact congrArg _ (eq_ix3 _)

theorem ref_q (p : Fin 4) (A : Fin 8) (b : Fin 4096) :
    val_main_v33 (F := Ideal) x0 x1 x2 x3 x4 x5 x6 (ix4 p A (0 : Fin 1) b) = absMax x0 x1 x2 x3 x4 x5 x6 p A b * Ideal.ofBits .f32 0x3B124925#32 := by
  rw [val_main_v33_apply, ref_v31, val_main_v32_apply, val_main_cst_4_apply]
  rfl

theorem ref_field (p : Fin 4) (A : Fin 8) (b : Fin 4096) :
    val_main_v46 (F := Ideal) x0 x1 x2 x3 x4 x5 x6 (ix4 p A (0 : Fin 1) b)
      = (Finset.univ : Finset (Fin 254)).fold IntOp.maxsi 2147483648#32 (gate (absMax x0 x1 x2 x3 x4 x5 x6 p A b * Ideal.ofBits .f32 0x3B124925#32)) := by
  unfold val_main_v46
  rw [Host.reduce_eq_fold_single IntOp.maxsi _ _ _ (by decide : S4x8x1x4096x254.Reduces [4] S4x8x1x4096) _ _]
  refine congrArg (fun f => Finset.fold IntOp.maxsi 2147483648#32 f (Finset.univ : Finset (Fin 254))) (funext fun k => ?_)
  show val_main_v45 (F := Ideal) x0 x1 x2 x3 x4 x5 x6 _ = _
  rw [val_main_v45_apply, val_main_v44_apply, val_main_v42_apply, val_main_v37_apply, val_main_v43_apply, val_main_v41_apply, val_main_v40_apply,
    val_main_v39_apply, val_main_v38_apply, val_main_call0_v1_apply, val_main_call0_v2_apply, val_main_v36_apply, ← ref_q]
  have e1 : ∀ j : S254.Idx, (j 0).val = k.val → IntOp.addi (val_main_v35 (F := Ideal) j) (val_main_v34 (F := Ideal) j) = BitVec.ofNat 32 (1 + k.val) := by
    intro j hj
    rw [val_main_v35_apply, val_main_v34_apply, val_main_c_apply, hj, BitVec.ofNat_add]; rfl
  rw [e1 _ rfl]
  unfold gate
  have e2 : ∀ z : S4x8x1x4096.Idx, z = ix4 p A (0 : Fin 1) b → val_main_v33 (F := Ideal) x0 x1 x2 x3 x4 x5 x6 z = val_main_v33 (F := Ideal) x0 x1 x2 x3 x4 x5 x6 (ix4 p A (0 : Fin 1) b) := fun z hz => by rw [hz]
  rw [e2 _ (by
    refine (ValueIdx.eq_ix4 _).trans ?_
    rfl)]
  rfl

/-- The word of the reference's scale, where the field is the number `m`. -/
theorem ref_word (p : Fin 4) (A : Fin 8) (b : Fin 4096) (m : ℕ) (hm : m ≤ 246)
    (e : val_main_v46 (F := Ideal) x0 x1 x2 x3 x4 x5 x6 (ix4 p A (0 : Fin 1) b) = BitVec.ofNat 32 m)
    (h0 : m ≠ 0 → absMax x0 x1 x2 x3 x4 x5 x6 p A b ≠ 0) :
    val_main_v60 (F := Ideal) x0 x1 x2 x3 x4 x5 x6 (ix4 p A (0 : Fin 1) b) = Ideal.ofBits .f32 (BitVec.ofNat 32 (if m = 0 then 127 else 253 - m) <<< (23#32).toNat) := by
  have h51 : val_main_v51 (F := Ideal) x0 x1 x2 x3 x4 x5 x6 (ix4 p A (0 : Fin 1) b) = if m = 0 then 0#32 else BitVec.ofNat 32 m - 126#32 := by
    rw [val_main_v51_apply, val_main_v48_apply, val_main_v50_apply, e]
    show (if BitVec.ofBool (BitVec.ofNat 32 m == 0#32) = 1 then (0#32 : BitVec 32) else BitVec.ofNat 32 m - 126#32) = _
    by_cases hz : m = 0
    · subst hz; rfl
    · have : (BitVec.ofNat 32 m == 0#32) = false := by
        rw [beq_eq_false_iff_ne]; intro hh
        have := congrArg BitVec.toNat hh
        simp at this; omega
      rw [this, if_neg (by decide), if_neg hz]
  have h54 : val_main_v54 (F := Ideal) x0 x1 x2 x3 x4 x5 x6 (ix4 p A (0 : Fin 1) b) = if m = 0 then 0#32 else BitVec.ofNat 32 m - 126#32 := by
    rw [val_main_v54_apply, val_main_v53_apply, h51, ref_v31]
    show (if Ideal.cmp .oeq (absMax x0 x1 x2 x3 x4 x5 x6 p A b) (Ideal.ofBits .f32 0x00000000#32) = 1 then (0#32 : BitVec 32) else _) = _
    by_cases hz : m = 0
    · subst hz; rw [if_pos rfl]; split <;> rfl
    · rw [if_neg]
      have := h0 hz
      have z : Ideal.ofBits .f32 0x00000000#32 = 0 := by simp [Ideal.ofBits, Ideal.ieee]
      rw [z]
      simp [Ideal.cmp, this]
  have h57 : val_main_v57 (F := Ideal) x0 x1 x2 x3 x4 x5 x6 (ix4 p A (0 : Fin 1) b) = BitVec.ofNat 32 (if m = 0 then 127 else 253 - m) := by
    rw [val_main_v57_apply, h54]
    show 127#32 - _ = _
    by_cases hz : m = 0
    · subst hz; rfl
    · rw [if_neg hz, if_neg hz]
      apply BitVec.eq_of_toNat_eq
      simp; omega
  have h58 : val_main_v58 (F := Ideal) (ix4 p A (0 : Fin 1) b) = 23#32 := by
    rw [val_main_v58_apply, val_main_c_14_apply]
  rw [val_main_v60_apply, val_main_v59_apply, h57, h58]
  generalize BitVec.ofNat 32 (if m = 0 then 127 else 253 - m) = w
  rfl

/-- A code of the reference, from the word of its column's scale. -/
theorem ref_code (p : Fin 4) (n : Fin 256) (b : Fin 4096) :
    val_main_v65 (F := Ideal) x0 x1 x2 x3 x4 x5 x6 (ix3 p n b)
      = min (Ideal.ofBits .f32 0x43E00000#32) (max (Ideal.ofBits .f32 0xC3E00000#32)
          (val_main_v27 (F := Ideal) x0 x1 x2 x3 x4 x5 x6 (ix3 p n b) * val_main_v60 (F := Ideal) x0 x1 x2 x3 x4 x5 x6 (ix4 p (⟨n.val / 32, by omega⟩ : Fin 8) (0 : Fin 1) b))) := by
  have hp := p.isLt; have hn := n.isLt; have hb := b.isLt
  rw [val_main_v65_apply, val_main_v64_apply, val_main_v63_apply, val_main_call3_v2_apply, val_main_v62_apply, val_main_v55_apply, val_main_v61_apply]
  have ea : idx_main_v55 (idx_main_v65 (ix3 p n b)) = ix3 p n b := funext fun a => Fin.ext (by
    match a with
    | ⟨0, _⟩ => simp [idx_main_v55, idx_main_v65, ix3]; omega
    | ⟨1, _⟩ => simp [idx_main_v55, idx_main_v65, ix3]; omega
    | ⟨2, _⟩ => simp [idx_main_v55, idx_main_v65, ix3])
  have eb : idx_main_v61 (idx_main_v65 (ix3 p n b)) = ix4 p (⟨n.val / 32, by omega⟩ : Fin 8) (0 : Fin 1) b := funext fun a => Fin.ext (by
    match a with
    | ⟨0, _⟩ => show ((p.val * 256 + n.val) * 4096 + b.val) / 1048576 = p.val; omega
    | ⟨1, _⟩ => show ((p.val * 256 + n.val) * 4096 + b.val) / 131072 % 8 = n.val / 32; omega
    | ⟨2, _⟩ => rfl
    | ⟨3, _⟩ => show ((p.val * 256 + n.val) * 4096 + b.val) % 4096 = b.val; omega)
  rw [ea, eb]
  rfl

/-! ## The mask -/

instance maskFacts : Cert.On_claimed.Facts := by constructor <;> decide

/-- The mask of the codes, from the quotients and the fields. -/
def maskOf (q : FVec Ideal S4x8x1x4096 .f32) (f : IVec S4x8x1x4096 32) : IVec S4x256x4096 1 :=
  shapeCast S4x256x4096 (broadcastInDim S4x8x32x4096 ![0, 1, 2, 3] bcast_S4x8x1x4096_S4x8x32x4096_0_1_2_3
    (andi (cmpf .oge q (mulf (broadcastInDim S4x8x1x4096 ![] bcast_S_S4x8x1x4096 (constant (F := Ideal) S_ .f32 0x3F804189#32))
      (bitcastToFloat .f32 (Host.shli f (broadcastInDim S4x8x1x4096 ![] bcast_S_S4x8x1x4096 (constantI S_ 32 23#32))))))
      (cmpi .sle f (broadcastInDim S4x8x1x4096 ![] bcast_S_S4x8x1x4096 (constantI S_ 32 246#32))))) shapeCasts_S4x8x32x4096_S4x256x4096

theorem mask_eq : (Cert.On_claimed.fn (F := Ideal) x0 x1 x2 x3 x4 x5 x6).2.2.2
    = maskOf (val_main_v33 (F := Ideal) x0 x1 x2 x3 x4 x5 x6) (val_main_v46 (F := Ideal) x0 x1 x2 x3 x4 x5 x6) := rfl

/-- The mask at an entry: the quotient at least 1.002 times its power of two, the field at most 246. -/
theorem maskOf_apply (q : FVec Ideal S4x8x1x4096 .f32) (f : IVec S4x8x1x4096 32) (p : Fin 4) (n : Fin 256) (b : Fin 4096) (A : Fin 8) (hA : A.val = n.val / 32) :
    maskOf q f (ix3 p n b) = BitVec.ofBool (decide (Ideal.ofBits .f32 0x3F804189#32 * Ideal.ofBits .f32 (f (ix4 p A (0 : Fin 1) b) <<< 23) ≤ q (ix4 p A (0 : Fin 1) b)))
      &&& BitVec.ofBool ((f (ix4 p A (0 : Fin 1) b)).sle 246#32) := by
  have hp := p.isLt; have hn := n.isLt; have hb := b.isLt
  unfold maskOf
  refine (shapeCast_apply _ shapeCasts_S4x8x32x4096_S4x256x4096 (ix3 p n b) (ix4 p A (⟨n.val % 32, by omega⟩ : Fin 32) b) ?_).trans ?_
  · rewrite [Shape.rowMajor_val_four, Shape.rowMajor_val_three]
    show ((p.val * 8 + A.val) * 32 + n.val % 32) * 4096 + b.val = (p.val * 256 + n.val) * 4096 + b.val
    omega
  · refine (broadcastInDim_apply _ _ _ (ix4 p A (⟨n.val % 32, by omega⟩ : Fin 32) b) (ix4 p A (0 : Fin 1) b) (fun a => ?_)).trans ?_
    · match a with
      | ⟨0, _⟩ => rfl
      | ⟨1, _⟩ => rfl
      | ⟨2, _⟩ => rfl
      | ⟨3, _⟩ => rfl
    · rfl

/-- Where the mask holds, a code of the reference is the kernel's: the entry times the scale found by halving. -/
theorem ref_codes (p : Fin 4) (n : Fin 256) (b : Fin 4096) (A : Fin 8) (hA : A.val = n.val / 32) (h : (Cert.On_claimed.fn (F := Ideal) x0 x1 x2 x3 x4 x5 x6).2.2.2 (ix3 p n b) = 1#1) :
    val_main_v65 (F := Ideal) x0 x1 x2 x3 x4 x5 x6 (ix3 p n b)
      = min (Ideal.ofBits .f32 0x43E00000#32) (max (Ideal.ofBits .f32 0xC3E00000#32)
          (val_main_v27 (F := Ideal) x0 x1 x2 x3 x4 x5 x6 (ix3 p n b)
            * Ideal.ofBits .f32 (Scale.invS (Scale.fieldS (absMax x0 x1 x2 x3 x4 x5 x6 p A b * Ideal.ofBits .f32 0x3E920001#32))))) := by
  rw [mask_eq, maskOf_apply _ _ p n b A hA, ref_q] at h
  obtain ⟨m, hm, e, hup⟩ := fold_field (absMax x0 x1 x2 x3 x4 x5 x6 p A b * Ideal.ofBits .f32 0x3B124925#32)
  have ef := (ref_field x0 x1 x2 x3 x4 x5 x6 p A b).trans e
  rw [ef] at h
  have h1 : Ideal.ofBits .f32 0x3F804189#32 * pw m ≤ absMax x0 x1 x2 x3 x4 x5 x6 p A b * Ideal.ofBits .f32 0x3B124925#32 := by
    by_contra hc
    rw [show Ideal.ofBits .f32 (BitVec.ofNat 32 m <<< 23) = pw m from rfl, decide_eq_false hc] at h
    simp at h
  have h2 : m ≤ 246 := by
    by_contra hc
    have : (BitVec.ofNat 32 m).sle 246#32 = false := by
      have e7 : (246#32).toInt = 246 := rfl
      rw [BitVec.sle_eq_decide, small_toInt hm, e7, decide_eq_false_iff_not]; omega
    rw [this] at h
    simp at h
  have h0 : 0 ≤ absMax x0 x1 x2 x3 x4 x5 x6 p A b := by
    unfold absMax
    refine le_trans ?_ (Finset.le_sup (Finset.mem_univ (0 : Fin 32)))
    show (0 : EReal) ≤ max _ (-_)
    rcases le_total 0 (val_main_v27 (F := Ideal) x0 x1 x2 x3 x4 x5 x6 (ix3 p ⟨32 * A.val + (0 : Fin 32).val, by omega⟩ b)) with h | h
    · exact le_max_of_le_left h
    · exact le_max_of_le_right (EReal.neg_nonneg.2 h)
  obtain ⟨s1, s2⟩ := Scale.scale_eq h0 h2 hup h1
  rw [ref_code, show (⟨n.val / 32, by omega⟩ : Fin 8) = A from Fin.ext hA.symm, ref_word x0 x1 x2 x3 x4 x5 x6 p A b m h2 ef s2, s1]
end

end Cert.Algebra

end
-- ==== Proof.Columns.lean ====
/- The kernel's columns of thirty-two rows: the maximum that the scale is made from, and the codes' array it leaves, in terms of
   the reference's entries. -/
module

public import proofs.«01_k».proof.Proof.Blocks
public import proofs.«01_k».proof.Proof.Masked
public import proofs.«01_k».proof.Proof.KernelIdeal.Codes

@[expose] public section

noncomputable section

namespace Cert.KernelIdeal.Gen

open Idealize.ShloMosaic hiding ix2 ix3 ix4 ix5
open Idealize.ShloMosaic.TcCoe Idealize.ShloMosaic.Tactic Idealize.ShloMosaic.ValueIdx Idealize.ShloMosaic.StableHlo
open Cert.ReferenceIdeal.Read (val_main_v65 val_main_v66 val_main_v27)
open Cert.Algebra (absMax)

/-- The factor that the kernel multiplies an entry by before it takes the maximum. -/
def fac : EReal := Ideal.ofBits .f32 0x3E920001#32

theorem fac_eq : fac = ((9568257 / 2 ^ 25 : ℝ) : EReal) := Scale.kE
theorem fac_pos : 0 < fac := by rw [fac_eq]; exact_mod_cast (by norm_num : (0 : ℝ) < 9568257 / 2 ^ 25)
theorem fac_mono : Monotone fun x : EReal => x * fac := fun _ _ h => mul_le_mul_of_nonneg_right h fac_pos.le

theorem wd_eq (g : ℕ → ℕ → EReal) (a b : ℕ) : wd g a b = FloatOps.absf (F := Ideal) (φ := .f32) (g a b) * fac := by
  show max (g a b * fac) (-(g a b * fac)) = max (g a b) (-(g a b)) * fac
  rw [← EReal.neg_mul]
  exact (fac_mono.map_max).symm

theorem colMax_sup (g : ℕ → ℕ → EReal) (A b : ℕ) :
    colMax g A b = (Finset.univ.sup fun u : Fin 32 => FloatOps.absf (F := Ideal) (φ := .f32) (g (32 * A + u.val) b)) * fac := by
  have hw : ∀ v : ℕ, v < 32 → wd g (32 * A + v) b ≤ (Finset.univ.sup fun u : Fin 32 => FloatOps.absf (F := Ideal) (φ := .f32) (g (32 * A + u.val) b)) * fac := by
    intro v hv
    rw [wd_eq]
    exact fac_mono (Finset.le_sup (f := fun u : Fin 32 => FloatOps.absf (F := Ideal) (φ := .f32) (g (32 * A + u.val) b)) (Finset.mem_univ (⟨v, hv⟩ : Fin 32)))
  have hr : ∀ v j u : ℕ, v = j + u → wd g (32 * A + v) b = wd g (j + (32 * A + u)) b := fun v j u h => by rw [h, show 32 * A + (j + u) = j + (32 * A + u) by omega]
  refine le_antisymm (Finset.sup_le fun u _ => ?_) ?_
  · have hu := u.isLt
    unfold w4
    refine max_le (max_le ?_ ?_) (max_le ?_ ?_)
    · exact hw u.val (by omega)
    · rw [← hr (8 + u.val) 8 u.val rfl]; exact hw _ (by omega)
    · rw [← hr (16 + u.val) 16 u.val rfl]; exact hw _ (by omega)
    · rw [← hr (24 + u.val) 24 u.val rfl]; exact hw _ (by omega)
  · rw [Finset.apply_sup_eq_sup_comp_of_linearOrder (fun x : EReal => x * fac) fac_mono (EReal.bot_mul_of_pos fac_pos)]
    refine Finset.sup_le fun v _ => ?_
    show FloatOps.absf (F := Ideal) (φ := .f32) (g (32 * A + v.val) b) * fac ≤ _
    rw [← wd_eq]
    have hv := v.isLt
    refine le_trans ?_ (Finset.le_sup (f := fun u : Fin 8 => w4 g (32 * A + u.val) b) (Finset.mem_univ (⟨v.val % 8, by omega⟩ : Fin 8)))
    show _ ≤ w4 g (32 * A + v.val % 8) b
    unfold w4
    have h4 : v.val / 8 = 0 ∨ v.val / 8 = 1 ∨ v.val / 8 = 2 ∨ v.val / 8 = 3 := by omega
    rcases h4 with h | h | h | h
    · rw [show v.val % 8 = v.val by omega]; exact le_max_of_le_left (le_max_left _ _)
    · rw [hr v.val 8 (v.val % 8) (by omega)]; exact le_max_of_le_left (le_max_right _ _)
    · rw [hr v.val 16 (v.val % 8) (by omega)]; exact le_max_of_le_right (le_max_left _ _)
    · rw [hr v.val 24 (v.val % 8) (by omega)]; exact le_max_of_le_right (le_max_right _ _)

variable (m : (ℓ : Loc nD τ sig) → Buf (Elt Ideal) ℓ) (c : Dev nD)

/-- The reference's codes of the columns, of the kernel's arguments. -/
def ref3 : (⟨S4x256x4096, .fp8e4m3⟩ : BufTy).Contents (Elt Ideal) :=
  val_main_v65 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- The maximum of a column of thirty-two rows, of the kernel's arguments. -/
def top3 (p : Fin 4) (A : Fin 8) (b : Fin 4096) : EReal :=
  absMax (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) p A b

/-- The array of codes that the kernel leaves, at every entry. -/
def codes3 : (⟨S4x256x4096, .fp8e4m3⟩ : BufTy).Contents (Elt Ideal) := fun i =>
  clip (ref0 m c i * Ideal.ofBits .f32 (Scale.invS (Scale.fieldS (top3 m c ⟨(i 0).val, (i 0).isLt⟩
    ⟨(i 1).val / 32, by have h : (i 1).val < 256 := (i 1).isLt; omega⟩ ⟨(i 2).val, (i 2).isLt⟩ * fac))))

/-- A point's maximum of a column is the reference's, times the factor. -/
theorem colMax_eq (t : Fin cfg0.N) (A : ℕ) (A' : Fin 8) (hA : A < 4) (hA' : A'.val = 4 * (grid0.coords t 1).val + A) (b : Fin 4096) :
    colMax (dxOf (grid0.coords t) (iblk m c 0 t) (iblk m c 1 t) (iblk m c 2 t) (iblk m c 3 t) (iblk m c 4 t) (iblk m c 5 t) (iblk m c 6 t)) A b.val = top3 m c (batchOf t) A' b * fac := by
  rw [colMax_sup]
  unfold top3 absMax
  refine congrArg (· * fac) (Finset.sup_congr rfl fun u _ => ?_)
  have hu := u.isLt
  refine congrArg (FloatOps.absf (F := Ideal) (φ := .f32)) ((dxOf_eq m c t ⟨32 * A + u.val, by omega⟩ b).trans ?_)
  refine congrArg (ref0 m c) (congrArg (fun n => ix3 (batchOf t) n b) (Fin.ext ?_))
  show 128 * (grid0.coords t 1).val + (32 * A + u.val) = 32 * A'.val + u.val
  omega

/-- A point's codes are the entries of the array. -/
theorem codes_eq (t : Fin cfg0.N) (a : Fin 128) (b : Fin 4096) :
    clip (dxOf (grid0.coords t) (iblk m c 0 t) (iblk m c 1 t) (iblk m c 2 t) (iblk m c 3 t) (iblk m c 4 t) (iblk m c 5 t) (iblk m c 6 t) a.val b.val
        * scaleAt (dxOf (grid0.coords t) (iblk m c 0 t) (iblk m c 1 t) (iblk m c 2 t) (iblk m c 3 t) (iblk m c 4 t) (iblk m c 5 t) (iblk m c 6 t)) (a.val / 32) b.val)
      = codes3 m c (ix3 (batchOf t) (rowOf t a) b) := by
  have ha := a.isLt
  have h1 := lt_1 t
  unfold scaleAt
  rw [dxOf_eq, colMax_eq m c t (a.val / 32) ⟨(128 * (grid0.coords t 1).val + a.val) / 32, by omega⟩ (by omega) (by
    show (128 * (grid0.coords t 1).val + a.val) / 32 = 4 * (grid0.coords t 1).val + a.val / 32
    omega) b]
  rfl

/-- Where the mask holds, the array of codes is the reference's. -/
theorem codes3_eq (i : S4x256x4096.Idx) (h : (Cert.On_claimed.fn (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))).2.2.2 i = 1#1) :
    codes3 m c i = ref3 m c i := by
  have hi : i = ix3 (⟨(i 0).val, (i 0).isLt⟩ : Fin 4) (⟨(i 1).val, (i 1).isLt⟩ : Fin 256) (⟨(i 2).val, (i 2).isLt⟩ : Fin 4096) := ValueIdx.eq_ix3 i
  rw [hi] at h ⊢
  have hn : (i 1).val < 256 := (i 1).isLt
  exact (Cert.Algebra.ref_codes _ _ _ _ _ _ _ _ _ _ ⟨(i 1).val / 32, by omega⟩ rfl h).symm

theorem index_12 : ∀ t : Fin cfg0.N, win0_12.index t = ![(grid0.coords t 0).val, (grid0.coords t 1).val, 0] := (by decide +kernel : ∀ t : Fin grid0.N, _)

end Cert.KernelIdeal.Gen

end
-- ==== Proof.Values.lean ====
/- The claim of equal results: the four arrays that the kernel leaves, the first three the reference's results of the same
   arguments at every entry, the columns' codes at the entries where the mask holds. -/
module

public import proofs.«01_k».proof.Defs
public import proofs.«01_k».proof.Proof.Blocks
public import proofs.«01_k».proof.Proof.Columns
public import proofs.«01_k».proof.Proof.KernelIdeal.Whole
public import proofs.«01_k».proof.Proof.Gen.ReferenceIdeal.Run
public import Idealize.ShloMosaic.Lib.Pipeline.ArrRel

@[expose] public section

noncomputable section

namespace Cert.KernelIdeal.Gen

open Idealize.ShloMosaic hiding ix2 ix3 ix4 ix5
open Idealize.ShloMosaic.TcCoe Idealize.ShloMosaic.Tactic Idealize.ShloMosaic.ValueIdx Idealize.SL.Sem
open Idealize.ShloMosaic.Pipeline (Dat)

variable (m : (ℓ : Loc nD τ sig) → Buf (Elt Ideal) ℓ) (ρ : Dev nD → PrngReg)

section
variable (c : Dev nD) (after : (w' : Fin cfg0.W) → Fin cfg0.N → (cfg0.win w').block.Idx → Elt Ideal (cfg0.win w').elt)

/-- The first result's array. -/
theorem final_7 (h : ∀ t : Fin cfg0.N, Rl m c 7 t (after 7 t)) : ((rdat m c).withAfter after).arrAt 7 cfg0.N = ref0 m c := by
  refine Pipeline.Dat.arrAt_eq_of_covers _ 7 _ (by decide +kernel) fun t hf y => ?_
  rw [Pipeline.RDat.withAfter_after]
  have hy : y = ix3 (0 : Fin 1) (⟨(y 1).val, (y 1).isLt⟩ : Fin 128) (⟨(y 2).val, (y 2).isLt⟩ : Fin 4096) := funext fun a => Fin.ext (by
    match a with
    | ⟨0, _⟩ => have h0 : (y 0).val < 1 := (y 0).isLt; show (y 0).val = 0; omega
    | ⟨1, _⟩ => rfl
    | ⟨2, _⟩ => rfl)
  generalize (⟨(y 1).val, (y 1).isLt⟩ : Fin 128) = a at hy
  generalize (⟨(y 2).val, (y 2).isLt⟩ : Fin 4096) = b at hy
  subst hy
  refine (h t a b).trans ((dxOf_eq m c t a b).trans (congrArg (ref0 m c) (funext fun k => Fin.ext ?_)))
  match k with
  | ⟨0, _⟩ => blk_simp [index_7]; rfl
  | ⟨1, _⟩ => blk_simp [index_7]; show 128 * (grid0.coords t 1).val + a.val = (grid0.coords t 1).val * 128 + a.val; omega
  | ⟨2, _⟩ => blk_simp [index_7]

/-- The array of the columns' codes. -/
theorem final_12 (h : ∀ t : Fin cfg0.N, Rl m c 12 t (after 12 t)) : ((rdat m c).withAfter after).arrAt 12 cfg0.N = codes3 m c := by
  refine Pipeline.Dat.arrAt_eq_of_covers _ 12 _ (by decide +kernel) fun t hf y => ?_
  rw [Pipeline.RDat.withAfter_after]
  have hy : y = ix3 (0 : Fin 1) (⟨(y 1).val, (y 1).isLt⟩ : Fin 128) (⟨(y 2).val, (y 2).isLt⟩ : Fin 4096) := funext fun a => Fin.ext (by
    match a with
    | ⟨0, _⟩ => have h0 : (y 0).val < 1 := (y 0).isLt; show (y 0).val = 0; omega
    | ⟨1, _⟩ => rfl
    | ⟨2, _⟩ => rfl)
  generalize (⟨(y 1).val, (y 1).isLt⟩ : Fin 128) = a at hy
  generalize (⟨(y 2).val, (y 2).isLt⟩ : Fin 4096) = b at hy
  subst hy
  refine (h t a b).trans ((codes_eq m c t a b).trans (congrArg (codes3 m c) (funext fun k => Fin.ext ?_)))
  match k with
  | ⟨0, _⟩ => blk_simp [index_12]; rfl
  | ⟨1, _⟩ => blk_simp [index_12]; show 128 * (grid0.coords t 1).val + a.val = (grid0.coords t 1).val * 128 + a.val; omega
  | ⟨2, _⟩ => blk_simp [index_12]

theorem coord_0 (t : Fin cfg0.N) : (grid0.coords t 0).val = t.val / 2 % 4 := Pipeline.Grid.coords_val t 0 (by decide) rfl

/-- A point's row of contributions, as an entry of the reference's third result. -/
theorem partN_ref (u : ℕ) (hu : u < 8) (b : Fin 4096) :
    partN m c u b.val = ref2 m c (ix3 (⟨u / 2 % 4, by omega⟩ : Fin 4) (⟨u % 2, by omega⟩ : Fin 2) b) := by
  have hu' : u < cfg0.N := Nat.lt_of_lt_of_eq hu N_0.symm
  refine (partN_eq m c ⟨u, hu'⟩ b.val).trans ((partOf_eq m c ⟨u, hu'⟩ b).trans (congrArg (ref2 m c) ?_))
  have e0 := coord_0 ⟨u, hu'⟩
  have e1 := coord_1 ⟨u, hu'⟩
  refine congrArg₂ (fun p j => ix3 p j b) (Fin.ext e0) (Fin.ext e1)

/-- The third result's array. -/
theorem final_9 (h : ∀ t : Fin cfg0.N, (cfg0.win 9).flush t = true → Rl m c 9 t (after 9 t)) : ((rdat m c).withAfter after).arrAt 9 cfg0.N = ref2 m c := by
  refine Pipeline.Dat.arrAt_eq_of_covers _ 9 _ (by decide +kernel) fun t hf y => ?_
  rw [Pipeline.RDat.withAfter_after]
  have h1 : t.val % 2 = 1 := (flush0_9 t).mp hf
  have ht : t.val < 8 := Nat.lt_of_lt_of_eq t.isLt N_0
  have hy : y = ix3 (0 : Fin 1) (⟨(y 1).val, (y 1).isLt⟩ : Fin 2) (⟨(y 2).val, (y 2).isLt⟩ : Fin 4096) := funext fun a => Fin.ext (by
    match a with
    | ⟨0, _⟩ => have h0 : (y 0).val < 1 := (y 0).isLt; show (y 0).val = 0; omega
    | ⟨1, _⟩ => rfl
    | ⟨2, _⟩ => rfl)
  generalize (⟨(y 1).val, (y 1).isLt⟩ : Fin 2) = j at hy
  generalize (⟨(y 2).val, (y 2).isLt⟩ : Fin 4096) = b at hy
  subst hy
  have hj := j.isLt
  refine (h t hf j b (by omega)).trans ((partN_ref m c _ (by omega) b).trans (congrArg (ref2 m c) (funext fun k => Fin.ext ?_)))
  have e0 := coord_0 t
  match k with
  | ⟨0, _⟩ => blk_simp [index_9]; show (2 * (t.val / 2) + j.val) / 2 % 4 = (grid0.coords t 0).val; omega
  | ⟨1, _⟩ => blk_simp [index_9]; show (2 * (t.val / 2) + j.val) % 2 = j.val; omega
  | ⟨2, _⟩ => blk_simp [index_9]

/-- The second result's array. -/
theorem final_8 (h : ∀ t : Fin cfg0.N, (cfg0.win 8).flush t = true → Rl m c 8 t (after 8 t)) : ((rdat m c).withAfter after).arrAt 8 cfg0.N = ref1 m c := by
  refine Pipeline.Dat.arrAt_eq_of_covers _ 8 _ (by decide +kernel) fun t hf y => ?_
  rw [Pipeline.RDat.withAfter_after]
  have h1 : t.val % 8 = 7 := (flush0_8 t).mp hf
  have ht : t.val < 8 := Nat.lt_of_lt_of_eq t.isLt N_0
  have hy : y = ix2 (0 : Fin 1) (⟨(y 1).val, (y 1).isLt⟩ : Fin 4096) := funext fun a => Fin.ext (by
    match a with
    | ⟨0, _⟩ => have h0 : (y 0).val < 1 := (y 0).isLt; show (y 0).val = 0; omega
    | ⟨1, _⟩ => rfl)
  generalize (⟨(y 1).val, (y 1).isLt⟩ : Fin 4096) = b at hy
  subst hy
  have hs : (∑ u ∈ Finset.range (t.val + 1), partN m c u b.val) = ref1 m c (ix2 (0 : Fin 1) b) := by
    rw [show t.val + 1 = 8 by omega]
    unfold ref1
    rw [Cert.Algebra.ref_dgamma]
    exact Finset.sum_congr rfl fun u hu => partN_ref m c u (Finset.mem_range.mp hu) b
  refine (h t hf b).trans (hs.trans (congrArg (ref1 m c) (funext fun k => Fin.ext ?_)))
  match k with
  | ⟨0, _⟩ => blk_simp [index_8]
  | ⟨1, _⟩ => blk_simp [index_8]
end

/-- The launch, with the four results named. -/
theorem run_values : θ_run defs (onTc (τ := τ) (main (F := Ideal))) ⟨m, fun _ => 0, ρ⟩ (fun r => ∀ c : Dev nD,
      r.2.mem ((c.tc : Thread nD τ).loc main_v1_0) = ref0 m c
      ∧ r.2.mem ((c.tc : Thread nD τ).loc main_v1_1) = ref1 m c
      ∧ r.2.mem ((c.tc : Thread nD τ).loc main_v1_2) = ref2 m c
      ∧ r.2.mem ((c.tc : Thread nD τ).loc main_v1_5) = codes3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ hq c => by
    have h := hq.1
    obtain ⟨after, hL, hA⟩ := Pipeline.RDat.FramePost.exists_exact h c
    have l7 : ∀ t : Fin cfg0.N, Rl m c 7 t (after 7 t) := fun t => Dat.toRRel_leaves (dats m 0 c) (fgt := marked) (Rl := Rl m c) (w := 7) rfl (hL 7 t (flush0_7 t))
    have l9 : ∀ t : Fin cfg0.N, (cfg0.win 9).flush t = true → Rl m c 9 t (after 9 t) := fun t hf => Dat.toRRel_leaves (dats m 0 c) (fgt := marked) (Rl := Rl m c) (w := 9) rfl (hL 9 t hf)
    have l8 : ∀ t : Fin cfg0.N, (cfg0.win 8).flush t = true → Rl m c 8 t (after 8 t) := fun t hf => Dat.toRRel_leaves (dats m 0 c) (fgt := marked) (Rl := Rl m c) (w := 8) rfl (hL 8 t hf)
    have l12 : ∀ t : Fin cfg0.N, Rl m c 12 t (after 12 t) := fun t => Dat.toRRel_leaves (dats m 0 c) (fgt := marked) (Rl := Rl m c) (w := 12) rfl (hL 12 t (flush0_12 t))
    exact ⟨(hA 7).trans (final_7 m c after l7), (hA 8).trans (final_8 m c after l8), (hA 9).trans (final_9 m c after l9), (hA 12).trans (final_12 m c after l12),
      (Pipeline.RDat.FramePost.arr_in h c 0 rfl).trans (V_main_arg0 m c),
      (Pipeline.RDat.FramePost.arr_in h c 1 rfl).trans (V_main_arg1 m c),
      ((h c).2 main_arg2 (Pipeline.mem_restRefs_of main_arg2 (by decide) (by decide))).trans (V_main_arg2 m c),
      (Pipeline.RDat.FramePost.arr_in h c 3 rfl).trans (V_main_arg3 m c),
      (Pipeline.RDat.FramePost.arr_in h c 4 rfl).trans (V_main_arg4 m c),
      (Pipeline.RDat.FramePost.arr_in h c 5 rfl).trans (V_main_arg5 m c),
      (Pipeline.RDat.FramePost.arr_in h c 6 rfl).trans (V_main_arg6 m c)⟩) (run_main_quiescent m ρ)

end Cert.KernelIdeal.Gen

namespace Cert.Proof

open Idealize.ShloMosaic hiding ix2 ix3 ix4 ix5
open Idealize.ShloMosaic.TcCoe Idealize.SL.Sem

/-- The kernel's first three results are the reference's; its columns' codes are, where the mask holds. -/
theorem algebraic : Cert.algebraic_KernelIdeal_ReferenceIdeal_on_claimed := fun m g m' g' _ hm => by
  refine ⟨Cert.KernelIdeal.Gen.ref0 m, Cert.KernelIdeal.Gen.ref1 m, Cert.KernelIdeal.Gen.ref2 m, Cert.KernelIdeal.Gen.ref3 m,
    (θ_run Cert.KernelIdeal.defs _ _).mono (fun r h c => ?_) (Cert.KernelIdeal.Gen.run_values m g),
    (θ_run Cert.ReferenceIdeal.defs _ _).mono (fun r h c => ?_) (Cert.ReferenceIdeal.Value.run (F := Ideal) m' g')⟩
  · obtain ⟨r0, r1, r2, r3, rest⟩ := h c
    exact ⟨fun i _ => congrFun r0 i, fun i _ => congrFun r1 i, fun i _ => congrFun r2 i,
      fun i hi => (congrFun r3 i).trans (Cert.KernelIdeal.Gen.codes3_eq m c i hi), rest⟩
  obtain ⟨h0, h1, h2, h3, h4, h5, h6⟩ := hm c
  obtain ⟨r0, r1, r2, r3, rest⟩ := h c
  refine ⟨fun i _ => congrFun ?_ i, fun i _ => congrFun ?_ i, fun i _ => congrFun ?_ i, fun i _ => congrFun ?_ i, rest⟩
  · refine r0.trans ((Cert.ReferenceIdeal.Read.val_main_v66_eq _ _ _ _ _ _ _).trans ?_)
    unfold Cert.KernelIdeal.Gen.ref0
    rw [h0, h1, h2, h3, h4, h5, h6]
  · refine r1.trans ((Cert.ReferenceIdeal.Read.val_main_v67_eq _ _ _ _ _).trans ?_)
    unfold Cert.KernelIdeal.Gen.ref1
    rw [h0, h1, h4, h5, h6]
  · refine r2.trans ((Cert.ReferenceIdeal.Read.val_main_v24_eq _ _ _ _ _).trans ?_)
    unfold Cert.KernelIdeal.Gen.ref2
    rw [h0, h1, h4, h5, h6]
  · refine r3.trans ((Cert.ReferenceIdeal.Read.val_main_v65_eq _ _).trans ?_)
    unfold Cert.KernelIdeal.Gen.ref3
    rw [h0, h1, h2, h3, h4, h5, h6]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Kernel.Whole
public import proofs.«01_k».proof.Proof.Easy
public import proofs.«01_k».proof.Proof.Values
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Algebra.maskFacts,
  frame_p, frame_pi, frame_r, preserves, algebraic⟩

end Cert.Proof

end
